-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_ReferenceDwFf2Ideal (m : (ℓ : Loc Cert.ReferenceDwFf2Ideal.nD Cert.ReferenceDwFf2Ideal.τ Cert.ReferenceDwFf2Ideal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_ReferenceDwOIdeal (m : (ℓ : Loc Cert.ReferenceDwOIdeal.nD Cert.ReferenceDwOIdeal.τ Cert.ReferenceDwOIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_ReferenceDwFf1Ideal (m : (ℓ : Loc Cert.ReferenceDwFf1Ideal.nD Cert.ReferenceDwFf1Ideal.τ Cert.ReferenceDwFf1Ideal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_ReferenceDwBranchIdeal (m : (ℓ : Loc Cert.ReferenceDwBranchIdeal.nD Cert.ReferenceDwBranchIdeal.τ Cert.ReferenceDwBranchIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ReferenceProjectIdeal (m : (ℓ : Loc Cert.ReferenceProjectIdeal.nD Cert.ReferenceProjectIdeal.τ Cert.ReferenceProjectIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_ReferenceFfnBwdIdeal (m : (ℓ : Loc Cert.ReferenceFfnBwdIdeal.nD Cert.ReferenceFfnBwdIdeal.τ Cert.ReferenceFfnBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4)
      ∧ r.2.mem ((c.tc : Thread Cert.ReferenceConvIdeal.nD Cert.ReferenceConvIdeal.τ).loc Cert.ReferenceConvIdeal.main_arg5) = m ((c.tc : Thread Cert.ReferenceConvIdeal.nD Cert.ReferenceConvIdeal.τ).loc Cert.ReferenceConvIdeal.main_arg5)
      ∧ r.2.mem ((c.tc : Thread Cert.ReferenceConvIdeal.nD Cert.ReferenceConvIdeal.τ).loc Cert.ReferenceConvIdeal.main_arg6) = m ((c.tc : Thread Cert.ReferenceConvIdeal.nD Cert.ReferenceConvIdeal.τ).loc Cert.ReferenceConvIdeal.main_arg6)
      ∧ r.2.mem ((c.tc : Thread Cert.ReferenceConvIdeal.nD Cert.ReferenceConvIdeal.τ).loc Cert.ReferenceConvIdeal.main_arg7) = m ((c.tc : Thread Cert.ReferenceConvIdeal.nD Cert.ReferenceConvIdeal.τ).loc Cert.ReferenceConvIdeal.main_arg7)
      ∧ r.2.mem ((c.tc : Thread Cert.ReferenceConvIdeal.nD Cert.ReferenceConvIdeal.τ).loc Cert.ReferenceConvIdeal.main_arg8) = m ((c.tc : Thread Cert.ReferenceConvIdeal.nD Cert.ReferenceConvIdeal.τ).loc Cert.ReferenceConvIdeal.main_arg8)
      ∧ r.2.mem ((c.tc : Thread Cert.ReferenceConvIdeal.nD Cert.ReferenceConvIdeal.τ).loc Cert.ReferenceConvIdeal.main_arg9) = m ((c.tc : Thread Cert.ReferenceConvIdeal.nD Cert.ReferenceConvIdeal.τ).loc Cert.ReferenceConvIdeal.main_arg9)
      ∧ r.2.mem ((c.tc : Thread Cert.ReferenceConvIdeal.nD Cert.ReferenceConvIdeal.τ).loc Cert.ReferenceConvIdeal.main_arg10) = m ((c.tc : Thread Cert.ReferenceConvIdeal.nD Cert.ReferenceConvIdeal.τ).loc Cert.ReferenceConvIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1)
      ∧ r.2.mem ((c.tc : Thread Cert.ReferenceDwInIdeal.nD Cert.ReferenceDwInIdeal.τ).loc Cert.ReferenceDwInIdeal.main_arg2) = m ((c.tc : Thread Cert.ReferenceDwInIdeal.nD Cert.ReferenceDwInIdeal.τ).loc Cert.ReferenceDwInIdeal.main_arg2))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_ReferenceDwFf2Ideal [hReferenceDwFf2Ideal : Cert.ReferenceDwFf2Ideal.Facts] : Prop :=
  ∀ (m : (ℓ : Loc Cert.ReferenceDwFf2Ideal.nD Cert.ReferenceDwFf2Ideal.τ Cert.ReferenceDwFf2Ideal.sig) → Buf (Elt Ideal) ℓ) (g : Dev Cert.ReferenceDwFf2Ideal.nD → PrngReg), Pre_ReferenceDwFf2Ideal m →
    θ_run (Cert.ReferenceDwFf2Ideal.defs (F := Ideal)) (onTc (τ := Cert.ReferenceDwFf2Ideal.τ) (Cert.ReferenceDwFf2Ideal.main (F := Ideal))) ⟨m, fun _ => 0, g⟩ (fun r => (∀ c : Dev Cert.ReferenceDwFf2Ideal.nD,
      r.2.mem ((c.tc : Thread Cert.ReferenceDwFf2Ideal.nD Cert.ReferenceDwFf2Ideal.τ).loc Cert.ReferenceDwFf2Ideal.main_arg0) = m ((c.tc : Thread Cert.ReferenceDwFf2Ideal.nD Cert.ReferenceDwFf2Ideal.τ).loc Cert.ReferenceDwFf2Ideal.main_arg0)
      ∧ r.2.mem ((c.tc : Thread Cert.ReferenceDwFf2Ideal.nD Cert.ReferenceDwFf2Ideal.τ).loc Cert.ReferenceDwFf2Ideal.main_arg1) = m ((c.tc : Thread Cert.ReferenceDwFf2Ideal.nD Cert.ReferenceDwFf2Ideal.τ).loc Cert.ReferenceDwFf2Ideal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_ReferenceDwOIdeal [hReferenceDwOIdeal : Cert.ReferenceDwOIdeal.Facts] : Prop :=
  ∀ (m : (ℓ : Loc Cert.ReferenceDwOIdeal.nD Cert.ReferenceDwOIdeal.τ Cert.ReferenceDwOIdeal.sig) → Buf (Elt Ideal) ℓ) (g : Dev Cert.ReferenceDwOIdeal.nD → PrngReg), Pre_ReferenceDwOIdeal m →
    θ_run (Cert.ReferenceDwOIdeal.defs (F := Ideal)) (onTc (τ := Cert.ReferenceDwOIdeal.τ) (Cert.ReferenceDwOIdeal.main (F := Ideal))) ⟨m, fun _ => 0, g⟩ (fun r => (∀ c : Dev Cert.ReferenceDwOIdeal.nD,
      r.2.mem ((c.tc : Thread Cert.ReferenceDwOIdeal.nD Cert.ReferenceDwOIdeal.τ).loc Cert.ReferenceDwOIdeal.main_arg0) = m ((c.tc : Thread Cert.ReferenceDwOIdeal.nD Cert.ReferenceDwOIdeal.τ).loc Cert.ReferenceDwOIdeal.main_arg0)
      ∧ r.2.mem ((c.tc : Thread Cert.ReferenceDwOIdeal.nD Cert.ReferenceDwOIdeal.τ).loc Cert.ReferenceDwOIdeal.main_arg1) = m ((c.tc : Thread Cert.ReferenceDwOIdeal.nD Cert.ReferenceDwOIdeal.τ).loc Cert.ReferenceDwOIdeal.main_arg1))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_ReferenceDwFf1Ideal [hReferenceDwFf1Ideal : Cert.ReferenceDwFf1Ideal.Facts] : Prop :=
  ∀ (m : (ℓ : Loc Cert.ReferenceDwFf1Ideal.nD Cert.ReferenceDwFf1Ideal.τ Cert.ReferenceDwFf1Ideal.sig) → Buf (Elt Ideal) ℓ) (g : Dev Cert.ReferenceDwFf1Ideal.nD → PrngReg), Pre_ReferenceDwFf1Ideal m →
    θ_run (Cert.ReferenceDwFf1Ideal.defs (F := Ideal)) (onTc (τ := Cert.ReferenceDwFf1Ideal.τ) (Cert.ReferenceDwFf1Ideal.main (F := Ideal))) ⟨m, fun _ => 0, g⟩ (fun r => (∀ c : Dev Cert.ReferenceDwFf1Ideal.nD,
      r.2.mem ((c.tc : Thread Cert.ReferenceDwFf1Ideal.nD Cert.ReferenceDwFf1Ideal.τ).loc Cert.ReferenceDwFf1Ideal.main_arg0) = m ((c.tc : Thread Cert.ReferenceDwFf1Ideal.nD Cert.ReferenceDwFf1Ideal.τ).loc Cert.ReferenceDwFf1Ideal.main_arg0)
      ∧ r.2.mem ((c.tc : Thread Cert.ReferenceDwFf1Ideal.nD Cert.ReferenceDwFf1Ideal.τ).loc Cert.ReferenceDwFf1Ideal.main_arg1) = m ((c.tc : Thread Cert.ReferenceDwFf1Ideal.nD Cert.ReferenceDwFf1Ideal.τ).loc Cert.ReferenceDwFf1Ideal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_ReferenceDwBranchIdeal [hReferenceDwBranchIdeal : Cert.ReferenceDwBranchIdeal.Facts] : Prop :=
  ∀ (m : (ℓ : Loc Cert.ReferenceDwBranchIdeal.nD Cert.ReferenceDwBranchIdeal.τ Cert.ReferenceDwBranchIdeal.sig) → Buf (Elt Ideal) ℓ) (g : Dev Cert.ReferenceDwBranchIdeal.nD → PrngReg), Pre_ReferenceDwBranchIdeal m →
    θ_run (Cert.ReferenceDwBranchIdeal.defs (F := Ideal)) (onTc (τ := Cert.ReferenceDwBranchIdeal.τ) (Cert.ReferenceDwBranchIdeal.main (F := Ideal))) ⟨m, fun _ => 0, g⟩ (fun r => (∀ c : Dev Cert.ReferenceDwBranchIdeal.nD,
      r.2.mem ((c.tc : Thread Cert.ReferenceDwBranchIdeal.nD Cert.ReferenceDwBranchIdeal.τ).loc Cert.ReferenceDwBranchIdeal.main_arg0) = m ((c.tc : Thread Cert.ReferenceDwBranchIdeal.nD Cert.ReferenceDwBranchIdeal.τ).loc Cert.ReferenceDwBranchIdeal.main_arg0)
      ∧ r.2.mem ((c.tc : Thread Cert.ReferenceDwBranchIdeal.nD Cert.ReferenceDwBranchIdeal.τ).loc Cert.ReferenceDwBranchIdeal.main_arg1) = m ((c.tc : Thread Cert.ReferenceDwBranchIdeal.nD Cert.ReferenceDwBranchIdeal.τ).loc Cert.ReferenceDwBranchIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ReferenceProjectIdeal [hReferenceProjectIdeal : Cert.ReferenceProjectIdeal.Facts] : Prop :=
  ∀ (m : (ℓ : Loc Cert.ReferenceProjectIdeal.nD Cert.ReferenceProjectIdeal.τ Cert.ReferenceProjectIdeal.sig) → Buf (Elt Ideal) ℓ) (g : Dev Cert.ReferenceProjectIdeal.nD → PrngReg), Pre_ReferenceProjectIdeal m →
    θ_run (Cert.ReferenceProjectIdeal.defs (F := Ideal)) (onTc (τ := Cert.ReferenceProjectIdeal.τ) (Cert.ReferenceProjectIdeal.main (F := Ideal))) ⟨m, fun _ => 0, g⟩ (fun r => (∀ c : Dev Cert.ReferenceProjectIdeal.nD,
      r.2.mem ((c.tc : Thread Cert.ReferenceProjectIdeal.nD Cert.ReferenceProjectIdeal.τ).loc Cert.ReferenceProjectIdeal.main_arg0) = m ((c.tc : Thread Cert.ReferenceProjectIdeal.nD Cert.ReferenceProjectIdeal.τ).loc Cert.ReferenceProjectIdeal.main_arg0)
      ∧ r.2.mem ((c.tc : Thread Cert.ReferenceProjectIdeal.nD Cert.ReferenceProjectIdeal.τ).loc Cert.ReferenceProjectIdeal.main_arg1) = m ((c.tc : Thread Cert.ReferenceProjectIdeal.nD Cert.ReferenceProjectIdeal.τ).loc Cert.ReferenceProjectIdeal.main_arg1)
      ∧ r.2.mem ((c.tc : Thread Cert.ReferenceProjectIdeal.nD Cert.ReferenceProjectIdeal.τ).loc Cert.ReferenceProjectIdeal.main_arg2) = m ((c.tc : Thread Cert.ReferenceProjectIdeal.nD Cert.ReferenceProjectIdeal.τ).loc Cert.ReferenceProjectIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_ReferenceFfnBwdIdeal [hReferenceFfnBwdIdeal : Cert.ReferenceFfnBwdIdeal.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5)
      ∧ r.2.mem ((c.tc : Thread Cert.ReferenceFfnBwdIdeal.nD Cert.ReferenceFfnBwdIdeal.τ).loc Cert.ReferenceFfnBwdIdeal.main_arg6) = m ((c.tc : Thread Cert.ReferenceFfnBwdIdeal.nD Cert.ReferenceFfnBwdIdeal.τ).loc Cert.ReferenceFfnBwdIdeal.main_arg6))
      ∧ r.2.sem = fun _ => 0)

def preserves_Kernel_KernelIdeal : Prop :=
  True

def algebraic_KernelIdeal_ReferenceConvIdeal_on_conv_part [hKernelIdeal : Cert.KernelIdeal.Facts] [hReferenceConvIdeal : Cert.ReferenceConvIdeal.Facts] [hOn_conv_part : Cert.On_conv_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelIdeal m →
    (∀ c : Dev Cert.KernelIdeal.nD,
      m' ((c.tc : Thread Cert.ReferenceConvIdeal.nD Cert.ReferenceConvIdeal.τ).loc Cert.ReferenceConvIdeal.main_arg0) = m ((c.tc : Thread Cert.KernelIdeal.nD Cert.KernelIdeal.τ).loc Cert.KernelIdeal.main_arg0)
      ∧ m' ((c.tc : Thread Cert.ReferenceConvIdeal.nD Cert.ReferenceConvIdeal.τ).loc Cert.ReferenceConvIdeal.main_arg1) = m ((c.tc : Thread Cert.KernelIdeal.nD Cert.KernelIdeal.τ).loc Cert.KernelIdeal.main_arg1)
      ∧ m' ((c.tc : Thread Cert.ReferenceConvIdeal.nD Cert.ReferenceConvIdeal.τ).loc Cert.ReferenceConvIdeal.main_arg2) = m ((c.tc : Thread Cert.KernelIdeal.nD Cert.KernelIdeal.τ).loc Cert.KernelIdeal.main_arg2)
      ∧ m' ((c.tc : Thread Cert.ReferenceConvIdeal.nD Cert.ReferenceConvIdeal.τ).loc Cert.ReferenceConvIdeal.main_arg3) = m ((c.tc : Thread Cert.KernelIdeal.nD Cert.KernelIdeal.τ).loc Cert.KernelIdeal.main_arg3)
      ∧ m' ((c.tc : Thread Cert.ReferenceConvIdeal.nD Cert.ReferenceConvIdeal.τ).loc Cert.ReferenceConvIdeal.main_arg4) = m ((c.tc : Thread Cert.KernelIdeal.nD Cert.KernelIdeal.τ).loc Cert.KernelIdeal.main_arg4)
      ∧ m' ((c.tc : Thread Cert.ReferenceConvIdeal.nD Cert.ReferenceConvIdeal.τ).loc Cert.ReferenceConvIdeal.main_arg5) = m ((c.tc : Thread Cert.KernelIdeal.nD Cert.KernelIdeal.τ).loc Cert.KernelIdeal.main_arg5)
      ∧ m' ((c.tc : Thread Cert.ReferenceConvIdeal.nD Cert.ReferenceConvIdeal.τ).loc Cert.ReferenceConvIdeal.main_arg6) = m ((c.tc : Thread Cert.KernelIdeal.nD Cert.KernelIdeal.τ).loc Cert.KernelIdeal.main_arg6)
      ∧ m' ((c.tc : Thread Cert.ReferenceConvIdeal.nD Cert.ReferenceConvIdeal.τ).loc Cert.ReferenceConvIdeal.main_arg7) = m ((c.tc : Thread Cert.KernelIdeal.nD Cert.KernelIdeal.τ).loc Cert.KernelIdeal.main_arg7)
      ∧ m' ((c.tc : Thread Cert.ReferenceConvIdeal.nD Cert.ReferenceConvIdeal.τ).loc Cert.ReferenceConvIdeal.main_arg8) = m ((c.tc : Thread Cert.KernelIdeal.nD Cert.KernelIdeal.τ).loc Cert.KernelIdeal.main_arg8)
      ∧ m' ((c.tc : Thread Cert.ReferenceConvIdeal.nD Cert.ReferenceConvIdeal.τ).loc Cert.ReferenceConvIdeal.main_arg9) = m ((c.tc : Thread Cert.KernelIdeal.nD Cert.KernelIdeal.τ).loc Cert.KernelIdeal.main_arg9)
      ∧ m' ((c.tc : Thread Cert.ReferenceConvIdeal.nD Cert.ReferenceConvIdeal.τ).loc Cert.ReferenceConvIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 4608]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v0_0) i = v0 c i)
          ∧ (∀ i : (⟨2, ![8, 512]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v0_1) i = v1 c i)
          ∧ (∀ i : (⟨3, ![4, 128, 128]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v0_2) i = v2 c i)
          ∧ (∀ i : (⟨2, ![128, 4]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          (∀ i : (⟨2, ![2048, 4608]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceConvIdeal.nD Cert.ReferenceConvIdeal.τ).loc Cert.ReferenceConvIdeal.main_v53) i = v0 c i)
          ∧ (∀ i : (⟨2, ![8, 512]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceConvIdeal.nD Cert.ReferenceConvIdeal.τ).loc Cert.ReferenceConvIdeal.main_v56) i = v1 c i)
          ∧ (∀ i : (⟨3, ![4, 128, 128]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceConvIdeal.nD Cert.ReferenceConvIdeal.τ).loc Cert.ReferenceConvIdeal.main_v57) i = v2 c i)
          ∧ (∀ i : (⟨2, ![128, 4]⟩ : Shape).Idx, (Cert.On_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 i = 1#1 → r.2.mem ((c.tc : Thread Cert.ReferenceConvIdeal.nD Cert.ReferenceConvIdeal.τ).loc Cert.ReferenceConvIdeal.main_v58) i = v3 c i)
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4)
          ∧ r.2.mem ((c.tc : Thread Cert.ReferenceConvIdeal.nD Cert.ReferenceConvIdeal.τ).loc Cert.ReferenceConvIdeal.main_arg5) = m' ((c.tc : Thread Cert.ReferenceConvIdeal.nD Cert.ReferenceConvIdeal.τ).loc Cert.ReferenceConvIdeal.main_arg5)
          ∧ r.2.mem ((c.tc : Thread Cert.ReferenceConvIdeal.nD Cert.ReferenceConvIdeal.τ).loc Cert.ReferenceConvIdeal.main_arg6) = m' ((c.tc : Thread Cert.ReferenceConvIdeal.nD Cert.ReferenceConvIdeal.τ).loc Cert.ReferenceConvIdeal.main_arg6)
          ∧ r.2.mem ((c.tc : Thread Cert.ReferenceConvIdeal.nD Cert.ReferenceConvIdeal.τ).loc Cert.ReferenceConvIdeal.main_arg7) = m' ((c.tc : Thread Cert.ReferenceConvIdeal.nD Cert.ReferenceConvIdeal.τ).loc Cert.ReferenceConvIdeal.main_arg7)
          ∧ r.2.mem ((c.tc : Thread Cert.ReferenceConvIdeal.nD Cert.ReferenceConvIdeal.τ).loc Cert.ReferenceConvIdeal.main_arg8) = m' ((c.tc : Thread Cert.ReferenceConvIdeal.nD Cert.ReferenceConvIdeal.τ).loc Cert.ReferenceConvIdeal.main_arg8)
          ∧ r.2.mem ((c.tc : Thread Cert.ReferenceConvIdeal.nD Cert.ReferenceConvIdeal.τ).loc Cert.ReferenceConvIdeal.main_arg9) = m' ((c.tc : Thread Cert.ReferenceConvIdeal.nD Cert.ReferenceConvIdeal.τ).loc Cert.ReferenceConvIdeal.main_arg9)
          ∧ r.2.mem ((c.tc : Thread Cert.ReferenceConvIdeal.nD Cert.ReferenceConvIdeal.τ).loc Cert.ReferenceConvIdeal.main_arg10) = m' ((c.tc : Thread Cert.ReferenceConvIdeal.nD Cert.ReferenceConvIdeal.τ).loc Cert.ReferenceConvIdeal.main_arg10))

def preserves_Merge_MergeIdeal : Prop :=
  True

def algebraic_MergeIdeal_ReferenceMergeIdeal [hMergeIdeal : Cert.MergeIdeal.Facts] [hReferenceMergeIdeal : Cert.ReferenceMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_MergeIdeal m →
    (∀ c : Dev Cert.MergeIdeal.nD,
      m' ((c.tc : Thread Cert.ReferenceMergeIdeal.nD Cert.ReferenceMergeIdeal.τ).loc Cert.ReferenceMergeIdeal.main_arg0) = m ((c.tc : Thread Cert.MergeIdeal.nD Cert.MergeIdeal.τ).loc Cert.MergeIdeal.main_arg0)
      ∧ m' ((c.tc : Thread Cert.ReferenceMergeIdeal.nD Cert.ReferenceMergeIdeal.τ).loc Cert.ReferenceMergeIdeal.main_arg1) = m ((c.tc : Thread Cert.MergeIdeal.nD Cert.MergeIdeal.τ).loc Cert.MergeIdeal.main_arg1)
      ∧ m' ((c.tc : Thread Cert.ReferenceMergeIdeal.nD Cert.ReferenceMergeIdeal.τ).loc Cert.ReferenceMergeIdeal.main_arg2) = m ((c.tc : Thread Cert.MergeIdeal.nD Cert.MergeIdeal.τ).loc Cert.MergeIdeal.main_arg2)
      ∧ m' ((c.tc : Thread Cert.ReferenceMergeIdeal.nD Cert.ReferenceMergeIdeal.τ).loc Cert.ReferenceMergeIdeal.main_arg3) = m ((c.tc : Thread Cert.MergeIdeal.nD Cert.MergeIdeal.τ).loc Cert.MergeIdeal.main_arg3)
      ∧ m' ((c.tc : Thread Cert.ReferenceMergeIdeal.nD Cert.ReferenceMergeIdeal.τ).loc Cert.ReferenceMergeIdeal.main_arg4) = m ((c.tc : Thread Cert.MergeIdeal.nD Cert.MergeIdeal.τ).loc Cert.MergeIdeal.main_arg4)
      ∧ m' ((c.tc : Thread Cert.ReferenceMergeIdeal.nD Cert.ReferenceMergeIdeal.τ).loc Cert.ReferenceMergeIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v38) = v0 c
          ∧ r.2.mem ((c.tc : Thread Cert.ReferenceMergeIdeal.nD Cert.ReferenceMergeIdeal.τ).loc Cert.ReferenceMergeIdeal.main_v39) = v1 c
          ∧ r.2.mem ((c.tc : Thread Cert.ReferenceMergeIdeal.nD Cert.ReferenceMergeIdeal.τ).loc Cert.ReferenceMergeIdeal.main_v40) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_DwIn_DwInIdeal : Prop :=
  True

def algebraic_DwInIdeal_ReferenceDwInIdeal [hDwInIdeal : Cert.DwInIdeal.Facts] [hReferenceDwInIdeal : Cert.ReferenceDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_DwInIdeal m →
    (∀ c : Dev Cert.DwInIdeal.nD,
      m' ((c.tc : Thread Cert.ReferenceDwInIdeal.nD Cert.ReferenceDwInIdeal.τ).loc Cert.ReferenceDwInIdeal.main_arg0) = m ((c.tc : Thread Cert.DwInIdeal.nD Cert.DwInIdeal.τ).loc Cert.DwInIdeal.main_arg0)
      ∧ m' ((c.tc : Thread Cert.ReferenceDwInIdeal.nD Cert.ReferenceDwInIdeal.τ).loc Cert.ReferenceDwInIdeal.main_arg1) = m ((c.tc : Thread Cert.DwInIdeal.nD Cert.DwInIdeal.τ).loc Cert.DwInIdeal.main_arg1)
      ∧ m' ((c.tc : Thread Cert.ReferenceDwInIdeal.nD Cert.ReferenceDwInIdeal.τ).loc Cert.ReferenceDwInIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v8) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1)
          ∧ r.2.mem ((c.tc : Thread Cert.ReferenceDwInIdeal.nD Cert.ReferenceDwInIdeal.τ).loc Cert.ReferenceDwInIdeal.main_arg2) = m' ((c.tc : Thread Cert.ReferenceDwInIdeal.nD Cert.ReferenceDwInIdeal.τ).loc Cert.ReferenceDwInIdeal.main_arg2))

def preserves_DwFf2_DwFf2Ideal : Prop :=
  True

def algebraic_DwFf2Ideal_ReferenceDwFf2Ideal [hDwFf2Ideal : Cert.DwFf2Ideal.Facts] [hReferenceDwFf2Ideal : Cert.ReferenceDwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.ReferenceDwFf2Ideal.nD Cert.ReferenceDwFf2Ideal.τ Cert.ReferenceDwFf2Ideal.sig) → Buf (Elt Ideal) ℓ) (g' : Dev Cert.ReferenceDwFf2Ideal.nD → PrngReg), Pre_DwFf2Ideal m →
    (∀ c : Dev Cert.DwFf2Ideal.nD,
      m' ((c.tc : Thread Cert.ReferenceDwFf2Ideal.nD Cert.ReferenceDwFf2Ideal.τ).loc Cert.ReferenceDwFf2Ideal.main_arg0) = m ((c.tc : Thread Cert.DwFf2Ideal.nD Cert.DwFf2Ideal.τ).loc Cert.DwFf2Ideal.main_arg0)
      ∧ m' ((c.tc : Thread Cert.ReferenceDwFf2Ideal.nD Cert.ReferenceDwFf2Ideal.τ).loc Cert.ReferenceDwFf2Ideal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.ReferenceDwFf2Ideal.defs (F := Ideal)) (onTc (τ := Cert.ReferenceDwFf2Ideal.τ) (Cert.ReferenceDwFf2Ideal.main (F := Ideal))) ⟨m', fun _ => 0, g'⟩ (fun r => ∀ c : Dev Cert.ReferenceDwFf2Ideal.nD,
          r.2.mem ((c.tc : Thread Cert.ReferenceDwFf2Ideal.nD Cert.ReferenceDwFf2Ideal.τ).loc Cert.ReferenceDwFf2Ideal.main_v8) = v0 c
          ∧ r.2.mem ((c.tc : Thread Cert.ReferenceDwFf2Ideal.nD Cert.ReferenceDwFf2Ideal.τ).loc Cert.ReferenceDwFf2Ideal.main_arg0) = m' ((c.tc : Thread Cert.ReferenceDwFf2Ideal.nD Cert.ReferenceDwFf2Ideal.τ).loc Cert.ReferenceDwFf2Ideal.main_arg0)
          ∧ r.2.mem ((c.tc : Thread Cert.ReferenceDwFf2Ideal.nD Cert.ReferenceDwFf2Ideal.τ).loc Cert.ReferenceDwFf2Ideal.main_arg1) = m' ((c.tc : Thread Cert.ReferenceDwFf2Ideal.nD Cert.ReferenceDwFf2Ideal.τ).loc Cert.ReferenceDwFf2Ideal.main_arg1))

def preserves_DwO_DwOIdeal : Prop :=
  True

def algebraic_DwOIdeal_ReferenceDwOIdeal [hDwOIdeal : Cert.DwOIdeal.Facts] [hReferenceDwOIdeal : Cert.ReferenceDwOIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.ReferenceDwOIdeal.nD Cert.ReferenceDwOIdeal.τ Cert.ReferenceDwOIdeal.sig) → Buf (Elt Ideal) ℓ) (g' : Dev Cert.ReferenceDwOIdeal.nD → PrngReg), Pre_DwOIdeal m →
    (∀ c : Dev Cert.DwOIdeal.nD,
      m' ((c.tc : Thread Cert.ReferenceDwOIdeal.nD Cert.ReferenceDwOIdeal.τ).loc Cert.ReferenceDwOIdeal.main_arg0) = m ((c.tc : Thread Cert.DwOIdeal.nD Cert.DwOIdeal.τ).loc Cert.DwOIdeal.main_arg0)
      ∧ m' ((c.tc : Thread Cert.ReferenceDwOIdeal.nD Cert.ReferenceDwOIdeal.τ).loc Cert.ReferenceDwOIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.ReferenceDwOIdeal.defs (F := Ideal)) (onTc (τ := Cert.ReferenceDwOIdeal.τ) (Cert.ReferenceDwOIdeal.main (F := Ideal))) ⟨m', fun _ => 0, g'⟩ (fun r => ∀ c : Dev Cert.ReferenceDwOIdeal.nD,
          r.2.mem ((c.tc : Thread Cert.ReferenceDwOIdeal.nD Cert.ReferenceDwOIdeal.τ).loc Cert.ReferenceDwOIdeal.main_v7) = v0 c
          ∧ r.2.mem ((c.tc : Thread Cert.ReferenceDwOIdeal.nD Cert.ReferenceDwOIdeal.τ).loc Cert.ReferenceDwOIdeal.main_arg0) = m' ((c.tc : Thread Cert.ReferenceDwOIdeal.nD Cert.ReferenceDwOIdeal.τ).loc Cert.ReferenceDwOIdeal.main_arg0)
          ∧ r.2.mem ((c.tc : Thread Cert.ReferenceDwOIdeal.nD Cert.ReferenceDwOIdeal.τ).loc Cert.ReferenceDwOIdeal.main_arg1) = m' ((c.tc : Thread Cert.ReferenceDwOIdeal.nD Cert.ReferenceDwOIdeal.τ).loc Cert.ReferenceDwOIdeal.main_arg1))

def preserves_DwFf1_DwFf1Ideal : Prop :=
  True

def algebraic_DwFf1Ideal_ReferenceDwFf1Ideal [hDwFf1Ideal : Cert.DwFf1Ideal.Facts] [hReferenceDwFf1Ideal : Cert.ReferenceDwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.ReferenceDwFf1Ideal.nD Cert.ReferenceDwFf1Ideal.τ Cert.ReferenceDwFf1Ideal.sig) → Buf (Elt Ideal) ℓ) (g' : Dev Cert.ReferenceDwFf1Ideal.nD → PrngReg), Pre_DwFf1Ideal m →
    (∀ c : Dev Cert.DwFf1Ideal.nD,
      m' ((c.tc : Thread Cert.ReferenceDwFf1Ideal.nD Cert.ReferenceDwFf1Ideal.τ).loc Cert.ReferenceDwFf1Ideal.main_arg0) = m ((c.tc : Thread Cert.DwFf1Ideal.nD Cert.DwFf1Ideal.τ).loc Cert.DwFf1Ideal.main_arg0)
      ∧ m' ((c.tc : Thread Cert.ReferenceDwFf1Ideal.nD Cert.ReferenceDwFf1Ideal.τ).loc Cert.ReferenceDwFf1Ideal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.ReferenceDwFf1Ideal.defs (F := Ideal)) (onTc (τ := Cert.ReferenceDwFf1Ideal.τ) (Cert.ReferenceDwFf1Ideal.main (F := Ideal))) ⟨m', fun _ => 0, g'⟩ (fun r => ∀ c : Dev Cert.ReferenceDwFf1Ideal.nD,
          r.2.mem ((c.tc : Thread Cert.ReferenceDwFf1Ideal.nD Cert.ReferenceDwFf1Ideal.τ).loc Cert.ReferenceDwFf1Ideal.main_v8) = v0 c
          ∧ r.2.mem ((c.tc : Thread Cert.ReferenceDwFf1Ideal.nD Cert.ReferenceDwFf1Ideal.τ).loc Cert.ReferenceDwFf1Ideal.main_arg0) = m' ((c.tc : Thread Cert.ReferenceDwFf1Ideal.nD Cert.ReferenceDwFf1Ideal.τ).loc Cert.ReferenceDwFf1Ideal.main_arg0)
          ∧ r.2.mem ((c.tc : Thread Cert.ReferenceDwFf1Ideal.nD Cert.ReferenceDwFf1Ideal.τ).loc Cert.ReferenceDwFf1Ideal.main_arg1) = m' ((c.tc : Thread Cert.ReferenceDwFf1Ideal.nD Cert.ReferenceDwFf1Ideal.τ).loc Cert.ReferenceDwFf1Ideal.main_arg1))

def preserves_DwBranch_DwBranchIdeal : Prop :=
  True

def algebraic_DwBranchIdeal_ReferenceDwBranchIdeal [hDwBranchIdeal : Cert.DwBranchIdeal.Facts] [hReferenceDwBranchIdeal : Cert.ReferenceDwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.ReferenceDwBranchIdeal.nD Cert.ReferenceDwBranchIdeal.τ Cert.ReferenceDwBranchIdeal.sig) → Buf (Elt Ideal) ℓ) (g' : Dev Cert.ReferenceDwBranchIdeal.nD → PrngReg), Pre_DwBranchIdeal m →
    (∀ c : Dev Cert.DwBranchIdeal.nD,
      m' ((c.tc : Thread Cert.ReferenceDwBranchIdeal.nD Cert.ReferenceDwBranchIdeal.τ).loc Cert.ReferenceDwBranchIdeal.main_arg0) = m ((c.tc : Thread Cert.DwBranchIdeal.nD Cert.DwBranchIdeal.τ).loc Cert.DwBranchIdeal.main_arg0)
      ∧ m' ((c.tc : Thread Cert.ReferenceDwBranchIdeal.nD Cert.ReferenceDwBranchIdeal.τ).loc Cert.ReferenceDwBranchIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.ReferenceDwBranchIdeal.defs (F := Ideal)) (onTc (τ := Cert.ReferenceDwBranchIdeal.τ) (Cert.ReferenceDwBranchIdeal.main (F := Ideal))) ⟨m', fun _ => 0, g'⟩ (fun r => ∀ c : Dev Cert.ReferenceDwBranchIdeal.nD,
          r.2.mem ((c.tc : Thread Cert.ReferenceDwBranchIdeal.nD Cert.ReferenceDwBranchIdeal.τ).loc Cert.ReferenceDwBranchIdeal.main_v12) = v0 c
          ∧ r.2.mem ((c.tc : Thread Cert.ReferenceDwBranchIdeal.nD Cert.ReferenceDwBranchIdeal.τ).loc Cert.ReferenceDwBranchIdeal.main_arg0) = m' ((c.tc : Thread Cert.ReferenceDwBranchIdeal.nD Cert.ReferenceDwBranchIdeal.τ).loc Cert.ReferenceDwBranchIdeal.main_arg0)
          ∧ r.2.mem ((c.tc : Thread Cert.ReferenceDwBranchIdeal.nD Cert.ReferenceDwBranchIdeal.τ).loc Cert.ReferenceDwBranchIdeal.main_arg1) = m' ((c.tc : Thread Cert.ReferenceDwBranchIdeal.nD Cert.ReferenceDwBranchIdeal.τ).loc Cert.ReferenceDwBranchIdeal.main_arg1))

def preserves_Gate_GateIdeal : Prop :=
  True

def algebraic_GateIdeal_ReferenceGateIdeal [hGateIdeal : Cert.GateIdeal.Facts] [hReferenceGateIdeal : Cert.ReferenceGateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_GateIdeal m →
    (∀ c : Dev Cert.GateIdeal.nD,
      m' ((c.tc : Thread Cert.ReferenceGateIdeal.nD Cert.ReferenceGateIdeal.τ).loc Cert.ReferenceGateIdeal.main_arg0) = m ((c.tc : Thread Cert.GateIdeal.nD Cert.GateIdeal.τ).loc Cert.GateIdeal.main_arg0)
      ∧ m' ((c.tc : Thread Cert.ReferenceGateIdeal.nD Cert.ReferenceGateIdeal.τ).loc Cert.ReferenceGateIdeal.main_arg1) = m ((c.tc : Thread Cert.GateIdeal.nD Cert.GateIdeal.τ).loc Cert.GateIdeal.main_arg1)
      ∧ m' ((c.tc : Thread Cert.ReferenceGateIdeal.nD Cert.ReferenceGateIdeal.τ).loc Cert.ReferenceGateIdeal.main_arg2) = m ((c.tc : Thread Cert.GateIdeal.nD Cert.GateIdeal.τ).loc Cert.GateIdeal.main_arg2)
      ∧ m' ((c.tc : Thread Cert.ReferenceGateIdeal.nD Cert.ReferenceGateIdeal.τ).loc Cert.ReferenceGateIdeal.main_arg3) = m ((c.tc : Thread Cert.GateIdeal.nD Cert.GateIdeal.τ).loc Cert.GateIdeal.main_arg3)
      ∧ m' ((c.tc : Thread Cert.ReferenceGateIdeal.nD Cert.ReferenceGateIdeal.τ).loc Cert.ReferenceGateIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v17) = v0 c
          ∧ r.2.mem ((c.tc : Thread Cert.ReferenceGateIdeal.nD Cert.ReferenceGateIdeal.τ).loc Cert.ReferenceGateIdeal.main_v15) = v1 c
          ∧ r.2.mem ((c.tc : Thread Cert.ReferenceGateIdeal.nD Cert.ReferenceGateIdeal.τ).loc Cert.ReferenceGateIdeal.main_v21) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4))

def preserves_Project_ProjectIdeal : Prop :=
  True

def algebraic_ProjectIdeal_ReferenceProjectIdeal [hProjectIdeal : Cert.ProjectIdeal.Facts] [hReferenceProjectIdeal : Cert.ReferenceProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ReferenceProjectIdeal.nD Cert.ReferenceProjectIdeal.τ Cert.ReferenceProjectIdeal.sig) → Buf (Elt Ideal) ℓ) (g' : Dev Cert.ReferenceProjectIdeal.nD → PrngReg), Pre_ProjectIdeal m →
    (∀ c : Dev Cert.ProjectIdeal.nD,
      m' ((c.tc : Thread Cert.ReferenceProjectIdeal.nD Cert.ReferenceProjectIdeal.τ).loc Cert.ReferenceProjectIdeal.main_arg0) = m ((c.tc : Thread Cert.ProjectIdeal.nD Cert.ProjectIdeal.τ).loc Cert.ProjectIdeal.main_arg0)
      ∧ m' ((c.tc : Thread Cert.ReferenceProjectIdeal.nD Cert.ReferenceProjectIdeal.τ).loc Cert.ReferenceProjectIdeal.main_arg1) = m ((c.tc : Thread Cert.ProjectIdeal.nD Cert.ProjectIdeal.τ).loc Cert.ProjectIdeal.main_arg1)
      ∧ m' ((c.tc : Thread Cert.ReferenceProjectIdeal.nD Cert.ReferenceProjectIdeal.τ).loc Cert.ReferenceProjectIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ReferenceProjectIdeal.defs (F := Ideal)) (onTc (τ := Cert.ReferenceProjectIdeal.τ) (Cert.ReferenceProjectIdeal.main (F := Ideal))) ⟨m', fun _ => 0, g'⟩ (fun r => ∀ c : Dev Cert.ReferenceProjectIdeal.nD,
          r.2.mem ((c.tc : Thread Cert.ReferenceProjectIdeal.nD Cert.ReferenceProjectIdeal.τ).loc Cert.ReferenceProjectIdeal.main_v17) = v0 c
          ∧ r.2.mem ((c.tc : Thread Cert.ReferenceProjectIdeal.nD Cert.ReferenceProjectIdeal.τ).loc Cert.ReferenceProjectIdeal.main_v19) = v1 c
          ∧ r.2.mem ((c.tc : Thread Cert.ReferenceProjectIdeal.nD Cert.ReferenceProjectIdeal.τ).loc Cert.ReferenceProjectIdeal.main_v12) = v2 c
          ∧ r.2.mem ((c.tc : Thread Cert.ReferenceProjectIdeal.nD Cert.ReferenceProjectIdeal.τ).loc Cert.ReferenceProjectIdeal.main_arg0) = m' ((c.tc : Thread Cert.ReferenceProjectIdeal.nD Cert.ReferenceProjectIdeal.τ).loc Cert.ReferenceProjectIdeal.main_arg0)
          ∧ r.2.mem ((c.tc : Thread Cert.ReferenceProjectIdeal.nD Cert.ReferenceProjectIdeal.τ).loc Cert.ReferenceProjectIdeal.main_arg1) = m' ((c.tc : Thread Cert.ReferenceProjectIdeal.nD Cert.ReferenceProjectIdeal.τ).loc Cert.ReferenceProjectIdeal.main_arg1)
          ∧ r.2.mem ((c.tc : Thread Cert.ReferenceProjectIdeal.nD Cert.ReferenceProjectIdeal.τ).loc Cert.ReferenceProjectIdeal.main_arg2) = m' ((c.tc : Thread Cert.ReferenceProjectIdeal.nD Cert.ReferenceProjectIdeal.τ).loc Cert.ReferenceProjectIdeal.main_arg2))

def preserves_Ffn_FfnIdeal : Prop :=
  True

def algebraic_FfnIdeal_ReferenceFfnIdeal [hFfnIdeal : Cert.FfnIdeal.Facts] [hReferenceFfnIdeal : Cert.ReferenceFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_FfnIdeal m →
    (∀ c : Dev Cert.FfnIdeal.nD,
      m' ((c.tc : Thread Cert.ReferenceFfnIdeal.nD Cert.ReferenceFfnIdeal.τ).loc Cert.ReferenceFfnIdeal.main_arg0) = m ((c.tc : Thread Cert.FfnIdeal.nD Cert.FfnIdeal.τ).loc Cert.FfnIdeal.main_arg0)
      ∧ m' ((c.tc : Thread Cert.ReferenceFfnIdeal.nD Cert.ReferenceFfnIdeal.τ).loc Cert.ReferenceFfnIdeal.main_arg1) = m ((c.tc : Thread Cert.FfnIdeal.nD Cert.FfnIdeal.τ).loc Cert.FfnIdeal.main_arg1)
      ∧ m' ((c.tc : Thread Cert.ReferenceFfnIdeal.nD Cert.ReferenceFfnIdeal.τ).loc Cert.ReferenceFfnIdeal.main_arg2) = m ((c.tc : Thread Cert.FfnIdeal.nD Cert.FfnIdeal.τ).loc Cert.FfnIdeal.main_arg2)
      ∧ m' ((c.tc : Thread Cert.ReferenceFfnIdeal.nD Cert.ReferenceFfnIdeal.τ).loc Cert.ReferenceFfnIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v21) = v0 c
          ∧ r.2.mem ((c.tc : Thread Cert.ReferenceFfnIdeal.nD Cert.ReferenceFfnIdeal.τ).loc Cert.ReferenceFfnIdeal.main_v12) = v1 c
          ∧ r.2.mem ((c.tc : Thread Cert.ReferenceFfnIdeal.nD Cert.ReferenceFfnIdeal.τ).loc Cert.ReferenceFfnIdeal.main_v22) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_FfnBwd_FfnBwdIdeal : Prop :=
  True

def algebraic_FfnBwdIdeal_ReferenceFfnBwdIdeal [hFfnBwdIdeal : Cert.FfnBwdIdeal.Facts] [hReferenceFfnBwdIdeal : Cert.ReferenceFfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.ReferenceFfnBwdIdeal.nD Cert.ReferenceFfnBwdIdeal.τ Cert.ReferenceFfnBwdIdeal.sig) → Buf (Elt Ideal) ℓ) (g' : Dev Cert.ReferenceFfnBwdIdeal.nD → PrngReg), Pre_FfnBwdIdeal m →
    (∀ c : Dev Cert.FfnBwdIdeal.nD,
      m' ((c.tc : Thread Cert.ReferenceFfnBwdIdeal.nD Cert.ReferenceFfnBwdIdeal.τ).loc Cert.ReferenceFfnBwdIdeal.main_arg0) = m ((c.tc : Thread Cert.FfnBwdIdeal.nD Cert.FfnBwdIdeal.τ).loc Cert.FfnBwdIdeal.main_arg0)
      ∧ m' ((c.tc : Thread Cert.ReferenceFfnBwdIdeal.nD Cert.ReferenceFfnBwdIdeal.τ).loc Cert.ReferenceFfnBwdIdeal.main_arg1) = m ((c.tc : Thread Cert.FfnBwdIdeal.nD Cert.FfnBwdIdeal.τ).loc Cert.FfnBwdIdeal.main_arg1)
      ∧ m' ((c.tc : Thread Cert.ReferenceFfnBwdIdeal.nD Cert.ReferenceFfnBwdIdeal.τ).loc Cert.ReferenceFfnBwdIdeal.main_arg2) = m ((c.tc : Thread Cert.FfnBwdIdeal.nD Cert.FfnBwdIdeal.τ).loc Cert.FfnBwdIdeal.main_arg2)
      ∧ m' ((c.tc : Thread Cert.ReferenceFfnBwdIdeal.nD Cert.ReferenceFfnBwdIdeal.τ).loc Cert.ReferenceFfnBwdIdeal.main_arg3) = m ((c.tc : Thread Cert.FfnBwdIdeal.nD Cert.FfnBwdIdeal.τ).loc Cert.FfnBwdIdeal.main_arg3)
      ∧ m' ((c.tc : Thread Cert.ReferenceFfnBwdIdeal.nD Cert.ReferenceFfnBwdIdeal.τ).loc Cert.ReferenceFfnBwdIdeal.main_arg4) = m ((c.tc : Thread Cert.FfnBwdIdeal.nD Cert.FfnBwdIdeal.τ).loc Cert.FfnBwdIdeal.main_arg4)
      ∧ m' ((c.tc : Thread Cert.ReferenceFfnBwdIdeal.nD Cert.ReferenceFfnBwdIdeal.τ).loc Cert.ReferenceFfnBwdIdeal.main_arg5) = m ((c.tc : Thread Cert.FfnBwdIdeal.nD Cert.FfnBwdIdeal.τ).loc Cert.FfnBwdIdeal.main_arg5)
      ∧ m' ((c.tc : Thread Cert.ReferenceFfnBwdIdeal.nD Cert.ReferenceFfnBwdIdeal.τ).loc Cert.ReferenceFfnBwdIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.ReferenceFfnBwdIdeal.defs (F := Ideal)) (onTc (τ := Cert.ReferenceFfnBwdIdeal.τ) (Cert.ReferenceFfnBwdIdeal.main (F := Ideal))) ⟨m', fun _ => 0, g'⟩ (fun r => ∀ c : Dev Cert.ReferenceFfnBwdIdeal.nD,
          r.2.mem ((c.tc : Thread Cert.ReferenceFfnBwdIdeal.nD Cert.ReferenceFfnBwdIdeal.τ).loc Cert.ReferenceFfnBwdIdeal.main_v9) = v0 c
          ∧ r.2.mem ((c.tc : Thread Cert.ReferenceFfnBwdIdeal.nD Cert.ReferenceFfnBwdIdeal.τ).loc Cert.ReferenceFfnBwdIdeal.main_v48) = v1 c
          ∧ r.2.mem ((c.tc : Thread Cert.ReferenceFfnBwdIdeal.nD Cert.ReferenceFfnBwdIdeal.τ).loc Cert.ReferenceFfnBwdIdeal.main_v49) = v2 c
          ∧ r.2.mem ((c.tc : Thread Cert.ReferenceFfnBwdIdeal.nD Cert.ReferenceFfnBwdIdeal.τ).loc Cert.ReferenceFfnBwdIdeal.main_v31) = v3 c
          ∧ r.2.mem ((c.tc : Thread Cert.ReferenceFfnBwdIdeal.nD Cert.ReferenceFfnBwdIdeal.τ).loc Cert.ReferenceFfnBwdIdeal.main_arg0) = m' ((c.tc : Thread Cert.ReferenceFfnBwdIdeal.nD Cert.ReferenceFfnBwdIdeal.τ).loc Cert.ReferenceFfnBwdIdeal.main_arg0)
          ∧ r.2.mem ((c.tc : Thread Cert.ReferenceFfnBwdIdeal.nD Cert.ReferenceFfnBwdIdeal.τ).loc Cert.ReferenceFfnBwdIdeal.main_arg1) = m' ((c.tc : Thread Cert.ReferenceFfnBwdIdeal.nD Cert.ReferenceFfnBwdIdeal.τ).loc Cert.ReferenceFfnBwdIdeal.main_arg1)
          ∧ r.2.mem ((c.tc : Thread Cert.ReferenceFfnBwdIdeal.nD Cert.ReferenceFfnBwdIdeal.τ).loc Cert.ReferenceFfnBwdIdeal.main_arg2) = m' ((c.tc : Thread Cert.ReferenceFfnBwdIdeal.nD Cert.ReferenceFfnBwdIdeal.τ).loc Cert.ReferenceFfnBwdIdeal.main_arg2)
          ∧ r.2.mem ((c.tc : Thread Cert.ReferenceFfnBwdIdeal.nD Cert.ReferenceFfnBwdIdeal.τ).loc Cert.ReferenceFfnBwdIdeal.main_arg3) = m' ((c.tc : Thread Cert.ReferenceFfnBwdIdeal.nD Cert.ReferenceFfnBwdIdeal.τ).loc Cert.ReferenceFfnBwdIdeal.main_arg3)
          ∧ r.2.mem ((c.tc : Thread Cert.ReferenceFfnBwdIdeal.nD Cert.ReferenceFfnBwdIdeal.τ).loc Cert.ReferenceFfnBwdIdeal.main_arg4) = m' ((c.tc : Thread Cert.ReferenceFfnBwdIdeal.nD Cert.ReferenceFfnBwdIdeal.τ).loc Cert.ReferenceFfnBwdIdeal.main_arg4)
          ∧ r.2.mem ((c.tc : Thread Cert.ReferenceFfnBwdIdeal.nD Cert.ReferenceFfnBwdIdeal.τ).loc Cert.ReferenceFfnBwdIdeal.main_arg5) = m' ((c.tc : Thread Cert.ReferenceFfnBwdIdeal.nD Cert.ReferenceFfnBwdIdeal.τ).loc Cert.ReferenceFfnBwdIdeal.main_arg5)
          ∧ r.2.mem ((c.tc : Thread Cert.ReferenceFfnBwdIdeal.nD Cert.ReferenceFfnBwdIdeal.τ).loc Cert.ReferenceFfnBwdIdeal.main_arg6) = m' ((c.tc : Thread Cert.ReferenceFfnBwdIdeal.nD Cert.ReferenceFfnBwdIdeal.τ).loc Cert.ReferenceFfnBwdIdeal.main_arg6))

def Claim : Prop :=
  ∃ (hKernel : Cert.Kernel.Facts) (hKernelIdeal : Cert.KernelIdeal.Facts) (hReferenceConvIdeal : Cert.ReferenceConvIdeal.Facts) (hMerge : Cert.Merge.Facts) (hMergeIdeal : Cert.MergeIdeal.Facts) (hReferenceMergeIdeal : Cert.ReferenceMergeIdeal.Facts) (hDwIn : Cert.DwIn.Facts) (hDwInIdeal : Cert.DwInIdeal.Facts) (hReferenceDwInIdeal : Cert.ReferenceDwInIdeal.Facts) (hDwFf2 : Cert.DwFf2.Facts) (hDwFf2Ideal : Cert.DwFf2Ideal.Facts) (hReferenceDwFf2Ideal : Cert.ReferenceDwFf2Ideal.Facts) (hDwO : Cert.DwO.Facts) (hDwOIdeal : Cert.DwOIdeal.Facts) (hReferenceDwOIdeal : Cert.ReferenceDwOIdeal.Facts) (hDwFf1 : Cert.DwFf1.Facts) (hDwFf1Ideal : Cert.DwFf1Ideal.Facts) (hReferenceDwFf1Ideal : Cert.ReferenceDwFf1Ideal.Facts) (hDwBranch : Cert.DwBranch.Facts) (hDwBranchIdeal : Cert.DwBranchIdeal.Facts) (hReferenceDwBranchIdeal : Cert.ReferenceDwBranchIdeal.Facts) (hGate : Cert.Gate.Facts) (hGateIdeal : Cert.GateIdeal.Facts) (hReferenceGateIdeal : Cert.ReferenceGateIdeal.Facts) (hProject : Cert.Project.Facts) (hProjectIdeal : Cert.ProjectIdeal.Facts) (hReferenceProjectIdeal : Cert.ReferenceProjectIdeal.Facts) (hFfn : Cert.Ffn.Facts) (hFfnIdeal : Cert.FfnIdeal.Facts) (hReferenceFfnIdeal : Cert.ReferenceFfnIdeal.Facts) (hFfnBwd : Cert.FfnBwd.Facts) (hFfnBwdIdeal : Cert.FfnBwdIdeal.Facts) (hReferenceFfnBwdIdeal : Cert.ReferenceFfnBwdIdeal.Facts) (hOn_conv_part : Cert.On_conv_part.Facts),
    quiescent_Kernel (hKernel := hKernel)
    ∧ quiescent_KernelIdeal (hKernelIdeal := hKernelIdeal)
    ∧ quiescent_ReferenceConvIdeal (hReferenceConvIdeal := hReferenceConvIdeal)
    ∧ quiescent_Merge (hMerge := hMerge)
    ∧ quiescent_MergeIdeal (hMergeIdeal := hMergeIdeal)
    ∧ quiescent_ReferenceMergeIdeal (hReferenceMergeIdeal := hReferenceMergeIdeal)
    ∧ quiescent_DwIn (hDwIn := hDwIn)
    ∧ quiescent_DwInIdeal (hDwInIdeal := hDwInIdeal)
    ∧ quiescent_ReferenceDwInIdeal (hReferenceDwInIdeal := hReferenceDwInIdeal)
    ∧ quiescent_DwFf2 (hDwFf2 := hDwFf2)
    ∧ quiescent_DwFf2Ideal (hDwFf2Ideal := hDwFf2Ideal)
    ∧ quiescent_ReferenceDwFf2Ideal (hReferenceDwFf2Ideal := hReferenceDwFf2Ideal)
    ∧ quiescent_DwO (hDwO := hDwO)
    ∧ quiescent_DwOIdeal (hDwOIdeal := hDwOIdeal)
    ∧ quiescent_ReferenceDwOIdeal (hReferenceDwOIdeal := hReferenceDwOIdeal)
    ∧ quiescent_DwFf1 (hDwFf1 := hDwFf1)
    ∧ quiescent_DwFf1Ideal (hDwFf1Ideal := hDwFf1Ideal)
    ∧ quiescent_ReferenceDwFf1Ideal (hReferenceDwFf1Ideal := hReferenceDwFf1Ideal)
    ∧ quiescent_DwBranch (hDwBranch := hDwBranch)
    ∧ quiescent_DwBranchIdeal (hDwBranchIdeal := hDwBranchIdeal)
    ∧ quiescent_ReferenceDwBranchIdeal (hReferenceDwBranchIdeal := hReferenceDwBranchIdeal)
    ∧ quiescent_Gate (hGate := hGate)
    ∧ quiescent_GateIdeal (hGateIdeal := hGateIdeal)
    ∧ quiescent_ReferenceGateIdeal (hReferenceGateIdeal := hReferenceGateIdeal)
    ∧ quiescent_Project (hProject := hProject)
    ∧ quiescent_ProjectIdeal (hProjectIdeal := hProjectIdeal)
    ∧ quiescent_ReferenceProjectIdeal (hReferenceProjectIdeal := hReferenceProjectIdeal)
    ∧ quiescent_Ffn (hFfn := hFfn)
    ∧ quiescent_FfnIdeal (hFfnIdeal := hFfnIdeal)
    ∧ quiescent_ReferenceFfnIdeal (hReferenceFfnIdeal := hReferenceFfnIdeal)
    ∧ quiescent_FfnBwd (hFfnBwd := hFfnBwd)
    ∧ quiescent_FfnBwdIdeal (hFfnBwdIdeal := hFfnBwdIdeal)
    ∧ quiescent_ReferenceFfnBwdIdeal (hReferenceFfnBwdIdeal := hReferenceFfnBwdIdeal)
    ∧ preserves_Kernel_KernelIdeal
    ∧ algebraic_KernelIdeal_ReferenceConvIdeal_on_conv_part (hKernelIdeal := hKernelIdeal) (hReferenceConvIdeal := hReferenceConvIdeal) (hOn_conv_part := hOn_conv_part)
    ∧ preserves_Merge_MergeIdeal
    ∧ algebraic_MergeIdeal_ReferenceMergeIdeal (hMergeIdeal := hMergeIdeal) (hReferenceMergeIdeal := hReferenceMergeIdeal)
    ∧ preserves_DwIn_DwInIdeal
    ∧ algebraic_DwInIdeal_ReferenceDwInIdeal (hDwInIdeal := hDwInIdeal) (hReferenceDwInIdeal := hReferenceDwInIdeal)
    ∧ preserves_DwFf2_DwFf2Ideal
    ∧ algebraic_DwFf2Ideal_ReferenceDwFf2Ideal (hDwFf2Ideal := hDwFf2Ideal) (hReferenceDwFf2Ideal := hReferenceDwFf2Ideal)
    ∧ preserves_DwO_DwOIdeal
    ∧ algebraic_DwOIdeal_ReferenceDwOIdeal (hDwOIdeal := hDwOIdeal) (hReferenceDwOIdeal := hReferenceDwOIdeal)
    ∧ preserves_DwFf1_DwFf1Ideal
    ∧ algebraic_DwFf1Ideal_ReferenceDwFf1Ideal (hDwFf1Ideal := hDwFf1Ideal) (hReferenceDwFf1Ideal := hReferenceDwFf1Ideal)
    ∧ preserves_DwBranch_DwBranchIdeal
    ∧ algebraic_DwBranchIdeal_ReferenceDwBranchIdeal (hDwBranchIdeal := hDwBranchIdeal) (hReferenceDwBranchIdeal := hReferenceDwBranchIdeal)
    ∧ preserves_Gate_GateIdeal
    ∧ algebraic_GateIdeal_ReferenceGateIdeal (hGateIdeal := hGateIdeal) (hReferenceGateIdeal := hReferenceGateIdeal)
    ∧ preserves_Project_ProjectIdeal
    ∧ algebraic_ProjectIdeal_ReferenceProjectIdeal (hProjectIdeal := hProjectIdeal) (hReferenceProjectIdeal := hReferenceProjectIdeal)
    ∧ preserves_Ffn_FfnIdeal
    ∧ algebraic_FfnIdeal_ReferenceFfnIdeal (hFfnIdeal := hFfnIdeal) (hReferenceFfnIdeal := hReferenceFfnIdeal)
    ∧ preserves_FfnBwd_FfnBwdIdeal
    ∧ algebraic_FfnBwdIdeal_ReferenceFfnBwdIdeal (hFfnBwdIdeal := hFfnBwdIdeal) (hReferenceFfnBwdIdeal := hReferenceFfnBwdIdeal)
-- ==== On_conv_part.lean ====
abbrev S2048x4608 : Shape := ⟨2, ![2048, 4608]⟩
abbrev S2048x1536 : Shape := ⟨2, ![2048, 1536]⟩
abbrev S2048x512 : Shape := ⟨2, ![2048, 512]⟩
abbrev S32x4x128x128 : Shape := ⟨4, ![32, 4, 128, 128]⟩
abbrev S1x512 : Shape := ⟨2, ![1, 512]⟩
abbrev S3x512 : Shape := ⟨2, ![3, 512]⟩
abbrev S4x128x128 : Shape := ⟨3, ![4, 128, 128]⟩
abbrev S128x4 : Shape := ⟨2, ![128, 4]⟩
abbrev S8x512 : Shape := ⟨2, ![8, 512]⟩
abbrev S_ : Shape := ⟨0, ![]⟩

class Facts : Prop where
  bcast_S_S2048x4608 : S_.BroadcastsInDim S2048x4608 (![] : Fin 0 → Fin S2048x4608.rank)
  bcast_S_S8x512 : S_.BroadcastsInDim S8x512 (![] : Fin 0 → Fin S8x512.rank)
  bcast_S_S4x128x128 : S_.BroadcastsInDim S4x128x128 (![] : Fin 0 → Fin S4x128x128.rank)
  bcast_S_S128x4 : S_.BroadcastsInDim S128x4 (![] : Fin 0 → Fin S128x4.rank)

variable [Facts]

def fn {F : FTy → Type} [FloatOps F] (main_arg0 : FVec F S2048x4608 .f32) (main_arg1 : FVec F S2048x1536 .bf16) (main_arg2 : FVec F S2048x512 .f32) (main_arg3 : FVec F S32x4x128x128 .f32) (main_arg4 : FVec F S1x512 .f32) (main_arg5 : FVec F S1x512 .f32) (main_arg6 : FVec F S3x512 .f32) (main_arg7 : FVec F S1x512 .f32) (main_arg8 : FVec F S1x512 .f32) (main_arg9 : FVec F S4x128x128 .f32) (main_arg10 : FVec F S128x4 .f32) : IVec S2048x4608 1 × IVec S8x512 1 × IVec S4x128x128 1 × IVec S128x4 1 :=
  let main_v0 : IVec S2048x4608 32 := iotaInDim S2048x4608 32 1
  let main_v1 : IVec S8x512 32 := iotaInDim S8x512 32 0
  let main_c : IVec S_ 32 := constantI S_ 32 2048#32
  let main_v2 : IVec S2048x4608 32 := broadcastInDim S2048x4608 ![] bcast_S_S2048x4608 main_c
  let main_v3 : IVec S2048x4608 1 := cmpi .sge main_v0 main_v2
  let main_c_0 : IVec S_ 32 := constantI S_ 32 3584#32
  let main_v4 : IVec S2048x4608 32 := broadcastInDim S2048x4608 ![] bcast_S_S2048x4608 main_c_0
  let main_v5 : IVec S2048x4608 1 := cmpi .slt main_v0 main_v4
  let main_v6 : IVec S2048x4608 1 := andi main_v3 main_v5
  let main_c_1 : IVec S_ 32 := constantI S_ 32 4#32
  let main_v7 : IVec S8x512 32 := broadcastInDim S8x512 ![] bcast_S_S8x512 main_c_1
  let main_v8 : IVec S8x512 1 := cmpi .sge main_v1 main_v7
  let main_c_2 : IVec S_ 1 := constantI S_ 1 0#1
  let main_v9 : IVec S4x128x128 1 := broadcastInDim S4x128x128 ![] bcast_S_S4x128x128 main_c_2
  let main_c_3 : IVec S_ 1 := constantI S_ 1 0#1
  let main_v10 : IVec S128x4 1 := broadcastInDim S128x4 ![] bcast_S_S128x4 main_c_3
  (main_v6, main_v8, main_v9, main_v10)
-- ==== Kernel.lean ====
abbrev S2048x4608 : Shape := ⟨2, ![2048, 4608]⟩
abbrev S2048x1536 : Shape := ⟨2, ![2048, 1536]⟩
abbrev S2048x512 : Shape := ⟨2, ![2048, 512]⟩
abbrev S32x4x128x128 : Shape := ⟨4, ![32, 4, 128, 128]⟩
abbrev S1x512 : Shape := ⟨2, ![1, 512]⟩
abbrev S3x512 : Shape := ⟨2, ![3, 512]⟩
abbrev S4x128x128 : Shape := ⟨3, ![4, 128, 128]⟩
abbrev S128x4 : Shape := ⟨2, ![128, 4]⟩
abbrev S8x512 : Shape := ⟨2, ![8, 512]⟩
abbrev S256x512 : Shape := ⟨2, ![256, 512]⟩
abbrev S256x1536 : Shape := ⟨2, ![256, 1536]⟩
abbrev S4x4x128x128 : Shape := ⟨4, ![4, 4, 128, 128]⟩
abbrev S256x4608 : Shape := ⟨2, ![256, 4608]⟩
abbrev S264x512 : Shape := ⟨2, ![264, 512]⟩
abbrev S128x512 : Shape := ⟨2, ![128, 512]⟩
abbrev S64x64 : Shape := ⟨2, ![64, 64]⟩
abbrev S64x1 : Shape := ⟨2, ![64, 1]⟩
abbrev S64x512 : Shape := ⟨2, ![64, 512]⟩
abbrev S64x128 : Shape := ⟨2, ![64, 128]⟩
abbrev S64 : Shape := ⟨1, ![64]⟩
abbrev S1x128 : Shape := ⟨2, ![1, 128]⟩
abbrev S128 : Shape := ⟨1, ![128]⟩
abbrev S512 : Shape := ⟨1, ![512]⟩
abbrev S1x1x128x128 : Shape := ⟨4, ![1, 1, 128, 128]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 15
  | .vmem => 44
  | .smem => 0
  | _ => 0

abbrev bufTy : (tb : Table) → Fin (tcTables nBuf tb) → BufTy
  | .hbm, ⟨0, _⟩ => ⟨S2048x4608, .f32⟩
  | .hbm, ⟨1, _⟩ => ⟨S2048x1536, .bf16⟩
  | .hbm, ⟨2, _⟩ => ⟨S2048x512, .f32⟩
  | .hbm, ⟨3, _⟩ => ⟨S32x4x128x128, .f32⟩
  | .hbm, ⟨4, _⟩ => ⟨S1x512, .f32⟩
  | .hbm, ⟨5, _⟩ => ⟨S1x512, .f32⟩
  | .hbm, ⟨6, _⟩ => ⟨S3x512, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S128x4, .f32⟩
  | .hbm, ⟨11, _⟩ => ⟨S2048x4608, .bf16⟩
  | .hbm, ⟨12, _⟩ => ⟨S8x512, .f32⟩
  | .hbm, ⟨13, _⟩ => ⟨S4x128x128, .f32⟩
  | .hbm, ⟨14, _⟩ => ⟨S128x4, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S256x1536, .bf16⟩
  | .local _ .vmem, ⟨23, _⟩ => ⟨S256x1536, .bf16⟩
  | .local _ .vmem, ⟨24, _⟩ => ⟨S256x512, .f32⟩
  | .local _ .vmem, ⟨25, _⟩ => ⟨S256x512, .f32⟩
  | .local _ .vmem, ⟨26, _⟩ => ⟨S4x4x128x128, .f32⟩
  | .local _ .vmem, ⟨27, _⟩ => ⟨S4x4x128x128, .f32⟩
  | .local _ .vmem, ⟨28, _⟩ => ⟨S1x512, .f32⟩
  | .local _ .vmem, ⟨29, _⟩ => ⟨S1x512, .f32⟩
  | .local _ .vmem, ⟨30, _⟩ => ⟨S3x512, .f32⟩
  | .local _ .vmem, ⟨31, _⟩ => ⟨S1x512, .f32⟩
  | .local _ .vmem, ⟨32, _⟩ => ⟨S1x512, .f32⟩
  | .local _ .vmem, ⟨33, _⟩ => ⟨S4x128x128, .f32⟩
  | .local _ .vmem, ⟨34, _⟩ => ⟨S128x4, .f32⟩
  | .local _ .vmem, ⟨35, _⟩ => ⟨S256x4608, .bf16⟩
  | .local _ .vmem, ⟨36, _⟩ => ⟨S256x4608, .bf16⟩
  | .local _ .vmem, ⟨37, _⟩ => ⟨S8x512, .f32⟩
  | .local _ .vmem, ⟨38, _⟩ => ⟨S4x128x128, .f32⟩
  | .local _ .vmem, ⟨39, _⟩ => ⟨S128x4, .f32⟩
  | .local _ .vmem, ⟨40, _⟩ => ⟨S4x128x128, .f32⟩
  | .local _ .vmem, ⟨41, _⟩ => ⟨S264x512, .f32⟩
  | .local _ .vmem, ⟨42, _⟩ => ⟨S264x512, .f32⟩
  | .local _ .vmem, ⟨43, _⟩ => ⟨S128x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem21_1 : DmaSem sig := 36
abbrev cc0_sem22_0 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_1010 : BitVec 32 := 7#32
  let v2870 : BitVec 1 := Scalar.cmpi .eq arg0 c7_i32_1010
  let v2871 : BitVec 32 := Scalar.extui v2870
  let c0_i32_1011 : BitVec 32 := 0#32
  let v2872 : BitVec 1 := Scalar.cmpi .ne v2871 c0_i32_1011
  v2872

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c7_i32_0 : BitVec 32 := 7#32
  let c0_i32 : BitVec 32 := 0#32
  ![v0.toNat, c7_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let c0_i32_0 : BitVec 32 := 0#32
  ![v3.toNat, c6_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x4608 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceConvIdeal.lean ====
abbrev S2048x4608 : Shape := ⟨2, ![2048, 4608]⟩
abbrev S2048x1536 : Shape := ⟨2, ![2048, 1536]⟩
abbrev S2048x512 : Shape := ⟨2, ![2048, 512]⟩
abbrev S32x4x128x128 : Shape := ⟨4, ![32, 4, 128, 128]⟩
abbrev S1x512 : Shape := ⟨2, ![1, 512]⟩
abbrev S3x512 : Shape := ⟨2, ![3, 512]⟩
abbrev S4x128x128 : Shape := ⟨3, ![4, 128, 128]⟩
abbrev S128x4 : Shape := ⟨2, ![128, 4]⟩
abbrev S_ : Shape := ⟨0, ![]⟩
abbrev S2x512 : Shape := ⟨2, ![2, 512]⟩
abbrev S2050x512 : Shape := ⟨2, ![2050, 512]⟩
abbrev S512 : Shape := ⟨1, ![512]⟩
abbrev S2048x2048 : Shape := ⟨2, ![2048, 2048]⟩
abbrev S2048x1024 : Shape := ⟨2, ![2048, 1024]⟩
abbrev S4x512 : Shape := ⟨2, ![4, 512]⟩
abbrev S8x512 : Shape := ⟨2, ![8, 512]⟩

abbrev nBuf : Space → Nat
  | .hbm => 84
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S2048x1536, .bf16⟩
  | .hbm, ⟨2, _⟩ => ⟨S2048x512, .f32⟩
  | .hbm, ⟨3, _⟩ => ⟨S32x4x128x128, .f32⟩
  | .hbm, ⟨4, _⟩ => ⟨S1x512, .f32⟩
  | .hbm, ⟨5, _⟩ => ⟨S1x512, .f32⟩
  | .hbm, ⟨6, _⟩ => ⟨S3x512, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S128x4, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S2x512, .f32⟩
  | .hbm, ⟨19, _⟩ => ⟨S2048x512, .f32⟩
  | .hbm, ⟨20, _⟩ => ⟨S2050x512, .f32⟩
  | .hbm, ⟨21, _⟩ => ⟨S_, .f32⟩
  | .hbm, ⟨22, _⟩ => ⟨S2x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .bf16⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S2050x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S2050x512, .f32⟩
  | .hbm, ⟨55, _⟩ => ⟨S2050x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S2050x512, .f32⟩
  | .hbm, ⟨64, _⟩ => ⟨S2050x512, .f32⟩
  | .hbm, ⟨65, _⟩ => ⟨S2x512, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S2048x2048, .f32⟩
  | .hbm, ⟨71, _⟩ => ⟨S_, .f32⟩
  | .hbm, ⟨72, _⟩ => ⟨S2048x1024, .f32⟩
  | .hbm, ⟨73, _⟩ => ⟨S2048x4608, .f32⟩
  | .hbm, ⟨74, _⟩ => ⟨S2048x4608, .bf16⟩
  | .hbm, ⟨75, _⟩ => ⟨S_, .f32⟩
  | .hbm, ⟨76, _⟩ => ⟨S4x512, .f32⟩
  | .hbm, ⟨77, _⟩ => ⟨S_, .f32⟩
  | .hbm, ⟨78, _⟩ => ⟨S1x512, .f32⟩
  | .hbm, ⟨79, _⟩ => ⟨S8x512, .f32⟩
  | .hbm, ⟨80, _⟩ => ⟨S_, .f32⟩
  | .hbm, ⟨81, _⟩ => ⟨S4x128x128, .f32⟩
  | .hbm, ⟨82, _⟩ => ⟨S_, .f32⟩
  | .hbm, ⟨83, _⟩ => ⟨S128x4, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Merge.lean ====
abbrev S2048x1024 : Shape := ⟨2, ![2048, 1024]⟩
abbrev S1024x1024 : Shape := ⟨2, ![1024, 1024]⟩
abbrev S2048x3072 : Shape := ⟨2, ![2048, 3072]⟩
abbrev S3x512x1024 : Shape := ⟨3, ![3, 512, 1024]⟩
abbrev S2048x1536 : Shape := ⟨2, ![2048, 1536]⟩
abbrev S512x1024 : Shape := ⟨2, ![512, 1024]⟩
abbrev S512x3072 : Shape := ⟨2, ![512, 3072]⟩
abbrev S512x1536 : Shape := ⟨2, ![512, 1536]⟩
abbrev S1x512x1024 : Shape := ⟨3, ![1, 512, 1024]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .bf16⟩
  | .hbm, ⟨3, _⟩ => ⟨S2048x3072, .bf16⟩
  | .hbm, ⟨4, _⟩ => ⟨S3x512x1024, .bf16⟩
  | .hbm, ⟨5, _⟩ => ⟨S2048x1024, .f32⟩
  | .hbm, ⟨6, _⟩ => ⟨S2048x3072, .bf16⟩
  | .hbm, ⟨7, _⟩ => ⟨S2048x3072, .bf16⟩
  | .hbm, ⟨8, _⟩ => ⟨S2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S3x512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x1536, .bf16⟩
  | .local _ .vmem, ⟨13, _⟩ => ⟨S512x1536, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMergeIdeal.lean ====
abbrev S2048x1024 : Shape := ⟨2, ![2048, 1024]⟩
abbrev S1024x1024 : Shape := ⟨2, ![1024, 1024]⟩
abbrev S2048x3072 : Shape := ⟨2, ![2048, 3072]⟩
abbrev S3x512x1024 : Shape := ⟨3, ![3, 512, 1024]⟩
abbrev S_ : Shape := ⟨0, ![]⟩
abbrev S2048x3x1024 : Shape := ⟨3, ![2048, 3, 1024]⟩
abbrev S2048x1536 : Shape := ⟨2, ![2048, 1536]⟩
abbrev S2048x3x512 : Shape := ⟨3, ![2048, 3, 512]⟩
abbrev S3x1024x2048 : Shape := ⟨3, ![3, 1024, 2048]⟩
abbrev S3x2048x512 : Shape := ⟨3, ![3, 2048, 512]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3072, .bf16⟩
  | .hbm, ⟨3, _⟩ => ⟨S2048x3072, .bf16⟩
  | .hbm, ⟨4, _⟩ => ⟨S3x512x1024, .bf16⟩
  | .hbm, ⟨5, _⟩ => ⟨S2048x1024, .f32⟩
  | .hbm, ⟨6, _⟩ => ⟨S1024x1024, .f32⟩
  | .hbm, ⟨7, _⟩ => ⟨S3x512x1024, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S_, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S2048x3x1024, .f32⟩
  | .hbm, ⟨23, _⟩ => ⟨S2048x3x1024, .f32⟩
  | .hbm, ⟨24, _⟩ => ⟨S2048x3x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x3x1024, .f32⟩
  | .hbm, ⟨31, _⟩ => ⟨S2048x3x1024, .f32⟩
  | .hbm, ⟨32, _⟩ => ⟨S2048x3x1024, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S_, .f32⟩
  | .hbm, ⟨37, _⟩ => ⟨S2048x1536, .f32⟩
  | .hbm, ⟨38, _⟩ => ⟨S2048x3x512, .f32⟩
  | .hbm, ⟨39, _⟩ => ⟨S3x1024x2048, .f32⟩
  | .hbm, ⟨40, _⟩ => ⟨S2048x3x1024, .f32⟩
  | .hbm, ⟨41, _⟩ => ⟨S2048x3072, .f32⟩
  | .hbm, ⟨42, _⟩ => ⟨S2048x3072, .bf16⟩
  | .hbm, ⟨43, _⟩ => ⟨S2048x3072, .f32⟩
  | .hbm, ⟨44, _⟩ => ⟨S2048x3x1024, .f32⟩
  | .hbm, ⟨45, _⟩ => ⟨S3x1024x2048, .f32⟩
  | .hbm, ⟨46, _⟩ => ⟨S3x2048x512, .f32⟩
  | .hbm, ⟨47, _⟩ => ⟨S2048x3x512, .f32⟩
  | .hbm, ⟨48, _⟩ => ⟨S2048x1536, .f32⟩
  | .hbm, ⟨49, _⟩ => ⟨S2048x3072, .bf16⟩
  | .hbm, ⟨50, _⟩ => ⟨S2048x3072, .bf16⟩
  | .hbm, ⟨51, _⟩ => ⟨S2048x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== DwIn.lean ====
abbrev S2048x4608 : Shape := ⟨2, ![2048, 4608]⟩
abbrev S2048x3072 : Shape := ⟨2, ![2048, 3072]⟩
abbrev S2048x1024 : Shape := ⟨2, ![2048, 1024]⟩
abbrev S7680x1024 : Shape := ⟨2, ![7680, 1024]⟩
abbrev S2048x768 : Shape := ⟨2, ![2048, 768]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4608, .bf16⟩
  | .hbm, ⟨1, _⟩ => ⟨S2048x3072, .bf16⟩
  | .hbm, ⟨2, _⟩ => ⟨S2048x1024, .bf16⟩
  | .hbm, ⟨3, _⟩ => ⟨S7680x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S2048x1024, .bf16⟩
  | .local _ .vmem, ⟨5, _⟩ => ⟨S768x1024, .bf16⟩
  | .local _ .vmem, ⟨6, _⟩ => ⟨S768x1024, .bf16⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c6_i32_0 : BitVec 32 := 6#32
  let v3 : BitVec 1 := Scalar.cmpi .sge arg0 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDwInIdeal.lean ====
abbrev S2048x4608 : Shape := ⟨2, ![2048, 4608]⟩
abbrev S2048x3072 : Shape := ⟨2, ![2048, 3072]⟩
abbrev S2048x1024 : Shape := ⟨2, ![2048, 1024]⟩
abbrev S_ : Shape := ⟨0, ![]⟩
abbrev S1024x7680 : Shape := ⟨2, ![1024, 7680]⟩
abbrev S2048x7680 : Shape := ⟨2, ![2048, 7680]⟩
abbrev S7680x1024 : Shape := ⟨2, ![7680, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S2048x3072, .bf16⟩
  | .hbm, ⟨2, _⟩ => ⟨S2048x1024, .bf16⟩
  | .hbm, ⟨3, _⟩ => ⟨S2048x1024, .f32⟩
  | .hbm, ⟨4, _⟩ => ⟨S_, .f32⟩
  | .hbm, ⟨5, _⟩ => ⟨S1024x7680, .f32⟩
  | .hbm, ⟨6, _⟩ => ⟨S2048x7680, .f32⟩
  | .hbm, ⟨7, _⟩ => ⟨S2048x7680, .bf16⟩
  | .hbm, ⟨8, _⟩ => ⟨S2048x7680, .f32⟩
  | .hbm, ⟨9, _⟩ => ⟨S7680x1024, .f32⟩
  | .hbm, ⟨10, _⟩ => ⟨S1024x7680, .f32⟩
  | .hbm, ⟨11, _⟩ => ⟨S7680x1024, .f32⟩
  | .hbm, ⟨12, _⟩ => ⟨S7680x1024, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwFf2.lean ====
abbrev S2048x4096 : Shape := ⟨2, ![2048, 4096]⟩
abbrev S2048x1024 : Shape := ⟨2, ![2048, 1024]⟩
abbrev S1x4096x1024 : Shape := ⟨3, ![1, 4096, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S1x4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceDwFf2Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S4096x1024, .f32⟩
  | .hbm, ⟨6, _⟩ => ⟨S2048x1024, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S1x4096x1024, .f32⟩
  | .hbm, ⟨11, _⟩ => ⟨S1x4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwO.lean ====
abbrev S2048x1024 : Shape := ⟨2, ![2048, 1024]⟩
abbrev S1x1024x1024 : Shape := ⟨3, ![1, 1024, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceDwOIdeal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwFf1.lean ====
abbrev S2048x1024 : Shape := ⟨2, ![2048, 1024]⟩
abbrev S2048x4096 : Shape := ⟨2, ![2048, 4096]⟩
abbrev S8x1x1024x512 : Shape := ⟨4, ![8, 1, 1024, 512]⟩
abbrev S2048x512 : Shape := ⟨2, ![2048, 512]⟩
abbrev S2048x2048 : Shape := ⟨2, ![2048, 2048]⟩
abbrev S4x1x512x512 : Shape := ⟨4, ![4, 1, 512, 512]⟩
abbrev S512x2048 : Shape := ⟨2, ![512, 2048]⟩
abbrev S512x512 : Shape := ⟨2, ![512, 512]⟩
abbrev S1x1x512x512 : Shape := ⟨4, ![1, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S4x1x512x512, .bf16⟩
  | .local _ .vmem, ⟨5, _⟩ => ⟨S4x1x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceDwFf1Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1x1024x8x512 : Shape := ⟨4, ![1, 1024, 8, 512]⟩
abbrev S8x1x1024x512 : Shape := ⟨4, ![8, 1, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S_, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1x1024x8x512, .f32⟩
  | .hbm, ⟨10, _⟩ => ⟨S8x1x1024x512, .f32⟩
  | .hbm, ⟨11, _⟩ => ⟨S8x1x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwBranch.lean ====
abbrev S2048x1536 : Shape := ⟨2, ![2048, 1536]⟩
abbrev S2048x3072 : Shape := ⟨2, ![2048, 3072]⟩
abbrev S8x3x512x128 : Shape := ⟨4, ![8, 3, 512, 128]⟩
abbrev S2048x512 : Shape := ⟨2, ![2048, 512]⟩
abbrev S2048x1024 : Shape := ⟨2, ![2048, 1024]⟩
abbrev S8x1x512x128 : Shape := ⟨4, ![8, 1, 512, 128]⟩
abbrev S512x1024 : Shape := ⟨2, ![512, 1024]⟩
abbrev S512x128 : Shape := ⟨2, ![512, 128]⟩
abbrev S1x1x512x128 : Shape := ⟨4, ![1, 1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1536, .bf16⟩
  | .hbm, ⟨1, _⟩ => ⟨S2048x3072, .bf16⟩
  | .hbm, ⟨2, _⟩ => ⟨S8x3x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x1x512x128, .bf16⟩
  | .local _ .vmem, ⟨5, _⟩ => ⟨S8x1x512x128, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceDwBranchIdeal.lean ====
abbrev S2048x1536 : Shape := ⟨2, ![2048, 1536]⟩
abbrev S2048x3072 : Shape := ⟨2, ![2048, 3072]⟩
abbrev S2048x3x512 : Shape := ⟨3, ![2048, 3, 512]⟩
abbrev S_ : Shape := ⟨0, ![]⟩
abbrev S3x512x1024 : Shape := ⟨3, ![3, 512, 1024]⟩
abbrev S3x1024x2048 : Shape := ⟨3, ![3, 1024, 2048]⟩
abbrev S2048x3x1024 : Shape := ⟨3, ![2048, 3, 1024]⟩
abbrev S3x1024x512 : Shape := ⟨3, ![3, 1024, 512]⟩
abbrev S3x512x8x128 : Shape := ⟨4, ![3, 512, 8, 128]⟩
abbrev S8x3x512x128 : Shape := ⟨4, ![8, 3, 512, 128]⟩

abbrev nBuf : Space → Nat
  | .hbm => 16
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x3072, .bf16⟩
  | .hbm, ⟨2, _⟩ => ⟨S2048x1536, .f32⟩
  | .hbm, ⟨3, _⟩ => ⟨S2048x3x512, .f32⟩
  | .hbm, ⟨4, _⟩ => ⟨S_, .f32⟩
  | .hbm, ⟨5, _⟩ => ⟨S3x512x1024, .f32⟩
  | .hbm, ⟨6, _⟩ => ⟨S3x1024x2048, .f32⟩
  | .hbm, ⟨7, _⟩ => ⟨S2048x3x1024, .f32⟩
  | .hbm, ⟨8, _⟩ => ⟨S2048x3072, .f32⟩
  | .hbm, ⟨9, _⟩ => ⟨S2048x3x1024, .f32⟩
  | .hbm, ⟨10, _⟩ => ⟨S3x1024x2048, .f32⟩
  | .hbm, ⟨11, _⟩ => ⟨S3x1024x512, .f32⟩
  | .hbm, ⟨12, _⟩ => ⟨S3x512x1024, .f32⟩
  | .hbm, ⟨13, _⟩ => ⟨S3x512x8x128, .f32⟩
  | .hbm, ⟨14, _⟩ => ⟨S8x3x512x128, .f32⟩
  | .hbm, ⟨15, _⟩ => ⟨S8x3x512x128, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Gate.lean ====
abbrev S2048x1536 : Shape := ⟨2, ![2048, 1536]⟩
abbrev S3x512x1024 : Shape := ⟨3, ![3, 512, 1024]⟩
abbrev S2048x3072 : Shape := ⟨2, ![2048, 3072]⟩
abbrev S2048x1024 : Shape := ⟨2, ![2048, 1024]⟩
abbrev S1024x1024 : Shape := ⟨2, ![1024, 1024]⟩
abbrev S512x1536 : Shape := ⟨2, ![512, 1536]⟩
abbrev S512x3072 : Shape := ⟨2, ![512, 3072]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S2048x1536, .bf16⟩
  | .hbm, ⟨1, _⟩ => ⟨S3x512x1024, .bf16⟩
  | .hbm, ⟨2, _⟩ => ⟨S2048x3072, .bf16⟩
  | .hbm, ⟨3, _⟩ => ⟨S2048x1024, .f32⟩
  | .hbm, ⟨4, _⟩ => ⟨S1024x1024, .bf16⟩
  | .hbm, ⟨5, _⟩ => ⟨S2048x3072, .bf16⟩
  | .hbm, ⟨6, _⟩ => ⟨S2048x1024, .bf16⟩
  | .hbm, ⟨7, _⟩ => ⟨S2048x1024, .f32⟩
  | .local _ .vmem, ⟨0, _⟩ => ⟨S512x1536, .bf16⟩
  | .local _ .vmem, ⟨1, _⟩ => ⟨S512x1536, .bf16⟩
  | .local _ .vmem, ⟨2, _⟩ => ⟨S3x512x1024, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceGateIdeal.lean ====
abbrev S2048x1536 : Shape := ⟨2, ![2048, 1536]⟩
abbrev S3x512x1024 : Shape := ⟨3, ![3, 512, 1024]⟩
abbrev S2048x3072 : Shape := ⟨2, ![2048, 3072]⟩
abbrev S2048x1024 : Shape := ⟨2, ![2048, 1024]⟩
abbrev S1024x1024 : Shape := ⟨2, ![1024, 1024]⟩
abbrev S2048x3x512 : Shape := ⟨3, ![2048, 3, 512]⟩
abbrev S3x1024x2048 : Shape := ⟨3, ![3, 1024, 2048]⟩
abbrev S2048x3x1024 : Shape := ⟨3, ![2048, 3, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S3x512x1024, .bf16⟩
  | .hbm, ⟨2, _⟩ => ⟨S2048x3072, .bf16⟩
  | .hbm, ⟨3, _⟩ => ⟨S2048x1024, .f32⟩
  | .hbm, ⟨4, _⟩ => ⟨S1024x1024, .bf16⟩
  | .hbm, ⟨5, _⟩ => ⟨S2048x1536, .f32⟩
  | .hbm, ⟨6, _⟩ => ⟨S2048x3x512, .f32⟩
  | .hbm, ⟨7, _⟩ => ⟨S3x512x1024, .f32⟩
  | .hbm, ⟨8, _⟩ => ⟨S3x1024x2048, .f32⟩
  | .hbm, ⟨9, _⟩ => ⟨S2048x3x1024, .f32⟩
  | .hbm, ⟨10, _⟩ => ⟨S2048x3072, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3x1024, .f32⟩
  | .hbm, ⟨20, _⟩ => ⟨S2048x3x1024, .f32⟩
  | .hbm, ⟨21, _⟩ => ⟨S_, .f32⟩
  | .hbm, ⟨22, _⟩ => ⟨S2048x1024, .f32⟩
  | .hbm, ⟨23, _⟩ => ⟨S2048x1024, .bf16⟩
  | .hbm, ⟨24, _⟩ => ⟨S2048x3072, .f32⟩
  | .hbm, ⟨25, _⟩ => ⟨S2048x3072, .bf16⟩
  | .hbm, ⟨26, _⟩ => ⟨S2048x1024, .f32⟩
  | .hbm, ⟨27, _⟩ => ⟨S1024x1024, .f32⟩
  | .hbm, ⟨28, _⟩ => ⟨S2048x1024, .f32⟩
  | .hbm, ⟨29, _⟩ => ⟨S2048x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Project.lean ====
abbrev S2048x1024 : Shape := ⟨2, ![2048, 1024]⟩
abbrev S1x1024 : Shape := ⟨2, ![1, 1024]⟩
abbrev S7680x1024 : Shape := ⟨2, ![7680, 1024]⟩
abbrev S2048x4608 : Shape := ⟨2, ![2048, 4608]⟩
abbrev S2048x3072 : Shape := ⟨2, ![2048, 3072]⟩
abbrev S1024x1024 : Shape := ⟨2, ![1024, 1024]⟩
abbrev S1536x1024 : Shape := ⟨2, ![1536, 1024]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S7680x1024, .bf16⟩
  | .hbm, ⟨3, _⟩ => ⟨S2048x4608, .f32⟩
  | .hbm, ⟨4, _⟩ => ⟨S2048x3072, .bf16⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S1536x1024, .bf16⟩
  | .local _ .vmem, ⟨5, _⟩ => ⟨S1024x1536, .f32⟩
  | .local _ .vmem, ⟨6, _⟩ => ⟨S1024x1536, .f32⟩
  | .local _ .vmem, ⟨7, _⟩ => ⟨S1024x1536, .bf16⟩
  | .local _ .vmem, ⟨8, _⟩ => ⟨S1024x1536, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c3_i32 : BitVec 32 := 3#32
  let v6 : BitVec 1 := Scalar.cmpi .slt arg1 c3_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c3_i32_5 : BitVec 32 := 3#32
  let v9 : BitVec 1 := Scalar.cmpi .sge arg1 c3_i32_5
  let v10 : BitVec 32 := Scalar.extui v9
  let c0_i32_6 : BitVec 32 := 0#32
  let v11 : BitVec 1 := Scalar.cmpi .ne v10 c0_i32_6
  v11

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceProjectIdeal.lean ====
abbrev S2048x1024 : Shape := ⟨2, ![2048, 1024]⟩
abbrev S1x1024 : Shape := ⟨2, ![1, 1024]⟩
abbrev S7680x1024 : Shape := ⟨2, ![7680, 1024]⟩
abbrev S_ : Shape := ⟨0, ![]⟩
abbrev S2048 : Shape := ⟨1, ![2048]⟩
abbrev S2048x1 : Shape := ⟨2, ![2048, 1]⟩
abbrev S1024x7680 : Shape := ⟨2, ![1024, 7680]⟩
abbrev S2048x7680 : Shape := ⟨2, ![2048, 7680]⟩
abbrev S2048x4608 : Shape := ⟨2, ![2048, 4608]⟩
abbrev S2048x3072 : Shape := ⟨2, ![2048, 3072]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S7680x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x1024, .f32⟩
  | .hbm, ⟨20, _⟩ => ⟨S7680x1024, .f32⟩
  | .hbm, ⟨21, _⟩ => ⟨S1024x7680, .f32⟩
  | .hbm, ⟨22, _⟩ => ⟨S2048x7680, .f32⟩
  | .hbm, ⟨23, _⟩ => ⟨S2048x4608, .f32⟩
  | .hbm, ⟨24, _⟩ => ⟨S2048x3072, .f32⟩
  | .hbm, ⟨25, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Ffn.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S2048x4096 : Shape := ⟨2, ![2048, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S2048x1024, .f32⟩
  | .hbm, ⟨5, _⟩ => ⟨S2048x1024, .bf16⟩
  | .hbm, ⟨6, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_14 : BitVec 32 := 0#32
  let v21 : BitVec 1 := Scalar.cmpi .ne v20 c0_i32_14
  v21

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFfnIdeal.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S1024x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S4096x1024, .f32⟩
  | .hbm, ⟨28, _⟩ => ⟨S2048x1024, .f32⟩
  | .hbm, ⟨29, _⟩ => ⟨S2048x1024, .f32⟩
  | .hbm, ⟨30, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== FfnBwd.lean ====
abbrev S2048x1024 : Shape := ⟨2, ![2048, 1024]⟩
abbrev S1x1024 : Shape := ⟨2, ![1, 1024]⟩
abbrev S2048x4096 : Shape := ⟨2, ![2048, 4096]⟩
abbrev S1024x4096 : Shape := ⟨2, ![1024, 4096]⟩
abbrev S4096x1024 : Shape := ⟨2, ![4096, 1024]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 11
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .f32⟩
  | .hbm, ⟨3, _⟩ => ⟨S1x1024, .f32⟩
  | .hbm, ⟨4, _⟩ => ⟨S2048x4096, .bf16⟩
  | .hbm, ⟨5, _⟩ => ⟨S1024x4096, .bf16⟩
  | .hbm, ⟨6, _⟩ => ⟨S4096x1024, .bf16⟩
  | .hbm, ⟨7, _⟩ => ⟨S2048x4096, .bf16⟩
  | .hbm, ⟨8, _⟩ => ⟨S2048x1024, .f32⟩
  | .hbm, ⟨9, _⟩ => ⟨S2048x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S2048x1024, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_16 : BitVec 32 := 0#32
  let v22 : BitVec 1 := Scalar.cmpi .ne v21 c0_i32_16
  v22

def k0_cond3 (i : grid0.Coords) : BitVec 1 :=
  let arg0 : BitVec 32 := BitVec.ofNat 32 (i 0).val
  let c0_i32_35 : BitVec 32 := 0#32
  let v56 : BitVec 1 := Scalar.cmpi .eq arg0 c0_i32_35
  let v57 : BitVec 32 := Scalar.extui v56
  let c0_i32_36 : BitVec 32 := 0#32
  let v58 : BitVec 1 := Scalar.cmpi .ne v57 c0_i32_36
  v58

def k0_cond4 (i : grid0.Coords) : BitVec 1 :=
  let arg0 : BitVec 32 := BitVec.ofNat 32 (i 0).val
  let c0_i32_35 : BitVec 32 := 0#32
  let v56 : BitVec 1 := Scalar.cmpi .eq arg0 c0_i32_35
  let v_true : BitVec 1 := 1#1
  let v59 : BitVec 1 := Scalar.xori v56 v_true
  let v60 : BitVec 32 := Scalar.extui v59
  let c0_i32_37 : BitVec 32 := 0#32
  let v61 : BitVec 1 := Scalar.cmpi .ne v60 c0_i32_37
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceFfnBwdIdeal.lean ====
abbrev S2048x1024 : Shape := ⟨2, ![2048, 1024]⟩
abbrev S1x1024 : Shape := ⟨2, ![1, 1024]⟩
abbrev S2048x4096 : Shape := ⟨2, ![2048, 4096]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .f32⟩
  | .hbm, ⟨3, _⟩ => ⟨S1x1024, .f32⟩
  | .hbm, ⟨4, _⟩ => ⟨S2048x4096, .bf16⟩
  | .hbm, ⟨5, _⟩ => ⟨S1024x4096, .bf16⟩
  | .hbm, ⟨6, _⟩ => ⟨S4096x1024, .bf16⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S4096x1024, .f32⟩
  | .hbm, ⟨13, _⟩ => ⟨S2048x1024, .f32⟩
  | .hbm, ⟨14, _⟩ => ⟨S2048x1024, .f32⟩
  | .hbm, ⟨15, _⟩ => ⟨S2048x4096, .f32⟩
  | .hbm, ⟨16, _⟩ => ⟨S2048x4096, .f32⟩
  | .hbm, ⟨17, _⟩ => ⟨S2048x4096, .bf16⟩
  | .hbm, ⟨18, _⟩ => ⟨S1024x4096, .f32⟩
  | .hbm, ⟨19, _⟩ => ⟨S2048x4096, .f32⟩
  | .hbm, ⟨20, _⟩ => ⟨S2048x4096, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Visits.lean ====
/- The kernel's eight visits, last row tile first: what its four result blocks and the three scratch buffers it carries hold
   after each visit (`held`), told by the three cases of its body — the first visit, the last, the others —, each result
   read off the stores its run makes. -/
module

public import proofs.«01_k».proof.Proof.Gen.KernelIdeal.Frame.RunC
public import Idealize.ShloMosaic.Lib.Claim

@[expose] public section

set_option maxRecDepth 16384

noncomputable section

namespace Cert.Proof.Visits

open Idealize.ShloMosaic Idealize.ShloMosaic.TcCoe Idealize.ShloMosaic.Tactic Cert.KernelIdeal Cert.KernelIdeal.Gen

variable {F : FTy → Type} [FloatOps F]

/-- What the kernel has in hand after a visit: its four result blocks, then the scratch buffers that carry the recurrent
    state's cotangent, the convolution's rows and the bias cotangent. -/
structure Held (F : FTy → Type) [FloatOps F] where
  dp : Vec F S256x4608 .bf16
  vec : Vec F S8x512 .f32
  mat : Vec F S4x128x128 .f32
  bias : Vec F S128x4 .f32
  state : Vec F S4x128x128 .f32
  rows : Vec F S264x512 .f32
  sums : Vec F S128x512 .f32

variable (m : (ℓ : Loc nD τ sig) → Buf (Elt F) ℓ) (c : Dev nD) (t : Fin cfg0.N)

/-- The first visit is not the last. -/
theorem first_not_last (h0 : t.val % 8 = 0) : ¬t.val % 8 = 7 := by omega

/-- The first visit's run, at the visit's buffers and blocks. -/
def runA (h0 : t.val % 8 = 0) :=
  kernelRun0_A c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    scM0_0 (Memref.isWhole_whole _) scM0_1 (Memref.isWhole_whole _) scM0_2 (Memref.isWhole_whole _) scM0_3 (Memref.isWhole_whole _)
    ((hcond0_0 t).mpr h0) (fun h => first_not_last t h0 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t) (iblk m c 18 t) (iblk m c 19 t) (iblk m c 20 t)

/-- A middle visit's run, over what the visit before left. -/
def runB (h0 : ¬t.val % 8 = 0) (h1 : ¬t.val % 8 = 7) (o : Held F) :=
  kernelRun0_B c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t) (iblk m c 18 t) (iblk m c 19 t) (iblk m c 20 t) o.vec o.mat o.state o.rows o.sums

/-- The last visit's run, over what the visit before left. -/
def runC (h0 : ¬t.val % 8 = 0) (h1 : t.val % 8 = 7) (o : Held F) :=
  kernelRun0_C c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t)
    (ms0_24 t) (hs0_24 t)
    scM0_0 (Memref.isWhole_whole _) scM0_1 (Memref.isWhole_whole _) scM0_2 (Memref.isWhole_whole _) scM0_3 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t) (iblk m c 18 t) (iblk m c 19 t) (iblk m c 20 t) o.vec o.mat o.state o.rows o.sums

/-- What the first visit leaves. It stores nothing into the fourth result, whose entry here nothing consults. -/
def leftA (h0 : t.val % 8 = 0) : Held F where
  dp := VO0_21.read (Elt F) (VO0_21.writes (Elt F) VO0_21.junk (runA m c t h0).1)
  vec := VO0_22.read (Elt F) (VO0_22.writes (Elt F) VO0_22.junk (runA m c t h0).2.1)
  mat := VO0_23.read (Elt F) (VO0_23.writes (Elt F) VO0_23.junk (runA m c t h0).2.2.1)
  bias := VO0_24.read (Elt F) (VO0_24.writes (Elt F) VO0_24.junk (runA m c t h0).2.2.2.1)
  state := VS0_0.read (Elt F) (VS0_0.writes (Elt F) VS0_0.junk (runA m c t h0).2.2.2.2.1)
  rows := VS0_2.read (Elt F) (VS0_2.writes (Elt F) VS0_2.junk (runA m c t h0).2.2.2.2.2.1)
  sums := VS0_3.read (Elt F) (VS0_3.writes (Elt F) VS0_3.junk (runA m c t h0).2.2.2.2.2.2.1)

/-- What a middle visit leaves. It stores nothing into the fourth result, whose entry here nothing consults. -/
def leftB (h0 : ¬t.val % 8 = 0) (h1 : ¬t.val % 8 = 7) (o : Held F) : Held F where
  dp := VO0_21.read (Elt F) (VO0_21.writes (Elt F) VO0_21.junk (runB m c t h0 h1 o).1)
  vec := (ms0_22 t).view.read (Elt F) ((ms0_22 t).view.writes (Elt F) ((hs0_22 t).unread o.vec) (runB m c t h0 h1 o).2.1)
  mat := VO0_23.read (Elt F) (VO0_23.writes (Elt F) VO0_23.junk (runB m c t h0 h1 o).2.2.1)
  bias := VO0_24.read (Elt F) (VO0_24.writes (Elt F) VO0_24.junk (runB m c t h0 h1 o).2.2.2.1)
  state := VS0_0.read (Elt F) (VS0_0.writes (Elt F) VS0_0.junk (runB m c t h0 h1 o).2.2.2.2.1)
  rows := VS0_2.read (Elt F) (VS0_2.writes (Elt F) VS0_2.junk (runB m c t h0 h1 o).2.2.2.2.2.1)
  sums := VS0_3.read (Elt F) (VS0_3.writes (Elt F) VS0_3.junk (runB m c t h0 h1 o).2.2.2.2.2.2.1)

/-- What the last visit leaves. -/
def leftC (h0 : ¬t.val % 8 = 0) (h1 : t.val % 8 = 7) (o : Held F) : Held F where
  dp := VO0_21.read (Elt F) (VO0_21.writes (Elt F) VO0_21.junk (runC m c t h0 h1 o).1)
  vec := (ms0_22 t).view.read (Elt F) ((ms0_22 t).view.writes (Elt F) ((hs0_22 t).unread o.vec) (runC m c t h0 h1 o).2.1)
  mat := VO0_23.read (Elt F) (VO0_23.writes (Elt F) VO0_23.junk (runC m c t h0 h1 o).2.2.1)
  bias := VO0_24.read (Elt F) (VO0_24.writes (Elt F) VO0_24.junk (runC m c t h0 h1 o).2.2.2.1)
  state := VS0_0.read (Elt F) (VS0_0.writes (Elt F) VS0_0.junk (runC m c t h0 h1 o).2.2.2.2.1)
  rows := VS0_2.read (Elt F) (VS0_2.writes (Elt F) VS0_2.junk (runC m c t h0 h1 o).2.2.2.2.2.1)
  sums := VS0_3.read (Elt F) (VS0_3.writes (Elt F) VS0_3.junk (runC m c t h0 h1 o).2.2.2.2.2.2.1)

/-! The buffers that the first visit's stores cover. -/

theorem coverA_dp (h0 : t.val % 8 = 0) (y : S256x4608.Idx) : ∃ pc ∈ (runA m c t h0).1, y ∈ pc.1.set :=
  View.cover_of_tiledBy (runA m c t h0).1 ![64, 128] (by sl_kernel_rfl) y
theorem coverA_vec (h0 : t.val % 8 = 0) (y : S8x512.Idx) : ∃ pc ∈ (runA m c t h0).2.1, y ∈ pc.1.set :=
  View.cover_of_tiledBy (runA m c t h0).2.1 ![1, 512] (by sl_kernel_rfl) y
theorem coverA_mat (h0 : t.val % 8 = 0) (y : S4x128x128.Idx) : ∃ pc ∈ (runA m c t h0).2.2.1, y ∈ pc.1.set :=
  View.cover_of_tiledBy (runA m c t h0).2.2.1 ![1, 128, 128] (by sl_kernel_rfl) y
theorem coverA_state (h0 : t.val % 8 = 0) (y : S4x128x128.Idx) : ∃ pc ∈ (runA m c t h0).2.2.2.2.1, y ∈ pc.1.set :=
  View.cover_of_wholeMem (runA m c t h0).2.2.2.2.1 (by sl_whole_mem) y
theorem coverA_rows (h0 : t.val % 8 = 0) (y : S264x512.Idx) : ∃ pc ∈ (runA m c t h0).2.2.2.2.2.1, y ∈ pc.1.set :=
  View.cover_of_tiledBy (runA m c t h0).2.2.2.2.2.1 ![8, 512] (by sl_kernel_rfl) y
theorem coverA_sums (h0 : t.val % 8 = 0) (y : S128x512.Idx) : ∃ pc ∈ (runA m c t h0).2.2.2.2.2.2.1, y ∈ pc.1.set :=
  View.cover_of_wholeMem (runA m c t h0).2.2.2.2.2.2.1 (by sl_whole_mem) y

/-! The buffers that a middle visit's stores cover. -/

theorem coverB_dp (h0 : ¬t.val % 8 = 0) (h1 : ¬t.val % 8 = 7) (o : Held F) (y : S256x4608.Idx) : ∃ pc ∈ (runB m c t h0 h1 o).1, y ∈ pc.1.set :=
  View.cover_of_tiledBy (runB m c t h0 h1 o).1 ![64, 128] (by sl_kernel_rfl) y
theorem coverB_mat (h0 : ¬t.val % 8 = 0) (h1 : ¬t.val % 8 = 7) (o : Held F) (y : S4x128x128.Idx) : ∃ pc ∈ (runB m c t h0 h1 o).2.2.1, y ∈ pc.1.set :=
  View.cover_of_tiledL (runB m c t h0 h1 o).2.2.1 S1x128x128.size (by sl_kernel_rfl) y
theorem coverB_state (h0 : ¬t.val % 8 = 0) (h1 : ¬t.val % 8 = 7) (o : Held F) (y : S4x128x128.Idx) : ∃ pc ∈ (runB m c t h0 h1 o).2.2.2.2.1, y ∈ pc.1.set :=
  View.cover_of_tiledL (runB m c t h0 h1 o).2.2.2.2.1 S1x128x128.size (by sl_kernel_rfl) y
theorem coverB_rows (h0 : ¬t.val % 8 = 0) (h1 : ¬t.val % 8 = 7) (o : Held F) (y : S264x512.Idx) : ∃ pc ∈ (runB m c t h0 h1 o).2.2.2.2.2.1, y ∈ pc.1.set :=
  View.cover_of_tiledBy (runB m c t h0 h1 o).2.2.2.2.2.1 ![8, 512] (by sl_kernel_rfl) y
theorem coverB_sums (h0 : ¬t.val % 8 = 0) (h1 : ¬t.val % 8 = 7) (o : Held F) (y : S128x512.Idx) : ∃ pc ∈ (runB m c t h0 h1 o).2.2.2.2.2.2.1, y ∈ pc.1.set :=
  View.cover_of_tiledL (runB m c t h0 h1 o).2.2.2.2.2.2.1 S128x128.size (by sl_kernel_rfl) y

/-! The buffers that the last visit's stores cover. -/

theorem coverC_dp (h0 : ¬t.val % 8 = 0) (h1 : t.val % 8 = 7) (o : Held F) (y : S256x4608.Idx) : ∃ pc ∈ (runC m c t h0 h1 o).1, y ∈ pc.1.set :=
  View.cover_of_tiledBy (runC m c t h0 h1 o).1 ![64, 128] (by sl_kernel_rfl) y
theorem coverC_mat (h0 : ¬t.val % 8 = 0) (h1 : t.val % 8 = 7) (o : Held F) (y : S4x128x128.Idx) : ∃ pc ∈ (runC m c t h0 h1 o).2.2.1, y ∈ pc.1.set :=
  View.cover_of_tiledL (runC m c t h0 h1 o).2.2.1 S1x128x128.size (by sl_kernel_rfl) y
theorem coverC_state (h0 : ¬t.val % 8 = 0) (h1 : t.val % 8 = 7) (o : Held F) (y : S4x128x128.Idx) : ∃ pc ∈ (runC m c t h0 h1 o).2.2.2.2.1, y ∈ pc.1.set :=
  View.cover_of_tiledL (runC m c t h0 h1 o).2.2.2.2.1 S1x128x128.size (by sl_kernel_rfl) y
theorem coverC_rows (h0 : ¬t.val % 8 = 0) (h1 : t.val % 8 = 7) (o : Held F) (y : S264x512.Idx) : ∃ pc ∈ (runC m c t h0 h1 o).2.2.2.2.2.1, y ∈ pc.1.set :=
  View.cover_of_tiledBy (runC m c t h0 h1 o).2.2.2.2.2.1 ![8, 512] (by sl_kernel_rfl) y
theorem coverC_sums (h0 : ¬t.val % 8 = 0) (h1 : t.val % 8 = 7) (o : Held F) (y : S128x512.Idx) : ∃ pc ∈ (runC m c t h0 h1 o).2.2.2.2.2.2.1, y ∈ pc.1.set :=
  View.cover_of_tiledL (runC m c t h0 h1 o).2.2.2.2.2.2.1 S128x128.size (by sl_kernel_rfl) y
theorem coverC_bias (h0 : ¬t.val % 8 = 0) (h1 : t.val % 8 = 7) (o : Held F) (y : S128x4.Idx) : ∃ pc ∈ (runC m c t h0 h1 o).2.2.2.1, y ∈ pc.1.set :=
  View.cover_of_tiledL (runC m c t h0 h1 o).2.2.2.1 S128x1.size (by sl_kernel_rfl) y

/-- What the kernel has in hand after visit `n`. -/
def held : (n : ℕ) → n < cfg0.N → Held F
  | 0, hn => leftA m c ⟨0, hn⟩ (Nat.zero_mod _)
  | n + 1, hn =>
    if h0 : (n + 1) % 8 = 0 then leftA m c ⟨n + 1, hn⟩ h0
    else if h1 : (n + 1) % 8 = 7 then leftC m c ⟨n + 1, hn⟩ h0 h1 (held n (Nat.lt_of_succ_lt hn))
    else leftB m c ⟨n + 1, hn⟩ h0 h1 (held n (Nat.lt_of_succ_lt hn))

/-- What the visit before `t` left. -/
def before : Held F := held m c (t.val - 1) (Nat.lt_of_le_of_lt (Nat.sub_le _ _) t.isLt)

theorem held_A (h0 : t.val % 8 = 0) : held m c t.val t.isLt = leftA m c t h0 := by
  obtain ⟨n, hn⟩ := t
  cases n with
  | zero => rfl
  | succ n => exact dif_pos h0

theorem held_B (h0 : ¬t.val % 8 = 0) (h1 : ¬t.val % 8 = 7) : held m c t.val t.isLt = leftB m c t h0 h1 (before m c t) := by
  obtain ⟨n, hn⟩ := t
  cases n with
  | zero => exact absurd (Nat.zero_mod _) h0
  | succ n => exact (dif_neg h0).trans (dif_neg h1)

theorem held_C (h0 : ¬t.val % 8 = 0) (h1 : t.val % 8 = 7) : held m c t.val t.isLt = leftC m c t h0 h1 (before m c t) := by
  obtain ⟨n, hn⟩ := t
  cases n with
  | zero => exact absurd (Nat.zero_mod _) h0
  | succ n => exact (dif_neg h0).trans (dif_pos h1)

end Cert.Proof.Visits

end
-- ==== Proof.VisitsRun.lean ====
/- The kernel runs to the end from any contents of its buffers, leaves its arguments as they were, and leaves in each result
   what its visits hand back (`held`, Visits.lean): the invariant between two visits, each visit's triple from its run, and
   the launch. -/
module

public import proofs.«01_k».proof.Proof.Visits

@[expose] public section

set_option maxRecDepth 16384

noncomputable section

namespace Cert.Proof.Visits

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

theorem visits_eq : cfg0.N = 8 := N_0

theorem visit_lt : t.val < 8 := lt_of_lt_of_eq t.isLt N_0

/-- The scratch buffers after a visit that left `o`, and the generator's register. -/
def scratch (o : Held F) : sProp 𝕄 :=
  iprop(iprop(owns (c : Thread nD τ) scM0_0 fullShare o.state ∗ (∃ d, owns (c : Thread nD τ) scM0_1 fullShare d)
    ∗ owns (c : Thread nD τ) scM0_2 fullShare o.rows ∗ owns (c : Thread nD τ) scM0_3 fullShare o.sums) ∗ (∃ r, prngReg c r))

/-- The invariant before visit `n`: the scratch buffers at what the visit before left; at anything before the first. -/
def inv : (n : ℕ) → n ≤ cfg0.N → sProp 𝕄
  | 0, _ => Pipeline.ΦA spec0 c
  | n + 1, hn => scratch c (held m c n hn)

theorem inv_first (n : ℕ) (h : n ≤ cfg0.N) (hz : n = 0) : inv m c n h = Pipeline.ΦA spec0 c := by
  subst hz; rfl

theorem inv_later (n : ℕ) (h : n ≤ cfg0.N) (hz : n ≠ 0) :
    inv m c n h = scratch c (held m c (n - 1) (by omega)) := by
  cases n with
  | zero => exact absurd rfl hz
  | succ n => rfl

/-- The proof data of the kernel's pipeline: the arrays as the launch hands them over; an input's buffer at its block and a
    result's at what the visit leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (held m c t.val t.isLt).dp
    | ⟨22, _⟩ => (held m c t.val t.isLt).vec
    | ⟨23, _⟩ => (held m c t.val t.isLt).mat
    | ⟨24, _⟩ => (held m c t.val t.isLt).bias
    | ⟨_ + 25, h⟩ => absurd h (Nat.not_lt.2 (Nat.le_add_left _ _))
  Φ t := inv m c t.val (Nat.le_of_lt_succ t.isLt)
  q w := Pipeline.shareOf spec0 w
  owed _ := 0

theorem A_eq (w : Fin cfg0.W) : (dats m 0 c).A w = V m c (Pipeline.arrRef spec0 w) := by
  dsimp only [dats]

/-- A window that is live at a visit ends it with its buffer at the contents the proof data name. -/
theorem leaves_live (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem leaves0 : (dats m 0 c).leavesExact 0 t = owns (c : Thread nD τ) (ms0_0 t) fullShare (iblk m c 0 t) := leaves_live m c t 0 (liveAt0_0 t)
theorem leaves1 : (dats m 0 c).leavesExact 1 t = owns (c : Thread nD τ) (ms0_1 t) fullShare (iblk m c 1 t) := leaves_live m c t 1 (liveAt0_1 t)
theorem leaves2 : (dats m 0 c).leavesExact 2 t = owns (c : Thread nD τ) (ms0_2 t) fullShare (iblk m c 2 t) := leaves_live m c t 2 (liveAt0_2 t)
theorem leaves3 : (dats m 0 c).leavesExact 3 t = owns (c : Thread nD τ) (ms0_3 t) fullShare (iblk m c 3 t) := leaves_live m c t 3 (liveAt0_3 t)
theorem leaves4 : (dats m 0 c).leavesExact 4 t = owns (c : Thread nD τ) (ms0_4 t) fullShare (iblk m c 4 t) := leaves_live m c t 4 (liveAt0_4 t)
theorem leaves5 : (dats m 0 c).leavesExact 5 t = owns (c : Thread nD τ) (ms0_5 t) fullShare (iblk m c 5 t) := leaves_live m c t 5 (liveAt0_5 t)
theorem leaves6 : (dats m 0 c).leavesExact 6 t = owns (c : Thread nD τ) (ms0_6 t) fullShare (iblk m c 6 t) := leaves_live m c t 6 (liveAt0_6 t)
theorem leaves7 : (dats m 0 c).leavesExact 7 t = owns (c : Thread nD τ) (ms0_7 t) fullShare (iblk m c 7 t) := leaves_live m c t 7 (liveAt0_7 t)
theorem leaves8 : (dats m 0 c).leavesExact 8 t = owns (c : Thread nD τ) (ms0_8 t) fullShare (iblk m c 8 t) := leaves_live m c t 8 (liveAt0_8 t)
theorem leaves9 : (dats m 0 c).leavesExact 9 t = owns (c : Thread nD τ) (ms0_9 t) fullShare (iblk m c 9 t) := leaves_live m c t 9 (liveAt0_9 t)
theorem leaves10 : (dats m 0 c).leavesExact 10 t = owns (c : Thread nD τ) (ms0_10 t) fullShare (iblk m c 10 t) := leaves_live m c t 10 (liveAt0_10 t)
theorem leaves11 : (dats m 0 c).leavesExact 11 t = owns (c : Thread nD τ) (ms0_11 t) fullShare (iblk m c 11 t) := leaves_live m c t 11 (liveAt0_11 t)
theorem leaves12 : (dats m 0 c).leavesExact 12 t = owns (c : Thread nD τ) (ms0_12 t) fullShare (iblk m c 12 t) := leaves_live m c t 12 (liveAt0_12 t)
theorem leaves13 : (dats m 0 c).leavesExact 13 t = owns (c : Thread nD τ) (ms0_13 t) fullShare (iblk m c 13 t) := leaves_live m c t 13 (liveAt0_13 t)
theorem leaves14 : (dats m 0 c).leavesExact 14 t = owns (c : Thread nD τ) (ms0_14 t) fullShare (iblk m c 14 t) := leaves_live m c t 14 (liveAt0_14 t)
theorem leaves15 : (dats m 0 c).leavesExact 15 t = owns (c : Thread nD τ) (ms0_15 t) fullShare (iblk m c 15 t) := leaves_live m c t 15 (liveAt0_15 t)
theorem leaves16 : (dats m 0 c).leavesExact 16 t = owns (c : Thread nD τ) (ms0_16 t) fullShare (iblk m c 16 t) := leaves_live m c t 16 (liveAt0_16 t)
theorem leaves17 : (dats m 0 c).leavesExact 17 t = owns (c : Thread nD τ) (ms0_17 t) fullShare (iblk m c 17 t) := leaves_live m c t 17 (liveAt0_17 t)
theorem leaves18 : (dats m 0 c).leavesExact 18 t = owns (c : Thread nD τ) (ms0_18 t) fullShare (iblk m c 18 t) := leaves_live m c t 18 (liveAt0_18 t)
theorem leaves19 : (dats m 0 c).leavesExact 19 t = owns (c : Thread nD τ) (ms0_19 t) fullShare (iblk m c 19 t) := leaves_live m c t 19 (liveAt0_19 t)
theorem leaves20 : (dats m 0 c).leavesExact 20 t = owns (c : Thread nD τ) (ms0_20 t) fullShare (iblk m c 20 t) := leaves_live m c t 20 (liveAt0_20 t)
theorem leaves21 : (dats m 0 c).leavesExact 21 t = owns (c : Thread nD τ) (ms0_21 t) fullShare (held m c t.val t.isLt).dp := leaves_live m c t 21 (liveAt0_21 t)
theorem leaves22 : (dats m 0 c).leavesExact 22 t = owns (c : Thread nD τ) (ms0_22 t) fullShare (held m c t.val t.isLt).vec := leaves_live m c t 22 (liveAt0_22 t)
theorem leaves23 : (dats m 0 c).leavesExact 23 t = owns (c : Thread nD τ) (ms0_23 t) fullShare (held m c t.val t.isLt).mat := leaves_live m c t 23 (liveAt0_23 t)

/-- An input's buffer holds its block at every visit. -/
theorem before0 (d) : (dats m 0 c).before 0 t d = iblk m c 0 t := before0_0_of m (dats m 0 c) (A_eq m c 0) (fun _ => rfl) t d
theorem before1 (d) : (dats m 0 c).before 1 t d = iblk m c 1 t := before0_1_of m (dats m 0 c) (A_eq m c 1) (fun _ => rfl) t d
theorem before2 (d) : (dats m 0 c).before 2 t d = iblk m c 2 t := before0_2_of m (dats m 0 c) (A_eq m c 2) (fun _ => rfl) t d
theorem before3 (d) : (dats m 0 c).before 3 t d = iblk m c 3 t := before0_3_of m (dats m 0 c) (A_eq m c 3) (fun _ => rfl) t d
theorem before4 (d) : (dats m 0 c).before 4 t d = iblk m c 4 t := before0_4_of m (dats m 0 c) (A_eq m c 4) (fun _ => rfl) t d
theorem before5 (d) : (dats m 0 c).before 5 t d = iblk m c 5 t := before0_5_of m (dats m 0 c) (A_eq m c 5) (fun _ => rfl) t d
theorem before6 (d) : (dats m 0 c).before 6 t d = iblk m c 6 t := before0_6_of m (dats m 0 c) (A_eq m c 6) (fun _ => rfl) t d
theorem before7 (d) : (dats m 0 c).before 7 t d = iblk m c 7 t := before0_7_of m (dats m 0 c) (A_eq m c 7) (fun _ => rfl) t d
theorem before8 (d) : (dats m 0 c).before 8 t d = iblk m c 8 t := before0_8_of m (dats m 0 c) (A_eq m c 8) (fun _ => rfl) t d
theorem before9 (d) : (dats m 0 c).before 9 t d = iblk m c 9 t := before0_9_of m (dats m 0 c) (A_eq m c 9) (fun _ => rfl) t d
theorem before10 (d) : (dats m 0 c).before 10 t d = iblk m c 10 t := before0_10_of m (dats m 0 c) (A_eq m c 10) (fun _ => rfl) t d
theorem before11 (d) : (dats m 0 c).before 11 t d = iblk m c 11 t := before0_11_of m (dats m 0 c) (A_eq m c 11) (fun _ => rfl) t d
theorem before12 (d) : (dats m 0 c).before 12 t d = iblk m c 12 t := before0_12_of m (dats m 0 c) (A_eq m c 12) (fun _ => rfl) t d
theorem before13 (d) : (dats m 0 c).before 13 t d = iblk m c 13 t := before0_13_of m (dats m 0 c) (A_eq m c 13) (fun _ => rfl) t d
theorem before14 (d) : (dats m 0 c).before 14 t d = iblk m c 14 t := before0_14_of m (dats m 0 c) (A_eq m c 14) (fun _ => rfl) t d
theorem before15 (d) : (dats m 0 c).before 15 t d = iblk m c 15 t := before0_15_of m (dats m 0 c) (A_eq m c 15) (fun _ => rfl) t d
theorem before16 (d) : (dats m 0 c).before 16 t d = iblk m c 16 t := before0_16_of m (dats m 0 c) (A_eq m c 16) (fun _ => rfl) t d
theorem before17 (d) : (dats m 0 c).before 17 t d = iblk m c 17 t := before0_17_of m (dats m 0 c) (A_eq m c 17) (fun _ => rfl) t d
theorem before18 (d) : (dats m 0 c).before 18 t d = iblk m c 18 t := before0_18_of m (dats m 0 c) (A_eq m c 18) (fun _ => rfl) t d
theorem before19 (d) : (dats m 0 c).before 19 t d = iblk m c 19 t := before0_19_of m (dats m 0 c) (A_eq m c 19) (fun _ => rfl) t d
theorem before20 (d) : (dats m 0 c).before 20 t d = iblk m c 20 t := before0_20_of m (dats m 0 c) (A_eq m c 20) (fun _ => rfl) t d

/-- After the first visit result 2's buffer holds what the visit before left: nothing is written back between. -/
theorem before22 (h0 : ¬t.val % 8 = 0) (d) : (dats m 0 c).before 22 t d = (before m c t).vec := by
  have hN := visit_lt t
  rw [Dat.before_out_kept _ 22 rfl t (by omega) (Bool.eq_false_iff.mpr fun h => by have := (flush0_22 _).mp h; dsimp only at this; omega)
    (fun _ => rfl) (fun _ _ => rfl)]
  rfl

/-- After the first visit result 3's buffer holds what the visit before left: nothing is written back between. -/
theorem before23 (h0 : ¬t.val % 8 = 0) (d) : (dats m 0 c).before 23 t d = (before m c t).mat := by
  have hN := visit_lt t
  rw [Dat.before_out_kept _ 23 rfl t (by omega) (Bool.eq_false_iff.mpr fun h => by have := (flush0_23 _).mp h; dsimp only at this; omega)
    (fun _ => rfl) (fun _ _ => rfl)]
  rfl

/-- What a visit is called with, window by window, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it hands back. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

theorem inv_before : (dats m 0 c).Φ t.castSucc = inv m c t.val (Nat.le_of_lt t.isLt) := by
  dsimp only [dats]; exact Pipeline.Dat.Φ_castSucc (inv m c) t

theorem inv_after : (dats m 0 c).Φ t.succ = scratch c (held m c t.val t.isLt) := rfl

set_option maxHeartbeats 8000000 in
/-- The first visit. -/
theorem bodyA (h0 : t.val % 8 = 0) :
    bodyPre m c t ⊢ wp frame (wpE (defs₀ (F := F)) Variants.none c none) Set.univ (bodyAt0 t) (fun _ => bodyPost m c t) := by
  have hN := visit_lt t
  unfold bodyPre bodyPost bodyAt0
  simp only [before0 m c t, before1 m c t, before2 m c t, before3 m c t, before4 m c t, before5 m c t, before6 m c t, before7 m c t, before8 m c t, before9 m c t, before10 m c t, before11 m c t, before12 m c t, before13 m c t, before14 m c t, before15 m c t, before16 m c t, before17 m c t, before18 m c t, before19 m c t, before20 m c t]
  rw [inv_after, held_A m c t h0, show (dats m 0 c).owesAt () t.succ = (dats m 0 c).owesAt () t.castSucc from rfl]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t, leaves16 m c t, leaves17 m c t, leaves18 m c t, leaves19 m c t, leaves20 m c t, leaves21 m c t, leaves22 m c t, leaves23 m c t, Dat.leavesExact_idle (dats m 0 c) 24 t (idleAt0_24_A t ((hcond0_0 t).mpr h0) (fun h => first_not_last t h0 ((hcond0_1 t).mp h))) (noFlush0_24_A t ((hcond0_0 t).mpr h0) (fun h => first_not_last t h0 ((hcond0_1 t).mp h)))]
  rw [held_A m c t h0]
  rw [inv_before, inv_first m c _ _ (by omega), PhiA0_eq]
  unfold scratch
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((runA m c t h0).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexact H24
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, ⟨%e21, H21⟩, ⟨%e22, H22⟩, ⟨%e23, H23⟩, H24, ⟨%es0, HS0⟩, ⟨%fT1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; dsimp only [leftA]; exact View.read_writes_of_cover _ _ _ _ _ (coverA_state m c t h0)
      isplitl [HS1]
      · iexists _; unfold owns; iexists _; isplitr
        swap; · iexact HS1
        ipureintro; rfl
      isplitl [HS2]
      · unfold owns; iexists _; isplitr
        swap; · iexact HS2
        ipureintro; dsimp only [leftA]; exact View.read_writes_of_cover _ _ _ _ _ (coverA_rows m c t h0)
      unfold owns; iexists _; isplitr
      swap; · iexact HS3
      ipureintro; dsimp only [leftA]; exact View.read_writes_of_cover _ _ _ _ _ (coverA_sums m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; dsimp only [leftA]; exact View.read_writes_of_cover _ _ _ _ _ (coverA_dp m c t h0)
  isplitl [H22]
  · unfold owns; iexists _; isplitr
    swap; · iexact H22
    ipureintro; dsimp only [leftA]; exact View.read_writes_of_cover _ _ _ _ _ (coverA_vec m c t h0)
  isplitl [H23]
  · unfold owns; iexists _; isplitr
    swap; · iexact H23
    ipureintro; dsimp only [leftA]; exact View.read_writes_of_cover _ _ _ _ _ (coverA_mat m c t h0)
  iexists _; iexact H24

set_option maxHeartbeats 8000000 in
/-- A middle visit. -/
theorem bodyB (h0 : ¬t.val % 8 = 0) (h1 : ¬t.val % 8 = 7) :
    bodyPre m c t ⊢ wp frame (wpE (defs₀ (F := F)) Variants.none c none) Set.univ (bodyAt0 t) (fun _ => bodyPost m c t) := by
  have hN := visit_lt t
  unfold bodyPre bodyPost bodyAt0
  simp only [before0 m c t, before1 m c t, before2 m c t, before3 m c t, before4 m c t, before5 m c t, before6 m c t, before7 m c t, before8 m c t, before9 m c t, before10 m c t, before11 m c t, before12 m c t, before13 m c t, before14 m c t, before15 m c t, before16 m c t, before17 m c t, before18 m c t, before19 m c t, before20 m c t]
  rw [inv_after, held_B m c t h0 h1, show (dats m 0 c).owesAt () t.succ = (dats m 0 c).owesAt () t.castSucc from rfl]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t, leaves16 m c t, leaves17 m c t, leaves18 m c t, leaves19 m c t, leaves20 m c t, leaves21 m c t, leaves22 m c t, leaves23 m c t, Dat.leavesExact_idle (dats m 0 c) 24 t (idleAt0_24_B t (fun h => h0 ((hcond0_0 t).mp h)) (fun h => h1 ((hcond0_1 t).mp h))) (noFlush0_24_B t (fun h => h0 ((hcond0_0 t).mp h)) (fun h => h1 ((hcond0_1 t).mp h)))]
  rw [held_B m c t h0 h1]
  rw [inv_before, inv_later m c _ _ (by omega)]
  simp only [before22 m c t h0, before23 m c t h0]
  unfold scratch
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((runB m c t h0 h1 (before m c t)).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexact H22
  isplitl [H23]; · iexact H23
  isplitl [H24]; · iexact H24
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, ⟨%e21, H21⟩, H22, ⟨%e23, H23⟩, H24, ⟨%es0, HS0⟩, ⟨%fT1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; dsimp only [leftB]; exact View.read_writes_of_cover _ _ _ _ _ (coverB_state m c t h0 h1 (before m c t))
      isplitl [HS1]
      · iexists _; unfold owns; iexists _; isplitr
        swap; · iexact HS1
        ipureintro; rfl
      isplitl [HS2]
      · unfold owns; iexists _; isplitr
        swap; · iexact HS2
        ipureintro; dsimp only [leftB]; exact View.read_writes_of_cover _ _ _ _ _ (coverB_rows m c t h0 h1 (before m c t))
      unfold owns; iexists _; isplitr
      swap; · iexact HS3
      ipureintro; dsimp only [leftB]; exact View.read_writes_of_cover _ _ _ _ _ (coverB_sums m c t h0 h1 (before m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; dsimp only [leftB]; exact View.read_writes_of_cover _ _ _ _ _ (coverB_dp m c t h0 h1 (before m c t))
  isplitl [H22]
  · unfold owns; iexists _; isplitr
    swap; · iexact H22
    ipureintro; rfl
  isplitl [H23]
  · unfold owns; iexists _; isplitr
    swap; · iexact H23
    ipureintro; dsimp only [leftB]; exact View.read_writes_of_cover _ _ _ _ _ (coverB_mat m c t h0 h1 (before m c t))
  iexists _; iexact H24

set_option maxHeartbeats 8000000 in
/-- The last visit. -/
theorem bodyC (h0 : ¬t.val % 8 = 0) (h1 : t.val % 8 = 7) :
    bodyPre m c t ⊢ wp frame (wpE (defs₀ (F := F)) Variants.none c none) Set.univ (bodyAt0 t) (fun _ => bodyPost m c t) := by
  have hN := visit_lt t
  unfold bodyPre bodyPost bodyAt0
  simp only [before0 m c t, before1 m c t, before2 m c t, before3 m c t, before4 m c t, before5 m c t, before6 m c t, before7 m c t, before8 m c t, before9 m c t, before10 m c t, before11 m c t, before12 m c t, before13 m c t, before14 m c t, before15 m c t, before16 m c t, before17 m c t, before18 m c t, before19 m c t, before20 m c t]
  rw [inv_after, held_C m c t h0 h1, show (dats m 0 c).owesAt () t.succ = (dats m 0 c).owesAt () t.castSucc from rfl]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t, leaves16 m c t, leaves17 m c t, leaves18 m c t, leaves19 m c t, leaves20 m c t, leaves21 m c t, leaves22 m c t, leaves23 m c t, leaves_live m c t 24 (liveAt0_24_C t (fun h => h0 ((hcond0_0 t).mp h)) ((hcond0_1 t).mpr h1))]
  rw [show (dats m 0 c).after 24 t = (held m c t.val t.isLt).bias from rfl]
  rw [held_C m c t h0 h1]
  rw [inv_before, inv_later m c _ _ (by omega)]
  simp only [before22 m c t h0, before23 m c t h0]
  unfold scratch
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((runC m c t h0 h1 (before m c t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexact H22
  isplitl [H23]; · iexact H23
  isplitl [H24]; · iexists _; iexact H24
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, ⟨%e21, H21⟩, H22, ⟨%e23, H23⟩, ⟨%e24, H24⟩, ⟨%es0, HS0⟩, ⟨%fT1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; dsimp only [leftC]; exact View.read_writes_of_cover _ _ _ _ _ (coverC_state m c t h0 h1 (before m c t))
      isplitl [HS1]
      · iexists _; unfold owns; iexists _; isplitr
        swap; · iexact HS1
        ipureintro; rfl
      isplitl [HS2]
      · unfold owns; iexists _; isplitr
        swap; · iexact HS2
        ipureintro; dsimp only [leftC]; exact View.read_writes_of_cover _ _ _ _ _ (coverC_rows m c t h0 h1 (before m c t))
      unfold owns; iexists _; isplitr
      swap; · iexact HS3
      ipureintro; dsimp only [leftC]; exact View.read_writes_of_cover _ _ _ _ _ (coverC_sums m c t h0 h1 (before m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; dsimp only [leftC]; exact View.read_writes_of_cover _ _ _ _ _ (coverC_dp m c t h0 h1 (before m c t))
  isplitl [H22]
  · unfold owns; iexists _; isplitr
    swap; · iexact H22
    ipureintro; rfl
  isplitl [H23]
  · unfold owns; iexists _; isplitr
    swap; · iexact H23
    ipureintro; dsimp only [leftC]; exact View.read_writes_of_cover _ _ _ _ _ (coverC_mat m c t h0 h1 (before m c t))
  unfold owns; iexists _; isplitr
  swap; · iexact H24
  ipureintro; dsimp only [leftC]; exact View.read_writes_of_cover _ _ _ _ _ (coverC_bias m c t h0 h1 (before m c t))

/-- Every visit. -/
theorem body :
    bodyPre m c t ⊢ wp frame (wpE (defs₀ (F := F)) Variants.none c none) Set.univ (bodyAt0 t) (fun _ => bodyPost m c t) := by
  by_cases h0 : t.val % 8 = 0
  · exact bodyA m c t h0
  · by_cases h1 : t.val % 8 = 7
    · exact bodyC m c t h0 h1
    · exact bodyB m c t h0 h1

theorem body_row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, body_row]
  exact triple_restated (body m c t) rfl .rfl fun _ => .rfl

theorem inv_in : Pipeline.ΦA spec0 c ⊢ (dats m 0 c).Φ 0 := Idealize.SL.BI.Entails.refl _

/-- The invariant after the last visit gives the scratch buffers back, their contents forgotten. -/
theorem inv_out : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_later m c _ _ (by rw [Fin.val_last, visits_eq]; decide), PhiA0_eq]
  unfold scratch
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexists _; iexact HS3
  iexact Hg

set_option backward.isDefEq.respectTransparency.types false in
/-- The launch: every array of the pipeline ends at what the visits write back, and every counter at zero. -/
theorem launched : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The arguments at the end of the run. -/
def Kept (r : PUnit × MemSt nD τ sig (Elt F)) : Prop := ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

/-- The run: the two results of which the claim speaks at what the visits write back, the arguments as they were, every
    counter at zero. -/
theorem run_main : θ_run defs (onTc (τ := τ) (main (F := F))) (s₀ m ρ) fun r =>
    ((∀ w (c : Dev nD), r.2.mem ((c : Thread nD τ).loc (Pipeline.arrRef spec0 w)) = (dats m 0 c).arrAt w cfg0.N) ∧ Kept m r) ∧ r.2.sem = fun _ => 0 :=
  θ_run_and (θ_run_and ((θ_run defs _ _).mono (fun r h w c => (h.1 c).1 w) (launched m ρ))
    (frame_of m ρ (dats m) (A_eq m) ((θ_run defs _ _).mono (fun _ h => h.1) (launched m ρ))))
    ((θ_run defs _ _).mono (fun _ h => h.2) (launched m ρ))

end Cert.Proof.Visits

end
-- ==== Proof.SameText.lean ====
/- The kernel and its ideal reading are one text, over any floats: the bodies, the pipeline's table and the programs are equal. -/
module

public import proofs.«01_k».proof.Proof.Gen.Kernel
public import proofs.«01_k».proof.Proof.Gen.KernelIdeal

@[expose] public section

noncomputable section

namespace Cert.Proof.SameText

open Idealize.ShloMosaic Idealize.SL.Sem

variable {F : FTy → Type} [FloatOps F]

set_option maxHeartbeats 0 in
theorem body : @Cert.Kernel.cc0_mixer_bwd F _ _ = @Cert.KernelIdeal.cc0_mixer_bwd F _ _ := rfl

set_option maxHeartbeats 0 in
theorem bodies : Cert.Kernel.defs₀ (F := F) = Cert.KernelIdeal.defs₀ (F := F) := by
  unfold Cert.Kernel.defs₀ Cert.KernelIdeal.defs₀
  rw [body]
  refine congrArg Defs.onTc (funext fun b => funext fun a => ?_)
  match b, a with
  | ⟨0, _⟩, (t, s) => exact rfl

set_option maxHeartbeats 0 in
theorem table : Cert.Kernel.defs (F := F) = Cert.KernelIdeal.defs (F := F) := by
  unfold Cert.Kernel.defs Cert.KernelIdeal.defs
  rw [bodies]
  rfl

theorem program : Cert.Kernel.main (F := F) = Cert.KernelIdeal.main (F := F) := rfl

end Cert.Proof.SameText

end
-- ==== Proof.ConvMask.lean ====
/- The mask of the value claim, read at an index: columns 2048 … 3583 of the first result, rows 4 … 7 of the second, nothing
   of the third and the fourth. -/
module

public import proofs.«01_k».proof.On_conv_part
public import Idealize.ShloMosaic.Lib.ValueIdx

@[expose] public section

namespace Cert.Proof.ConvMask

open Idealize.ShloMosaic Cert.On_conv_part

theorem facts : Cert.On_conv_part.Facts where
  bcast_S_S2048x4608 := by decide
  bcast_S_S8x512 := by decide
  bcast_S_S4x128x128 := by decide
  bcast_S_S128x4 := by decide

/-- A column's number is at least 2048 and below 3584 where the mask's bit is one. -/
theorem column_of_bit (n : ℕ) (hn : n < 4608)
    (h : Scalar.cmpi .sge (BitVec.ofNat 32 n) 2048#32 &&& Scalar.cmpi .slt (BitVec.ofNat 32 n) 3584#32 = 1#1) : 2048 ≤ n ∧ n < 3584 := by
  have e : (BitVec.ofNat 32 n).toInt = n := by
    rw [BitVec.toInt_eq_toNat_of_lt (by rw [BitVec.toNat_ofNat, Nat.mod_eq_of_lt (by omega)]; omega), BitVec.toNat_ofNat, Nat.mod_eq_of_lt (by omega)]
  by_contra hc
  rcases not_and_or.mp hc with h1 | h1
  · have : Scalar.cmpi .sge (BitVec.ofNat 32 n) 2048#32 = 0#1 := by
      show BitVec.ofBool ((2048#32).sle (BitVec.ofNat 32 n)) = 0#1
      rw [BitVec.sle_eq_decide, e, decide_eq_false (by show ¬(2048 : ℤ) ≤ n; omega)]; rfl
    rw [this, BitVec.zero_and] at h
    exact absurd h (by decide)
  · have : Scalar.cmpi .slt (BitVec.ofNat 32 n) 3584#32 = 0#1 := by
      show BitVec.ofBool ((BitVec.ofNat 32 n).slt 3584#32) = 0#1
      rw [BitVec.slt_eq_decide, e, decide_eq_false (by show ¬(n : ℤ) < 3584; omega)]; rfl
    rw [this, BitVec.and_zero] at h
    exact absurd h (by decide)

/-- A row's number is at least 4 where the mask's bit is one. -/
theorem row_of_bit : ∀ n : Fin 8, Scalar.cmpi .sge (BitVec.ofNat 32 n.val) 4#32 = 1#1 → 4 ≤ n.val := by decide

end Cert.Proof.ConvMask
-- ==== Proof.Stores.lean ====
/- Reading stores and loads of matrices at an index: what a list of stores (last first) left at an entry, and what a load
   of a block of a buffer reads there. The lemmas speak of a row and a column as numbers with their offsets. -/
module

public import Idealize.ShloMosaic.Lib.Pipeline.FrameBody
public import Idealize.ShloMosaic.PureOps
public import Idealize.ShloMosaic.Lib.WritesUnit
public import Idealize.ShloMosaic.Lib.KernelVsHost

@[expose] public section

noncomputable section

namespace Cert.Proof.Stores

open Idealize.ShloMosaic Idealize.ShloMosaic.ValueIdx

variable {n m k l : ℕ} {e : EltTy} {Val : EltTy → Type} [∀ e, Nonempty (Val e)]

/-- An entry under the last store reads that store's payload. -/
theorem canon_at {o p : ℕ} (inb : ∀ a, (![o, p] : Fin 2 → ℕ) a + (![k, l] : Fin 2 → ℕ) a ≤ (⟨2, ![n, m]⟩ : Shape).size a)
    (w : (Rect.unit (s := ⟨2, ![n, m]⟩) ![o, p] ![k, l] inb).shape.Idx → Val e) (L : List (View.Piece Val ⟨2, ![n, m]⟩ e))
    (a : Fin n) (b : Fin m) (a' : Fin k) (b' : Fin l) (ha : a.val = o + a'.val) (hb : b.val = p + b'.val) :
    View.canon (⟨Rect.unit (s := ⟨2, ![n, m]⟩) ![o, p] ![k, l] inb, w⟩ :: L) (ix2 a b) = w (ix2 a' b') := by
  have h : (Rect.unit (s := ⟨2, ![n, m]⟩) ![o, p] ![k, l] inb).emb (ix2 a' b') = ix2 a b := by
    funext x
    match x with
    | ⟨0, _⟩ => exact Fin.ext (by show o + 1 * a'.val = a.val; omega)
    | ⟨1, _⟩ => exact Fin.ext (by show p + 1 * b'.val = b.val; omega)
  rw [← h]; exact View.canon_cons_emb _ w L _

/-- An entry whose row the last store does not hold reads what the stores before left. -/
theorem canon_row {o p : ℕ} (inb : ∀ a, (![o, p] : Fin 2 → ℕ) a + (![k, l] : Fin 2 → ℕ) a ≤ (⟨2, ![n, m]⟩ : Shape).size a)
    (w : (Rect.unit (s := ⟨2, ![n, m]⟩) ![o, p] ![k, l] inb).shape.Idx → Val e) (L : List (View.Piece Val ⟨2, ![n, m]⟩ e))
    (a : Fin n) (b : Fin m) (h : a.val < o ∨ o + k ≤ a.val) :
    View.canon (⟨Rect.unit (s := ⟨2, ![n, m]⟩) ![o, p] ![k, l] inb, w⟩ :: L) (ix2 a b) = View.canon L (ix2 a b) := by
  refine View.canon_cons_of_not_mem _ L ?_
  rw [Rect.mem_set_unit]
  intro hall
  have h0 : o ≤ a.val ∧ a.val < o + k := hall 0
  omega

/-- An entry whose column the last store does not hold reads what the stores before left. -/
theorem canon_col {o p : ℕ} (inb : ∀ a, (![o, p] : Fin 2 → ℕ) a + (![k, l] : Fin 2 → ℕ) a ≤ (⟨2, ![n, m]⟩ : Shape).size a)
    (w : (Rect.unit (s := ⟨2, ![n, m]⟩) ![o, p] ![k, l] inb).shape.Idx → Val e) (L : List (View.Piece Val ⟨2, ![n, m]⟩ e))
    (a : Fin n) (b : Fin m) (h : b.val < p ∨ p + l ≤ b.val) :
    View.canon (⟨Rect.unit (s := ⟨2, ![n, m]⟩) ![o, p] ![k, l] inb, w⟩ :: L) (ix2 a b) = View.canon L (ix2 a b) := by
  refine View.canon_cons_of_not_mem _ L ?_
  rw [Rect.mem_set_unit]
  intro hall
  have h0 : p ≤ b.val ∧ b.val < p + l := hall 1
  omega

variable {sig : RefSig} {κ : Kind} {sp : Space}

/-- A load of a block of a buffer that only stores filled reads, at an entry, what the stores left there. -/
theorem cov_apply {o p : ℕ} (v : View sig κ sp ⟨2, ![n, m]⟩ e) (L : List (View.Piece Val ⟨2, ![n, m]⟩ e))
    (inb : ∀ a, (![o, p] : Fin 2 → ℕ) a + (![k, l] : Fin 2 → ℕ) a ≤ (⟨2, ![n, m]⟩ : Shape).size a)
    (a' : Fin k) (b' : Fin l) (a : Fin n) (b : Fin m) (ha : a.val = o + a'.val) (hb : b.val = p + b'.val) :
    v.readCov L (Rect.unit (s := ⟨2, ![n, m]⟩) ![o, p] ![k, l] inb).toLoadRect (ix2 a' b') = View.canon L (ix2 a b) := by
  rw [View.readCov_eq_canon']
  show View.canon L _ = _
  congr 1
  funext x
  match x with
  | ⟨0, _⟩ => exact Fin.ext (by show o + 1 * a'.val = a.val; omega)
  | ⟨1, _⟩ => exact Fin.ext (by show p + 1 * b'.val = b.val; omega)

/-- A load of a block of a buffer whose contents are known reads, at an entry, the contents there. -/
theorem load_apply {o p : ℕ} {r : Memref sig κ sp ⟨2, ![n, m]⟩ e} (h : r.IsWhole) (X : (⟨2, ![n, m]⟩ : Shape).Idx → Val e)
    (inb : ∀ a, (![o, p] : Fin 2 → ℕ) a + (![k, l] : Fin 2 → ℕ) a ≤ (⟨2, ![n, m]⟩ : Shape).size a)
    (a' : Fin k) (b' : Fin l) (a : Fin n) (b : Fin m) (ha : a.val = o + a'.val) (hb : b.val = p + b'.val) :
    View.readAt Val r.view (Rect.unit (s := ⟨2, ![n, m]⟩) ![o, p] ![k, l] inb).toLoadRect (h.unread X) (ix2 a' b') = X (ix2 a b) := by
  rw [View.readAt_eq_ld, h.read_unread]
  show X _ = X _
  congr 1
  funext x
  match x with
  | ⟨0, _⟩ => exact Fin.ext (by show o + 1 * a'.val = a.val; omega)
  | ⟨1, _⟩ => exact Fin.ext (by show p + 1 * b'.val = b.val; omega)

/-- Over given contents, a later store elsewhere changes no row outside its own, -/
theorem over_row {κ : Kind} {sg : RefSig} {sp : Space} {b : Memref sg κ sp ⟨2, ![n, m]⟩ e} (f) {o k : ℕ}
    (inb : ∀ a, (![o, 0] : Fin 2 → ℕ) a + (![k, m] : Fin 2 → ℕ) a ≤ (⟨2, ![n, m]⟩ : Shape).size a)
    (w) (L) (i : Fin n) (j : Fin m) (h : i.val < o ∨ o + k ≤ i.val) :
    b.view.read Val (b.view.writes Val f (⟨Rect.unit (s := ⟨2, ![n, m]⟩) ![o, 0] ![k, m] inb, w⟩ :: L)) (ix2 i j)
      = b.view.read Val (b.view.writes Val f L) (ix2 i j) :=
  View.read_writes_cons_unit_of_not_mem b.view f inb w L (ix2 i j) rfl 0 h

/-- and a store of the row gives it what was stored. -/
theorem over_at {κ : Kind} {sg : RefSig} {sp : Space} {b : Memref sg κ sp ⟨2, ![n, m]⟩ e} (f) {o : ℕ}
    (inb : ∀ a, (![o, 0] : Fin 2 → ℕ) a + (![1, m] : Fin 2 → ℕ) a ≤ (⟨2, ![n, m]⟩ : Shape).size a)
    (w : (⟨2, ![1, m]⟩ : Shape).Idx → Val e) (L) (i : Fin n) (j : Fin m) (h : i.val = o) :
    b.view.read Val (b.view.writes Val f (⟨Rect.unit (s := ⟨2, ![n, m]⟩) ![o, 0] ![1, m] inb, w⟩ :: L)) (ix2 i j) = w (ix2 0 j) := by
  refine View.read_writes_cons_unit_of_mem b.view f inb w L (ix2 i j) (ix2 0 j) rfl fun x => ?_
  match x with
  | ⟨0, _⟩ => show i.val = o + 0; omega
  | ⟨1, _⟩ => show j.val = 0 + j.val; omega

/-- A load of the whole of a matrix is the matrix. -/
theorem ld_whole (inb : ∀ a, (![0, 0] : Fin 2 → ℕ) a + (![n, m] : Fin 2 → ℕ) a ≤ (⟨2, ![n, m]⟩ : Shape).size a)
    (X : (⟨2, ![n, m]⟩ : Shape).Idx → Val e) : View.ld X (Rect.unit (s := ⟨2, ![n, m]⟩) ![0, 0] ![n, m] inb) = X := by
  funext i
  show X _ = X _
  congr 1
  funext x
  match x with
  | ⟨0, _⟩ => exact Fin.ext (by show 0 + 1 * (i 0).val = (i 0).val; omega)
  | ⟨1, _⟩ => exact Fin.ext (by show 0 + 1 * (i 1).val = (i 1).val; omega)

end Cert.Proof.Stores

end
-- ==== Proof.ConvMath.lean ====
module

public import Idealize.ShloMosaic.PureOps.Ideal
public import Idealize.ShloMosaic.Lib.ValueIdx
public import Idealize.ShloMosaic.Lib.ValueIdxCoords

@[expose] public section

noncomputable section

/-! The gradient of the short gated convolution, as functions of the mixers' columns `p`, of the cotangent `d` of the mixers'
    outputs and of the taps `w`: rows are natural numbers, and a row past an array's end counts as zero. -/

namespace Cert.Proof.Conv

open Idealize.ShloMosaic Idealize.ShloMosaic.ValueIdx

/-- The mixers' columns, the cotangent and the taps. -/
abbrev Cols := (⟨2, ![2048, 4608]⟩ : Shape).Idx → EReal
abbrev Cot := (⟨2, ![2048, 1536]⟩ : Shape).Idx → EReal
abbrev Taps := (⟨2, ![3, 512]⟩ : Shape).Idx → EReal

/-- Row `t` of column block `k` of the mixers' columns, at lane `j`; zero past the last row. -/
def col (p : Cols) (k : Fin 9) (t : ℕ) (j : Fin 512) : EReal :=
  if h : t < 2048 then p (ix2 ⟨t, h⟩ ⟨512 * k.val + j.val, by omega⟩) else 0

/-- Row `t` of mixer `k`'s block of the cotangent; zero past the last row. -/
def cot (d : Cot) (k : Fin 3) (t : ℕ) (j : Fin 512) : EReal :=
  if h : t < 2048 then d (ix2 ⟨t, h⟩ ⟨512 * k.val + j.val, by omega⟩) else 0

/-- What the convolution takes: `cg · xc`. -/
def z (p : Cols) (t : ℕ) (j : Fin 512) : EReal := col p 5 t j * col p 6 t j

/-- The cotangent of the convolution's result: the mixer's cotangent times `bg`. -/
def dy (p : Cols) (d : Cot) (t : ℕ) (j : Fin 512) : EReal := cot d 1 t j * col p 4 t j

/-- `z` two rows down: zero in the first two rows. -/
def zp (p : Cols) (t : ℕ) (j : Fin 512) : EReal := if 2 ≤ t then z p (t - 2) j else 0

/-- The convolution. -/
def y (p : Cols) (w : Taps) (t : ℕ) (j : Fin 512) : EReal :=
  w (ix2 0 j) * zp p t j + w (ix2 1 j) * zp p (t + 1) j + w (ix2 2 j) * zp p (t + 2) j

/-- The cotangent of `z`. -/
def dzc (p : Cols) (d : Cot) (w : Taps) (t : ℕ) (j : Fin 512) : EReal :=
  w (ix2 2 j) * dy p d t j + w (ix2 1 j) * dy p d (t + 1) j + w (ix2 0 j) * dy p d (t + 2) j

/-- The gradient of tap `k`: the sum over the rows of `z` times the cotangent `2 - k` rows below. -/
def dtap (p : Cols) (d : Cot) (k : ℕ) (j : Fin 512) : EReal :=
  ∑ t ∈ Finset.range 2048, z p t j * dy p d (t + (2 - k)) j

theorem col_of_le (p : Cols) (k : Fin 9) {t : ℕ} (h : 2048 ≤ t) (j : Fin 512) : col p k t j = 0 := dif_neg (by omega)

theorem cot_of_le (d : Cot) (k : Fin 3) {t : ℕ} (h : 2048 ≤ t) (j : Fin 512) : cot d k t j = 0 := dif_neg (by omega)

theorem dy_of_le (p : Cols) (d : Cot) {t : ℕ} (h : 2048 ≤ t) (j : Fin 512) : dy p d t j = 0 := by
  rw [dy, cot_of_le d 1 h, zero_mul]

theorem z_of_le (p : Cols) {t : ℕ} (h : 2048 ≤ t) (j : Fin 512) : z p t j = 0 := by
  rw [z, col_of_le p 5 h, zero_mul]

/-- A sum of products with one factor taken `s` places ahead, where that factor is zero from `n` on, is the sum with the
    other factor taken `s` places back. -/
theorem sum_shift (f g : ℕ → EReal) (n s : ℕ) (hs : s ≤ n) (hg : ∀ t, n ≤ t → g t = 0) :
    ∑ t ∈ Finset.range n, f t * g (t + s) = ∑ t ∈ Finset.range n, g t * (if s ≤ t then f (t - s) else 0) := by
  obtain ⟨r, rfl⟩ := Nat.exists_eq_add_of_le hs
  rw [Finset.sum_range_add (fun t => g t * (if s ≤ t then f (t - s) else 0)) s r, add_comm s r,
    Finset.sum_range_add (fun t => f t * g (t + s)) r s]
  have h1 : ∑ t ∈ Finset.range s, f (r + t) * g (r + t + s) = 0 :=
    Finset.sum_eq_zero fun t _ => by rw [hg (r + t + s) (by omega), mul_zero]
  have h2 : ∑ t ∈ Finset.range s, g t * (if s ≤ t then f (t - s) else 0) = 0 :=
    Finset.sum_eq_zero fun t ht => by rw [if_neg (by have := Finset.mem_range.mp ht; omega), mul_zero]
  rw [h1, h2, add_zero, zero_add]
  refine Finset.sum_congr rfl fun t _ => ?_
  rw [if_pos (by omega), Nat.add_sub_cancel_left, mul_comm, add_comm s t]

/-- A tap's gradient as the sum over the rows of the cotangent: `z` is then `2 - k` rows above. -/
theorem dtap_eq (p : Cols) (d : Cot) (k : ℕ) (hk : k ≤ 2) (j : Fin 512) :
    dtap p d k j = ∑ t ∈ Finset.range 2048, dy p d t j * zp p (t + k) j := by
  rw [dtap, sum_shift (fun t => z p t j) (fun t => dy p d t j) 2048 (2 - k) (by omega) fun t h => dy_of_le p d h j]
  refine Finset.sum_congr rfl fun t _ => ?_
  by_cases h : 2 - k ≤ t
  · rw [if_pos h, zp, if_pos (by omega), show t + k - 2 = t - (2 - k) by omega]
  · rw [if_neg h, zp, if_neg (by omega)]

end Cert.Proof.Conv

end
-- ==== Proof.ConvTile.lean ====
/- One row tile of the short convolution's gradient, as the kernel computes it from its blocks: the buffers of `z` and of
   `dy`, the three column blocks it stores, and what it adds to the three rows of the taps' gradients; each read at an
   entry as the functions of ConvMath.lean at the tile's rows. -/
module

public import proofs.«01_k».proof.Proof.Gen.KernelIdeal.Frame.Runs
public import proofs.«01_k».proof.Proof.Stores
public import Idealize.ShloMosaic.Lib.WritesUnit
public import proofs.«01_k».proof.Proof.ConvMath
public import Idealize.ShloMosaic.Lib.ValueLayout
public import Idealize.ShloMosaic.Lib.KernelVsHost

@[expose] public section

noncomputable section

namespace Cert.Proof.ConvTile

open Idealize.ShloMosaic Idealize.ShloMosaic.ValueIdx Cert.KernelIdeal Cert.KernelIdeal.Gen Cert.Proof.Stores Cert.Proof.Conv

/-- Blocks of 256 and of 8 rows, over the extended reals. -/
abbrev B256 := Vec Ideal S256x512 .f32
@[inherit_doc B256] abbrev B8 := Vec Ideal S8x512 .f32

/-- The buffer of `z`: the tile's rows from row 8 on, and above them the last eight rows of the tile before. -/
def zbuf (i : grid0.Coords) (x5 x6 : B256) (x9 x10 : B8) : S264x512.Idx → EReal :=
  View.canon (Val := Elt Ideal) (e := .f32)
    [⟨Rect.unit (s := S264x512) ![8, 0] ![256, 512] inb_S264x512_S256x512_8_0, k0_pay486 (F := Ideal) (k0_pay484 x5 x6)⟩,
      ⟨Rect.unit (s := S264x512) ![0, 0] ![8, 512] inb_S264x512_S8x512_0_0, k0_pay485 (F := Ideal) (BitVec.ofNat 32 (i 0).val) x9 x10⟩]

/-- 256 rows of a 264-row buffer from row 1, 2, 6 or 7 on. -/
def rows1 (D : S264x512.Idx → EReal) : B256 := fun j => D ((Rect.unit (s := S264x512) ![1, 0] ![256, 512] inb_S264x512_S256x512_1_0).idx j)
@[inherit_doc rows1] def rows2 (D : S264x512.Idx → EReal) : B256 := fun j => D ((Rect.unit (s := S264x512) ![2, 0] ![256, 512] inb_S264x512_S256x512_2_0).idx j)
@[inherit_doc rows1] def rows6 (D : S264x512.Idx → EReal) : B256 := fun j => D ((Rect.unit (s := S264x512) ![6, 0] ![256, 512] inb_S264x512_S256x512_6_0).idx j)
@[inherit_doc rows1] def rows7 (D : S264x512.Idx → EReal) : B256 := fun j => D ((Rect.unit (s := S264x512) ![7, 0] ![256, 512] inb_S264x512_S256x512_7_0).idx j)

/-- The middle third of the cotangent's block. -/
def dzMid (x11 : Vec Ideal S256x1536 .bf16) : FVec Ideal S256x512 .f32 :=
  k0_pay483 (View.ld x11 (Rect.unit (s := S256x1536) ![0, 512] ![256, 512] inb_S256x1536_S256x512_0_512))

/-- The three taps. -/
def tap0 (x16 : Vec Ideal S3x512 .f32) : Vec Ideal S1x512 .f32 := View.ld x16 (Rect.unit (s := S3x512) ![0, 0] ![1, 512] inb_S3x512_S1x512_0_0)
@[inherit_doc tap0] def tap1 (x16 : Vec Ideal S3x512 .f32) : Vec Ideal S1x512 .f32 := View.ld x16 (Rect.unit (s := S3x512) ![1, 0] ![1, 512] inb_S3x512_S1x512_1_0)
@[inherit_doc tap0] def tap2 (x16 : Vec Ideal S3x512 .f32) : Vec Ideal S1x512 .f32 := View.ld x16 (Rect.unit (s := S3x512) ![2, 0] ![1, 512] inb_S3x512_S1x512_2_0)

/-- The block stored for `bg`'s gradient, -/
def bgBlock (i : grid0.Coords) (x5 x6 : B256) (x9 x10 : B8) (x11 : Vec Ideal S256x1536 .bf16) (x16 : Vec Ideal S3x512 .f32) : FVec Ideal S256x512 .bf16 :=
  k0_pay490 (dzMid x11) (k0_pay484 x5 x6) (tap0 x16) (tap1 x16) (tap2 x16) (rows6 (zbuf i x5 x6 x9 x10)) (rows7 (zbuf i x5 x6 x9 x10))

/-- for `cg`'s, over the buffer `D` of `dy`, -/
def cgBlock (x4 x6 : B256) (x11 : Vec Ideal S256x1536 .bf16) (x16 : Vec Ideal S3x512 .f32) (D : S264x512.Idx → EReal) : FVec Ideal S256x512 .bf16 :=
  k0_pay491 (dzMid x11) x4 x6 (tap0 x16) (tap1 x16) (tap2 x16) (rows1 D) (rows2 D)

/-- and for `xc`'s. -/
def xcBlock (x4 x5 : B256) (x11 : Vec Ideal S256x1536 .bf16) (x16 : Vec Ideal S3x512 .f32) (D : S264x512.Idx → EReal) : FVec Ideal S256x512 .bf16 :=
  k0_pay492 x5 (k0_pay489 (dzMid x11) x4 (tap0 x16) (tap1 x16) (tap2 x16) (rows1 D) (rows2 D))

theorem tap0_at (x16 : Vec Ideal S3x512 .f32) (j : Fin 512) : tap0 x16 (ix2 0 j) = x16 (ix2 0 j) := by
  show x16 _ = x16 _; congr 1; funext x
  match x with
  | ⟨0, _⟩ => rfl
  | ⟨1, _⟩ => exact Fin.ext (by show 0 + 1 * j.val = j.val; omega)

theorem tap1_at (x16 : Vec Ideal S3x512 .f32) (j : Fin 512) : tap1 x16 (ix2 0 j) = x16 (ix2 1 j) := by
  show x16 _ = x16 _; congr 1; funext x
  match x with
  | ⟨0, _⟩ => rfl
  | ⟨1, _⟩ => exact Fin.ext (by show 0 + 1 * j.val = j.val; omega)

theorem tap2_at (x16 : Vec Ideal S3x512 .f32) (j : Fin 512) : tap2 x16 (ix2 0 j) = x16 (ix2 2 j) := by
  show x16 _ = x16 _; congr 1; funext x
  match x with
  | ⟨0, _⟩ => rfl
  | ⟨1, _⟩ => exact Fin.ext (by show 0 + 1 * j.val = j.val; omega)

/-- Row `a` of the rows from `o` on is row `o + a`. -/
theorem rows_at (D : S264x512.Idx → EReal) {o : ℕ} (inb : ∀ a, (![o, 0] : Fin 2 → ℕ) a + (![256, 512] : Fin 2 → ℕ) a ≤ S264x512.size a) (a : Fin 256) (j : Fin 512) (h : o + a.val < 264) :
    D ((Rect.unit (s := S264x512) ![o, 0] ![256, 512] inb).idx (ix2 a j)) = D (ix2 ⟨o + a.val, h⟩ j) := by
  congr 1; funext x
  match x with
  | ⟨0, _⟩ => exact Fin.ext (by show o + 1 * a.val = o + a.val; omega)
  | ⟨1, _⟩ => exact Fin.ext (by show 0 + 1 * j.val = j.val; omega)

theorem rows1_at (D : S264x512.Idx → EReal) (a : Fin 256) (j : Fin 512) : rows1 D (ix2 a j) = D (ix2 ⟨1 + a.val, by omega⟩ j) := rows_at D _ a j _
theorem rows2_at (D : S264x512.Idx → EReal) (a : Fin 256) (j : Fin 512) : rows2 D (ix2 a j) = D (ix2 ⟨2 + a.val, by omega⟩ j) := rows_at D _ a j _
theorem rows6_at (D : S264x512.Idx → EReal) (a : Fin 256) (j : Fin 512) : rows6 D (ix2 a j) = D (ix2 ⟨6 + a.val, by omega⟩ j) := rows_at D _ a j _
theorem rows7_at (D : S264x512.Idx → EReal) (a : Fin 256) (j : Fin 512) : rows7 D (ix2 a j) = D (ix2 ⟨7 + a.val, by omega⟩ j) := rows_at D _ a j _

/-- Column `j` of the middle third. -/
theorem mid_lt (j : Fin 512) : 512 + j.val < 1536 := by omega

section Tile

variable (p : Cols) (d : Cot) (w : Taps) (r : ℕ) (hr : r < 8) (i : grid0.Coords)
  (x4 x5 x6 : B256) (x9 x10 : B8) (x11 : Vec Ideal S256x1536 .bf16) (x16 : Vec Ideal S3x512 .f32) (D : S264x512.Idx → EReal)
  (h4 : ∀ a j, x4 (ix2 a j) = col p 4 (256 * r + a.val) j) (h5 : ∀ a j, x5 (ix2 a j) = col p 5 (256 * r + a.val) j)
  (h6 : ∀ a j, x6 (ix2 a j) = col p 6 (256 * r + a.val) j)
  (h9 : 0 < r → ∀ a j, x9 (ix2 a j) = col p 5 (256 * r - 8 + a.val) j)
  (h10 : 0 < r → ∀ a j, x10 (ix2 a j) = col p 6 (256 * r - 8 + a.val) j)
  (h11 : ∀ (a : Fin 256) (j : Fin 512), x11 (ix2 a ⟨512 + j.val, mid_lt j⟩) = cot d 1 (256 * r + a.val) j)
  (h16 : ∀ k j, x16 (ix2 k j) = w (ix2 k j))
  (hi : (i 0).val = 7 - r) (hD : ∀ a j, D (ix2 a j) = dy p d (256 * r + a.val) j)

include h11 in
theorem dzMid_at (a : Fin 256) (j : Fin 512) : dzMid x11 (ix2 a j) = cot d 1 (256 * r + a.val) j := by
  refine Eq.trans ?_ (h11 a j)
  show x11 _ = x11 _; congr 1; funext x
  match x with
  | ⟨0, _⟩ => exact Fin.ext (by show 0 + 1 * a.val = a.val; omega)
  | ⟨1, _⟩ => exact Fin.ext (by show 512 + 1 * j.val = 512 + j.val; omega)

include h5 h6 in
theorem z_at (a : Fin 256) (j : Fin 512) : k0_pay484 x5 x6 (ix2 a j) = z p (256 * r + a.val) j := by
  show x5 (ix2 a j) * x6 (ix2 a j) = _
  rw [h5, h6, z]

include h5 h6 h9 h10 hi hr in
/-- The buffer of `z` from row 6 on: row `6 + a` holds `z` two rows above the tile's row `a`. -/
theorem zbuf_at (a : Fin 264) (ha : 6 ≤ a.val) (j : Fin 512) : zbuf i x5 x6 x9 x10 (ix2 a j) = zp p (256 * r + (a.val - 6)) j := by
  unfold zbuf
  by_cases h : a.val < 8
  · refine (canon_row _ _ _ _ _ (Or.inl h)).trans ?_
    refine (canon_at _ _ _ _ _ ⟨a.val, h⟩ j (by simp) (by simp)).trans ?_
    unfold k0_pay485; dsimp only; rw [shapeCast_self]
    by_cases h0 : r = 0
    · have hc : Scalar.cmpi .slt (BitVec.ofNat 32 (i 0).val) 7#32 = 0#1 := by rw [hi, h0]; decide
      rw [hc, zp, if_neg (by omega)]
      show (Ideal.ofBits .f32 0x00000000#32 : EReal) = 0
      exact Ideal.ofBits_zero_f32
    · have hc : Scalar.cmpi .slt (BitVec.ofNat 32 (i 0).val) 7#32 = 1#1 := by
        rw [hi]
        have : ∀ r : Fin 8, r.val ≠ 0 → Scalar.cmpi .slt (BitVec.ofNat 32 (7 - r.val)) 7#32 = 1#1 := by decide
        exact this ⟨r, hr⟩ h0
      rw [hc]
      show x9 (ix2 ⟨a.val, h⟩ j) * x10 (ix2 ⟨a.val, h⟩ j) = _
      rw [h9 (by omega), h10 (by omega), zp, if_pos (by omega), z]
      have e : 256 * r - 8 + a.val = 256 * r + (a.val - 6) - 2 := by omega
      rw [e]
  · refine (canon_at _ _ _ _ _ ⟨a.val - 8, by omega⟩ j (by show a.val = 8 + (a.val - 8); omega) (by simp)).trans ?_
    unfold k0_pay486; rw [shapeCast_self, z_at p r x5 x6 h5 h6, zp, if_pos (by omega)]
    congr 1; show 256 * r + (a.val - 8) = _; omega

include h5 h6 h9 h10 h11 h16 hi hr in
/-- The stored gradient of `bg`. -/
theorem bgBlock_at (a : Fin 256) (j : Fin 512) :
    bgBlock i x5 x6 x9 x10 x11 x16 (ix2 a j) = cot d 1 (256 * r + a.val) j * y p w (256 * r + a.val) j := by
  show dzMid x11 (ix2 a j) * (broadcastTo S256x512 (tap0 x16) _ (ix2 a j) * rows6 (zbuf i x5 x6 x9 x10) (ix2 a j)
    + broadcastTo S256x512 (tap1 x16) _ (ix2 a j) * rows7 (zbuf i x5 x6 x9 x10) (ix2 a j)
    + broadcastTo S256x512 (tap2 x16) _ (ix2 a j) * k0_pay484 x5 x6 (ix2 a j)) = _
  rw [broadcastTo_1b_ab_apply, broadcastTo_1b_ab_apply, broadcastTo_1b_ab_apply, tap0_at, tap1_at, tap2_at,
    dzMid_at d r x11 h11, z_at p r x5 x6 h5 h6, rows6_at, rows7_at,
    zbuf_at p r hr i x5 x6 x9 x10 h5 h6 h9 h10 hi _ (by show 6 ≤ 6 + a.val; omega),
    zbuf_at p r hr i x5 x6 x9 x10 h5 h6 h9 h10 hi _ (by show 6 ≤ 7 + a.val; omega), h16, h16, h16, y]
  have e1 : 256 * r + (6 + a.val - 6) = 256 * r + a.val := by omega
  have e2 : 256 * r + (7 + a.val - 6) = 256 * r + a.val + 1 := by omega
  have e3 : zp p (256 * r + a.val + 2) j = z p (256 * r + a.val) j := by rw [zp, if_pos (by omega)]; rfl
  dsimp only
  rw [e1, e2, e3]

include h4 h11 h16 hD in
/-- The cotangent of `z` over the tile. -/
theorem dzc_at (a : Fin 256) (j : Fin 512) :
    k0_pay489 (dzMid x11) x4 (tap0 x16) (tap1 x16) (tap2 x16) (rows1 D) (rows2 D) (ix2 a j) = dzc p d w (256 * r + a.val) j := by
  show broadcastTo S256x512 (tap2 x16) _ (ix2 a j) * (dzMid x11 (ix2 a j) * x4 (ix2 a j))
    + broadcastTo S256x512 (tap1 x16) _ (ix2 a j) * rows1 D (ix2 a j)
    + broadcastTo S256x512 (tap0 x16) _ (ix2 a j) * rows2 D (ix2 a j) = _
  rw [broadcastTo_1b_ab_apply, broadcastTo_1b_ab_apply, broadcastTo_1b_ab_apply, tap0_at, tap1_at, tap2_at,
    dzMid_at d r x11 h11, h4, ← dy, rows1_at, rows2_at, hD, hD, h16, h16, h16, dzc]
  have e1 : 256 * r + (1 + a.val) = 256 * r + a.val + 1 := by omega
  have e2 : 256 * r + (2 + a.val) = 256 * r + a.val + 2 := by omega
  dsimp only
  rw [e1, e2]

include h4 h6 h11 h16 hD in
/-- The stored gradient of `cg`. -/
theorem cgBlock_at (a : Fin 256) (j : Fin 512) :
    cgBlock x4 x6 x11 x16 D (ix2 a j) = dzc p d w (256 * r + a.val) j * col p 6 (256 * r + a.val) j := by
  show k0_pay489 (dzMid x11) x4 (tap0 x16) (tap1 x16) (tap2 x16) (rows1 D) (rows2 D) (ix2 a j) * x6 (ix2 a j) = _
  rw [dzc_at p d w r x4 x11 x16 D h4 h11 h16 hD, h6]

include h4 h5 h11 h16 hD in
/-- The stored gradient of `xc`. -/
theorem xcBlock_at (a : Fin 256) (j : Fin 512) :
    xcBlock x4 x5 x11 x16 D (ix2 a j) = dzc p d w (256 * r + a.val) j * col p 5 (256 * r + a.val) j := by
  show k0_pay489 (dzMid x11) x4 (tap0 x16) (tap1 x16) (tap2 x16) (rows1 D) (rows2 D) (ix2 a j) * x5 (ix2 a j) = _
  rw [dzc_at p d w r x4 x11 x16 D h4 h11 h16 hD, h5]

/-- The column sums of a block, as a row. -/
def colSum (v : FVec Ideal S256x512 .f32) : FVec Ideal S1x512 .f32 :=
  shapeCast S1x512 (multiReduction .add [0] S512 v 0x00000000#32 reduces_S256x512_S512 (.inl rfl) rfl) shapeCasts_S512_S1x512

theorem colSum_at (v : FVec Ideal S256x512 .f32) (j : Fin 512) : colSum v (ix2 0 j) = ∑ a : Fin 256, v (ix2 a j) := by
  unfold colSum
  rw [shapeCast_apply _ _ (ix2 0 j) (ix1 j) (by
    rw [Shape.rowMajor_val_one, Shape.rowMajor_val_two]; show j.val = 0 * 512 + j.val; omega)]
  refine (Ideal.multiReduction_add_single v _ reduces_S256x512_S512 _ _ (ix1 j)).trans ?_
  refine Finset.sum_congr rfl fun a _ => ?_
  congr 1; funext x
  match x with
  | ⟨0, _⟩ => rfl
  | ⟨1, _⟩ => rfl

/-- A block's columns summed, of `z` times rows of `dy` from `o` below. -/
theorem colSum_z (v : FVec Ideal S256x512 .f32) (o : ℕ) (j : Fin 512)
    (hv : ∀ a : Fin 256, v (ix2 a j) = z p (256 * r + a.val) j * dy p d (256 * r + a.val + o) j) :
    colSum v (ix2 0 j) = ∑ a ∈ Finset.range 256, z p (256 * r + a) j * dy p d (256 * r + a + o) j := by
  rw [colSum_at, ← Fin.sum_univ_eq_sum_range (fun a => z p (256 * r + a) j * dy p d (256 * r + a + o) j)]
  exact Finset.sum_congr rfl fun a _ => hv a

/-- The buffer of `dy` where a whole tile was stored over known contents: the rows below the tile's are those contents'. -/
theorem dybuf_at {sg : RefSig} {κ : Kind} {sp : Space} {b : Memref sg κ sp S264x512 .f32} (hb : b.IsWhole) (x : S264x512.Idx → EReal) (v : B256)
    (inb : ∀ a, (![0, 0] : Fin 2 → ℕ) a + (![256, 512] : Fin 2 → ℕ) a ≤ S264x512.size a)
    (hv : ∀ (a : Fin 256) j, v (ix2 a j) = dy p d (256 * r + a.val) j)
    (hx : ∀ (a : Fin 264) j, 256 ≤ a.val → x (ix2 a j) = dy p d (256 * r + a.val) j) (a : Fin 264) (j : Fin 512) :
    b.view.read (Elt Ideal) (b.view.writes (Elt Ideal) (hb.unread (Val := Elt Ideal) x) [⟨Rect.unit (s := S264x512) ![0, 0] ![256, 512] inb, v⟩]) (ix2 a j)
      = dy p d (256 * r + a.val) j := by
  by_cases h : a.val < 256
  · refine (View.read_writes_cons_unit_of_mem b.view _ inb v [] (ix2 a j) (ix2 ⟨a.val, h⟩ j) rfl fun x => ?_).trans (hv _ j)
    match x with
    | ⟨0, _⟩ => show a.val = 0 + a.val; omega
    | ⟨1, _⟩ => show j.val = 0 + j.val; omega
  · refine (View.read_writes_cons_unit_of_not_mem b.view _ inb v [] (ix2 a j) rfl 0 (Or.inr (by show 0 + 256 ≤ a.val; omega))).trans ?_
    rw [View.writes_nil, hb.read_unread]
    exact hx a j (by omega)

/-- The buffer of `dy` at the last tile: zero below it. -/
theorem dybuf_first_at (v : B256) (z8 : B8) (inb) (inb') (hr7 : r = 7)
    (hv : ∀ (a : Fin 256) j, v (ix2 a j) = dy p d (256 * r + a.val) j) (hz : ∀ a j, z8 (ix2 a j) = 0) (a : Fin 264) (j : Fin 512) :
    View.canon (Val := Elt Ideal) (e := .f32) [⟨Rect.unit (s := S264x512) ![0, 0] ![256, 512] inb, v⟩,
      ⟨Rect.unit (s := S264x512) ![256, 0] ![8, 512] inb', z8⟩] (ix2 a j) = dy p d (256 * r + a.val) j := by
  by_cases h : a.val < 256
  · exact (canon_at inb _ _ a j ⟨a.val, h⟩ j (by simp) (by simp)).trans (hv _ j)
  · refine (canon_row _ _ _ _ _ (Or.inr (by omega))).trans ?_
    refine (canon_at _ _ _ a j ⟨a.val - 256, by omega⟩ j (by show a.val = 256 + (a.val - 256); omega) (by simp)).trans ?_
    rw [hz, dy_of_le p d (by omega)]

include h4 h11 in
/-- The stored tile of `dy`. -/
theorem dyBlock_at (a : Fin 256) (j : Fin 512) : k0_pay488 (dzMid x11) x4 (ix2 a j) = dy p d (256 * r + a.val) j := by
  unfold k0_pay488
  rw [shapeCast_self]
  show dzMid x11 (ix2 a j) * x4 (ix2 a j) = _
  rw [dzMid_at d r x11 h11, h4, dy]

/-- What a tile adds to the gradient of the tap `o` rows back. -/
def inc (o : ℕ) (j : Fin 512) : EReal := ∑ a ∈ Finset.range 256, z p (256 * r + a) j * dy p d (256 * r + a + o) j

include h5 h6 hD in
theorem acc4_at (q : Vec Ideal S1x512 .f32) (j : Fin 512) :
    k0_pay493 (k0_pay484 x5 x6) (rows2 D) q (ix2 0 j) = q (ix2 0 j) + inc p d r 2 j := by
  unfold k0_pay493
  rw [shapeCast_self]
  refine congrArg (q (ix2 0 j) + ·) (colSum_z p d r _ 2 j fun a => ?_)
  show k0_pay484 x5 x6 (ix2 a j) * rows2 D (ix2 a j) = _
  rw [z_at p r x5 x6 h5 h6, rows2_at, hD]
  congr 2
  show 256 * r + (2 + a.val) = _; omega

include h5 h6 hD in
theorem acc5_at (q : Vec Ideal S1x512 .f32) (j : Fin 512) :
    k0_pay494 (k0_pay484 x5 x6) (rows1 D) q (ix2 0 j) = q (ix2 0 j) + inc p d r 1 j := by
  unfold k0_pay494
  rw [shapeCast_self]
  refine congrArg (q (ix2 0 j) + ·) (colSum_z p d r _ 1 j fun a => ?_)
  show k0_pay484 x5 x6 (ix2 a j) * rows1 D (ix2 a j) = _
  rw [z_at p r x5 x6 h5 h6, rows1_at, hD]
  congr 2
  show 256 * r + (1 + a.val) = _; omega

include h4 h5 h6 h11 in
theorem acc6_at (q : Vec Ideal S1x512 .f32) (j : Fin 512) :
    k0_pay495 (k0_pay484 x5 x6) (k0_pay487 (dzMid x11) x4) q (ix2 0 j) = q (ix2 0 j) + inc p d r 0 j := by
  unfold k0_pay495
  rw [shapeCast_self]
  refine congrArg (q (ix2 0 j) + ·) (colSum_z p d r _ 0 j fun a => ?_)
  show k0_pay484 x5 x6 (ix2 a j) * (dzMid x11 (ix2 a j) * x4 (ix2 a j)) = _
  rw [z_at p r x5 x6 h5 h6, dzMid_at d r x11 h11, h4, ← dy]
  rfl

end Tile

end Cert.Proof.ConvTile

end
-- ==== Proof.ConvArrays.lean ====
/- The blocks the kernel's body has in hand at a visit, read as the arrays: visit `t` holds the row tile `7 - t` of the mixers'
   columns and of the cotangent, with the eight rows above it, and the taps. -/
module

public import proofs.«01_k».proof.Proof.ConvTile

@[expose] public section

noncomputable section

namespace Cert.Proof.ConvPoint

open Idealize.ShloMosaic Idealize.ShloMosaic.ValueIdx Idealize.ShloMosaic.TcCoe Cert.KernelIdeal Cert.KernelIdeal.Gen Cert.Proof.Stores Cert.Proof.Conv Cert.Proof.ConvTile

variable (m : (ℓ : Loc nD τ sig) → Buf (Elt Ideal) ℓ) (c : Dev nD)

/-- The mixers' columns, the cotangent and the taps, as the device holds them. -/
abbrev cols : Cols := m ((c : Thread nD τ).loc main_arg0)
@[inherit_doc cols] abbrev cots : Cot := m ((c : Thread nD τ).loc main_arg1)
@[inherit_doc cols] abbrev taps : Taps := m ((c : Thread nD τ).loc main_arg6)

/-- The blocks in hand at visit `t` are those of the row tile `7 - t`. -/
structure Blocks (p : Cols) (d : Cot) (w : Taps) (t : Fin cfg0.N) : Prop where
  h4 : ∀ (a : Fin 256) (j : Fin 512), (iblk m c 4 t : B256) (ix2 a j) = col p 4 (256 * (7 - t.val) + a.val) j
  h5 : ∀ (a : Fin 256) (j : Fin 512), (iblk m c 5 t : B256) (ix2 a j) = col p 5 (256 * (7 - t.val) + a.val) j
  h6 : ∀ (a : Fin 256) (j : Fin 512), (iblk m c 6 t : B256) (ix2 a j) = col p 6 (256 * (7 - t.val) + a.val) j
  h9 : 0 < 7 - t.val → ∀ (a : Fin 8) (j : Fin 512), (iblk m c 9 t : B8) (ix2 a j) = col p 5 (256 * (7 - t.val) - 8 + a.val) j
  h10 : 0 < 7 - t.val → ∀ (a : Fin 8) (j : Fin 512), (iblk m c 10 t : B8) (ix2 a j) = col p 6 (256 * (7 - t.val) - 8 + a.val) j
  h11 : ∀ (a : Fin 256) (j : Fin 512), (iblk m c 11 t : Vec Ideal S256x1536 .bf16) (ix2 a ⟨512 + j.val, mid_lt j⟩) = cot d 1 (256 * (7 - t.val) + a.val) j
  h16 : ∀ (k : Fin 3) (j : Fin 512), (iblk m c 16 t : Vec Ideal S3x512 .f32) (ix2 k j) = w (ix2 k j)
  hi : (grid0.coords t 0).val = 7 - (7 - t.val)

/-- The block each window shows at a visit. -/
theorem index4 : ∀ t : Fin grid0.N, cc0_transform_4 (grid0.coords t) 0 = 7 - t.val ∧ cc0_transform_4 (grid0.coords t) 1 = 4 := by decide +kernel
theorem index5 : ∀ t : Fin grid0.N, cc0_transform_5 (grid0.coords t) 0 = 7 - t.val ∧ cc0_transform_5 (grid0.coords t) 1 = 5 := by decide +kernel
theorem index6 : ∀ t : Fin grid0.N, cc0_transform_6 (grid0.coords t) 0 = 7 - t.val ∧ cc0_transform_6 (grid0.coords t) 1 = 6 := by decide +kernel
theorem index9 : ∀ t : Fin grid0.N, cc0_transform_9 (grid0.coords t) 0 = 32 * (7 - t.val) - 1 ∧ cc0_transform_9 (grid0.coords t) 1 = 5 := by decide +kernel
theorem index10 : ∀ t : Fin grid0.N, cc0_transform_10 (grid0.coords t) 0 = 32 * (7 - t.val) - 1 ∧ cc0_transform_10 (grid0.coords t) 1 = 6 := by decide +kernel
theorem index11 : ∀ t : Fin grid0.N, cc0_transform_11 (grid0.coords t) 0 = 7 - t.val ∧ cc0_transform_11 (grid0.coords t) 1 = 0 := by decide +kernel
theorem index16 : ∀ t : Fin grid0.N, cc0_transform_16 (grid0.coords t) 0 = 0 ∧ cc0_transform_16 (grid0.coords t) 1 = 0 := by decide +kernel
theorem coord : ∀ t : Fin grid0.N, (grid0.coords t 0).val = 7 - (7 - t.val) := by decide +kernel

/-- An entry of the columns by its row and its place in a column block. -/
theorem col_entry (p : Cols) (k : Fin 9) (n : ℕ) (j : Fin 512) (hn : n < 2048) (i : (⟨2, ![2048, 4608]⟩ : Shape).Idx)
    (h0 : (i 0).val = n) (h1 : (i 1).val = 512 * k.val + j.val) : p i = col p k n j := by
  rw [col, dif_pos hn]
  congr 1; funext x
  match x with
  | ⟨0, _⟩ => exact Fin.ext h0
  | ⟨1, _⟩ => exact Fin.ext h1

theorem blocks (t : Fin cfg0.N) : Blocks m c (cols m c) (cots m c) (taps m c) t := by
  have ht : t.val < 8 := t.isLt
  constructor
  case h4 =>
    intro a j
    refine col_entry (cols m c) 4 _ j (by omega) _ ?_ ?_
    · show cc0_transform_4 (grid0.coords t) 0 * 256 + 1 * a.val = _; rw [(index4 t).1]; omega
    · show cc0_transform_4 (grid0.coords t) 1 * 512 + 1 * j.val = _; rw [(index4 t).2]; show _ = 512 * 4 + j.val; omega
  case h5 =>
    intro a j
    refine col_entry (cols m c) 5 _ j (by omega) _ ?_ ?_
    · show cc0_transform_5 (grid0.coords t) 0 * 256 + 1 * a.val = _; rw [(index5 t).1]; omega
    · show cc0_transform_5 (grid0.coords t) 1 * 512 + 1 * j.val = _; rw [(index5 t).2]; show _ = 512 * 5 + j.val; omega
  case h6 =>
    intro a j
    refine col_entry (cols m c) 6 _ j (by omega) _ ?_ ?_
    · show cc0_transform_6 (grid0.coords t) 0 * 256 + 1 * a.val = _; rw [(index6 t).1]; omega
    · show cc0_transform_6 (grid0.coords t) 1 * 512 + 1 * j.val = _; rw [(index6 t).2]; show _ = 512 * 6 + j.val; omega
  case h9 =>
    intro h a j
    refine col_entry (cols m c) 5 _ j (by omega) _ ?_ ?_
    · show cc0_transform_9 (grid0.coords t) 0 * 8 + 1 * a.val = _; rw [(index9 t).1]; omega
    · show cc0_transform_9 (grid0.coords t) 1 * 512 + 1 * j.val = _; rw [(index9 t).2]; show _ = 512 * 5 + j.val; omega
  case h10 =>
    intro h a j
    refine col_entry (cols m c) 6 _ j (by omega) _ ?_ ?_
    · show cc0_transform_10 (grid0.coords t) 0 * 8 + 1 * a.val = _; rw [(index10 t).1]; omega
    · show cc0_transform_10 (grid0.coords t) 1 * 512 + 1 * j.val = _; rw [(index10 t).2]; show _ = 512 * 6 + j.val; omega
  case h11 =>
    intro a j
    rw [cot, dif_pos (by omega)]
    refine congrArg (cots m c) (funext fun x => ?_)
    match x with
    | ⟨0, _⟩ => exact Fin.ext (by show cc0_transform_11 (grid0.coords t) 0 * 256 + 1 * a.val = _; rw [(index11 t).1]; show _ = 256 * (7 - t.val) + a.val; omega)
    | ⟨1, _⟩ => exact Fin.ext (by show cc0_transform_11 (grid0.coords t) 1 * 1536 + 1 * (512 + j.val) = _; rw [(index11 t).2]; show _ = 512 * 1 + j.val; omega)
  case h16 =>
    intro k j
    refine congrArg (taps m c) (funext fun x => ?_)
    match x with
    | ⟨0, _⟩ => exact Fin.ext (by show cc0_transform_16 (grid0.coords t) 0 * 3 + 1 * k.val = _; rw [(index16 t).1]; show _ = k.val; omega)
    | ⟨1, _⟩ => exact Fin.ext (by show cc0_transform_16 (grid0.coords t) 1 * 512 + 1 * j.val = _; rw [(index16 t).2]; show _ = j.val; omega)
  case hi => exact coord t

end Cert.Proof.ConvPoint
-- ==== Proof.ConvVisit.lean ====
/- What one visit of the kernel's grid leaves of the short convolution's gradient, as the functions of ConvMath.lean. -/
module

public import proofs.«01_k».proof.Proof.Visits
public import proofs.«01_k».proof.Proof.ConvArrays

@[expose] public section

noncomputable section

namespace Cert.Proof.ConvPoint

open Idealize.ShloMosaic Idealize.ShloMosaic.ValueIdx Cert.KernelIdeal Cert.KernelIdeal.Gen Cert.Proof.Stores Cert.Proof.Conv Cert.Proof.ConvTile Cert.Proof.Visits

/-- A column of the three gradients among the 4608. -/
theorem wide_lt {o : ℕ} (h : o ≤ 4096) (j : Fin 512) : o + j.val < 4608 := by omega

/-- A row of the carried ones, below the tile's. -/
theorem top_lt (a : Fin 8) : 256 + a.val < 264 := by omega

variable (p : Cols) (d : Cot) (w : Taps) (t : Fin cfg0.N)

/-- What a visit leaves in `o`, over the row vectors `q` it found: the three column blocks of the row tile `7 - t`, the
    tile's share of each tap's gradient on rows 4 to 6, row 7 as it was, and the first rows of `dy` for the next tile. -/
structure Visit (q : S8x512.Idx → EReal) (o : Held Ideal) : Prop where
  bg : ∀ (a : Fin 256) (j : Fin 512), o.dp (ix2 a ⟨2048 + j.val, wide_lt (by decide) j⟩)
    = cot d 1 (256 * (7 - t.val) + a.val) j * y p w (256 * (7 - t.val) + a.val) j
  cg : ∀ (a : Fin 256) (j : Fin 512), o.dp (ix2 a ⟨2560 + j.val, wide_lt (by decide) j⟩)
    = dzc p d w (256 * (7 - t.val) + a.val) j * col p 6 (256 * (7 - t.val) + a.val) j
  xc : ∀ (a : Fin 256) (j : Fin 512), o.dp (ix2 a ⟨3072 + j.val, wide_lt (by decide) j⟩)
    = dzc p d w (256 * (7 - t.val) + a.val) j * col p 5 (256 * (7 - t.val) + a.val) j
  row4 : ∀ j : Fin 512, o.vec (ix2 4 j) = q (ix2 4 j) + inc p d (7 - t.val) 2 j
  row5 : ∀ j : Fin 512, o.vec (ix2 5 j) = q (ix2 5 j) + inc p d (7 - t.val) 1 j
  row6 : ∀ j : Fin 512, o.vec (ix2 6 j) = q (ix2 6 j) + inc p d (7 - t.val) 0 j
  row7 : ∀ j : Fin 512, o.vec (ix2 7 j) = q (ix2 7 j)
  top : ∀ (a : Fin 8) (j : Fin 512), o.rows (ix2 ⟨256 + a.val, top_lt a⟩ j) = dy p d (256 * (7 - t.val) + a.val) j

end Cert.Proof.ConvPoint

end
-- ==== Proof.ConvFirst.lean ====
/- The first visit, whose carried buffers are empty: what it leaves of the short convolution's gradient. -/
module

public import proofs.«01_k».proof.Proof.ConvVisit

@[expose] public section

noncomputable section

namespace Cert.Proof.ConvPoint

open Idealize.ShloMosaic Idealize.ShloMosaic.ValueIdx Cert.KernelIdeal Cert.KernelIdeal.Gen Cert.Proof.Stores Cert.Proof.Conv Cert.Proof.ConvTile Cert.Proof.Visits

variable {m : (ℓ : Loc nD τ sig) → Buf (Elt Ideal) ℓ} {c : Dev nD} {p : Cols} {d : Cot} {w : Taps} {t : Fin cfg0.N}

/-- What the visit leaves in the first result's block is the list of its stores. -/
theorem first_dp (h0 : t.val % 8 = 0) : (leftA m c t h0).dp = View.canon (runA m c t h0).1 := by
  dsimp only [leftA]
  generalize (runA m c t h0).1 = L
  exact View.read_writes_junk_eq_canon _ _

/-- What it leaves in the row vectors is the list of its stores. -/
theorem first_vec (h0 : t.val % 8 = 0) : (leftA m c t h0).vec = View.canon (runA m c t h0).2.1 := by
  dsimp only [leftA]
  generalize (runA m c t h0).2.1 = L
  exact View.read_writes_junk_eq_canon _ _

/-- What it leaves in the carried rows is the list of its stores. -/
theorem first_rows (h0 : t.val % 8 = 0) : (leftA m c t h0).rows = View.canon (runA m c t h0).2.2.2.2.2.1 := by
  dsimp only [leftA]
  generalize (runA m c t h0).2.2.2.2.2.1 = L
  exact View.read_writes_junk_eq_canon _ _

set_option maxHeartbeats 4000000 in
theorem first_bg (B : Blocks m c p d w t) (h0 : t.val % 8 = 0) (a : Fin 256) (j : Fin 512) : (leftA m c t h0).dp (ix2 a ⟨2048 + j.val, wide_lt (by decide) j⟩)
    = cot d 1 (256 * (7 - t.val) + a.val) j * y p w (256 * (7 - t.val) + a.val) j := by
  have hr : 7 - t.val < 8 := by omega
  rw [first_dp]
  unfold runA kernelRun0_A
  dsimp only
  iterate 12 refine (canon_col _ _ _ _ _ (by first | (left; dsimp only; omega) | (right; dsimp only; omega))).trans ?_
  refine (canon_at _ _ _ _ _ a j (by omega) rfl).trans ?_
  refine Eq.trans ?_ (bgBlock_at p d w (7 - t.val) hr (grid0.coords t) (iblk m c 5 t) (iblk m c 6 t) (iblk m c 9 t) (iblk m c 10 t) (iblk m c 11 t) (iblk m c 16 t)
    B.h5 B.h6 B.h9 B.h10 B.h11 B.h16 B.hi a j)
  simp only [bgBlock, dzMid, tap0, tap1, tap2, zbuf, kernelRun0_A.sl.r_363, kernelRun0_A.sl.v2109, kernelRun0_A.sl.v2112, kernelRun0_A.sl.HS1_2, kernelRun0_A.sl.r_359,
    View.readAt_eq_ld, View.readCov_eq_canon', Memref.IsWhole.read_unread, ld_whole]
  rfl

set_option maxHeartbeats 4000000 in
theorem first_cg (B : Blocks m c p d w t) (h0 : t.val % 8 = 0) (a : Fin 256) (j : Fin 512) : (leftA m c t h0).dp (ix2 a ⟨2560 + j.val, wide_lt (by decide) j⟩)
    = dzc p d w (256 * (7 - t.val) + a.val) j * col p 6 (256 * (7 - t.val) + a.val) j := by
  have h7 : 7 - t.val = 7 := by have : t.val < 8 := t.isLt; omega
  have hD := dybuf_first_at p d (7 - t.val) _ (k0_pay9 (F := Ideal)) inb_S264x512_S256x512_0_0 inb_S264x512_S8x512_256_0 h7 (dyBlock_at p d (7 - t.val) (iblk m c 4 t) (iblk m c 11 t) B.h4 B.h11) (fun _ _ => Ideal.ofBits_zero_f32)
  rw [first_dp]
  unfold runA kernelRun0_A
  dsimp only
  iterate 11 refine (canon_col _ _ _ _ _ (by first | (left; dsimp only; omega) | (right; dsimp only; omega))).trans ?_
  refine (canon_at _ _ _ _ _ a j (by omega) rfl).trans ?_
  refine Eq.trans ?_ (cgBlock_at p d w (7 - t.val) (iblk m c 4 t) (iblk m c 6 t) (iblk m c 11 t) (iblk m c 16 t) _ B.h4 B.h6 B.h11 B.h16 hD a j)
  simp only [cgBlock, dzMid, tap0, tap1, tap2, kernelRun0_A.sl.r_359, kernelRun0_A.sl.r_360, kernelRun0_A.sl.r_362, kernelRun0_A.sl.v2123, kernelRun0_A.sl.v2124, kernelRun0_A.sl.HS2_2,
    View.readAt_eq_ld, View.readCov_eq_canon', Memref.IsWhole.read_unread, ld_whole]
  rfl

set_option maxHeartbeats 4000000 in
theorem first_xc (B : Blocks m c p d w t) (h0 : t.val % 8 = 0) (a : Fin 256) (j : Fin 512) : (leftA m c t h0).dp (ix2 a ⟨3072 + j.val, wide_lt (by decide) j⟩)
    = dzc p d w (256 * (7 - t.val) + a.val) j * col p 5 (256 * (7 - t.val) + a.val) j := by
  have h7 : 7 - t.val = 7 := by have : t.val < 8 := t.isLt; omega
  have hD := dybuf_first_at p d (7 - t.val) _ (k0_pay9 (F := Ideal)) inb_S264x512_S256x512_0_0 inb_S264x512_S8x512_256_0 h7 (dyBlock_at p d (7 - t.val) (iblk m c 4 t) (iblk m c 11 t) B.h4 B.h11) (fun _ _ => Ideal.ofBits_zero_f32)
  rw [first_dp]
  unfold runA kernelRun0_A
  dsimp only
  iterate 10 refine (canon_col _ _ _ _ _ (by first | (left; dsimp only; omega) | (right; dsimp only; omega))).trans ?_
  refine (canon_at _ _ _ _ _ a j (by omega) rfl).trans ?_
  refine Eq.trans ?_ (xcBlock_at p d w (7 - t.val) (iblk m c 4 t) (iblk m c 5 t) (iblk m c 11 t) (iblk m c 16 t) _ B.h4 B.h5 B.h11 B.h16 hD a j)
  simp only [xcBlock, dzMid, tap0, tap1, tap2, kernelRun0_A.sl.r_365, kernelRun0_A.sl.r_359, kernelRun0_A.sl.r_360, kernelRun0_A.sl.r_361, kernelRun0_A.sl.v2123, kernelRun0_A.sl.v2124,
    kernelRun0_A.sl.HS2_2,
    View.readAt_eq_ld, View.readCov_eq_canon', Memref.IsWhole.read_unread, ld_whole]
  rfl

set_option maxHeartbeats 4000000 in
theorem first_row4 (B : Blocks m c p d w t) (h0 : t.val % 8 = 0) (j : Fin 512) : (leftA m c t h0).vec (ix2 4 j) = 0 + inc p d (7 - t.val) 2 j := by
  have h7 : 7 - t.val = 7 := by have : t.val < 8 := t.isLt; omega
  have hD := dybuf_first_at p d (7 - t.val) _ (k0_pay9 (F := Ideal)) inb_S264x512_S256x512_0_0 inb_S264x512_S8x512_256_0 h7 (dyBlock_at p d (7 - t.val) (iblk m c 4 t) (iblk m c 11 t) B.h4 B.h11) (fun _ _ => Ideal.ofBits_zero_f32)
  rw [first_vec]
  unfold runA kernelRun0_A
  dsimp only
  simp only [kernelRun0_A.sl.H22_7, kernelRun0_A.sl.H22_6, kernelRun0_A.sl.H22_5, kernelRun0_A.sl.H22_4, kernelRun0_A.sl.H22_3, kernelRun0_A.sl.H22_2,
    kernelRun0_A.sl.H22_1]
  iterate 4 refine (canon_row _ _ _ _ j (by decide)).trans ?_
  refine (canon_at _ _ _ _ _ 0 j (by decide) (by simp)).trans ?_
  simp only [kernelRun0_A.sl.r_363, kernelRun0_A.sl.r_359, kernelRun0_A.sl.r_360, kernelRun0_A.sl.v2123, kernelRun0_A.sl.v2124, kernelRun0_A.sl.HS2_2,
    View.readAt_eq_ld, View.readCov_eq_canon', Memref.IsWhole.read_unread, ld_whole]
  have e := acc4_at p d (7 - t.val) (iblk m c 5 t) (iblk m c 6 t) _ B.h5 B.h6 hD
  simp only [dzMid] at e
  refine (e _ j).trans (congrArg (· + _) ?_)
  unfold kernelRun0_A.sl.v2142
  refine (cov_apply _ _ _ 0 j 4 j (by decide) (by simp)).trans ?_
  simp only [kernelRun0_A.sl.H22_3, kernelRun0_A.sl.H22_2, kernelRun0_A.sl.H22_1]
  iterate 2 refine (canon_row _ _ _ _ j (by decide)).trans ?_
  exact (canon_at _ _ _ _ _ 4 j (by decide) (by simp)).trans Ideal.ofBits_zero_f32

set_option maxHeartbeats 4000000 in
theorem first_row5 (B : Blocks m c p d w t) (h0 : t.val % 8 = 0) (j : Fin 512) : (leftA m c t h0).vec (ix2 5 j) = 0 + inc p d (7 - t.val) 1 j := by
  have h7 : 7 - t.val = 7 := by have : t.val < 8 := t.isLt; omega
  have hD := dybuf_first_at p d (7 - t.val) _ (k0_pay9 (F := Ideal)) inb_S264x512_S256x512_0_0 inb_S264x512_S8x512_256_0 h7 (dyBlock_at p d (7 - t.val) (iblk m c 4 t) (iblk m c 11 t) B.h4 B.h11) (fun _ _ => Ideal.ofBits_zero_f32)
  rw [first_vec]
  unfold runA kernelRun0_A
  dsimp only
  simp only [kernelRun0_A.sl.H22_7, kernelRun0_A.sl.H22_6, kernelRun0_A.sl.H22_5, kernelRun0_A.sl.H22_4, kernelRun0_A.sl.H22_3, kernelRun0_A.sl.H22_2,
    kernelRun0_A.sl.H22_1]
  iterate 3 refine (canon_row _ _ _ _ j (by decide)).trans ?_
  refine (canon_at _ _ _ _ _ 0 j (by decide) (by simp)).trans ?_
  simp only [kernelRun0_A.sl.r_363, kernelRun0_A.sl.r_359, kernelRun0_A.sl.r_360, kernelRun0_A.sl.v2123, kernelRun0_A.sl.v2124, kernelRun0_A.sl.HS2_2,
    View.readAt_eq_ld, View.readCov_eq_canon', Memref.IsWhole.read_unread, ld_whole]
  have e := acc5_at p d (7 - t.val) (iblk m c 5 t) (iblk m c 6 t) _ B.h5 B.h6 hD
  simp only [dzMid] at e
  refine (e _ j).trans (congrArg (· + _) ?_)
  unfold kernelRun0_A.sl.v2149
  refine (cov_apply _ _ _ 0 j 5 j (by decide) (by simp)).trans ?_
  simp only [kernelRun0_A.sl.H22_4, kernelRun0_A.sl.H22_3, kernelRun0_A.sl.H22_2, kernelRun0_A.sl.H22_1]
  iterate 3 refine (canon_row _ _ _ _ j (by decide)).trans ?_
  exact (canon_at _ _ _ _ _ 5 j (by decide) (by simp)).trans Ideal.ofBits_zero_f32

set_option maxHeartbeats 4000000 in
theorem first_row6 (B : Blocks m c p d w t) (h0 : t.val % 8 = 0) (j : Fin 512) : (leftA m c t h0).vec (ix2 6 j) = 0 + inc p d (7 - t.val) 0 j := by
  rw [first_vec]
  unfold runA kernelRun0_A
  dsimp only
  simp only [kernelRun0_A.sl.H22_7, kernelRun0_A.sl.H22_6, kernelRun0_A.sl.H22_5, kernelRun0_A.sl.H22_4, kernelRun0_A.sl.H22_3, kernelRun0_A.sl.H22_2,
    kernelRun0_A.sl.H22_1]
  iterate 2 refine (canon_row _ _ _ _ j (by decide)).trans ?_
  refine (canon_at _ _ _ _ _ 0 j (by decide) (by simp)).trans ?_
  simp only [kernelRun0_A.sl.r_363, kernelRun0_A.sl.r_364, kernelRun0_A.sl.r_359, kernelRun0_A.sl.r_360,
    View.readAt_eq_ld, View.readCov_eq_canon', Memref.IsWhole.read_unread, ld_whole]
  have e := acc6_at p d (7 - t.val) (iblk m c 4 t) (iblk m c 5 t) (iblk m c 6 t) (iblk m c 11 t) B.h4 B.h5 B.h6 B.h11
  simp only [dzMid] at e
  refine (e _ j).trans (congrArg (· + _) ?_)
  unfold kernelRun0_A.sl.v2156
  refine (cov_apply _ _ _ 0 j 6 j (by decide) (by simp)).trans ?_
  simp only [kernelRun0_A.sl.H22_5, kernelRun0_A.sl.H22_4, kernelRun0_A.sl.H22_3, kernelRun0_A.sl.H22_2, kernelRun0_A.sl.H22_1]
  iterate 4 refine (canon_row _ _ _ _ j (by decide)).trans ?_
  exact (canon_at _ _ _ _ _ 6 j (by decide) (by simp)).trans Ideal.ofBits_zero_f32

set_option maxHeartbeats 4000000 in
theorem first_row7 (h0 : t.val % 8 = 0) (j : Fin 512) : (leftA m c t h0).vec (ix2 7 j) = 0 := by
  rw [first_vec]
  unfold runA kernelRun0_A
  dsimp only
  simp only [kernelRun0_A.sl.H22_7, kernelRun0_A.sl.H22_6, kernelRun0_A.sl.H22_5, kernelRun0_A.sl.H22_4, kernelRun0_A.sl.H22_3, kernelRun0_A.sl.H22_2,
    kernelRun0_A.sl.H22_1]
  iterate 7 refine (canon_row _ _ _ _ j (by decide)).trans ?_
  exact (canon_at _ _ _ _ _ 7 j (by decide) (by simp)).trans Ideal.ofBits_zero_f32

set_option maxHeartbeats 4000000 in
theorem first_top (B : Blocks m c p d w t) (h0 : t.val % 8 = 0) (a : Fin 8) (j : Fin 512) : (leftA m c t h0).rows (ix2 ⟨256 + a.val, top_lt a⟩ j) = dy p d (256 * (7 - t.val) + a.val) j := by
  rw [first_rows]
  unfold runA kernelRun0_A
  dsimp only
  refine (canon_at _ _ _ _ _ a j rfl (by simp)).trans ?_
  unfold k0_pay496
  rw [shapeCast_self]
  unfold kernelRun0_A.sl.v2163
  refine (cov_apply _ _ _ a j ⟨a.val, by omega⟩ j (by simp) (by simp)).trans ?_
  unfold kernelRun0_A.sl.HS2_2
  refine (canon_at _ _ _ _ _ ⟨a.val, by omega⟩ j (by simp) (by simp)).trans ?_
  simp only [kernelRun0_A.sl.r_359, kernelRun0_A.sl.r_360,
    View.readAt_eq_ld, View.readCov_eq_canon', Memref.IsWhole.read_unread, ld_whole]
  exact dyBlock_at p d (7 - t.val) (iblk m c 4 t) (iblk m c 11 t) B.h4 B.h11 ⟨a.val, by omega⟩ j

/-- The first visit, whose carried buffers are empty. -/
theorem visitA (B : Blocks m c p d w t) (h0 : t.val % 8 = 0) :
    Visit p d w t (fun _ => 0) (leftA m c t h0) where
  bg := first_bg B h0
  cg := first_cg B h0
  xc := first_xc B h0
  row4 := first_row4 B h0
  row5 := first_row5 B h0
  row6 := first_row6 B h0
  row7 := first_row7 h0
  top := first_top B h0

end Cert.Proof.ConvPoint

end
-- ==== Proof.ConvMiddle.lean ====
/- A visit between the first and the last, over what the visit before left: what it leaves of the short convolution's gradient. -/
module

public import proofs.«01_k».proof.Proof.ConvVisit

@[expose] public section

noncomputable section

namespace Cert.Proof.ConvPoint

open Idealize.ShloMosaic Idealize.ShloMosaic.ValueIdx Cert.KernelIdeal Cert.KernelIdeal.Gen Cert.Proof.Stores Cert.Proof.Conv Cert.Proof.ConvTile Cert.Proof.Visits

variable {m : (ℓ : Loc nD τ sig) → Buf (Elt Ideal) ℓ} {c : Dev nD} {p : Cols} {d : Cot} {w : Taps} {t : Fin cfg0.N}

/-- What the visit leaves in the first result's block is the list of its stores. -/
theorem middle_dp (h0 : ¬t.val % 8 = 0) (h1 : ¬t.val % 8 = 7) (o : Held Ideal) : (leftB m c t h0 h1 o).dp = View.canon (runB m c t h0 h1 o).1 := by
  dsimp only [leftB]
  generalize (runB m c t h0 h1 o).1 = L
  exact View.read_writes_junk_eq_canon _ _

/-- What it leaves in the row vectors is its stores over what it found. -/
theorem middle_vec (h0 : ¬t.val % 8 = 0) (h1 : ¬t.val % 8 = 7) (o : Held Ideal) : (leftB m c t h0 h1 o).vec
    = (ms0_22 t).view.read (Elt Ideal) ((ms0_22 t).view.writes (Elt Ideal) ((hs0_22 t).unread o.vec) (runB m c t h0 h1 o).2.1) := by
  dsimp only [leftB]

/-- What it leaves in the carried rows is the list of its stores. -/
theorem middle_rows (h0 : ¬t.val % 8 = 0) (h1 : ¬t.val % 8 = 7) (o : Held Ideal) : (leftB m c t h0 h1 o).rows = View.canon (runB m c t h0 h1 o).2.2.2.2.2.1 := by
  dsimp only [leftB]
  generalize (runB m c t h0 h1 o).2.2.2.2.2.1 = L
  exact View.read_writes_junk_eq_canon _ _

set_option maxHeartbeats 4000000 in
theorem middle_bg (B : Blocks m c p d w t) (h0 : ¬t.val % 8 = 0) (h1 : ¬t.val % 8 = 7) (o : Held Ideal) (a : Fin 256) (j : Fin 512) : (leftB m c t h0 h1 o).dp (ix2 a ⟨2048 + j.val, wide_lt (by decide) j⟩)
    = cot d 1 (256 * (7 - t.val) + a.val) j * y p w (256 * (7 - t.val) + a.val) j := by
  have hr : 7 - t.val < 8 := by omega
  rw [middle_dp]
  unfold runB kernelRun0_B
  dsimp only
  iterate 12 refine (canon_col _ _ _ _ _ (by first | (left; dsimp only; omega) | (right; dsimp only; omega))).trans ?_
  refine (canon_at _ _ _ _ _ a j (by omega) rfl).trans ?_
  refine Eq.trans ?_ (bgBlock_at p d w (7 - t.val) hr (grid0.coords t) (iblk m c 5 t) (iblk m c 6 t) (iblk m c 9 t) (iblk m c 10 t) (iblk m c 11 t) (iblk m c 16 t)
    B.h5 B.h6 B.h9 B.h10 B.h11 B.h16 B.hi a j)
  simp only [bgBlock, dzMid, tap0, tap1, tap2, zbuf, kernelRun0_B.sl.r_363, kernelRun0_B.sl.v2109, kernelRun0_B.sl.v2112, kernelRun0_B.sl.HS1_2, kernelRun0_B.sl.r_359,
    View.readAt_eq_ld, View.readCov_eq_canon', Memref.IsWhole.read_unread, ld_whole]
  rfl

set_option maxHeartbeats 4000000 in
theorem middle_cg (B : Blocks m c p d w t) (h0 : ¬t.val % 8 = 0) (h1 : ¬t.val % 8 = 7) (o : Held Ideal) (hx : ∀ (a : Fin 264) (j : Fin 512), 256 ≤ a.val → o.rows (ix2 a j) = dy p d (256 * (7 - t.val) + a.val) j) (a : Fin 256) (j : Fin 512) : (leftB m c t h0 h1 o).dp (ix2 a ⟨2560 + j.val, wide_lt (by decide) j⟩)
    = dzc p d w (256 * (7 - t.val) + a.val) j * col p 6 (256 * (7 - t.val) + a.val) j := by
  have hD := dybuf_at p d (7 - t.val) (Memref.isWhole_whole cc0_scratch2) _ _ inb_S264x512_S256x512_0_0 (dyBlock_at p d (7 - t.val) (iblk m c 4 t) (iblk m c 11 t) B.h4 B.h11) hx
  rw [middle_dp]
  unfold runB kernelRun0_B
  dsimp only
  iterate 11 refine (canon_col _ _ _ _ _ (by first | (left; dsimp only; omega) | (right; dsimp only; omega))).trans ?_
  refine (canon_at _ _ _ _ _ a j (by omega) rfl).trans ?_
  refine Eq.trans ?_ (cgBlock_at p d w (7 - t.val) (iblk m c 4 t) (iblk m c 6 t) (iblk m c 11 t) (iblk m c 16 t) _ B.h4 B.h6 B.h11 B.h16 hD a j)
  simp only [cgBlock, dzMid, tap0, tap1, tap2, kernelRun0_B.sl.r_359, kernelRun0_B.sl.r_360, kernelRun0_B.sl.r_362, kernelRun0_B.sl.r_365, kernelRun0_B.sl.r_366, kernelRun0_B.sl.HS2_1,
    View.readAt_eq_ld, View.readCov_eq_canon', Memref.IsWhole.read_unread, ld_whole]
  rfl

set_option maxHeartbeats 4000000 in
theorem middle_xc (B : Blocks m c p d w t) (h0 : ¬t.val % 8 = 0) (h1 : ¬t.val % 8 = 7) (o : Held Ideal) (hx : ∀ (a : Fin 264) (j : Fin 512), 256 ≤ a.val → o.rows (ix2 a j) = dy p d (256 * (7 - t.val) + a.val) j) (a : Fin 256) (j : Fin 512) : (leftB m c t h0 h1 o).dp (ix2 a ⟨3072 + j.val, wide_lt (by decide) j⟩)
    = dzc p d w (256 * (7 - t.val) + a.val) j * col p 5 (256 * (7 - t.val) + a.val) j := by
  have hD := dybuf_at p d (7 - t.val) (Memref.isWhole_whole cc0_scratch2) _ _ inb_S264x512_S256x512_0_0 (dyBlock_at p d (7 - t.val) (iblk m c 4 t) (iblk m c 11 t) B.h4 B.h11) hx
  rw [middle_dp]
  unfold runB kernelRun0_B
  dsimp only
  iterate 10 refine (canon_col _ _ _ _ _ (by first | (left; dsimp only; omega) | (right; dsimp only; omega))).trans ?_
  refine (canon_at _ _ _ _ _ a j (by omega) rfl).trans ?_
  refine Eq.trans ?_ (xcBlock_at p d w (7 - t.val) (iblk m c 4 t) (iblk m c 5 t) (iblk m c 11 t) (iblk m c 16 t) _ B.h4 B.h5 B.h11 B.h16 hD a j)
  simp only [xcBlock, dzMid, tap0, tap1, tap2, kernelRun0_B.sl.r_367, kernelRun0_B.sl.r_359, kernelRun0_B.sl.r_360, kernelRun0_B.sl.r_361, kernelRun0_B.sl.r_365, kernelRun0_B.sl.r_366,
    kernelRun0_B.sl.HS2_1,
    View.readAt_eq_ld, View.readCov_eq_canon', Memref.IsWhole.read_unread, ld_whole]
  rfl

set_option maxHeartbeats 4000000 in
theorem middle_row4 (B : Blocks m c p d w t) (h0 : ¬t.val % 8 = 0) (h1 : ¬t.val % 8 = 7) (o : Held Ideal) (hx : ∀ (a : Fin 264) (j : Fin 512), 256 ≤ a.val → o.rows (ix2 a j) = dy p d (256 * (7 - t.val) + a.val) j) (j : Fin 512) : (leftB m c t h0 h1 o).vec (ix2 4 j) = o.vec (ix2 4 j) + inc p d (7 - t.val) 2 j := by
  have hD := dybuf_at p d (7 - t.val) (Memref.isWhole_whole cc0_scratch2) _ _ inb_S264x512_S256x512_0_0 (dyBlock_at p d (7 - t.val) (iblk m c 4 t) (iblk m c 11 t) B.h4 B.h11) hx
  rw [middle_vec]
  unfold runB kernelRun0_B
  dsimp only
  iterate 4 refine (over_row _ _ _ _ _ j (by decide)).trans ?_
  refine (over_at (Val := Elt Ideal) _ _ _ _ _ j (by decide)).trans ?_
  simp only [kernelRun0_B.sl.r_363, kernelRun0_B.sl.r_359, kernelRun0_B.sl.r_360, kernelRun0_B.sl.r_365, kernelRun0_B.sl.r_366, kernelRun0_B.sl.HS2_1,
    View.readAt_eq_ld, View.readCov_eq_canon', Memref.IsWhole.read_unread, ld_whole]
  have e := acc4_at p d (7 - t.val) (iblk m c 5 t) (iblk m c 6 t) _ B.h5 B.h6 hD
  simp only [dzMid] at e
  refine (e _ j).trans (congrArg (· + _) ?_)
  exact load_apply (hs0_22 t) o.vec _ 0 j 4 j (by decide) (by simp)

set_option maxHeartbeats 4000000 in
theorem middle_row5 (B : Blocks m c p d w t) (h0 : ¬t.val % 8 = 0) (h1 : ¬t.val % 8 = 7) (o : Held Ideal) (hx : ∀ (a : Fin 264) (j : Fin 512), 256 ≤ a.val → o.rows (ix2 a j) = dy p d (256 * (7 - t.val) + a.val) j) (j : Fin 512) : (leftB m c t h0 h1 o).vec (ix2 5 j) = o.vec (ix2 5 j) + inc p d (7 - t.val) 1 j := by
  have hD := dybuf_at p d (7 - t.val) (Memref.isWhole_whole cc0_scratch2) _ _ inb_S264x512_S256x512_0_0 (dyBlock_at p d (7 - t.val) (iblk m c 4 t) (iblk m c 11 t) B.h4 B.h11) hx
  rw [middle_vec]
  unfold runB kernelRun0_B
  dsimp only
  iterate 3 refine (over_row _ _ _ _ _ j (by decide)).trans ?_
  refine (over_at (Val := Elt Ideal) _ _ _ _ _ j (by decide)).trans ?_
  simp only [kernelRun0_B.sl.r_363, kernelRun0_B.sl.r_359, kernelRun0_B.sl.r_360, kernelRun0_B.sl.r_365, kernelRun0_B.sl.r_366, kernelRun0_B.sl.HS2_1,
    View.readAt_eq_ld, View.readCov_eq_canon', Memref.IsWhole.read_unread, ld_whole]
  have e := acc5_at p d (7 - t.val) (iblk m c 5 t) (iblk m c 6 t) _ B.h5 B.h6 hD
  simp only [dzMid] at e
  refine (e _ j).trans (congrArg (· + _) ?_)
  exact load_apply (hs0_22 t) o.vec _ 0 j 5 j (by decide) (by simp)

set_option maxHeartbeats 4000000 in
theorem middle_row6 (B : Blocks m c p d w t) (h0 : ¬t.val % 8 = 0) (h1 : ¬t.val % 8 = 7) (o : Held Ideal) (j : Fin 512) : (leftB m c t h0 h1 o).vec (ix2 6 j) = o.vec (ix2 6 j) + inc p d (7 - t.val) 0 j := by
  rw [middle_vec]
  unfold runB kernelRun0_B
  dsimp only
  iterate 2 refine (over_row _ _ _ _ _ j (by decide)).trans ?_
  refine (over_at (Val := Elt Ideal) _ _ _ _ _ j (by decide)).trans ?_
  simp only [kernelRun0_B.sl.r_363, kernelRun0_B.sl.r_364, kernelRun0_B.sl.r_359, kernelRun0_B.sl.r_360,
    View.readAt_eq_ld, View.readCov_eq_canon', Memref.IsWhole.read_unread, ld_whole]
  have e := acc6_at p d (7 - t.val) (iblk m c 4 t) (iblk m c 5 t) (iblk m c 6 t) (iblk m c 11 t) B.h4 B.h5 B.h6 B.h11
  simp only [dzMid] at e
  refine (e _ j).trans (congrArg (· + _) ?_)
  exact load_apply (hs0_22 t) o.vec _ 0 j 6 j (by decide) (by simp)

set_option maxHeartbeats 4000000 in
theorem middle_row7 (h0 : ¬t.val % 8 = 0) (h1 : ¬t.val % 8 = 7) (o : Held Ideal) (j : Fin 512) : (leftB m c t h0 h1 o).vec (ix2 7 j) = o.vec (ix2 7 j) := by
  rw [middle_vec]
  unfold runB kernelRun0_B
  dsimp only
  iterate 7 refine (over_row _ _ _ _ _ j (by decide)).trans ?_
  rw [View.writes_nil, (hs0_22 t).read_unread]

set_option maxHeartbeats 4000000 in
theorem middle_top (B : Blocks m c p d w t) (h0 : ¬t.val % 8 = 0) (h1 : ¬t.val % 8 = 7) (o : Held Ideal) (a : Fin 8) (j : Fin 512) : (leftB m c t h0 h1 o).rows (ix2 ⟨256 + a.val, top_lt a⟩ j) = dy p d (256 * (7 - t.val) + a.val) j := by
  rw [middle_rows]
  unfold runB kernelRun0_B
  dsimp only
  refine (canon_at _ _ _ _ _ a j rfl (by simp)).trans ?_
  unfold k0_pay496
  rw [shapeCast_self]
  unfold kernelRun0_B.sl.v2163
  refine (cov_apply _ _ _ a j ⟨a.val, by omega⟩ j (by simp) (by simp)).trans ?_
  unfold kernelRun0_B.sl.HS2_1
  refine (canon_at _ _ _ _ _ ⟨a.val, by omega⟩ j (by simp) (by simp)).trans ?_
  simp only [kernelRun0_B.sl.r_359, kernelRun0_B.sl.r_360,
    View.readAt_eq_ld, View.readCov_eq_canon', Memref.IsWhole.read_unread, ld_whole]
  exact dyBlock_at p d (7 - t.val) (iblk m c 4 t) (iblk m c 11 t) B.h4 B.h11 ⟨a.val, by omega⟩ j

/-- A visit between the first and the last, over what the visit before left. -/
theorem visitB (B : Blocks m c p d w t) (h0 : ¬t.val % 8 = 0) (h1 : ¬t.val % 8 = 7) (o : Held Ideal)
    (hx : ∀ (a : Fin 264) (j : Fin 512), 256 ≤ a.val → o.rows (ix2 a j) = dy p d (256 * (7 - t.val) + a.val) j) :
    Visit p d w t o.vec (leftB m c t h0 h1 o) where
  bg := middle_bg B h0 h1 o
  cg := middle_cg B h0 h1 o hx
  xc := middle_xc B h0 h1 o hx
  row4 := middle_row4 B h0 h1 o hx
  row5 := middle_row5 B h0 h1 o hx
  row6 := middle_row6 B h0 h1 o
  row7 := middle_row7 h0 h1 o
  top := middle_top B h0 h1 o

end Cert.Proof.ConvPoint

end
-- ==== Proof.ConvLast.lean ====
/- The last visit, over what the visit before left: what it leaves of the short convolution's gradient. -/
module

public import proofs.«01_k».proof.Proof.ConvVisit

@[expose] public section

noncomputable section

namespace Cert.Proof.ConvPoint

open Idealize.ShloMosaic Idealize.ShloMosaic.ValueIdx Cert.KernelIdeal Cert.KernelIdeal.Gen Cert.Proof.Stores Cert.Proof.Conv Cert.Proof.ConvTile Cert.Proof.Visits

variable {m : (ℓ : Loc nD τ sig) → Buf (Elt Ideal) ℓ} {c : Dev nD} {p : Cols} {d : Cot} {w : Taps} {t : Fin cfg0.N}

/-- What the visit leaves in the first result's block is the list of its stores. -/
theorem last_dp (h0 : ¬t.val % 8 = 0) (h1 : t.val % 8 = 7) (o : Held Ideal) : (leftC m c t h0 h1 o).dp = View.canon (runC m c t h0 h1 o).1 := by
  dsimp only [leftC]
  generalize (runC m c t h0 h1 o).1 = L
  exact View.read_writes_junk_eq_canon _ _

/-- What it leaves in the row vectors is its stores over what it found. -/
theorem last_vec (h0 : ¬t.val % 8 = 0) (h1 : t.val % 8 = 7) (o : Held Ideal) : (leftC m c t h0 h1 o).vec
    = (ms0_22 t).view.read (Elt Ideal) ((ms0_22 t).view.writes (Elt Ideal) ((hs0_22 t).unread o.vec) (runC m c t h0 h1 o).2.1) := by
  dsimp only [leftC]

/-- What it leaves in the carried rows is the list of its stores. -/
theorem last_rows (h0 : ¬t.val % 8 = 0) (h1 : t.val % 8 = 7) (o : Held Ideal) : (leftC m c t h0 h1 o).rows = View.canon (runC m c t h0 h1 o).2.2.2.2.2.1 := by
  dsimp only [leftC]
  generalize (runC m c t h0 h1 o).2.2.2.2.2.1 = L
  exact View.read_writes_junk_eq_canon _ _

set_option maxHeartbeats 4000000 in
theorem last_bg (B : Blocks m c p d w t) (h0 : ¬t.val % 8 = 0) (h1 : t.val % 8 = 7) (o : Held Ideal) (a : Fin 256) (j : Fin 512) : (leftC m c t h0 h1 o).dp (ix2 a ⟨2048 + j.val, wide_lt (by decide) j⟩)
    = cot d 1 (256 * (7 - t.val) + a.val) j * y p w (256 * (7 - t.val) + a.val) j := by
  have hr : 7 - t.val < 8 := by omega
  rw [last_dp]
  unfold runC kernelRun0_C
  dsimp only
  iterate 12 refine (canon_col _ _ _ _ _ (by first | (left; dsimp only; omega) | (right; dsimp only; omega))).trans ?_
  refine (canon_at _ _ _ _ _ a j (by omega) rfl).trans ?_
  refine Eq.trans ?_ (bgBlock_at p d w (7 - t.val) hr (grid0.coords t) (iblk m c 5 t) (iblk m c 6 t) (iblk m c 9 t) (iblk m c 10 t) (iblk m c 11 t) (iblk m c 16 t)
    B.h5 B.h6 B.h9 B.h10 B.h11 B.h16 B.hi a j)
  simp only [bgBlock, dzMid, tap0, tap1, tap2, zbuf, kernelRun0_C.sl.r_363, kernelRun0_C.sl.v2109, kernelRun0_C.sl.v2112, kernelRun0_C.sl.HS1_2, kernelRun0_C.sl.r_359,
    View.readAt_eq_ld, View.readCov_eq_canon', Memref.IsWhole.read_unread, ld_whole]
  rfl

set_option maxHeartbeats 4000000 in
theorem last_cg (B : Blocks m c p d w t) (h0 : ¬t.val % 8 = 0) (h1 : t.val % 8 = 7) (o : Held Ideal) (hx : ∀ (a : Fin 264) (j : Fin 512), 256 ≤ a.val → o.rows (ix2 a j) = dy p d (256 * (7 - t.val) + a.val) j) (a : Fin 256) (j : Fin 512) : (leftC m c t h0 h1 o).dp (ix2 a ⟨2560 + j.val, wide_lt (by decide) j⟩)
    = dzc p d w (256 * (7 - t.val) + a.val) j * col p 6 (256 * (7 - t.val) + a.val) j := by
  have hD := dybuf_at p d (7 - t.val) (Memref.isWhole_whole cc0_scratch2) _ _ inb_S264x512_S256x512_0_0 (dyBlock_at p d (7 - t.val) (iblk m c 4 t) (iblk m c 11 t) B.h4 B.h11) hx
  rw [last_dp]
  unfold runC kernelRun0_C
  dsimp only
  iterate 11 refine (canon_col _ _ _ _ _ (by first | (left; dsimp only; omega) | (right; dsimp only; omega))).trans ?_
  refine (canon_at _ _ _ _ _ a j (by omega) rfl).trans ?_
  refine Eq.trans ?_ (cgBlock_at p d w (7 - t.val) (iblk m c 4 t) (iblk m c 6 t) (iblk m c 11 t) (iblk m c 16 t) _ B.h4 B.h6 B.h11 B.h16 hD a j)
  simp only [cgBlock, dzMid, tap0, tap1, tap2, kernelRun0_C.sl.r_359, kernelRun0_C.sl.r_360, kernelRun0_C.sl.r_362, kernelRun0_C.sl.r_365, kernelRun0_C.sl.r_366, kernelRun0_C.sl.HS2_1,
    View.readAt_eq_ld, View.readCov_eq_canon', Memref.IsWhole.read_unread, ld_whole]
  rfl

set_option maxHeartbeats 4000000 in
theorem last_xc (B : Blocks m c p d w t) (h0 : ¬t.val % 8 = 0) (h1 : t.val % 8 = 7) (o : Held Ideal) (hx : ∀ (a : Fin 264) (j : Fin 512), 256 ≤ a.val → o.rows (ix2 a j) = dy p d (256 * (7 - t.val) + a.val) j) (a : Fin 256) (j : Fin 512) : (leftC m c t h0 h1 o).dp (ix2 a ⟨3072 + j.val, wide_lt (by decide) j⟩)
    = dzc p d w (256 * (7 - t.val) + a.val) j * col p 5 (256 * (7 - t.val) + a.val) j := by
  have hD := dybuf_at p d (7 - t.val) (Memref.isWhole_whole cc0_scratch2) _ _ inb_S264x512_S256x512_0_0 (dyBlock_at p d (7 - t.val) (iblk m c 4 t) (iblk m c 11 t) B.h4 B.h11) hx
  rw [last_dp]
  unfold runC kernelRun0_C
  dsimp only
  iterate 10 refine (canon_col _ _ _ _ _ (by first | (left; dsimp only; omega) | (right; dsimp only; omega))).trans ?_
  refine (canon_at _ _ _ _ _ a j (by omega) rfl).trans ?_
  refine Eq.trans ?_ (xcBlock_at p d w (7 - t.val) (iblk m c 4 t) (iblk m c 5 t) (iblk m c 11 t) (iblk m c 16 t) _ B.h4 B.h5 B.h11 B.h16 hD a j)
  simp only [xcBlock, dzMid, tap0, tap1, tap2, kernelRun0_C.sl.r_367, kernelRun0_C.sl.r_359, kernelRun0_C.sl.r_360, kernelRun0_C.sl.r_361, kernelRun0_C.sl.r_365, kernelRun0_C.sl.r_366,
    kernelRun0_C.sl.HS2_1,
    View.readAt_eq_ld, View.readCov_eq_canon', Memref.IsWhole.read_unread, ld_whole]
  rfl

set_option maxHeartbeats 4000000 in
theorem last_row4 (B : Blocks m c p d w t) (h0 : ¬t.val % 8 = 0) (h1 : t.val % 8 = 7) (o : Held Ideal) (hx : ∀ (a : Fin 264) (j : Fin 512), 256 ≤ a.val → o.rows (ix2 a j) = dy p d (256 * (7 - t.val) + a.val) j) (j : Fin 512) : (leftC m c t h0 h1 o).vec (ix2 4 j) = o.vec (ix2 4 j) + inc p d (7 - t.val) 2 j := by
  have hD := dybuf_at p d (7 - t.val) (Memref.isWhole_whole cc0_scratch2) _ _ inb_S264x512_S256x512_0_0 (dyBlock_at p d (7 - t.val) (iblk m c 4 t) (iblk m c 11 t) B.h4 B.h11) hx
  rw [last_vec]
  unfold runC kernelRun0_C
  dsimp only
  iterate 4 refine (over_row _ _ _ _ _ j (by decide)).trans ?_
  refine (over_at (Val := Elt Ideal) _ _ _ _ _ j (by decide)).trans ?_
  simp only [kernelRun0_C.sl.r_363, kernelRun0_C.sl.r_359, kernelRun0_C.sl.r_360, kernelRun0_C.sl.r_365, kernelRun0_C.sl.r_366, kernelRun0_C.sl.HS2_1,
    View.readAt_eq_ld, View.readCov_eq_canon', Memref.IsWhole.read_unread, ld_whole]
  have e := acc4_at p d (7 - t.val) (iblk m c 5 t) (iblk m c 6 t) _ B.h5 B.h6 hD
  simp only [dzMid] at e
  refine (e _ j).trans (congrArg (· + _) ?_)
  exact load_apply (hs0_22 t) o.vec _ 0 j 4 j (by decide) (by simp)

set_option maxHeartbeats 4000000 in
theorem last_row5 (B : Blocks m c p d w t) (h0 : ¬t.val % 8 = 0) (h1 : t.val % 8 = 7) (o : Held Ideal) (hx : ∀ (a : Fin 264) (j : Fin 512), 256 ≤ a.val → o.rows (ix2 a j) = dy p d (256 * (7 - t.val) + a.val) j) (j : Fin 512) : (leftC m c t h0 h1 o).vec (ix2 5 j) = o.vec (ix2 5 j) + inc p d (7 - t.val) 1 j := by
  have hD := dybuf_at p d (7 - t.val) (Memref.isWhole_whole cc0_scratch2) _ _ inb_S264x512_S256x512_0_0 (dyBlock_at p d (7 - t.val) (iblk m c 4 t) (iblk m c 11 t) B.h4 B.h11) hx
  rw [last_vec]
  unfold runC kernelRun0_C
  dsimp only
  iterate 3 refine (over_row _ _ _ _ _ j (by decide)).trans ?_
  refine (over_at (Val := Elt Ideal) _ _ _ _ _ j (by decide)).trans ?_
  simp only [kernelRun0_C.sl.r_363, kernelRun0_C.sl.r_359, kernelRun0_C.sl.r_360, kernelRun0_C.sl.r_365, kernelRun0_C.sl.r_366, kernelRun0_C.sl.HS2_1,
    View.readAt_eq_ld, View.readCov_eq_canon', Memref.IsWhole.read_unread, ld_whole]
  have e := acc5_at p d (7 - t.val) (iblk m c 5 t) (iblk m c 6 t) _ B.h5 B.h6 hD
  simp only [dzMid] at e
  refine (e _ j).trans (congrArg (· + _) ?_)
  exact load_apply (hs0_22 t) o.vec _ 0 j 5 j (by decide) (by simp)

set_option maxHeartbeats 4000000 in
theorem last_row6 (B : Blocks m c p d w t) (h0 : ¬t.val % 8 = 0) (h1 : t.val % 8 = 7) (o : Held Ideal) (j : Fin 512) : (leftC m c t h0 h1 o).vec (ix2 6 j) = o.vec (ix2 6 j) + inc p d (7 - t.val) 0 j := by
  rw [last_vec]
  unfold runC kernelRun0_C
  dsimp only
  iterate 2 refine (over_row _ _ _ _ _ j (by decide)).trans ?_
  refine (over_at (Val := Elt Ideal) _ _ _ _ _ j (by decide)).trans ?_
  simp only [kernelRun0_C.sl.r_363, kernelRun0_C.sl.r_364, kernelRun0_C.sl.r_359, kernelRun0_C.sl.r_360,
    View.readAt_eq_ld, View.readCov_eq_canon', Memref.IsWhole.read_unread, ld_whole]
  have e := acc6_at p d (7 - t.val) (iblk m c 4 t) (iblk m c 5 t) (iblk m c 6 t) (iblk m c 11 t) B.h4 B.h5 B.h6 B.h11
  simp only [dzMid] at e
  refine (e _ j).trans (congrArg (· + _) ?_)
  exact load_apply (hs0_22 t) o.vec _ 0 j 6 j (by decide) (by simp)

set_option maxHeartbeats 4000000 in
theorem last_row7 (h0 : ¬t.val % 8 = 0) (h1 : t.val % 8 = 7) (o : Held Ideal) (j : Fin 512) : (leftC m c t h0 h1 o).vec (ix2 7 j) = o.vec (ix2 7 j) := by
  rw [last_vec]
  unfold runC kernelRun0_C
  dsimp only
  iterate 7 refine (over_row _ _ _ _ _ j (by decide)).trans ?_
  rw [View.writes_nil, (hs0_22 t).read_unread]

set_option maxHeartbeats 4000000 in
theorem last_top (B : Blocks m c p d w t) (h0 : ¬t.val % 8 = 0) (h1 : t.val % 8 = 7) (o : Held Ideal) (a : Fin 8) (j : Fin 512) : (leftC m c t h0 h1 o).rows (ix2 ⟨256 + a.val, top_lt a⟩ j) = dy p d (256 * (7 - t.val) + a.val) j := by
  rw [last_rows]
  unfold runC kernelRun0_C
  dsimp only
  refine (canon_at _ _ _ _ _ a j rfl (by simp)).trans ?_
  unfold k0_pay496
  rw [shapeCast_self]
  unfold kernelRun0_C.sl.v2163
  refine (cov_apply _ _ _ a j ⟨a.val, by omega⟩ j (by simp) (by simp)).trans ?_
  unfold kernelRun0_C.sl.HS2_1
  refine (canon_at _ _ _ _ _ ⟨a.val, by omega⟩ j (by simp) (by simp)).trans ?_
  simp only [kernelRun0_C.sl.r_359, kernelRun0_C.sl.r_360,
    View.readAt_eq_ld, View.readCov_eq_canon', Memref.IsWhole.read_unread, ld_whole]
  exact dyBlock_at p d (7 - t.val) (iblk m c 4 t) (iblk m c 11 t) B.h4 B.h11 ⟨a.val, by omega⟩ j

/-- The last visit, over what the visit before left. -/
theorem visitC (B : Blocks m c p d w t) (h0 : ¬t.val % 8 = 0) (h1 : t.val % 8 = 7) (o : Held Ideal)
    (hx : ∀ (a : Fin 264) (j : Fin 512), 256 ≤ a.val → o.rows (ix2 a j) = dy p d (256 * (7 - t.val) + a.val) j) :
    Visit p d w t o.vec (leftC m c t h0 h1 o) where
  bg := last_bg B h0 h1 o
  cg := last_cg B h0 h1 o hx
  xc := last_xc B h0 h1 o hx
  row4 := last_row4 B h0 h1 o hx
  row5 := last_row5 B h0 h1 o hx
  row6 := last_row6 B h0 h1 o
  row7 := last_row7 h0 h1 o
  top := last_top B h0 h1 o

end Cert.Proof.ConvPoint

end
-- ==== Proof.RefConv.lean ====
module

public import proofs.«01_k».proof.Defs
public import Idealize.ShloMosaic.Lib.KernelVsHost
public import proofs.«01_k».proof.Proof.ConvMath
public import proofs.«01_k».proof.Proof.Gen.ReferenceConvIdeal
public import proofs.«01_k».proof.Proof.Gen.ReferenceConvIdeal.Run
public import proofs.«01_k».proof.Proof.Gen.ReferenceConvIdeal.Read

@[expose] public section

set_option maxRecDepth 16384

noncomputable section

/-! The results of the convolution's reference, read at an index: the functions of `ConvMath`. -/

namespace Cert.Proof.RefConv

open Cert.ReferenceConvIdeal Cert.ReferenceConvIdeal.Read Cert.Proof.Conv
open Idealize.ShloMosaic Idealize.ShloMosaic.TcCoe Idealize.SL.Sem Idealize.ShloMosaic.ValueIdx

variable (p : Cols) (d : Cot) (w : Taps)

theorem v0_at (t : Fin 2048) (j : Fin 512) : val_main_v0 (F := Ideal) p (ix2 t j) = col p 4 t.val j := by
  rw [val_main_v0_apply, col, dif_pos t.isLt]
  exact congrArg p (funext fun a => by match a with | ⟨0, _⟩ => rfl | ⟨1, _⟩ => rfl)

theorem v1_at (t : Fin 2048) (j : Fin 512) : val_main_v1 (F := Ideal) p (ix2 t j) = col p 5 t.val j := by
  rw [val_main_v1_apply, col, dif_pos t.isLt]
  exact congrArg p (funext fun a => by match a with | ⟨0, _⟩ => rfl | ⟨1, _⟩ => rfl)

theorem v2_at (t : Fin 2048) (j : Fin 512) : val_main_v2 (F := Ideal) p (ix2 t j) = col p 6 t.val j := by
  rw [val_main_v2_apply, col, dif_pos t.isLt]
  exact congrArg p (funext fun a => by match a with | ⟨0, _⟩ => rfl | ⟨1, _⟩ => rfl)

theorem v23_at (t : Fin 2048) (j : Fin 512) : val_main_v23 (F := Ideal) d (ix2 t j) = cot d 1 t.val j := by
  show val_main_v22 (F := Ideal) d (ix2 t j) = _
  rw [val_main_v22_apply, cot, dif_pos t.isLt]
  exact congrArg d (funext fun a => by match a with | ⟨0, _⟩ => rfl | ⟨1, _⟩ => rfl)

theorem v24_at (t : Fin 2048) (j : Fin 512) : val_main_v24 (F := Ideal) p d (ix2 t j) = dy p d t.val j := by
  rw [val_main_v24_apply, v0_at, v23_at]
  exact mul_comm _ _

theorem v7_at (t : Fin 2048) (j : Fin 512) : val_main_v7 (F := Ideal) p (ix2 t j) = z p t.val j := by
  rw [val_main_v7_apply, v1_at, v2_at]; rfl

/-- The padded `z`: two rows of zeros, then `z`. -/
theorem v8_at (t : Fin 2050) (j : Fin 512) : val_main_v8 (F := Ideal) p (ix2 t j) = zp p t.val j := by
  unfold val_main_v8
  by_cases h : 2 ≤ t.val
  · rw [zp, if_pos h]
    refine Eq.trans (b := (val_main_v7 (F := Ideal) p) (ix2 ⟨t.val - 2, by omega⟩ j)) ?_ (v7_at p ⟨t.val - 2, by omega⟩ j)
    refine concatenate_apply_piece (t := S2050x512) 0 _ _ _ 1 ?_ S2048x512 (val_main_v7 (F := Ideal) p) ?_ rfl 2 ?_ (ix2 ⟨t.val - 2, by omega⟩ j) ?_ ?_
    · show 1 < 2; omega
    · rfl
    · rfl
    · intro b hb; match b with | ⟨0, _⟩ => exact absurd rfl hb | ⟨1, _⟩ => rfl
    · first | rfl | exact Nat.add_sub_cancel' h | exact Nat.zero_add _
  · rw [zp, if_neg h]
    refine Eq.trans (b := (val_main_v6 (F := Ideal)) (ix2 ⟨t.val, by omega⟩ j)) ?_ (Ideal.ofBits_zero_f32)
    refine concatenate_apply_piece (t := S2050x512) 0 _ _ _ 0 ?_ S2x512 (val_main_v6 (F := Ideal)) ?_ rfl 0 ?_ (ix2 ⟨t.val, by omega⟩ j) ?_ ?_
    · show 0 < 2; omega
    · rfl
    · rfl
    · intro b hb; match b with | ⟨0, _⟩ => exact absurd rfl hb | ⟨1, _⟩ => rfl
    · first | rfl | exact Nat.add_sub_cancel' h | exact Nat.zero_add _

theorem v10_at (t : Fin 2048) (j : Fin 512) : val_main_v10 (F := Ideal) p (ix2 t j) = zp p t.val j := by
  rw [val_main_v10_apply]
  refine (congrArg _ (show idx_main_v10 (ix2 t j) = ix2 ⟨t.val, by omega⟩ j from funext fun a => Fin.ext ?_)).trans (v8_at p _ j)
  match a with | ⟨0, _⟩ => simp | ⟨1, _⟩ => simp

theorem v13_at (t : Fin 2048) (j : Fin 512) : val_main_v13 (F := Ideal) p (ix2 t j) = zp p (t.val + 1) j := by
  rw [val_main_v13_apply]
  refine (congrArg _ (show idx_main_v13 (ix2 t j) = ix2 ⟨t.val + 1, by omega⟩ j from funext fun a => Fin.ext ?_)).trans (v8_at p _ j)
  match a with | ⟨0, _⟩ => show 1 + t.val = t.val + 1; omega | ⟨1, _⟩ => rfl

theorem v17_at (t : Fin 2048) (j : Fin 512) : val_main_v17 (F := Ideal) p (ix2 t j) = zp p (t.val + 2) j := by
  rw [val_main_v17_apply]
  refine (congrArg _ (show idx_main_v17 (ix2 t j) = ix2 ⟨t.val + 2, by omega⟩ j from funext fun a => Fin.ext ?_)).trans (v8_at p _ j)
  match a with | ⟨0, _⟩ => show 2 + t.val = t.val + 2; omega | ⟨1, _⟩ => rfl

theorem v11_at (t : Fin 2048) (j : Fin 512) : val_main_v11 (F := Ideal) w (ix2 t j) = w (ix2 0 j) := by
  rw [val_main_v11_apply, val_main_v3_apply]
  exact congrArg w (funext fun a => by match a with | ⟨0, _⟩ => rfl | ⟨1, _⟩ => rfl)

theorem v14_at (t : Fin 2048) (j : Fin 512) : val_main_v14 (F := Ideal) w (ix2 t j) = w (ix2 1 j) := by
  rw [val_main_v14_apply, val_main_v4_apply]
  exact congrArg w (funext fun a => by match a with | ⟨0, _⟩ => rfl | ⟨1, _⟩ => rfl)

theorem v18_at (t : Fin 2048) (j : Fin 512) : val_main_v18 (F := Ideal) w (ix2 t j) = w (ix2 2 j) := by
  rw [val_main_v18_apply, val_main_v5_apply]
  exact congrArg w (funext fun a => by match a with | ⟨0, _⟩ => rfl | ⟨1, _⟩ => rfl)

/-- The convolution. -/
theorem v20_at (t : Fin 2048) (j : Fin 512) : val_main_v20 (F := Ideal) p w (ix2 t j) = y p w t.val j := by
  rw [val_main_v20_apply, val_main_v16_apply, val_main_v12_apply, val_main_v15_apply, val_main_v19_apply,
    v10_at, v11_at, v13_at, v14_at, v17_at, v18_at]
  rfl

/-- The gradient of `bg`. -/
theorem v25_at (t : Fin 2048) (j : Fin 512) : val_main_v25 (F := Ideal) p d w (ix2 t j) = cot d 1 t.val j * y p w t.val j := by
  rw [val_main_v25_apply, v23_at, v20_at]; rfl

/-- The first tap's share of the padded gradient, two rows down. -/
theorem v31_at (t : Fin 2048) (j : Fin 512) :
    val_main_v31 (F := Ideal) p d w (ix2 ⟨t.val + 2, by omega⟩ j) = w (ix2 2 j) * dy p d t.val j := by
  unfold val_main_v31
  refine (pad_apply_of_inside _ _ _ _ _ _ _ _ (ix2 t j) (fun a => ?_)).trans ?_
  · match a with | ⟨0, _⟩ => show t.val + 2 = 2 + t.val * (0 + 1); omega | ⟨1, _⟩ => show j.val = 0 + j.val * (0 + 1); omega
  · rw [val_main_v27_apply, v24_at]
    exact congrArg (· * _) (v18_at w t j)

theorem v37_at (t : Fin 2048) (j : Fin 512) :
    val_main_v37 (F := Ideal) p d w (ix2 ⟨t.val + 2, by omega⟩ j) = w (ix2 1 j) * dy p d (t.val + 1) j := by
  unfold val_main_v37
  by_cases h : t.val + 1 < 2048
  · refine (pad_apply_of_inside _ _ _ _ _ _ _ _ (ix2 ⟨t.val + 1, h⟩ j) (fun a => ?_)).trans ?_
    · match a with | ⟨0, _⟩ => show t.val + 2 = 1 + (t.val + 1) * (0 + 1); omega | ⟨1, _⟩ => show j.val = 0 + j.val * (0 + 1); omega
    · rw [val_main_v33_apply, v24_at]
      exact congrArg (· * _) (v14_at w ⟨t.val + 1, h⟩ j)
  · refine (pad_apply_of_not_inside _ _ _ _ _ _ _ _ (0 : Fin 2) (fun hh => ?_)).trans ?_
    · have h2 : (t.val + 2 - 1) / (0 + 1) < 2048 := hh.2.2
      omega
    · rw [dy_of_le p d (by omega) j, mul_zero]
      exact Ideal.ofBits_zero_f32

theorem v44_at (t : Fin 2048) (j : Fin 512) :
    val_main_v44 (F := Ideal) p d w (ix2 ⟨t.val + 2, by omega⟩ j) = w (ix2 0 j) * dy p d (t.val + 2) j := by
  unfold val_main_v44
  by_cases h : t.val + 2 < 2048
  · refine (pad_apply_of_inside _ _ _ _ _ _ _ _ (ix2 ⟨t.val + 2, h⟩ j) (fun a => ?_)).trans ?_
    · match a with | ⟨0, _⟩ => show t.val + 2 = 0 + (t.val + 2) * (0 + 1); omega | ⟨1, _⟩ => show j.val = 0 + j.val * (0 + 1); omega
    · rw [val_main_v40_apply, v24_at]
      exact congrArg (· * _) (v11_at w ⟨t.val + 2, h⟩ j)
  · refine (pad_apply_of_not_inside _ _ _ _ _ _ _ _ (0 : Fin 2) (fun hh => ?_)).trans ?_
    · have h2 : (t.val + 2 - 0) / (0 + 1) < 2048 := hh.2.2
      omega
    · rw [dy_of_le p d (by omega) j, mul_zero]
      exact Ideal.ofBits_zero_f32

/-- The cotangent of `z`. -/
theorem v47_at (t : Fin 2048) (j : Fin 512) : val_main_v47 (F := Ideal) p d w (ix2 t j) = dzc p d w t.val j := by
  rw [val_main_v47_apply]
  refine (congrArg _ (show idx_main_v47 (ix2 t j) = ix2 ⟨t.val + 2, by omega⟩ j from funext fun a => Fin.ext ?_)).trans ?_
  · match a with | ⟨0, _⟩ => show 2 + t.val = t.val + 2; omega | ⟨1, _⟩ => rfl
  · rw [val_main_v45_apply, val_main_v38_apply, v31_at, v37_at, v44_at]
    rfl

/-- The gradient of `xc`. -/
theorem v48_at (t : Fin 2048) (j : Fin 512) : val_main_v48 (F := Ideal) p d w (ix2 t j) = col p 5 t.val j * dzc p d w t.val j := by
  rw [val_main_v48_apply, v1_at, v47_at]; rfl

/-- The gradient of `cg`. -/
theorem v49_at (t : Fin 2048) (j : Fin 512) : val_main_v49 (F := Ideal) p d w (ix2 t j) = dzc p d w t.val j * col p 6 t.val j := by
  rw [val_main_v49_apply, v2_at, v47_at]; rfl

theorem v43_at (j : Fin 512) : val_main_v43 (F := Ideal) p d (ix2 0 j) = dtap p d 0 j := by
  rw [val_main_v43_apply, val_main_v42_apply, dtap_eq p d 0 (by omega), Finset.sum_range]
  refine (congrArg₂ (· + ·) Ideal.ofBits_zero_f32 (Finset.sum_congr rfl fun t _ => ?_)).trans (zero_add _)
  refine (congrArg _ (show _ = ix2 t j from funext fun a => by match a with | ⟨0, _⟩ => rfl | ⟨1, _⟩ => exact Fin.ext (Nat.zero_add _))).trans ?_
  rw [val_main_v41_apply, v24_at, v10_at]; rfl

theorem v36_at (j : Fin 512) : val_main_v36 (F := Ideal) p d (ix2 0 j) = dtap p d 1 j := by
  rw [val_main_v36_apply, val_main_v35_apply, dtap_eq p d 1 (by omega), Finset.sum_range]
  refine (congrArg₂ (· + ·) Ideal.ofBits_zero_f32 (Finset.sum_congr rfl fun t _ => ?_)).trans (zero_add _)
  refine (congrArg _ (show _ = ix2 t j from funext fun a => by match a with | ⟨0, _⟩ => rfl | ⟨1, _⟩ => exact Fin.ext (Nat.zero_add _))).trans ?_
  rw [val_main_v34_apply, v24_at, v13_at]; rfl

theorem v30_at (j : Fin 512) : val_main_v30 (F := Ideal) p d (ix2 0 j) = dtap p d 2 j := by
  rw [val_main_v30_apply, val_main_v29_apply, dtap_eq p d 2 (by omega), Finset.sum_range]
  refine (congrArg₂ (· + ·) Ideal.ofBits_zero_f32 (Finset.sum_congr rfl fun t _ => ?_)).trans (zero_add _)
  refine (congrArg _ (show _ = ix2 t j from funext fun a => by match a with | ⟨0, _⟩ => rfl | ⟨1, _⟩ => exact Fin.ext (Nat.zero_add _))).trans ?_
  rw [val_main_v28_apply, v24_at, v17_at]; rfl

/-- The convolution's part of the first result. -/
theorem first_bg (t : Fin 2048) (j : Fin 512) :
    val_main_v53 (F := Ideal) p d w (ix2 t ⟨2048 + j.val, by omega⟩) = cot d 1 t.val j * y p w t.val j := by
  rw [← v25_at]
  show val_main_v52 (F := Ideal) p d w _ = _
  unfold val_main_v52
  refine concatenate_apply_piece (t := S2048x4608) 1 _ _ _ 1 ?_ S2048x512 (val_main_v25 (F := Ideal) p d w) ?_ rfl 2048 ?_ (ix2 t j) ?_ ?_
  · show 1 < 5; omega
  · rfl
  · rfl
  · intro b hb; match b with | ⟨0, _⟩ => rfl | ⟨1, _⟩ => exact absurd rfl hb
  · rfl

theorem first_cg (t : Fin 2048) (j : Fin 512) :
    val_main_v53 (F := Ideal) p d w (ix2 t ⟨2560 + j.val, by omega⟩) = dzc p d w t.val j * col p 6 t.val j := by
  rw [← v49_at]
  show val_main_v52 (F := Ideal) p d w _ = _
  unfold val_main_v52
  refine concatenate_apply_piece (t := S2048x4608) 1 _ _ _ 2 ?_ S2048x512 (val_main_v49 (F := Ideal) p d w) ?_ rfl 2560 ?_ (ix2 t j) ?_ ?_
  · show 2 < 5; omega
  · rfl
  · rfl
  · intro b hb; match b with | ⟨0, _⟩ => rfl | ⟨1, _⟩ => exact absurd rfl hb
  · rfl

theorem first_xc (t : Fin 2048) (j : Fin 512) :
    val_main_v53 (F := Ideal) p d w (ix2 t ⟨3072 + j.val, by omega⟩) = col p 5 t.val j * dzc p d w t.val j := by
  rw [← v48_at]
  show val_main_v52 (F := Ideal) p d w _ = _
  unfold val_main_v52
  refine concatenate_apply_piece (t := S2048x4608) 1 _ _ _ 3 ?_ S2048x512 (val_main_v48 (F := Ideal) p d w) ?_ rfl 3072 ?_ (ix2 t j) ?_ ?_
  · show 3 < 5; omega
  · rfl
  · rfl
  · intro b hb; match b with | ⟨0, _⟩ => rfl | ⟨1, _⟩ => exact absurd rfl hb
  · rfl

/-- The convolution's part of the second result: the three taps, then a row of zeros. -/
theorem second_tap0 (j : Fin 512) : val_main_v56 (F := Ideal) p d (ix2 4 j) = dtap p d 0 j := by
  rw [← v43_at]
  unfold val_main_v56
  refine concatenate_apply_piece (t := S8x512) 0 _ _ _ 1 ?_ S1x512 (val_main_v43 (F := Ideal) p d) ?_ rfl 4 ?_ (ix2 0 j) ?_ ?_
  · show 1 < 5; omega
  · rfl
  · rfl
  · intro b hb; match b with | ⟨0, _⟩ => exact absurd rfl hb | ⟨1, _⟩ => rfl
  · rfl

theorem second_tap1 (j : Fin 512) : val_main_v56 (F := Ideal) p d (ix2 5 j) = dtap p d 1 j := by
  rw [← v36_at]
  unfold val_main_v56
  refine concatenate_apply_piece (t := S8x512) 0 _ _ _ 2 ?_ S1x512 (val_main_v36 (F := Ideal) p d) ?_ rfl 5 ?_ (ix2 0 j) ?_ ?_
  · show 2 < 5; omega
  · rfl
  · rfl
  · intro b hb; match b with | ⟨0, _⟩ => exact absurd rfl hb | ⟨1, _⟩ => rfl
  · rfl

theorem second_tap2 (j : Fin 512) : val_main_v56 (F := Ideal) p d (ix2 6 j) = dtap p d 2 j := by
  rw [← v30_at]
  unfold val_main_v56
  refine concatenate_apply_piece (t := S8x512) 0 _ _ _ 3 ?_ S1x512 (val_main_v30 (F := Ideal) p d) ?_ rfl 6 ?_ (ix2 0 j) ?_ ?_
  · show 3 < 5; omega
  · rfl
  · rfl
  · intro b hb; match b with | ⟨0, _⟩ => exact absurd rfl hb | ⟨1, _⟩ => rfl
  · rfl

theorem second_last (j : Fin 512) : val_main_v56 (F := Ideal) p d (ix2 7 j) = 0 := by
  unfold val_main_v56
  refine Eq.trans (b := (val_main_v55 (F := Ideal)) (ix2 0 j)) ?_ (Ideal.ofBits_zero_f32)
  refine concatenate_apply_piece (t := S8x512) 0 _ _ _ 4 ?_ S1x512 (val_main_v55 (F := Ideal)) ?_ rfl 7 ?_ (ix2 0 j) ?_ ?_
  · show 4 < 5; omega
  · rfl
  · rfl
  · intro b hb; match b with | ⟨0, _⟩ => exact absurd rfl hb | ⟨1, _⟩ => rfl
  · first | rfl | exact Nat.add_sub_cancel' h | exact Nat.zero_add _

end Cert.Proof.RefConv

end
-- ==== Proof.ConvWhole.lean ====
/- The short convolution's gradient in the kernel's first two results, after its last visit: every entry of the three column
   blocks 2048 … 3583 of the first, and rows 4 … 7 of the second, against the reference's. -/
module

public import proofs.«01_k».proof.Proof.VisitsRun
public import proofs.«01_k».proof.Proof.ConvFirst
public import proofs.«01_k».proof.Proof.ConvMiddle
public import proofs.«01_k».proof.Proof.ConvLast
public import proofs.«01_k».proof.Proof.RefConv

@[expose] public section

noncomputable section

namespace Cert.Proof.ConvPoint

open Idealize.ShloMosaic Idealize.ShloMosaic.ValueIdx Cert.KernelIdeal Cert.KernelIdeal.Gen Cert.Proof.Stores Cert.Proof.Conv Cert.Proof.ConvTile Cert.Proof.Visits

variable (m : (ℓ : Loc nD τ sig) → Buf (Elt Ideal) ℓ) (c : Dev nD)

/-- The row vectors a visit finds: none before the first, then those the visit before left. -/
def found : (n : ℕ) → n < cfg0.N → S8x512.Idx → EReal
  | 0, _ => fun _ => 0
  | n + 1, hn => (held m c n (Nat.lt_of_succ_lt hn)).vec

/-- Every visit leaves its tile's gradient. -/
theorem visit_at : ∀ (n : ℕ) (hn : n < cfg0.N),
    Visit (cols m c) (cots m c) (taps m c) ⟨n, hn⟩ (found m c n hn) (held m c n hn)
  | 0, hn => visitA (blocks m c ⟨0, hn⟩) (Nat.zero_mod _)
  | n + 1, hn => by
    have ih := visit_at n (Nat.lt_of_succ_lt hn)
    have h8 : n + 1 < 8 := visit_lt ⟨n + 1, hn⟩
    have h0 : ¬(n + 1) % 8 = 0 := by omega
    have hx : ∀ (a : Fin 264) (j : Fin 512), 256 ≤ a.val →
        (held m c n (Nat.lt_of_succ_lt hn)).rows (ix2 a j) = dy (cols m c) (cots m c) (256 * (7 - (n + 1)) + a.val) j := by
      intro a j ha
      have e : a = ⟨256 + (⟨a.val - 256, by omega⟩ : Fin 8).val, top_lt _⟩ := Fin.ext (by show a.val = 256 + (a.val - 256); omega)
      have h := ih.top ⟨a.val - 256, by omega⟩ j
      rw [← e] at h
      rw [h]
      congr 1
      show 256 * (7 - n) + (a.val - 256) = _
      omega
    by_cases h1 : (n + 1) % 8 = 7
    · rw [show held m c (n + 1) hn = leftC m c ⟨n + 1, hn⟩ h0 h1 (held m c n (Nat.lt_of_succ_lt hn)) from held_C m c ⟨n + 1, hn⟩ h0 h1]
      exact visitC (blocks m c ⟨n + 1, hn⟩) h0 h1 _ hx
    · rw [show held m c (n + 1) hn = leftB m c ⟨n + 1, hn⟩ h0 h1 (held m c n (Nat.lt_of_succ_lt hn)) from held_B m c ⟨n + 1, hn⟩ h0 h1]
      exact visitB (blocks m c ⟨n + 1, hn⟩) h0 h1 _ hx

/-- A row to which every visit adds its tile's share holds, after a visit, the shares of the tiles so far. -/
theorem row_sum (i : Fin 8) (j : Fin 512) (f : ℕ → EReal)
    (h : ∀ n hn, (held m c n hn).vec (ix2 i j) = found m c n hn (ix2 i j) + f (7 - n)) :
    ∀ n hn, (held m c n hn).vec (ix2 i j) = ∑ s ∈ Finset.range (n + 1), f (7 - s)
  | 0, hn => by rw [h, Finset.sum_range_one]; exact zero_add _
  | n + 1, hn => by
    rw [h, Finset.sum_range_succ, ← row_sum i j f h n (Nat.lt_of_succ_lt hn)]
    rfl

/-- The last visit. -/
theorem last_lt : 7 < cfg0.N := by rw [visits_eq]; omega

/-- After the last visit such a row holds the sum over the eight tiles. -/
theorem row_last (i : Fin 8) (j : Fin 512) (f : ℕ → EReal)
    (h : ∀ n hn, (held m c n hn).vec (ix2 i j) = found m c n hn (ix2 i j) + f (7 - n)) :
    (held m c 7 last_lt).vec (ix2 i j) = ∑ s ∈ Finset.range 8, f s := by
  rw [row_sum m c i j f h 7 last_lt]
  exact Finset.sum_range_reflect f 8

/-- A sum over tiles of 256 rows is the sum over the rows. -/
theorem sum_tiles (g : ℕ → EReal) : ∀ k, ∑ r ∈ Finset.range k, ∑ a ∈ Finset.range 256, g (256 * r + a) = ∑ t ∈ Finset.range (256 * k), g t
  | 0 => by simp
  | k + 1 => by rw [Finset.sum_range_succ, sum_tiles g k, Nat.mul_succ, Finset.sum_range_add]

/-- So the three taps' rows end at their gradients. -/
theorem tap_last (i : Fin 8) (j : Fin 512) (k : ℕ)
    (h : ∀ n hn, (held m c n hn).vec (ix2 i j) = found m c n hn (ix2 i j) + inc (cols m c) (cots m c) (7 - n) (2 - k) j) :
    (held m c 7 last_lt).vec (ix2 i j) = dtap (cols m c) (cots m c) k j := by
  rw [row_last m c i j (fun r => inc (cols m c) (cots m c) r (2 - k) j) h]
  exact sum_tiles (fun t => z (cols m c) t j * dy (cols m c) (cots m c) (t + (2 - k)) j) 8

/-! ### The arrays. -/

theorem index21 : ∀ t : Fin grid0.N, cc0_transform_21 (grid0.coords t) 0 = 7 - t.val ∧ cc0_transform_21 (grid0.coords t) 1 = 0 := by decide +kernel
theorem index22 : ∀ t : Fin grid0.N, cc0_transform_22 (grid0.coords t) 0 = 0 ∧ cc0_transform_22 (grid0.coords t) 1 = 0 := by decide +kernel

/-- No two visits write the same block of the first result. -/
theorem apart21 (t t' : Fin cfg0.N) (hne : t ≠ t') : Disjoint ((cfg0.win 21).blk t).view.set ((cfg0.win 21).blk t').view.set := by
  refine (cfg0.win 21).disjoint_blk fun h => hne (Fin.ext ?_)
  have e : (7 - t.val : ℕ) = 7 - t'.val := ((index21 t).1.symm.trans (congrFun h 0)).trans (index21 t').1
  have := visit_lt t
  have := visit_lt t'
  omega

/-- Row `256 (7 - t) + a` of the first result is row `a` of what visit `t` left. -/
theorem first_result (t : Fin cfg0.N) (a : Fin 256) (b : Fin 4608) (i : S2048x4608.Idx) (h0 : (i 0).val = 256 * (7 - t.val) + a.val) (h1 : (i 1).val = b.val) :
    (dats m 0 c).arrAt 21 cfg0.N i = (held m c t.val t.isLt).dp (ix2 a b) := by
  have h := congrFun ((dats m 0 c).read_blk_arrAt_eq_flushed 21 (fun t t' _ _ hne => apart21 t t' hne) cfg0.N t t.isLt (flush0_21 t)) (ix2 a b)
  refine Eq.trans ?_ h
  refine congrArg ((dats m 0 c).arrAt 21 cfg0.N) (funext fun x => ?_)
  match x with
  | ⟨0, _⟩ => exact Fin.ext (by show (i 0).val = cc0_transform_21 (grid0.coords t) 0 * 256 + 1 * a.val; rw [(index21 t).1]; omega)
  | ⟨1, _⟩ => exact Fin.ext (by show (i 1).val = cc0_transform_21 (grid0.coords t) 1 * 4608 + 1 * b.val; rw [(index21 t).2]; omega)

/-- The second result is what the visit that writes it left. -/
theorem second_of (t : Fin cfg0.N) (hf : (cfg0.win 22).flush t = true) (k : Fin 8) (j : Fin 512) :
    (dats m 0 c).arrAt 22 cfg0.N (ix2 k j) = (held m c t.val t.isLt).vec (ix2 k j) := by
  have h := congrFun ((dats m 0 c).read_blk_arrAt_eq_flushed 22
    (fun t t' hf hf' hne => absurd (Fin.ext (by
      have := (flush0_22 t).mp hf; have := (flush0_22 t').mp hf'; have := visit_lt t; have := visit_lt t'; omega)) hne)
    cfg0.N t t.isLt hf) (ix2 k j)
  refine Eq.trans ?_ h
  refine congrArg ((dats m 0 c).arrAt 22 cfg0.N) (funext fun x => ?_)
  match x with
  | ⟨0, _⟩ => exact Fin.ext (by show k.val = cc0_transform_22 (grid0.coords t) 0 * 8 + 1 * k.val; rw [(index22 t).1]; omega)
  | ⟨1, _⟩ => exact Fin.ext (by show j.val = cc0_transform_22 (grid0.coords t) 1 * 512 + 1 * j.val; rw [(index22 t).2]; omega)

/-- That is the last. -/
theorem second_result (k : Fin 8) (j : Fin 512) :
    (dats m 0 c).arrAt 22 cfg0.N (ix2 k j) = (held m c 7 last_lt).vec (ix2 k j) :=
  second_of m c ⟨7, last_lt⟩ ((flush0_22 ⟨7, last_lt⟩).mpr rfl) k j

open Cert.ReferenceConvIdeal.Read in
/-- The first result's columns 2048 … 3583 are the reference's. -/
theorem first_eq (i : S2048x4608.Idx) (hl : 2048 ≤ (i 1).val) (hu : (i 1).val < 3584) :
    (dats m 0 c).arrAt 21 cfg0.N i = val_main_v53 (F := Ideal) (cols m c) (cots m c) (taps m c) i := by
  obtain ⟨n, b, rfl⟩ : ∃ (n : Fin 2048) (b : Fin 4608), i = ix2 n b := ⟨i 0, i 1, eq_ix2 i⟩
  have hl : 2048 ≤ b.val := hl
  have hu : b.val < 3584 := hu
  have ht : 7 - n.val / 256 < cfg0.N := by rw [visits_eq]; omega
  have hv := visit_at m c (7 - n.val / 256) ht
  have hn : 256 * (7 - (7 - n.val / 256)) + n.val % 256 = n.val := by omega
  rw [first_result m c ⟨7 - n.val / 256, ht⟩ ⟨n.val % 256, by omega⟩ b (ix2 n b) (by show n.val = 256 * (7 - (7 - n.val / 256)) + n.val % 256; omega) rfl]
  by_cases hb : b.val < 2560
  · have e : b = ⟨2048 + (⟨b.val - 2048, by omega⟩ : Fin 512).val, wide_lt (by decide) _⟩ := Fin.ext (by show b.val = 2048 + (b.val - 2048); omega)
    rw [e]
    refine (hv.bg _ _).trans ?_
    dsimp only
    rw [hn]
    exact (RefConv.first_bg (cols m c) (cots m c) (taps m c) n _).symm
  · by_cases hb' : b.val < 3072
    · have e : b = ⟨2560 + (⟨b.val - 2560, by omega⟩ : Fin 512).val, wide_lt (by decide) _⟩ := Fin.ext (by show b.val = 2560 + (b.val - 2560); omega)
      rw [e]
      refine (hv.cg _ _).trans ?_
      dsimp only
      rw [hn]
      exact (RefConv.first_cg (cols m c) (cots m c) (taps m c) n _).symm
    · have e : b = ⟨3072 + (⟨b.val - 3072, by omega⟩ : Fin 512).val, wide_lt (by decide) _⟩ := Fin.ext (by show b.val = 3072 + (b.val - 3072); omega)
      rw [e]
      refine (hv.xc _ _).trans ?_
      dsimp only
      rw [hn, mul_comm]
      exact (RefConv.first_xc (cols m c) (cots m c) (taps m c) n _).symm

open Cert.ReferenceConvIdeal.Read in
/-- The second result's rows 4 … 7 are the reference's. -/
theorem second_eq (i : S8x512.Idx) (hl : 4 ≤ (i 0).val) :
    (dats m 0 c).arrAt 22 cfg0.N i = val_main_v56 (F := Ideal) (cols m c) (cots m c) i := by
  obtain ⟨k, j, rfl⟩ : ∃ (k : Fin 8) (j : Fin 512), i = ix2 k j := ⟨i 0, i 1, eq_ix2 i⟩
  have hl : 4 ≤ k.val := hl
  rw [second_result]
  have hk : k = 4 ∨ k = 5 ∨ k = 6 ∨ k = 7 := by omega
  rcases hk with rfl | rfl | rfl | rfl
  · exact (tap_last m c 4 j 0 fun n hn => (visit_at m c n hn).row4 j).trans (RefConv.second_tap0 (cols m c) (cots m c) j).symm
  · exact (tap_last m c 5 j 1 fun n hn => (visit_at m c n hn).row5 j).trans (RefConv.second_tap1 (cols m c) (cots m c) j).symm
  · exact (tap_last m c 6 j 2 fun n hn => (visit_at m c n hn).row6 j).trans (RefConv.second_tap2 (cols m c) (cots m c) j).symm
  · refine Eq.trans ?_ (RefConv.second_last (cols m c) (cots m c) j).symm
    rw [row_last m c 7 j (fun _ => 0) fun n hn => ((visit_at m c n hn).row7 j).trans (add_zero _).symm]
    exact (Finset.sum_const_zero : ∑ _s ∈ Finset.range 8, (0 : EReal) = 0)

end Cert.Proof.ConvPoint

end
-- ==== Proof.RefMerge.lean ====
/- The reference's gradients of the gated merge, each result read at an entry: with `dm` the product of the incoming gradient
   with the output weights' transpose and `σ` the gates' logistic function, branch `b`'s gradient `dm σ`, its gate's
   gradient `dm y σ (1 - σ)` and the branch product's gradient `(dm σ) wᵀ`. -/
module

public import proofs.«01_k».proof.Proof.Gen.ReferenceMergeIdeal.Read
public import Idealize.ShloMosaic.Lib.IdealHost
public import Idealize.ShloMosaic.Lib.ValueIdx

@[expose] public section

noncomputable section

namespace Cert.Proof.Merge

open Idealize.ShloMosaic Idealize.ShloMosaic.ValueIdx

/-- A matrix and a stack of matrices over the extended reals. -/
abbrev Mat (a b : ℕ) := (⟨2, ![a, b]⟩ : Shape).Idx → EReal
@[inherit_doc Mat] abbrev Stack (a b c : ℕ) := (⟨3, ![a, b, c]⟩ : Shape).Idx → EReal

theorem wide_lt (b : Fin 3) (k : Fin 1024) : 1024 * b.val + k.val < 3072 := by omega
theorem half_lt (b : Fin 3) (l : Fin 512) : 512 * b.val + l.val < 1536 := by omega

/-- Column `k` of branch `b` among the three branches' columns. -/
def wide (b : Fin 3) (k : Fin 1024) : Fin 3072 := ⟨1024 * b.val + k.val, wide_lt b k⟩
@[inherit_doc wide] def half (b : Fin 3) (l : Fin 512) : Fin 1536 := ⟨512 * b.val + l.val, half_lt b l⟩

/-- The merge's own gradient, -/
def dm {s : ℕ} (x : Mat s 1024) (w : Mat 1024 1024) (r : Fin s) (k : Fin 1024) : EReal := ∑ q : Fin 1024, x (ix2 r q) * w (ix2 k q)

/-- branch `b`'s, -/
def dy {s : ℕ} (x : Mat s 1024) (w : Mat 1024 1024) (g : Mat s 3072) (r : Fin s) (b : Fin 3) (k : Fin 1024) : EReal :=
  dm x w r k * Ideal.logistic (g (ix2 r (wide b k)))

/-- its gate's, -/
def dg {s : ℕ} (x : Mat s 1024) (w : Mat 1024 1024) (y g : Mat s 3072) (r : Fin s) (b : Fin 3) (k : Fin 1024) : EReal :=
  dy x w g r b k * y (ix2 r (wide b k)) * (1 - Ideal.logistic (g (ix2 r (wide b k))))

/-- and its product's. -/
def dz {s : ℕ} (x : Mat s 1024) (w : Mat 1024 1024) (g : Mat s 3072) (v : Stack 3 512 1024) (r : Fin s) (b : Fin 3) (l : Fin 512) : EReal :=
  ∑ k : Fin 1024, dy x w g r b k * v (ix3 b l k)

namespace Ref

open Cert.ReferenceMergeIdeal Cert.ReferenceMergeIdeal.Read

variable (x : Mat 2048 1024) (w : Mat 1024 1024) (y g : Mat 2048 3072) (v : Stack 3 512 1024)

theorem gate_at (i : S2048x3072.Idx) : val_main_v9 (F := Ideal) g i = Ideal.logistic (g i) := by
  show Ideal.div (Ideal.ofBits .f32 0x3F800000#32) (Ideal.ofBits .f32 0x3F800000#32 + Ideal.exp (-(g i))) = _
  rw [Ideal.ofBits_one_f32]
  rfl

theorem ungate_at (i : S2048x3072.Idx) : val_main_v11 (F := Ideal) g i = 1 - Ideal.logistic (g i) := by
  rw [val_main_v11_apply, gate_at]
  show Ideal.ofBits .f32 0x3F800000#32 - _ = _
  rw [Ideal.ofBits_one_f32]

/-- The two layouts of the branches' columns. -/
theorem apart (r : Fin 2048) (b : Fin 3) (k : Fin 1024) : idx_main_v23 (ix2 r (wide b k)) = ix3 r b k := by
  funext a
  match a with
  | ⟨0, _⟩ => exact Fin.ext (by show (r.val * 3072 + (1024 * b.val + k.val)) / 3072 = r.val; omega)
  | ⟨1, _⟩ => exact Fin.ext (by show (r.val * 3072 + (1024 * b.val + k.val)) / 1024 % 3 = b.val; omega)
  | ⟨2, _⟩ => exact Fin.ext (by show (r.val * 3072 + (1024 * b.val + k.val)) % 1024 = k.val; omega)

theorem together (r : Fin 2048) (b : Fin 3) (k : Fin 1024) : idx_main_v13 (ix3 r b k) = ix2 r (wide b k) := by
  funext a
  match a with
  | ⟨0, _⟩ => exact Fin.ext (by show ((r.val * 3 + b.val) * 1024 + k.val) / 3072 = r.val; omega)
  | ⟨1, _⟩ => exact Fin.ext (by show ((r.val * 3 + b.val) * 1024 + k.val) % 3072 = 1024 * b.val + k.val; omega)

theorem dm_at (r : Fin 2048) (k : Fin 1024) : val_main_v19 (F := Ideal) x w (ix2 r k) = dm x w r k := by
  rw [val_main_v19_apply]
  refine Finset.sum_congr rfl fun q _ => ?_
  have el : lidx_main_v19 (ix2 r k) q = ix2 r q := funext fun a => match a with | ⟨0, _⟩ => rfl | ⟨1, _⟩ => rfl
  have er : ridx_main_v19 (ix2 r k) q = ix2 k q := funext fun a => match a with | ⟨0, _⟩ => rfl | ⟨1, _⟩ => rfl
  rw [el, er]
  rfl

theorem dm_wide (r : Fin 2048) (b : Fin 3) (k : Fin 1024) : val_main_v20 (F := Ideal) x w (ix3 r b k) = dm x w r k := by
  rw [val_main_v20_apply, ← dm_at]
  congr 1
  funext a
  match a with | ⟨0, _⟩ => rfl | ⟨1, _⟩ => rfl

theorem dy_apart (r : Fin 2048) (b : Fin 3) (k : Fin 1024) : val_main_v21 (F := Ideal) x w g (ix3 r b k) = dy x w g r b k := by
  rw [val_main_v21_apply, dm_wide, val_main_v13_apply, together, gate_at]
  exact mul_comm _ _

theorem dy_at (r : Fin 2048) (b : Fin 3) (k : Fin 1024) : val_main_v38 (F := Ideal) x w g (ix2 r (wide b k)) = dy x w g r b k := by
  rw [val_main_v38_apply, val_main_v23_apply, apart, dy_apart]
  rfl

theorem dg_at (r : Fin 2048) (b : Fin 3) (k : Fin 1024) : val_main_v39 (F := Ideal) x w y g (ix2 r (wide b k)) = dg x w y g r b k := by
  rw [val_main_v39_apply, val_main_v25_apply, val_main_v24_apply, show idx_main_v24 (ix2 r (wide b k)) = ix3 r b k from apart r b k,
    val_main_v22_apply, dm_wide, val_main_v14_apply, show idx_main_v14 (ix3 r b k) = ix2 r (wide b k) from together r b k,
    val_main_v12_apply, gate_at, ungate_at]
  show dm x w r k * y _ * (_ * _) = dm x w r k * _ * y _ * _
  rw [mul_mul_mul_comm, mul_assoc (dm x w r k * _)]

theorem dz_at (r : Fin 2048) (b : Fin 3) (l : Fin 512) : val_main_v40 (F := Ideal) x w g v (ix2 r (half b l)) = dz x w g v r b l := by
  have e : idx_main_v37 (ix2 r (half b l)) = ix3 r b l := funext fun a => match a with
    | ⟨0, _⟩ => Fin.ext (by show (r.val * 1536 + (512 * b.val + l.val)) / 1536 = r.val; omega)
    | ⟨1, _⟩ => Fin.ext (by show (r.val * 1536 + (512 * b.val + l.val)) / 512 % 3 = b.val; omega)
    | ⟨2, _⟩ => Fin.ext (by show (r.val * 1536 + (512 * b.val + l.val)) % 512 = l.val; omega)
  rw [val_main_v40_apply, val_main_v37_apply, e, val_main_v36_apply]
  show val_main_v35 (F := Ideal) x w g v _ = _
  rw [val_main_v35_apply]
  refine Finset.sum_congr rfl fun k _ => ?_
  rw [val_main_v34_apply, val_main_v33_apply]
  have e1 : idx_main_v33 (idx_main_v34 (lidx_main_v35 (idx_main_v36 (ix3 r b l)) k)) = ix2 r (wide b k) := together r b k
  have e2 : ridx_main_v35 (idx_main_v36 (ix3 r b l)) k = ix3 b l k := funext fun a => match a with | ⟨0, _⟩ => rfl | ⟨1, _⟩ => rfl | ⟨2, _⟩ => rfl
  rw [e1, e2]
  exact congrArg (· * v (ix3 b l k)) (dy_at x w g r b k)

end Ref

end Cert.Proof.Merge

end
-- ==== Proof.MergeTile.lean ====
/- What one tile of 512 rows of the merge's backward leaves in its three results, each read at an entry. -/
module

public import proofs.«01_k».proof.Proof.Gen.MergeIdeal.Value
public import proofs.«01_k».proof.Proof.Stores
public import proofs.«01_k».proof.Proof.RefMerge
public import Idealize.ShloMosaic.Lib.MatmulPlain
public import Idealize.ShloMosaic.Lib.ValueLayout

@[expose] public section

noncomputable section

namespace Cert.Proof.Merge

open Idealize.ShloMosaic Idealize.ShloMosaic.ValueIdx Idealize.ShloMosaic.TcCoe Cert.MergeIdeal Cert.MergeIdeal.Gen Cert.Proof.Stores

theorem product_at (x : Vec Ideal S512x1024 .bf16) (w : Vec Ideal S1024x1024 .bf16) (r : Fin 512) (k : Fin 1024) :
    k0_pay1 (F := Ideal) x w (ix2 r k) = dm x w r k := by
  refine (Ideal.matmul_transposedRhs_apply none x w _ r k).trans ?_
  show Ideal.ofBits .f32 0x00000000#32 + _ = _
  rw [Ideal.ofBits_zero_f32, zero_add]
  rfl

/-- The columns stored for a branch: the product gated, -/
theorem gated_at (x : Vec Ideal S512x1024 .bf16) (w : Vec Ideal S1024x1024 .bf16) (g : Vec Ideal S512x1024 .bf16) (r : Fin 512) (k : Fin 1024) :
    k0_pay4 (F := Ideal) x w g (ix2 r k) = dm x w r k * Ideal.logistic (g (ix2 r k)) :=
  congrArg (· * Ideal.logistic (g (ix2 r k))) (product_at x w r k)

/-- for its gate, -/
theorem gates_at (x : Vec Ideal S512x1024 .bf16) (w : Vec Ideal S1024x1024 .bf16) (g y : Vec Ideal S512x1024 .bf16) (r : Fin 512) (k : Fin 1024) :
    k0_pay5 (F := Ideal) x w g y (ix2 r k) = dm x w r k * Ideal.logistic (g (ix2 r k)) * y (ix2 r k) * (1 - Ideal.logistic (g (ix2 r k))) := by
  show k0_pay1 (F := Ideal) x w (ix2 r k) * Ideal.logistic (g (ix2 r k)) * y (ix2 r k) * (Ideal.ofBits .f32 0x3F800000#32 - Ideal.logistic (g (ix2 r k))) = _
  rw [product_at, Ideal.ofBits_one_f32]

/-- and for its product. -/
theorem back_at (x : Vec Ideal S512x1024 .bf16) (w : Vec Ideal S1024x1024 .bf16) (g : Vec Ideal S512x1024 .bf16) (v : Vec Ideal S1x512x1024 .bf16)
    (r : Fin 512) (l : Fin 512) :
    k0_pay6 (F := Ideal) x w g v (ix2 r l) = ∑ k : Fin 1024, dm x w r k * Ideal.logistic (g (ix2 r k)) * v (ix3 0 l k) := by
  refine (Ideal.matmul_transposedRhs_apply none (k0_pay4 (F := Ideal) x w g) (shapeCast S512x1024 v shapeCasts_S1x512x1024_S512x1024) _ r l).trans ?_
  show Ideal.ofBits .f32 0x00000000#32 + _ = _
  rw [Ideal.ofBits_zero_f32, zero_add]
  refine Finset.sum_congr rfl fun k _ => ?_
  rw [gated_at, shapeCast_apply v shapeCasts_S1x512x1024_S512x1024 (ix2 l k) (ix3 0 l k) (by
    rw [Shape.rowMajor_val_two, Shape.rowMajor_val_three]; show (0 * 512 + l.val) * 1024 + k.val = l.val * 1024 + k.val; omega)]

/-- A load of one matrix of a stack. -/
theorem slab_at {κ : Kind} {sg : RefSig} {sp : Space} {a n m o : ℕ} {e : EltTy} {r : Memref sg κ sp ⟨3, ![a, n, m]⟩ e} (h : r.IsWhole)
    (X : (⟨3, ![a, n, m]⟩ : Shape).Idx → Elt Ideal e)
    (inb : ∀ i, (![o, 0, 0] : Fin 3 → ℕ) i + (![1, n, m] : Fin 3 → ℕ) i ≤ (⟨3, ![a, n, m]⟩ : Shape).size i)
    (b : Fin a) (hb : b.val = o) (l : Fin n) (k : Fin m) :
    View.readAt (Elt Ideal) r.view (Rect.unit (s := ⟨3, ![a, n, m]⟩) ![o, 0, 0] ![1, n, m] inb).toLoadRect (h.unread X) (ix3 0 l k) = X (ix3 b l k) := by
  rw [View.readAt_eq_ld, h.read_unread]
  show X _ = X _
  congr 1
  funext x
  match x with
  | ⟨0, _⟩ => exact Fin.ext (by show o + 1 * 0 = b.val; omega)
  | ⟨1, _⟩ => exact Fin.ext (by show 0 + 1 * l.val = l.val; omega)
  | ⟨2, _⟩ => exact Fin.ext (by show 0 + 1 * k.val = k.val; omega)

/-- A load of the whole of a matrix is the matrix. -/
theorem whole_eq {κ : Kind} {sg : RefSig} {sp : Space} {n m : ℕ} {e : EltTy} {r : Memref sg κ sp ⟨2, ![n, m]⟩ e} (h : r.IsWhole)
    (X : (⟨2, ![n, m]⟩ : Shape).Idx → Elt Ideal e)
    (inb : ∀ i, (![0, 0] : Fin 2 → ℕ) i + (![n, m] : Fin 2 → ℕ) i ≤ (⟨2, ![n, m]⟩ : Shape).size i) :
    View.readAt (Elt Ideal) r.view (Rect.unit (s := ⟨2, ![n, m]⟩) ![0, 0] ![n, m] inb).toLoadRect (h.unread X) = X := by
  rw [View.readAt_eq_ld, h.read_unread]
  exact ld_whole inb X

variable (m : (ℓ : Loc nD τ sig) → Buf (Elt Ideal) ℓ) (c : Dev nD) (t : Fin cfg0.N)

/-- The tile's blocks. -/
abbrev bx : Mat 512 1024 := iblk m c 0 t
@[inherit_doc bx] abbrev bw : Mat 1024 1024 := iblk m c 1 t
@[inherit_doc bx] abbrev bY : Mat 512 3072 := iblk m c 2 t
@[inherit_doc bx] abbrev bg : Mat 512 3072 := iblk m c 3 t
@[inherit_doc bx] abbrev bv : Stack 3 512 1024 := iblk m c 4 t

theorem tile_dy (r : Fin 512) (b : Fin 3) (k : Fin 1024) :
    (outsAt0 m c t).1 (ix2 r (wide b k)) = dy (bx m c t) (bw m c t) (bg m c t) r b k := by
  dsimp only [outsAt0]
  unfold out0_A_5
  rw [View.read_writes_junk_eq_canon]
  unfold kernelRun0_A
  dsimp only
  have hb : b = 0 ∨ b = 1 ∨ b = 2 := by omega
  rcases hb with rfl | rfl | rfl
  · refine (canon_col _ _ _ _ _ (by left; show 1024 * 0 + k.val < 2048; omega)).trans ?_
    refine (canon_col _ _ _ _ _ (by left; show 1024 * 0 + k.val < 1024; omega)).trans ?_
    refine (canon_at _ _ _ _ _ r k (by omega) (by show 1024 * 0 + k.val = 0 + k.val; omega)).trans ?_
    rw [gated_at, whole_eq, whole_eq, load_apply (hs0_3 t) _ _ r k r (wide 0 k) (by omega) (by show 1024 * 0 + k.val = 0 + k.val; omega)]
    rfl
  · refine (canon_col _ _ _ _ _ (by left; show 1024 * 1 + k.val < 2048; omega)).trans ?_
    refine (canon_at _ _ _ _ _ r k (by omega) rfl).trans ?_
    refine (gated_at _ _ _ r k).trans ?_
    rw [whole_eq, whole_eq, load_apply (o := 0) (p := 1024) (hs0_3 t) _ _ r k r (wide 1 k) (by omega) rfl]
    rfl
  · refine (canon_at _ _ _ _ _ r k (by omega) rfl).trans ?_
    unfold kernelRun0_A.sl.r
    refine (gated_at _ _ _ r k).trans ?_
    rw [whole_eq, whole_eq, load_apply (o := 0) (p := 2048) (hs0_3 t) _ _ r k r (wide 2 k) (by omega) rfl]
    rfl

theorem tile_dg (r : Fin 512) (b : Fin 3) (k : Fin 1024) :
    (outsAt0 m c t).2.1 (ix2 r (wide b k)) = dg (bx m c t) (bw m c t) (bY m c t) (bg m c t) r b k := by
  dsimp only [outsAt0]
  unfold out0_A_6
  rw [View.read_writes_junk_eq_canon]
  unfold kernelRun0_A
  dsimp only
  have hb : b = 0 ∨ b = 1 ∨ b = 2 := by omega
  rcases hb with rfl | rfl | rfl
  · refine (canon_col _ _ _ _ _ (by left; show 1024 * 0 + k.val < 2048; omega)).trans ?_
    refine (canon_col _ _ _ _ _ (by left; show 1024 * 0 + k.val < 1024; omega)).trans ?_
    refine (canon_at _ _ _ _ _ r k (by omega) (by show 1024 * 0 + k.val = 0 + k.val; omega)).trans ?_
    rw [gates_at, whole_eq, whole_eq, load_apply (hs0_3 t) _ _ r k r (wide 0 k) (by omega) (by show 1024 * 0 + k.val = 0 + k.val; omega),
      load_apply (hs0_2 t) _ _ r k r (wide 0 k) (by omega) (by show 1024 * 0 + k.val = 0 + k.val; omega)]
    rfl
  · refine (canon_col _ _ _ _ _ (by left; show 1024 * 1 + k.val < 2048; omega)).trans ?_
    refine (canon_at _ _ _ _ _ r k (by omega) rfl).trans ?_
    unfold kernelRun0_A.sl.r_1 kernelRun0_A.sl.r_2 kernelRun0_A.sl.r_4
    refine (gates_at _ _ _ _ r k).trans ?_
    rw [whole_eq, whole_eq, load_apply (o := 0) (p := 1024) (hs0_3 t) _ _ r k r (wide 1 k) (by omega) rfl, load_apply (o := 0) (p := 1024) (hs0_2 t) _ _ r k r (wide 1 k) (by omega) rfl]
    rfl
  · refine (canon_at _ _ _ _ _ r k (by omega) rfl).trans ?_
    unfold kernelRun0_A.sl.r
    refine (gates_at _ _ _ _ r k).trans ?_
    rw [whole_eq, whole_eq, load_apply (o := 0) (p := 2048) (hs0_3 t) _ _ r k r (wide 2 k) (by omega) rfl, load_apply (o := 0) (p := 2048) (hs0_2 t) _ _ r k r (wide 2 k) (by omega) rfl]
    rfl

theorem tile_dz (r : Fin 512) (b : Fin 3) (l : Fin 512) :
    (outsAt0 m c t).2.2 (ix2 r (half b l)) = dz (bx m c t) (bw m c t) (bg m c t) (bv m c t) r b l := by
  dsimp only [outsAt0]
  unfold out0_A_7
  rw [View.read_writes_junk_eq_canon]
  unfold kernelRun0_A
  dsimp only
  have hb : b = 0 ∨ b = 1 ∨ b = 2 := by omega
  rcases hb with rfl | rfl | rfl
  · refine (canon_col _ _ _ _ _ (by left; show 512 * 0 + l.val < 1024; omega)).trans ?_
    refine (canon_col _ _ _ _ _ (by left; show 512 * 0 + l.val < 512; omega)).trans ?_
    refine (canon_at _ _ _ _ _ r l (by omega) (by show 512 * 0 + l.val = 0 + l.val; omega)).trans ?_
    refine (back_at _ _ _ _ r l).trans (Finset.sum_congr rfl fun k _ => ?_)
    rw [whole_eq, whole_eq, load_apply (hs0_3 t) _ _ r k r (wide 0 k) (by omega) (by show 1024 * 0 + k.val = 0 + k.val; omega), slab_at (o := 0) (hs0_4 t) _ _ 0 rfl l k]
    rfl
  · refine (canon_col _ _ _ _ _ (by left; show 512 * 1 + l.val < 1024; omega)).trans ?_
    refine (canon_at _ _ _ _ _ r l (by omega) rfl).trans ?_
    unfold kernelRun0_A.sl.r_3
    refine (back_at _ _ _ _ r l).trans (Finset.sum_congr rfl fun k _ => ?_)
    rw [whole_eq, whole_eq, load_apply (o := 0) (p := 1024) (hs0_3 t) _ _ r k r (wide 1 k) (by omega) rfl, slab_at (o := 1) (hs0_4 t) _ _ 1 rfl l k]
    rfl
  · refine (canon_at _ _ _ _ _ r l (by omega) rfl).trans ?_
    unfold kernelRun0_A.sl.r
    refine (back_at _ _ _ _ r l).trans (Finset.sum_congr rfl fun k _ => ?_)
    rw [whole_eq, whole_eq, load_apply (o := 0) (p := 2048) (hs0_3 t) _ _ r k r (wide 2 k) (by omega) rfl, slab_at (o := 2) (hs0_4 t) _ _ 2 rfl l k]
    rfl

end Cert.Proof.Merge

end
-- ==== Proof.MergeWhole.lean ====
/- The merge's three results, read at an entry: each is the tile's that holds the entry's row. -/
module

public import proofs.«01_k».proof.Proof.MergeTile
public import proofs.«01_k».proof.Proof.Gen.MergeIdeal.Value
public import proofs.«01_k».proof.Proof.RefMerge

@[expose] public section

noncomputable section

namespace Cert.Proof.Merge

open Idealize.ShloMosaic Idealize.ShloMosaic.ValueIdx Idealize.ShloMosaic.TcCoe Cert.MergeIdeal Cert.MergeIdeal.Gen Cert.MergeIdeal.Value

variable (m : (ℓ : Loc nD τ sig) → Buf (Elt Ideal) ℓ) (c : Dev nD)

/-- The incoming gradient, the output weights, the branches' products, the gates and the branches' weights, as the device holds them. -/
abbrev ax : Mat 2048 1024 := m ((c : Thread nD τ).loc main_arg0)
@[inherit_doc ax] abbrev aw : Mat 1024 1024 := m ((c : Thread nD τ).loc main_arg1)
@[inherit_doc ax] abbrev ay : Mat 2048 3072 := m ((c : Thread nD τ).loc main_arg2)
@[inherit_doc ax] abbrev ag : Mat 2048 3072 := m ((c : Thread nD τ).loc main_arg3)
@[inherit_doc ax] abbrev av : Stack 3 512 1024 := m ((c : Thread nD τ).loc main_arg4)

theorem index0 : ∀ t : Fin grid0.N, cc0_transform_0 (grid0.coords t) 0 = t.val ∧ cc0_transform_0 (grid0.coords t) 1 = 0 := by decide +kernel
theorem index1 : ∀ t : Fin grid0.N, cc0_transform_1 (grid0.coords t) 0 = 0 ∧ cc0_transform_1 (grid0.coords t) 1 = 0 := by decide +kernel
theorem index2 : ∀ t : Fin grid0.N, cc0_transform_2 (grid0.coords t) 0 = t.val ∧ cc0_transform_2 (grid0.coords t) 1 = 0 := by decide +kernel
theorem index3 : ∀ t : Fin grid0.N, cc0_transform_3 (grid0.coords t) 0 = t.val ∧ cc0_transform_3 (grid0.coords t) 1 = 0 := by decide +kernel
theorem index4 : ∀ t : Fin grid0.N, cc0_transform_4 (grid0.coords t) 0 = 0 ∧ cc0_transform_4 (grid0.coords t) 1 = 0 ∧ cc0_transform_4 (grid0.coords t) 2 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- Row `r` of tile `t` among the rows. -/
def row (t : Fin cfg0.N) (r : Fin 512) : Fin 2048 := ⟨512 * t.val + r.val, by have : t.val < 4 := t.isLt; omega⟩

/-- The blocks are the arrays' rows of the tile, and the weights. -/
theorem bx_at (t : Fin cfg0.N) (r : Fin 512) (q : Fin 1024) : bx m c t (ix2 r q) = ax m c (ix2 (row t r) q) := by
  refine congrArg (ax m c) (funext fun x => ?_)
  match x with
  | ⟨0, _⟩ => exact Fin.ext (by show cc0_transform_0 (grid0.coords t) 0 * 512 + 1 * r.val = 512 * t.val + r.val; rw [(index0 t).1]; omega)
  | ⟨1, _⟩ => exact Fin.ext (by show cc0_transform_0 (grid0.coords t) 1 * 1024 + 1 * q.val = q.val; rw [(index0 t).2]; omega)

theorem bw_at (t : Fin cfg0.N) (k q : Fin 1024) : bw m c t (ix2 k q) = aw m c (ix2 k q) := by
  refine congrArg (aw m c) (funext fun x => ?_)
  match x with
  | ⟨0, _⟩ => exact Fin.ext (by show cc0_transform_1 (grid0.coords t) 0 * 1024 + 1 * k.val = k.val; rw [(index1 t).1]; omega)
  | ⟨1, _⟩ => exact Fin.ext (by show cc0_transform_1 (grid0.coords t) 1 * 1024 + 1 * q.val = q.val; rw [(index1 t).2]; omega)

theorem bY_at (t : Fin cfg0.N) (r : Fin 512) (b : Fin 3072) : bY m c t (ix2 r b) = ay m c (ix2 (row t r) b) := by
  refine congrArg (ay m c) (funext fun x => ?_)
  match x with
  | ⟨0, _⟩ => exact Fin.ext (by show cc0_transform_2 (grid0.coords t) 0 * 512 + 1 * r.val = 512 * t.val + r.val; rw [(index2 t).1]; omega)
  | ⟨1, _⟩ => exact Fin.ext (by show cc0_transform_2 (grid0.coords t) 1 * 3072 + 1 * b.val = b.val; rw [(index2 t).2]; omega)

theorem bg_at (t : Fin cfg0.N) (r : Fin 512) (b : Fin 3072) : bg m c t (ix2 r b) = ag m c (ix2 (row t r) b) := by
  refine congrArg (ag m c) (funext fun x => ?_)
  match x with
  | ⟨0, _⟩ => exact Fin.ext (by show cc0_transform_3 (grid0.coords t) 0 * 512 + 1 * r.val = 512 * t.val + r.val; rw [(index3 t).1]; omega)
  | ⟨1, _⟩ => exact Fin.ext (by show cc0_transform_3 (grid0.coords t) 1 * 3072 + 1 * b.val = b.val; rw [(index3 t).2]; omega)

theorem bv_at (t : Fin cfg0.N) (b : Fin 3) (l : Fin 512) (k : Fin 1024) : bv m c t (ix3 b l k) = av m c (ix3 b l k) := by
  refine congrArg (av m c) (funext fun x => ?_)
  match x with
  | ⟨0, _⟩ => exact Fin.ext (by show cc0_transform_4 (grid0.coords t) 0 * 3 + 1 * b.val = b.val; rw [(index4 t).1]; omega)
  | ⟨1, _⟩ => exact Fin.ext (by show cc0_transform_4 (grid0.coords t) 1 * 512 + 1 * l.val = l.val; rw [(index4 t).2.1]; omega)
  | ⟨2, _⟩ => exact Fin.ext (by show cc0_transform_4 (grid0.coords t) 2 * 1024 + 1 * k.val = k.val; rw [(index4 t).2.2]; omega)

/-- So the tile's gradients are the rows'. -/
theorem dm_tile (t : Fin cfg0.N) (r : Fin 512) (k : Fin 1024) : dm (bx m c t) (bw m c t) r k = dm (ax m c) (aw m c) (row t r) k :=
  Finset.sum_congr rfl fun q _ => by rw [bx_at, bw_at]

theorem dy_tile (t : Fin cfg0.N) (r : Fin 512) (b : Fin 3) (k : Fin 1024) :
    dy (bx m c t) (bw m c t) (bg m c t) r b k = dy (ax m c) (aw m c) (ag m c) (row t r) b k := by
  rw [dy, dm_tile, bg_at, dy]

theorem dg_tile (t : Fin cfg0.N) (r : Fin 512) (b : Fin 3) (k : Fin 1024) :
    dg (bx m c t) (bw m c t) (bY m c t) (bg m c t) r b k = dg (ax m c) (aw m c) (ay m c) (ag m c) (row t r) b k := by
  rw [dg, dy_tile, bY_at, bg_at, dg]

theorem dz_tile (t : Fin cfg0.N) (r : Fin 512) (b : Fin 3) (l : Fin 512) :
    dz (bx m c t) (bw m c t) (bg m c t) (bv m c t) r b l = dz (ax m c) (aw m c) (ag m c) (av m c) (row t r) b l :=
  Finset.sum_congr rfl fun k _ => by rw [dy_tile, bv_at]

/-- Each result's row is the tile's. -/
theorem dy_result (t : Fin cfg0.N) (r : Fin 512) (b : Fin 3072) : (dats m 0 c).arrAt 5 cfg0.N (ix2 (row t r) b) = (outsAt0 m c t).1 (ix2 r b) := by
  have h := congrFun ((blocks5 m c t (flush0_5 t)).trans (flushed5 m c t)) (ix2 r b)
  refine Eq.trans ?_ h
  refine congrArg ((dats m 0 c).arrAt 5 cfg0.N) (funext fun x => ?_)
  match x with
  | ⟨0, _⟩ => exact Fin.ext (by show 512 * t.val + r.val = win0_5.index t 0 * 512 + 1 * r.val; rw [(index5 t).1]; omega)
  | ⟨1, _⟩ => exact Fin.ext (by show b.val = win0_5.index t 1 * 3072 + 1 * b.val; rw [(index5 t).2]; omega)

theorem dg_result (t : Fin cfg0.N) (r : Fin 512) (b : Fin 3072) : (dats m 0 c).arrAt 6 cfg0.N (ix2 (row t r) b) = (outsAt0 m c t).2.1 (ix2 r b) := by
  have h := congrFun ((blocks6 m c t (flush0_6 t)).trans (flushed6 m c t)) (ix2 r b)
  refine Eq.trans ?_ h
  refine congrArg ((dats m 0 c).arrAt 6 cfg0.N) (funext fun x => ?_)
  match x with
  | ⟨0, _⟩ => exact Fin.ext (by show 512 * t.val + r.val = win0_6.index t 0 * 512 + 1 * r.val; rw [(index6 t).1]; omega)
  | ⟨1, _⟩ => exact Fin.ext (by show b.val = win0_6.index t 1 * 3072 + 1 * b.val; rw [(index6 t).2]; omega)

theorem dz_result (t : Fin cfg0.N) (r : Fin 512) (b : Fin 1536) : (dats m 0 c).arrAt 7 cfg0.N (ix2 (row t r) b) = (outsAt0 m c t).2.2 (ix2 r b) := by
  have h := congrFun ((blocks7 m c t (flush0_7 t)).trans (flushed7 m c t)) (ix2 r b)
  refine Eq.trans ?_ h
  refine congrArg ((dats m 0 c).arrAt 7 cfg0.N) (funext fun x => ?_)
  match x with
  | ⟨0, _⟩ => exact Fin.ext (by show 512 * t.val + r.val = win0_7.index t 0 * 512 + 1 * r.val; rw [(index7 t).1]; omega)
  | ⟨1, _⟩ => exact Fin.ext (by show b.val = win0_7.index t 1 * 1536 + 1 * b.val; rw [(index7 t).2]; omega)

/-- A row is a row of a tile. -/
theorem row_eq (n : Fin 2048) : ∃ (t : Fin cfg0.N) (r : Fin 512), n = row t r := by
  have h : n.val / 512 < cfg0.N := by show n.val / 512 < 4; omega
  exact ⟨⟨n.val / 512, h⟩, ⟨n.val % 512, by omega⟩, Fin.ext (by show n.val = 512 * (n.val / 512) + n.val % 512; omega)⟩

theorem wide_eq (k : Fin 3072) : ∃ (b : Fin 3) (j : Fin 1024), k = wide b j :=
  ⟨⟨k.val / 1024, by omega⟩, ⟨k.val % 1024, by omega⟩, Fin.ext (by show k.val = 1024 * (k.val / 1024) + k.val % 1024; omega)⟩

theorem half_eq (k : Fin 1536) : ∃ (b : Fin 3) (j : Fin 512), k = half b j :=
  ⟨⟨k.val / 512, by omega⟩, ⟨k.val % 512, by omega⟩, Fin.ext (by show k.val = 512 * (k.val / 512) + k.val % 512; omega)⟩

open Cert.ReferenceMergeIdeal.Read

/-- The three results are the reference's. -/
theorem dy_eq : (dats m 0 c).arrAt 5 cfg0.N = val_main_v38 (F := Ideal) (ax m c) (aw m c) (ag m c) := by
  funext i
  obtain ⟨n, k, rfl⟩ : ∃ (n : Fin 2048) (k : Fin 3072), i = ix2 n k := ⟨i 0, i 1, eq_ix2 i⟩
  obtain ⟨t, r, rfl⟩ := row_eq n
  obtain ⟨b, j, rfl⟩ := wide_eq k
  rw [dy_result, tile_dy, dy_tile]
  exact (Ref.dy_at (ax m c) (aw m c) (ag m c) (row t r) b j).symm

theorem dg_eq : (dats m 0 c).arrAt 6 cfg0.N = val_main_v39 (F := Ideal) (ax m c) (aw m c) (ay m c) (ag m c) := by
  funext i
  obtain ⟨n, k, rfl⟩ : ∃ (n : Fin 2048) (k : Fin 3072), i = ix2 n k := ⟨i 0, i 1, eq_ix2 i⟩
  obtain ⟨t, r, rfl⟩ := row_eq n
  obtain ⟨b, j, rfl⟩ := wide_eq k
  rw [dg_result, tile_dg, dg_tile]
  exact (Ref.dg_at (ax m c) (aw m c) (ay m c) (ag m c) (row t r) b j).symm

theorem dz_eq : (dats m 0 c).arrAt 7 cfg0.N = val_main_v40 (F := Ideal) (ax m c) (aw m c) (ag m c) (av m c) := by
  funext i
  obtain ⟨n, k, rfl⟩ : ∃ (n : Fin 2048) (k : Fin 1536), i = ix2 n k := ⟨i 0, i 1, eq_ix2 i⟩
  obtain ⟨t, r, rfl⟩ := row_eq n
  obtain ⟨b, l, rfl⟩ := half_eq k
  rw [dz_result, tile_dz, dz_tile]
  exact (Ref.dz_at (ax m c) (aw m c) (ag m c) (av m c) (row t r) b l).symm

end Cert.Proof.Merge

end
-- ==== Proof.Products.lean ====
/- A product that contracts the rows of both its factors, read at an entry: the sum over the rows. -/
module

public import Idealize.ShloMosaic.Lib.MatmulPlain

@[expose] public section

noncomputable section

namespace Cert.Proof.Products

open Idealize.ShloMosaic Idealize.ShloMosaic.ValueIdx

/-- The dimension numbers of `aᵀ b`, for `a` of `K × M` and `b` of `K × N` entries. -/
def rows (K M N : ℕ) (wf : DotDims.WF (⟨2, ![K, M]⟩ : Shape) ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- An entry of `aᵀ b`, on an accumulator that is zero there. -/
theorem rows_at {K M N : ℕ} (wf : DotDims.WF (⟨2, ![K, M]⟩ : Shape) ⟨2, ![K, N]⟩ ⟨2, ![M, N]⟩ [0] [0] [1] [1] [] []) {φ₁ φ₂ : FTy}
    (a : FVec Ideal ⟨2, ![K, M]⟩ φ₁) (b : FVec Ideal ⟨2, ![K, N]⟩ φ₂) (acc : FVec Ideal ⟨2, ![M, N]⟩ .f32) (i : Fin M) (j : Fin N)
    (h0 : acc (ix2 i j) = (0 : EReal)) :
    FloatOps.matmul (rows K M N wf) none a b acc (ix2 i j) = ∑ k : Fin K, a (ix2 k i) * b (ix2 k j) := by
  rw [Ideal.matmul_apply, ← Equiv.sum_comp (contrEquiv1 (rows K M N wf) K rfl rfl).symm, h0, zero_add]
  refine Finset.sum_congr rfl fun k _ => ?_
  have hk := contrEquiv1_symm_val (rows K M N wf) K rfl rfl k
  have el : (rows K M N wf).lhsIdx (ix2 i j) ((contrEquiv1 (rows K M N wf) K rfl rfl).symm k) = ix2 k i := by
    funext x; apply Fin.ext
    match x with
    | ⟨0, _⟩ => exact hk
    | ⟨1, _⟩ => rfl
  have er : (rows K M N wf).rhsIdx (ix2 i j) ((contrEquiv1 (rows K M N wf) K rfl rfl).symm k) = ix2 k j := by
    funext x; apply Fin.ext
    match x with
    | ⟨0, _⟩ => exact hk
    | ⟨1, _⟩ => rfl
  rw [el, er]

end Cert.Proof.Products

end
-- ==== Proof.DwIn.lean ====
/- The gradient of the input projection's weights: each tile of 768 rows is the product of one of the cotangent's column blocks,
   transposed, with the normalised input; together they are the reference's. -/
module

public import proofs.«01_k».proof.Proof.Gen.DwInIdeal.Value
public import proofs.«01_k».proof.Proof.Gen.ReferenceDwInIdeal.Read
public import proofs.«01_k».proof.Proof.Stores
public import proofs.«01_k».proof.Proof.Products
public import Idealize.ShloMosaic.Lib.Pipeline.Value

@[expose] public section

noncomputable section

namespace Cert.Proof.DwIn

open Idealize.ShloMosaic Idealize.ShloMosaic.ValueIdx Idealize.ShloMosaic.TcCoe Cert.DwInIdeal Cert.DwInIdeal.Gen Cert.DwInIdeal.Value Cert.Proof.Stores

/-- A matrix. -/
abbrev Mat (a b : ℕ) := (⟨2, ![a, b]⟩ : Shape).Idx → EReal

/-- Both cases store the product of what they loaded. -/
theorem product_first (a : Vec Ideal S2048x768 .bf16) (b : Vec Ideal S2048x1024 .bf16) (i : Fin 768) (j : Fin 1024) :
    k0_pay1 (F := Ideal) a b (ix2 i j) = ∑ k : Fin 2048, (a (ix2 k i) * b (ix2 k j) : EReal) :=
  Products.rows_at (φ₁ := .bf16) (φ₂ := .bf16) dot_S2048x768_S2048x1024_S768x1024_0_0_1_1_n_n.wf a b _ i j Ideal.ofBits_zero_f32

theorem product_second (a : Vec Ideal S2048x768 .bf16) (b : Vec Ideal S2048x1024 .bf16) (i : Fin 768) (j : Fin 1024) :
    k0_pay2 (F := Ideal) a b (ix2 i j) = ∑ k : Fin 2048, (a (ix2 k i) * b (ix2 k j) : EReal) :=
  Products.rows_at (φ₁ := .bf16) (φ₂ := .bf16) dot_S2048x768_S2048x1024_S768x1024_0_0_1_1_n_n.wf a b _ i j Ideal.ofBits_zero_f32

variable (m : (ℓ : Loc nD τ sig) → Buf (Elt Ideal) ℓ) (c : Dev nD)

/-- The cotangent of the mixers' columns, of the gates' columns, and the normalised input, as the device holds them. -/
abbrev am : Mat 2048 4608 := m ((c : Thread nD τ).loc main_arg0)
@[inherit_doc am] abbrev ag : Mat 2048 3072 := m ((c : Thread nD τ).loc main_arg1)
@[inherit_doc am] abbrev ah : Mat 2048 1024 := m ((c : Thread nD τ).loc main_arg2)

theorem tile_lt (t : Fin cfg0.N) : t.val < 10 := t.isLt

theorem index0 : ∀ t : Fin grid0.N, cc0_transform_0 (grid0.coords t) 0 = 0 ∧ (t.val < 6 → cc0_transform_0 (grid0.coords t) 1 = t.val) := by decide +kernel
theorem index1 : ∀ t : Fin grid0.N, cc0_transform_1 (grid0.coords t) 0 = 0 ∧ (6 ≤ t.val → cc0_transform_1 (grid0.coords t) 1 = t.val - 6) := by decide +kernel
theorem index2 : ∀ t : Fin grid0.N, cc0_transform_2 (grid0.coords t) 0 = 0 ∧ cc0_transform_2 (grid0.coords t) 1 = 0 := by decide +kernel
theorem index3 : ∀ t : Fin grid0.N, win0_3.index t 0 = t.val ∧ win0_3.index t 1 = 0 := by decide +kernel

/-- The blocks' entries. -/
theorem am_at (t : Fin cfg0.N) (ht : t.val < 6) (k : Fin 2048) (i : Fin 768) :
    (iblk m c 0 t : Mat 2048 768) (ix2 k i) = am m c (ix2 k ⟨768 * t.val + i.val, by omega⟩) := by
  refine congrArg (am m c) (funext fun x => ?_)
  match x with
  | ⟨0, _⟩ => exact Fin.ext (by show cc0_transform_0 (grid0.coords t) 0 * 2048 + 1 * k.val = k.val; rw [(index0 t).1]; omega)
  | ⟨1, _⟩ => exact Fin.ext (by show cc0_transform_0 (grid0.coords t) 1 * 768 + 1 * i.val = 768 * t.val + i.val; rw [(index0 t).2 ht]; omega)

theorem ag_at (t : Fin cfg0.N) (ht : 6 ≤ t.val) (k : Fin 2048) (i : Fin 768) :
    (iblk m c 1 t : Mat 2048 768) (ix2 k i) = ag m c (ix2 k ⟨768 * (t.val - 6) + i.val, by have := tile_lt t; omega⟩) := by
  refine congrArg (ag m c) (funext fun x => ?_)
  match x with
  | ⟨0, _⟩ => exact Fin.ext (by show cc0_transform_1 (grid0.coords t) 0 * 2048 + 1 * k.val = k.val; rw [(index1 t).1]; omega)
  | ⟨1, _⟩ => exact Fin.ext (by show cc0_transform_1 (grid0.coords t) 1 * 768 + 1 * i.val = 768 * (t.val - 6) + i.val; rw [(index1 t).2 ht]; omega)

theorem ah_at (t : Fin cfg0.N) (k : Fin 2048) (j : Fin 1024) : (iblk m c 2 t : Mat 2048 1024) (ix2 k j) = ah m c (ix2 k j) := by
  refine congrArg (ah m c) (funext fun x => ?_)
  match x with
  | ⟨0, _⟩ => exact Fin.ext (by show cc0_transform_2 (grid0.coords t) 0 * 2048 + 1 * k.val = k.val; rw [(index2 t).1]; omega)
  | ⟨1, _⟩ => exact Fin.ext (by show cc0_transform_2 (grid0.coords t) 1 * 1024 + 1 * j.val = j.val; rw [(index2 t).2]; omega)

/-- What a tile leaves. -/
theorem tile_first (t : Fin cfg0.N) (ht : t.val < 6) (i : Fin 768) (j : Fin 1024) :
    outsAt0 m c t.val t.isLt (ix2 i j) = ∑ k : Fin 2048, am m c (ix2 k ⟨768 * t.val + i.val, by omega⟩) * ah m c (ix2 k j) := by
  rw [outsAt0_A m c t ht (by omega)]
  unfold out0_A_3
  rw [View.read_writes_junk_eq_canon]
  unfold kernelRun0_A
  dsimp only
  refine (canon_at _ _ _ _ _ i j (by omega) (by omega)).trans ?_
  refine (product_first _ _ i j).trans (Finset.sum_congr rfl fun k _ => ?_)
  rw [load_apply (o := 0) (p := 0) (hs0_0 t) _ _ k i k i (by omega) (by omega), load_apply (o := 0) (p := 0) (hs0_2 t) _ _ k j k j (by omega) (by omega)]
  exact congrArg₂ (· * ·) (am_at m c t ht k i) (ah_at m c t k j)

theorem tile_second (t : Fin cfg0.N) (ht : 6 ≤ t.val) (i : Fin 768) (j : Fin 1024) :
    outsAt0 m c t.val t.isLt (ix2 i j)
      = ∑ k : Fin 2048, ag m c (ix2 k ⟨768 * (t.val - 6) + i.val, by have := tile_lt t; omega⟩) * ah m c (ix2 k j) := by
  rw [outsAt0_B m c t (by omega) ht]
  unfold out0_B_3
  rw [View.read_writes_junk_eq_canon]
  unfold kernelRun0_B
  dsimp only
  refine (canon_at _ _ _ _ _ i j (by omega) (by omega)).trans ?_
  refine (product_second _ _ i j).trans (Finset.sum_congr rfl fun k _ => ?_)
  rw [load_apply (o := 0) (p := 0) (hs0_1 t) _ _ k i k i (by omega) (by omega), load_apply (o := 0) (p := 0) (hs0_2 t) _ _ k j k j (by omega) (by omega)]
  exact congrArg₂ (· * ·) (ag_at m c t ht k i) (ah_at m c t k j)

/-- Row `768 t + i` of the result is row `i` of tile `t`. -/
theorem result_at (t : Fin cfg0.N) (i : Fin 768) (j : Fin 1024) :
    (dats m 0 c).arrAt 3 cfg0.N (ix2 ⟨768 * t.val + i.val, by have := tile_lt t; omega⟩ j) = outsAt0 m c t.val t.isLt (ix2 i j) := by
  have h := congrFun ((blocks3 m c t (flush0_3 t)).trans (flushed3 m c t)) (ix2 i j)
  refine Eq.trans ?_ h
  refine congrArg ((dats m 0 c).arrAt 3 cfg0.N) (funext fun x => ?_)
  match x with
  | ⟨0, _⟩ => exact Fin.ext (by show 768 * t.val + i.val = win0_3.index t 0 * 768 + 1 * i.val; rw [(index3 t).1]; omega)
  | ⟨1, _⟩ => exact Fin.ext (by show j.val = win0_3.index t 1 * 1024 + 1 * j.val; rw [(index3 t).2]; omega)

open Cert.ReferenceDwInIdeal.Read

/-- The reference's product, its cotangent the two laid side by side. -/
theorem ref_at (p : Mat 2048 4608) (g : Mat 2048 3072) (h : Mat 2048 1024) (i : Fin 7680) (j : Fin 1024) :
    val_main_v8 (F := Ideal) p g h (ix2 i j) = ∑ k : Fin 2048, val_main_v3 (F := Ideal) p g (ix2 k i) * h (ix2 k j) := by
  rw [val_main_v8_apply, val_main_v7_apply, val_main_v6_apply]
  refine (val_main_v5_apply p g h _).trans (Finset.sum_congr rfl fun k _ => ?_)
  have e1 : lidx_main_v5 (idx_main_v6 (idx_main_v7 (ix2 i j))) k = ix2 k i := by
    funext x; match x with | ⟨0, _⟩ => rfl | ⟨1, _⟩ => rfl
  have e2 : ridx_main_v5 (idx_main_v6 (idx_main_v7 (ix2 i j))) k = ix2 k j := by
    funext x; match x with | ⟨0, _⟩ => rfl | ⟨1, _⟩ => rfl
  rw [e1, e2]
  rfl

theorem ref_first (p : Mat 2048 4608) (g : Mat 2048 3072) (k : Fin 2048) (i : Fin 4608) :
    val_main_v3 (F := Ideal) p g (ix2 k ⟨i.val, by omega⟩) = p (ix2 k i) := by
  unfold val_main_v3
  refine concatenate_apply_piece (t := ⟨2, ![2048, 7680]⟩) 1 _ _ _ 0 ?_ S2048x4608 p ?_ rfl 0 ?_ (ix2 k i) ?_ ?_
  · show 0 < 2; omega
  · rfl
  · rfl
  · intro b hb; match b with | ⟨0, _⟩ => rfl | ⟨1, _⟩ => exact absurd rfl hb
  · exact Nat.zero_add i.val

theorem ref_second (p : Mat 2048 4608) (g : Mat 2048 3072) (k : Fin 2048) (i : Fin 3072) :
    val_main_v3 (F := Ideal) p g (ix2 k ⟨4608 + i.val, by omega⟩) = g (ix2 k i) := by
  unfold val_main_v3
  refine concatenate_apply_piece (t := ⟨2, ![2048, 7680]⟩) 1 _ _ _ 1 ?_ S2048x3072 g ?_ rfl 4608 ?_ (ix2 k i) ?_ ?_
  · show 1 < 2; omega
  · rfl
  · rfl
  · intro b hb; match b with | ⟨0, _⟩ => rfl | ⟨1, _⟩ => exact absurd rfl hb
  · rfl

/-- The result is the reference's. -/
theorem result_eq : (dats m 0 c).arrAt 3 cfg0.N = val_main_v8 (F := Ideal) (am m c) (ag m c) (ah m c) := by
  funext i
  obtain ⟨n, j, rfl⟩ : ∃ (n : Fin 7680) (j : Fin 1024), i = ix2 n j := ⟨i 0, i 1, eq_ix2 i⟩
  obtain ⟨t, r, e⟩ : ∃ (t : Fin cfg0.N) (r : Fin 768), n.val = 768 * t.val + r.val :=
    ⟨⟨n.val / 768, by show n.val / 768 < 10; omega⟩, ⟨n.val % 768, by omega⟩, by show n.val = 768 * (n.val / 768) + n.val % 768; omega⟩
  have hN : 768 * t.val + r.val < 7680 := by omega
  obtain rfl : n = ⟨768 * t.val + r.val, hN⟩ := Fin.ext e
  clear e
  refine Eq.trans (α := EReal) (result_at m c t r j) (Eq.trans (α := EReal) ?_ (ref_at (am m c) (ag m c) (ah m c) _ j).symm)
  have h10 := tile_lt t
  by_cases ht : t.val < 6
  · refine Eq.trans (α := EReal) (tile_first m c t ht r j) (Finset.sum_congr rfl fun k _ => congrArg (· * ah m c (ix2 k j)) ?_)
    exact (ref_first (am m c) (ag m c) k ⟨768 * t.val + r.val, by omega⟩).symm
  · refine Eq.trans (α := EReal) (tile_second m c t (by omega) r j) (Finset.sum_congr rfl fun k _ => congrArg (· * ah m c (ix2 k j)) ?_)
    refine Eq.trans (ref_second (am m c) (ag m c) k ⟨768 * (t.val - 6) + r.val, by omega⟩).symm ?_
    congr 2
    exact Fin.ext (by show 4608 + (768 * (t.val - 6) + r.val) = 768 * t.val + r.val; omega)

end Cert.Proof.DwIn

end
-- ==== Proof.Slabs.lean ====
/- The stores of the weights' gradients: a whole tile, or the columns of a product cut into slabs. -/
module

public import Idealize.ShloMosaic.Lib.ValueIdx
public import Idealize.ShloMosaic.Lib.Pipeline.Value
public import Idealize.ShloMosaic.Lib.Pipeline.FrameBody
public import Idealize.ShloMosaic.PureOps.Ideal

@[expose] public section

noncomputable section

namespace Cert.Proof.Slabs

open Idealize.ShloMosaic Idealize.ShloMosaic.ValueIdx

variable {n a M N k l : ℕ} {e : EltTy} {Val : EltTy → Type} [∀ e, Nonempty (Val e)]

/-- A tile stored whole. -/
theorem tile_at (inb : ∀ x, (![0, 0, 0] : Fin 3 → ℕ) x + (![1, k, l] : Fin 3 → ℕ) x ≤ (⟨3, ![1, k, l]⟩ : Shape).size x)
    (w : (⟨3, ![1, k, l]⟩ : Shape).Idx → Val e) (L : List (View.Piece Val ⟨3, ![1, k, l]⟩ e)) (i : Fin k) (j : Fin l) :
    View.canon (⟨Rect.unit (s := ⟨3, ![1, k, l]⟩) ![0, 0, 0] ![1, k, l] inb, w⟩ :: L) (ix3 0 i j) = w (ix3 0 i j) := by
  have h : (Rect.unit (s := ⟨3, ![1, k, l]⟩) ![0, 0, 0] ![1, k, l] inb).emb (ix3 0 i j) = ix3 0 i j := by
    funext x
    match x with
    | ⟨0, _⟩ => rfl
    | ⟨1, _⟩ => exact Fin.ext (by show 0 + 1 * i.val = i.val; omega)
    | ⟨2, _⟩ => exact Fin.ext (by show 0 + 1 * j.val = j.val; omega)
  have hc := View.canon_cons_emb (Rect.unit (s := ⟨3, ![1, k, l]⟩) ![0, 0, 0] ![1, k, l] inb) w L (ix3 0 i j)
  rwa [h] at hc

/-- An entry of the slab stored last, and one of another slab. -/
theorem slab_hit {o : ℕ} (inb : ∀ x, (![o, 0, 0, 0] : Fin 4 → ℕ) x + (![1, 1, k, l] : Fin 4 → ℕ) x ≤ (⟨4, ![a, 1, k, l]⟩ : Shape).size x)
    (w : (⟨4, ![1, 1, k, l]⟩ : Shape).Idx → Val e) (L : List (View.Piece Val ⟨4, ![a, 1, k, l]⟩ e)) (d : Fin a) (i : Fin k) (j : Fin l)
    (hd : d.val = o) :
    View.canon (⟨Rect.unit (s := ⟨4, ![a, 1, k, l]⟩) ![o, 0, 0, 0] ![1, 1, k, l] inb, w⟩ :: L) (ix4 d 0 i j) = w (ix4 0 0 i j) := by
  have h : (Rect.unit (s := ⟨4, ![a, 1, k, l]⟩) ![o, 0, 0, 0] ![1, 1, k, l] inb).emb (ix4 0 0 i j) = ix4 d 0 i j := by
    funext x
    match x with
    | ⟨0, _⟩ => exact Fin.ext (by show o + 1 * 0 = d.val; omega)
    | ⟨1, _⟩ => rfl
    | ⟨2, _⟩ => exact Fin.ext (by show 0 + 1 * i.val = i.val; omega)
    | ⟨3, _⟩ => exact Fin.ext (by show 0 + 1 * j.val = j.val; omega)
  rw [← h]; exact View.canon_cons_emb (Rect.unit (s := ⟨4, ![a, 1, k, l]⟩) ![o, 0, 0, 0] ![1, 1, k, l] inb) w L _

theorem slab_miss {o : ℕ} (inb : ∀ x, (![o, 0, 0, 0] : Fin 4 → ℕ) x + (![1, 1, k, l] : Fin 4 → ℕ) x ≤ (⟨4, ![a, 1, k, l]⟩ : Shape).size x)
    (w : (⟨4, ![1, 1, k, l]⟩ : Shape).Idx → Val e) (L : List (View.Piece Val ⟨4, ![a, 1, k, l]⟩ e)) (d : Fin a) (i : Fin k) (j : Fin l)
    (hd : d.val ≠ o) :
    View.canon (⟨Rect.unit (s := ⟨4, ![a, 1, k, l]⟩) ![o, 0, 0, 0] ![1, 1, k, l] inb, w⟩ :: L) (ix4 d 0 i j) = View.canon L (ix4 d 0 i j) := by
  refine View.canon_cons_of_not_mem _ L ?_
  rw [Rect.mem_set_unit]
  intro hall
  have h0 := hall 0
  exact hd (by
    have h1 : o ≤ d.val := h0.1
    have h2 : d.val < o + 1 := h0.2
    omega)

/-- So an entry is what is shown of the slab stored last, where it lies there, and of the slabs before, where it does not. -/
theorem slab_step {o : ℕ} (inb : ∀ x, (![o, 0, 0, 0] : Fin 4 → ℕ) x + (![1, 1, k, l] : Fin 4 → ℕ) x ≤ (⟨4, ![a, 1, k, l]⟩ : Shape).size x)
    (w : (⟨4, ![1, 1, k, l]⟩ : Shape).Idx → Val e) (L : List (View.Piece Val ⟨4, ![a, 1, k, l]⟩ e)) (d : Fin a) (i : Fin k) (j : Fin l) (v : Val e)
    (hit : d.val = o → w (ix4 0 0 i j) = v) (miss : d.val ≠ o → View.canon L (ix4 d 0 i j) = v) :
    View.canon (⟨Rect.unit (s := ⟨4, ![a, 1, k, l]⟩) ![o, 0, 0, 0] ![1, 1, k, l] inb, w⟩ :: L) (ix4 d 0 i j) = v := by
  by_cases h : d.val = o
  · exact (slab_hit inb w L d i j h).trans (hit h)
  · exact (slab_miss inb w L d i j h).trans (miss h)

/-- A block of a product's columns, stored as a slab. -/
theorem cut_at {o : ℕ} (U : FVec Ideal ⟨2, ![M, N]⟩ .f32) (h1 : (⟨2, ![M, N]⟩ : Shape).Slices ![0, o] ⟨2, ![M, l]⟩)
    (h2 : (⟨2, ![M, l]⟩ : Shape).ShapeCasts ⟨4, ![1, 1, M, l]⟩) (h3 : FTy.bits .bf16 < FTy.bits .f32) (i : Fin M) (j : Fin l) (q : Fin N) (hq : q.val = o + j.val) :
    shapeCast ⟨4, ![1, 1, M, l]⟩ (truncf .bf16 (extractStridedSlice ⟨2, ![M, l]⟩ ![0, o] U h1) h3) h2 (ix4 0 0 i j) = (U (ix2 i q) : EReal) := by
  refine (shapeCast_apply _ h2 (ix4 0 0 i j) (ix2 i j) (by
    rw [Shape.rowMajor_val_two, Shape.rowMajor_val_four]; show i.val * l + j.val = ((0 * 1 + 0) * M + i.val) * l + j.val; simp)).trans ?_
  refine (extractStridedSlice_apply _ U h1 (ix2 i j) (ix2 i q) fun b => ?_)
  match b with
  | ⟨0, _⟩ => show i.val = 0 + i.val; omega
  | ⟨1, _⟩ => exact hq

/-- A product stored as a tile. -/
theorem lift_at (U : FVec Ideal ⟨2, ![M, l]⟩ .f32) (h2 : (⟨2, ![M, l]⟩ : Shape).ShapeCasts ⟨3, ![1, M, l]⟩) (h3 : FTy.bits .bf16 < FTy.bits .f32)
    (i : Fin M) (j : Fin l) : shapeCast ⟨3, ![1, M, l]⟩ (truncf .bf16 U h3) h2 (ix3 0 i j) = (U (ix2 i j) : EReal) :=
  shapeCast_apply _ h2 (ix3 0 i j) (ix2 i j) (by
    rw [Shape.rowMajor_val_two, Shape.rowMajor_val_three]; show i.val * l + j.val = (0 * M + i.val) * l + j.val; simp)

end Cert.Proof.Slabs

end
-- ==== Proof.DwFf2.lean ====
/- The gradient of the second feed-forward weights: each tile of 512 rows is the product of the squared activation's columns,
   transposed, with the incoming gradient. -/
module

public import proofs.«01_k».proof.Proof.Gen.DwFf2Ideal.Value
public import proofs.«01_k».proof.Proof.Gen.ReferenceDwFf2Ideal.Read
public import proofs.«01_k».proof.Proof.Stores
public import proofs.«01_k».proof.Proof.Products
public import proofs.«01_k».proof.Proof.Slabs

@[expose] public section

noncomputable section

namespace Cert.Proof.DwFf2

open Idealize.ShloMosaic Idealize.ShloMosaic.ValueIdx Idealize.ShloMosaic.TcCoe Cert.DwFf2Ideal Cert.DwFf2Ideal.Gen Cert.DwFf2Ideal.Value

/-- A matrix. -/
abbrev Mat (a b : ℕ) := (⟨2, ![a, b]⟩ : Shape).Idx → EReal

/-- The product a tile stores. -/
theorem product_at (a : Vec Ideal S2048x512 .bf16) (b : Vec Ideal S2048x1024 .bf16) (i : Fin 512) (j : Fin 1024) :
    k0_pay1 (F := Ideal) a b (ix3 0 i j) = ∑ k : Fin 2048, (a (ix2 k i) * a (ix2 k i) * b (ix2 k j) : EReal) :=
  (Slabs.lift_at _ _ _ i j).trans
    (Products.rows_at (φ₁ := .bf16) (φ₂ := .bf16) dot_S2048x512_S2048x1024_S512x1024_0_0_1_1_n_n.wf (fun q => (a q * a q : EReal)) b _ i j Ideal.ofBits_zero_f32)

variable (m : (ℓ : Loc nD τ sig) → Buf (Elt Ideal) ℓ) (c : Dev nD)

/-- The activation's root and the incoming gradient, as the device holds them. -/
abbrev aa : Mat 2048 4096 := m ((c : Thread nD τ).loc main_arg0)
@[inherit_doc aa] abbrev ab : Mat 2048 1024 := m ((c : Thread nD τ).loc main_arg1)

theorem tile_lt (t : Fin cfg0.N) : t.val < 8 := t.isLt

theorem index0 : ∀ t : Fin grid0.N, cc0_transform_0 (grid0.coords t) 0 = 0 ∧ cc0_transform_0 (grid0.coords t) 1 = t.val := by decide +kernel
theorem index1 : ∀ t : Fin grid0.N, cc0_transform_1 (grid0.coords t) 0 = 0 ∧ cc0_transform_1 (grid0.coords t) 1 = 0 := by decide +kernel
theorem index2 : ∀ t : Fin grid0.N, win0_2.index t 0 = 0 ∧ win0_2.index t 1 = t.val ∧ win0_2.index t 2 = 0 := by decide +kernel

/-- The blocks' entries. -/
theorem aa_at (t : Fin cfg0.N) (k : Fin 2048) (i : Fin 512) :
    (iblk m c 0 t : Mat 2048 512) (ix2 k i) = aa m c (ix2 k ⟨512 * t.val + i.val, by have := tile_lt t; omega⟩) := by
  refine congrArg (aa m c) (funext fun x => ?_)
  match x with
  | ⟨0, _⟩ => exact Fin.ext (by show cc0_transform_0 (grid0.coords t) 0 * 2048 + 1 * k.val = k.val; rw [(index0 t).1]; omega)
  | ⟨1, _⟩ => exact Fin.ext (by show cc0_transform_0 (grid0.coords t) 1 * 512 + 1 * i.val = 512 * t.val + i.val; rw [(index0 t).2]; omega)

theorem ab_at (t : Fin cfg0.N) (k : Fin 2048) (j : Fin 1024) : (iblk m c 1 t : Mat 2048 1024) (ix2 k j) = ab m c (ix2 k j) := by
  refine congrArg (ab m c) (funext fun x => ?_)
  match x with
  | ⟨0, _⟩ => exact Fin.ext (by show cc0_transform_1 (grid0.coords t) 0 * 2048 + 1 * k.val = k.val; rw [(index1 t).1]; omega)
  | ⟨1, _⟩ => exact Fin.ext (by show cc0_transform_1 (grid0.coords t) 1 * 1024 + 1 * j.val = j.val; rw [(index1 t).2]; omega)

/-- What a tile leaves. -/
theorem tile_eq (t : Fin cfg0.N) (i : Fin 512) (j : Fin 1024) :
    out0_2 (F := Ideal) (iblk m c 0 t) (iblk m c 1 t) (ix3 0 i j)
      = ∑ k : Fin 2048, aa m c (ix2 k ⟨512 * t.val + i.val, by have := tile_lt t; omega⟩) * aa m c (ix2 k ⟨512 * t.val + i.val, by have := tile_lt t; omega⟩)
          * ab m c (ix2 k j) := by
  refine (Slabs.tile_at _ _ _ i j).trans ((product_at _ _ i j).trans (Finset.sum_congr rfl fun k _ => ?_))
  rw [Stores.ld_whole, Stores.ld_whole]
  exact congrArg₂ (fun p q : EReal => p * p * q) (aa_at m c t k i) (ab_at m c t k j)

/-- Row `512 t + i` of the result is row `i` of tile `t`. -/
theorem result_at (t : Fin cfg0.N) (i : Fin 512) (j : Fin 1024) :
    (dats m 0 c).arrAt 2 cfg0.N (ix3 0 ⟨512 * t.val + i.val, by have := tile_lt t; omega⟩ j)
      = out0_2 (F := Ideal) (iblk m c 0 t) (iblk m c 1 t) (ix3 0 i j) := by
  have h := congrFun ((blocks2 m c t (flush0_2 t)).trans (flushed2 m c t)) (ix3 0 i j)
  refine Eq.trans ?_ h
  refine congrArg ((dats m 0 c).arrAt 2 cfg0.N) (funext fun x => ?_)
  match x with
  | ⟨0, _⟩ => exact Fin.ext (by show 0 = win0_2.index t 0 * 1 + 1 * 0; rw [(index2 t).1])
  | ⟨1, _⟩ => exact Fin.ext (by show 512 * t.val + i.val = win0_2.index t 1 * 512 + 1 * i.val; rw [(index2 t).2.1]; omega)
  | ⟨2, _⟩ => exact Fin.ext (by show j.val = win0_2.index t 2 * 1024 + 1 * j.val; rw [(index2 t).2.2]; omega)

open Cert.ReferenceDwFf2Ideal.Read

/-- The reference's product. -/
theorem ref_at (a : Mat 2048 4096) (b : Mat 2048 1024) (i : Fin 4096) (j : Fin 1024) :
    val_main_v8 (F := Ideal) a b (ix3 0 i j) = ∑ k : Fin 2048, (a (ix2 k i) * a (ix2 k i) * b (ix2 k j) : EReal) := by
  have e0 : idx_main_v7 (ix3 0 i j) = ix2 i j := funext fun x => match x with
    | ⟨0, _⟩ => Fin.ext (by show ((0 * 4096 + i.val) * 1024 + j.val) / 1024 = i.val; omega)
    | ⟨1, _⟩ => Fin.ext (by show ((0 * 4096 + i.val) * 1024 + j.val) % 1024 = j.val; omega)
  rw [val_main_v8_apply, val_main_v7_apply, e0, val_main_v6_apply]
  refine (val_main_v5_apply a b _).trans (Finset.sum_congr rfl fun k _ => ?_)
  have e1 : lidx_main_v5 (idx_main_v6 (ix2 i j)) k = ix2 k j := funext fun x => match x with | ⟨0, _⟩ => rfl | ⟨1, _⟩ => rfl
  have e2 : ridx_main_v5 (idx_main_v6 (ix2 i j)) k = ix2 k i := funext fun x => match x with | ⟨0, _⟩ => rfl | ⟨1, _⟩ => rfl
  rw [e1, e2]
  exact mul_comm (b (ix2 k j)) (a (ix2 k i) * a (ix2 k i))

/-- The result is the reference's. -/
theorem result_eq : (dats m 0 c).arrAt 2 cfg0.N = val_main_v8 (F := Ideal) (aa m c) (ab m c) := by
  funext i
  obtain ⟨n, j, rfl⟩ : ∃ (n : Fin 4096) (j : Fin 1024), i = ix3 0 n j := ⟨i 1, i 2, (eq_ix3 i).trans (congrArg (fun z => ix3 z (i 1) (i 2)) (Subsingleton.elim (α := Fin 1) (i 0) 0))⟩
  obtain ⟨t, r, e⟩ : ∃ (t : Fin cfg0.N) (r : Fin 512), n.val = 512 * t.val + r.val :=
    ⟨⟨n.val / 512, by show n.val / 512 < 8; omega⟩, ⟨n.val % 512, by omega⟩, by show n.val = 512 * (n.val / 512) + n.val % 512; omega⟩
  have hN : 512 * t.val + r.val < 4096 := by omega
  obtain rfl : n = ⟨512 * t.val + r.val, hN⟩ := Fin.ext e
  exact Eq.trans (α := EReal) (result_at m c t r j) (Eq.trans (α := EReal) (tile_eq m c t r j) (ref_at (aa m c) (ab m c) _ j).symm)

end Cert.Proof.DwFf2

end
-- ==== Proof.DwO.lean ====
/- The gradient of the output weights: each tile of 512 rows is the product of the merged branches' columns, transposed, with
   the incoming gradient. -/
module

public import proofs.«01_k».proof.Proof.Gen.DwOIdeal.Value
public import proofs.«01_k».proof.Proof.Gen.ReferenceDwOIdeal.Read
public import proofs.«01_k».proof.Proof.Stores
public import proofs.«01_k».proof.Proof.Products
public import proofs.«01_k».proof.Proof.Slabs

@[expose] public section

noncomputable section

namespace Cert.Proof.DwO

open Idealize.ShloMosaic Idealize.ShloMosaic.ValueIdx Idealize.ShloMosaic.TcCoe Cert.DwOIdeal Cert.DwOIdeal.Gen Cert.DwOIdeal.Value

/-- A matrix. -/
abbrev Mat (a b : ℕ) := (⟨2, ![a, b]⟩ : Shape).Idx → EReal

/-- The product a tile stores. -/
theorem product_at (a : Vec Ideal S2048x512 .bf16) (b : Vec Ideal S2048x1024 .bf16) (i : Fin 512) (j : Fin 1024) :
    k0_pay1 (F := Ideal) a b (ix3 0 i j) = ∑ k : Fin 2048, (a (ix2 k i) * b (ix2 k j) : EReal) :=
  (Slabs.lift_at _ _ _ i j).trans
    (Products.rows_at (φ₁ := .bf16) (φ₂ := .bf16) dot_S2048x512_S2048x1024_S512x1024_0_0_1_1_n_n.wf a b _ i j Ideal.ofBits_zero_f32)

variable (m : (ℓ : Loc nD τ sig) → Buf (Elt Ideal) ℓ) (c : Dev nD)

/-- The merged branches and the incoming gradient, as the device holds them. -/
abbrev aa : Mat 2048 1024 := m ((c : Thread nD τ).loc main_arg0)
@[inherit_doc aa] abbrev ab : Mat 2048 1024 := m ((c : Thread nD τ).loc main_arg1)

theorem tile_lt (t : Fin cfg0.N) : t.val < 2 := t.isLt

theorem index0 : ∀ t : Fin grid0.N, cc0_transform_0 (grid0.coords t) 0 = 0 ∧ cc0_transform_0 (grid0.coords t) 1 = t.val := by decide +kernel
theorem index1 : ∀ t : Fin grid0.N, cc0_transform_1 (grid0.coords t) 0 = 0 ∧ cc0_transform_1 (grid0.coords t) 1 = 0 := by decide +kernel
theorem index2 : ∀ t : Fin grid0.N, win0_2.index t 0 = 0 ∧ win0_2.index t 1 = t.val ∧ win0_2.index t 2 = 0 := by decide +kernel

/-- The blocks' entries. -/
theorem aa_at (t : Fin cfg0.N) (k : Fin 2048) (i : Fin 512) :
    (iblk m c 0 t : Mat 2048 512) (ix2 k i) = aa m c (ix2 k ⟨512 * t.val + i.val, by have := tile_lt t; omega⟩) := by
  refine congrArg (aa m c) (funext fun x => ?_)
  match x with
  | ⟨0, _⟩ => exact Fin.ext (by show cc0_transform_0 (grid0.coords t) 0 * 2048 + 1 * k.val = k.val; rw [(index0 t).1]; omega)
  | ⟨1, _⟩ => exact Fin.ext (by show cc0_transform_0 (grid0.coords t) 1 * 512 + 1 * i.val = 512 * t.val + i.val; rw [(index0 t).2]; omega)

theorem ab_at (t : Fin cfg0.N) (k : Fin 2048) (j : Fin 1024) : (iblk m c 1 t : Mat 2048 1024) (ix2 k j) = ab m c (ix2 k j) := by
  refine congrArg (ab m c) (funext fun x => ?_)
  match x with
  | ⟨0, _⟩ => exact Fin.ext (by show cc0_transform_1 (grid0.coords t) 0 * 2048 + 1 * k.val = k.val; rw [(index1 t).1]; omega)
  | ⟨1, _⟩ => exact Fin.ext (by show cc0_transform_1 (grid0.coords t) 1 * 1024 + 1 * j.val = j.val; rw [(index1 t).2]; omega)

/-- What a tile leaves. -/
theorem tile_eq (t : Fin cfg0.N) (i : Fin 512) (j : Fin 1024) :
    out0_2 (F := Ideal) (iblk m c 0 t) (iblk m c 1 t) (ix3 0 i j)
      = ∑ k : Fin 2048, aa m c (ix2 k ⟨512 * t.val + i.val, by have := tile_lt t; omega⟩) * ab m c (ix2 k j) := by
  refine (Slabs.tile_at _ _ _ i j).trans ((product_at _ _ i j).trans (Finset.sum_congr rfl fun k _ => ?_))
  rw [Stores.ld_whole, Stores.ld_whole]
  exact congrArg₂ (fun p q : EReal => p * q) (aa_at m c t k i) (ab_at m c t k j)

/-- Row `512 t + i` of the result is row `i` of tile `t`. -/
theorem result_at (t : Fin cfg0.N) (i : Fin 512) (j : Fin 1024) :
    (dats m 0 c).arrAt 2 cfg0.N (ix3 0 ⟨512 * t.val + i.val, by have := tile_lt t; omega⟩ j)
      = out0_2 (F := Ideal) (iblk m c 0 t) (iblk m c 1 t) (ix3 0 i j) := by
  have h := congrFun ((blocks2 m c t (flush0_2 t)).trans (flushed2 m c t)) (ix3 0 i j)
  refine Eq.trans ?_ h
  refine congrArg ((dats m 0 c).arrAt 2 cfg0.N) (funext fun x => ?_)
  match x with
  | ⟨0, _⟩ => exact Fin.ext (by show 0 = win0_2.index t 0 * 1 + 1 * 0; rw [(index2 t).1])
  | ⟨1, _⟩ => exact Fin.ext (by show 512 * t.val + i.val = win0_2.index t 1 * 512 + 1 * i.val; rw [(index2 t).2.1]; omega)
  | ⟨2, _⟩ => exact Fin.ext (by show j.val = win0_2.index t 2 * 1024 + 1 * j.val; rw [(index2 t).2.2]; omega)

open Cert.ReferenceDwOIdeal.Read

/-- The reference's product. -/
theorem ref_at (a : Mat 2048 1024) (b : Mat 2048 1024) (i : Fin 1024) (j : Fin 1024) :
    val_main_v7 (F := Ideal) a b (ix3 0 i j) = ∑ k : Fin 2048, (a (ix2 k i) * b (ix2 k j) : EReal) := by
  have e0 : idx_main_v6 (ix3 0 i j) = ix2 i j := funext fun x => match x with
    | ⟨0, _⟩ => Fin.ext (by show ((0 * 1024 + i.val) * 1024 + j.val) / 1024 = i.val; omega)
    | ⟨1, _⟩ => Fin.ext (by show ((0 * 1024 + i.val) * 1024 + j.val) % 1024 = j.val; omega)
  rw [val_main_v7_apply, val_main_v6_apply, e0, val_main_v5_apply]
  refine (val_main_v4_apply a b _).trans (Finset.sum_congr rfl fun k _ => ?_)
  have e1 : lidx_main_v4 (idx_main_v5 (ix2 i j)) k = ix2 k j := funext fun x => match x with | ⟨0, _⟩ => rfl | ⟨1, _⟩ => rfl
  have e2 : ridx_main_v4 (idx_main_v5 (ix2 i j)) k = ix2 k i := funext fun x => match x with | ⟨0, _⟩ => rfl | ⟨1, _⟩ => rfl
  rw [e1, e2]
  exact mul_comm (b (ix2 k j)) (a (ix2 k i))

/-- The result is the reference's. -/
theorem result_eq : (dats m 0 c).arrAt 2 cfg0.N = val_main_v7 (F := Ideal) (aa m c) (ab m c) := by
  funext i
  obtain ⟨n, j, rfl⟩ : ∃ (n : Fin 1024) (j : Fin 1024), i = ix3 0 n j := ⟨i 1, i 2, (eq_ix3 i).trans (congrArg (fun z => ix3 z (i 1) (i 2)) (Subsingleton.elim (α := Fin 1) (i 0) 0))⟩
  obtain ⟨t, r, e⟩ : ∃ (t : Fin cfg0.N) (r : Fin 512), n.val = 512 * t.val + r.val :=
    ⟨⟨n.val / 512, by show n.val / 512 < 2; omega⟩, ⟨n.val % 512, by omega⟩, by show n.val = 512 * (n.val / 512) + n.val % 512; omega⟩
  have hN : 512 * t.val + r.val < 1024 := by omega
  obtain rfl : n = ⟨512 * t.val + r.val, hN⟩ := Fin.ext e
  exact Eq.trans (α := EReal) (result_at m c t r j) (Eq.trans (α := EReal) (tile_eq m c t r j) (ref_at (aa m c) (ab m c) _ j).symm)

end Cert.Proof.DwO

end
-- ==== Proof.DwFf1.lean ====
/- The gradient of the first feed-forward weights: each tile holds 512 rows of four devices' slabs, cut from the columns of the
   product of the normalised input's columns, transposed, with the incoming gradient. -/
module

public import proofs.«01_k».proof.Proof.Gen.DwFf1Ideal.Value
public import proofs.«01_k».proof.Proof.Gen.ReferenceDwFf1Ideal.Read
public import proofs.«01_k».proof.Proof.Stores
public import proofs.«01_k».proof.Proof.Products
public import proofs.«01_k».proof.Proof.Slabs

@[expose] public section

noncomputable section

namespace Cert.Proof.DwFf1

open Idealize.ShloMosaic Idealize.ShloMosaic.ValueIdx Idealize.ShloMosaic.TcCoe Cert.DwFf1Ideal Cert.DwFf1Ideal.Gen Cert.DwFf1Ideal.Value

/-- A matrix. -/
abbrev Mat (a b : ℕ) := (⟨2, ![a, b]⟩ : Shape).Idx → EReal

/-- The product, and the slabs cut from it. -/
theorem product_at (a : Vec Ideal S2048x512 .bf16) (b : Vec Ideal S2048x2048 .bf16) (i : Fin 512) (j : Fin 2048) :
    k0_pay1 (F := Ideal) a b (ix2 i j) = ∑ k : Fin 2048, (a (ix2 k i) * b (ix2 k j) : EReal) :=
  Products.rows_at (φ₁ := .bf16) (φ₂ := .bf16) dot_S2048x512_S2048x2048_S512x2048_0_0_1_1_n_n.wf a b _ i j Ideal.ofBits_zero_f32

theorem slabs_at (a : Vec Ideal S2048x512 .bf16) (b : Vec Ideal S2048x2048 .bf16) (d : Fin 4) (i j : Fin 512) :
    out0_2 (F := Ideal) a b (ix4 d 0 i j) = ∑ k : Fin 2048, (a (ix2 k i) * b (ix2 k ⟨512 * d.val + j.val, by omega⟩) : EReal) := by
  have cut (o : ℕ) (h : o = 512 * d.val) (h1 : S512x2048.Slices ![0, o] S512x512) :
      shapeCast S1x1x512x512 (truncf .bf16 (extractStridedSlice S512x512 ![0, o] (k0_pay1 (F := Ideal) (View.ld a r0_0) (View.ld b r0_1)) h1) bitsLt_bf16_f32)
          shapeCasts_S512x512_S1x1x512x512 (ix4 0 0 i j)
        = (∑ k : Fin 2048, (a (ix2 k i) * b (ix2 k ⟨512 * d.val + j.val, by omega⟩) : EReal) : EReal) := by
    refine (Slabs.cut_at _ h1 _ _ i j ⟨512 * d.val + j.val, by omega⟩ (by show 512 * d.val + j.val = o + j.val; omega)).trans ?_
    rw [Stores.ld_whole, Stores.ld_whole]
    exact product_at a b i _
  exact Slabs.slab_step _ _ _ d i j _ (fun h => cut 1536 (by omega) _) fun h3 =>
    Slabs.slab_step _ _ _ d i j _ (fun h => cut 1024 (by omega) _) fun h2 =>
    Slabs.slab_step _ _ _ d i j _ (fun h => cut 512 (by omega) _) fun h1 =>
    Slabs.slab_step _ _ _ d i j _ (fun h => cut 0 (by omega) _) fun h0 => by omega

variable (m : (ℓ : Loc nD τ sig) → Buf (Elt Ideal) ℓ) (c : Dev nD)

/-- The normalised input and the incoming gradient, as the device holds them. -/
abbrev aa : Mat 2048 1024 := m ((c : Thread nD τ).loc main_arg0)
@[inherit_doc aa] abbrev ab : Mat 2048 4096 := m ((c : Thread nD τ).loc main_arg1)

theorem tile_lt (t : Fin cfg0.N) : t.val < 4 := t.isLt

theorem index0 : ∀ t : Fin grid0.N, cc0_transform_0 (grid0.coords t) 0 = 0 ∧ cc0_transform_0 (grid0.coords t) 1 = t.val % 2 := by decide +kernel
theorem index1 : ∀ t : Fin grid0.N, cc0_transform_1 (grid0.coords t) 0 = 0 ∧ cc0_transform_1 (grid0.coords t) 1 = t.val / 2 := by decide +kernel
theorem index2 : ∀ t : Fin grid0.N, win0_2.index t 0 = t.val / 2 ∧ win0_2.index t 1 = 0 ∧ win0_2.index t 2 = t.val % 2 ∧ win0_2.index t 3 = 0 := by decide +kernel

/-- The blocks' entries. -/
theorem aa_at (t : Fin cfg0.N) (k : Fin 2048) (i : Fin 512) :
    (iblk m c 0 t : Mat 2048 512) (ix2 k i) = aa m c (ix2 k ⟨512 * (t.val % 2) + i.val, by omega⟩) := by
  refine congrArg (aa m c) (funext fun x => ?_)
  match x with
  | ⟨0, _⟩ => exact Fin.ext (by show cc0_transform_0 (grid0.coords t) 0 * 2048 + 1 * k.val = k.val; rw [(index0 t).1]; omega)
  | ⟨1, _⟩ => exact Fin.ext (by show cc0_transform_0 (grid0.coords t) 1 * 512 + 1 * i.val = 512 * (t.val % 2) + i.val; rw [(index0 t).2]; omega)

theorem ab_at (t : Fin cfg0.N) (k : Fin 2048) (j : Fin 2048) :
    (iblk m c 1 t : Mat 2048 2048) (ix2 k j) = ab m c (ix2 k ⟨2048 * (t.val / 2) + j.val, by have := tile_lt t; omega⟩) := by
  refine congrArg (ab m c) (funext fun x => ?_)
  match x with
  | ⟨0, _⟩ => exact Fin.ext (by show cc0_transform_1 (grid0.coords t) 0 * 2048 + 1 * k.val = k.val; rw [(index1 t).1]; omega)
  | ⟨1, _⟩ => exact Fin.ext (by show cc0_transform_1 (grid0.coords t) 1 * 2048 + 1 * j.val = 2048 * (t.val / 2) + j.val; rw [(index1 t).2]; omega)

/-- What a tile leaves in a slab. -/
theorem tile_eq (t : Fin cfg0.N) (d : Fin 4) (i j : Fin 512) :
    out0_2 (F := Ideal) (iblk m c 0 t) (iblk m c 1 t) (ix4 d 0 i j)
      = ∑ k : Fin 2048, aa m c (ix2 k ⟨512 * (t.val % 2) + i.val, by omega⟩)
          * ab m c (ix2 k ⟨2048 * (t.val / 2) + (512 * d.val + j.val), by have := tile_lt t; omega⟩) :=
  (slabs_at _ _ d i j).trans (Finset.sum_congr rfl fun k _ => congrArg₂ (fun p q : EReal => p * q) (aa_at m c t k i) (ab_at m c t k _))

/-- Row `512 (t % 2) + i` of slab `4 (t / 2) + d` of the result is row `i` of slab `d` of tile `t`. -/
theorem result_at (t : Fin cfg0.N) (d : Fin 4) (i j : Fin 512) :
    (dats m 0 c).arrAt 2 cfg0.N (ix4 ⟨4 * (t.val / 2) + d.val, by have := tile_lt t; omega⟩ 0 ⟨512 * (t.val % 2) + i.val, by omega⟩ j)
      = out0_2 (F := Ideal) (iblk m c 0 t) (iblk m c 1 t) (ix4 d 0 i j) := by
  have h := congrFun ((blocks2 m c t (flush0_2 t)).trans (flushed2 m c t)) (ix4 d 0 i j)
  refine Eq.trans ?_ h
  refine congrArg ((dats m 0 c).arrAt 2 cfg0.N) (funext fun x => ?_)
  match x with
  | ⟨0, _⟩ => exact Fin.ext (by show 4 * (t.val / 2) + d.val = win0_2.index t 0 * 4 + 1 * d.val; rw [(index2 t).1]; omega)
  | ⟨1, _⟩ => exact Fin.ext (by show 0 = win0_2.index t 1 * 1 + 1 * 0; rw [(index2 t).2.1])
  | ⟨2, _⟩ => exact Fin.ext (by show 512 * (t.val % 2) + i.val = win0_2.index t 2 * 512 + 1 * i.val; rw [(index2 t).2.2.1]; omega)
  | ⟨3, _⟩ => exact Fin.ext (by show j.val = win0_2.index t 3 * 512 + 1 * j.val; rw [(index2 t).2.2.2]; omega)

open Cert.ReferenceDwFf1Ideal.Read

/-- The reference's product, cut into the devices' slabs. -/
theorem ref_at (a : Mat 2048 1024) (b : Mat 2048 4096) (d : Fin 8) (i : Fin 1024) (j : Fin 512) :
    val_main_v8 (F := Ideal) a b (ix4 d 0 i j) = ∑ k : Fin 2048, (a (ix2 k i) * b (ix2 k ⟨512 * d.val + j.val, by omega⟩) : EReal) := by
  have e0 : idx_main_v6 (idx_main_v7 (ix4 d 0 i j)) = ix2 i ⟨512 * d.val + j.val, by omega⟩ := funext fun x => match x with
    | ⟨0, _⟩ => Fin.ext (by show (((0 * 1024 + i.val) * 8 + d.val) * 512 + j.val) / 4096 = i.val; omega)
    | ⟨1, _⟩ => Fin.ext (by show (((0 * 1024 + i.val) * 8 + d.val) * 512 + j.val) % 4096 = 512 * d.val + j.val; omega)
  rw [val_main_v8_apply, val_main_v7_apply, val_main_v6_apply, e0, val_main_v5_apply]
  generalize (⟨512 * d.val + j.val, by omega⟩ : Fin 4096) = q
  refine (val_main_v4_apply a b _).trans (Finset.sum_congr rfl fun k _ => ?_)
  have e1 : lidx_main_v4 (idx_main_v5 (ix2 i q)) k = ix2 k q := funext fun x => match x with | ⟨0, _⟩ => rfl | ⟨1, _⟩ => rfl
  have e2 : ridx_main_v4 (idx_main_v5 (ix2 i q)) k = ix2 k i := funext fun x => match x with | ⟨0, _⟩ => rfl | ⟨1, _⟩ => rfl
  rw [e1, e2]
  exact mul_comm (b (ix2 k q)) (a (ix2 k i))

/-- The result is the reference's. -/
theorem result_eq : (dats m 0 c).arrAt 2 cfg0.N = val_main_v8 (F := Ideal) (aa m c) (ab m c) := by
  funext i
  obtain ⟨s, n, j, rfl⟩ : ∃ (s : Fin 8) (n : Fin 1024) (j : Fin 512), i = ix4 s 0 n j :=
    ⟨i 0, i 2, i 3, (eq_ix4 i).trans (congrArg (fun z => ix4 (i 0) z (i 2) (i 3)) (Subsingleton.elim (α := Fin 1) (i 1) 0))⟩
  obtain ⟨t, d, r, es, er⟩ : ∃ (t : Fin cfg0.N) (d : Fin 4) (r : Fin 512), s.val = 4 * (t.val / 2) + d.val ∧ n.val = 512 * (t.val % 2) + r.val :=
    ⟨⟨s.val / 4 * 2 + n.val / 512, by show s.val / 4 * 2 + n.val / 512 < 4; omega⟩, ⟨s.val % 4, by omega⟩, ⟨n.val % 512, by omega⟩,
      by show s.val = 4 * ((s.val / 4 * 2 + n.val / 512) / 2) + s.val % 4; omega,
      by show n.val = 512 * ((s.val / 4 * 2 + n.val / 512) % 2) + n.val % 512; omega⟩
  have hS : 4 * (t.val / 2) + d.val < 8 := by omega
  have hN : 512 * (t.val % 2) + r.val < 1024 := by omega
  obtain rfl : s = ⟨4 * (t.val / 2) + d.val, hS⟩ := Fin.ext es
  obtain rfl : n = ⟨512 * (t.val % 2) + r.val, hN⟩ := Fin.ext er
  refine Eq.trans (α := EReal) (result_at m c t d r j) (Eq.trans (α := EReal) (tile_eq m c t d r j) (Eq.trans (α := EReal) ?_ (ref_at (aa m c) (ab m c) _ _ j).symm))
  refine Finset.sum_congr rfl fun k _ => congrArg (fun q => aa m c (ix2 k _) * ab m c (ix2 k q)) (Fin.ext ?_)
  show 2048 * (t.val / 2) + (512 * d.val + j.val) = 512 * (4 * (t.val / 2) + d.val) + j.val
  omega

end Cert.Proof.DwFf1

end
-- ==== Proof.DwBranch.lean ====
/- The gradients of the branches' weights: each tile is one branch's, its eight slabs cut from the columns of the product of the
   branch's input, transposed, with its incoming gradient. -/
module

public import proofs.«01_k».proof.Proof.Gen.DwBranchIdeal.Value
public import proofs.«01_k».proof.Proof.Gen.ReferenceDwBranchIdeal.Read
public import proofs.«01_k».proof.Proof.Stores
public import proofs.«01_k».proof.Proof.Products
public import proofs.«01_k».proof.Proof.Slabs

@[expose] public section

noncomputable section

namespace Cert.Proof.DwBranch

open Idealize.ShloMosaic Idealize.ShloMosaic.ValueIdx Idealize.ShloMosaic.TcCoe Cert.DwBranchIdeal Cert.DwBranchIdeal.Gen Cert.DwBranchIdeal.Value

/-- A matrix. -/
abbrev Mat (a b : ℕ) := (⟨2, ![a, b]⟩ : Shape).Idx → EReal

/-- The product, and the slabs cut from it. -/
theorem product_at (a : Vec Ideal S2048x512 .bf16) (b : Vec Ideal S2048x1024 .bf16) (i : Fin 512) (j : Fin 1024) :
    k0_pay4 (F := Ideal) a b (ix2 i j) = ∑ k : Fin 2048, (a (ix2 k i) * b (ix2 k j) : EReal) :=
  Products.rows_at (φ₁ := .bf16) (φ₂ := .bf16) dot_S2048x512_S2048x1024_S512x1024_0_0_1_1_n_n.wf a b _ i j Ideal.ofBits_zero_f32

theorem slabs_at (a : Vec Ideal S2048x512 .bf16) (b : Vec Ideal S2048x1024 .bf16) (d : Fin 8) (i : Fin 512) (j : Fin 128) :
    out0_2 (F := Ideal) a b (ix4 d 0 i j) = ∑ k : Fin 2048, (a (ix2 k i) * b (ix2 k ⟨128 * d.val + j.val, by omega⟩) : EReal) := by
  have cut (o : ℕ) (h : o = 128 * d.val) (h1 : S512x1024.Slices ![0, o] S512x128) :
      shapeCast S1x1x512x128 (truncf .bf16 (extractStridedSlice S512x128 ![0, o] (k0_pay4 (F := Ideal) (View.ld a r0_0) (View.ld b r0_1)) h1) bitsLt_bf16_f32)
          shapeCasts_S512x128_S1x1x512x128 (ix4 0 0 i j)
        = (∑ k : Fin 2048, (a (ix2 k i) * b (ix2 k ⟨128 * d.val + j.val, by omega⟩) : EReal) : EReal) := by
    refine (Slabs.cut_at _ h1 _ _ i j ⟨128 * d.val + j.val, by omega⟩ (by show 128 * d.val + j.val = o + j.val; omega)).trans ?_
    rw [Stores.ld_whole, Stores.ld_whole]
    exact product_at a b i _
  exact Slabs.slab_step _ _ _ d i j _ (fun h => cut 896 (by omega) _) fun h7 =>
    Slabs.slab_step _ _ _ d i j _ (fun h => cut 768 (by omega) _) fun h6 =>
    Slabs.slab_step _ _ _ d i j _ (fun h => cut 640 (by omega) _) fun h5 =>
    Slabs.slab_step _ _ _ d i j _ (fun h => cut 512 (by omega) _) fun h4 =>
    Slabs.slab_step _ _ _ d i j _ (fun h => cut 384 (by omega) _) fun h3 =>
    Slabs.slab_step _ _ _ d i j _ (fun h => cut 256 (by omega) _) fun h2 =>
    Slabs.slab_step _ _ _ d i j _ (fun h => cut 128 (by omega) _) fun h1 =>
    Slabs.slab_step _ _ _ d i j _ (fun h => cut 0 (by omega) _) fun h0 => by omega

variable (m : (ℓ : Loc nD τ sig) → Buf (Elt Ideal) ℓ) (c : Dev nD)

/-- The branches' inputs and their incoming gradients, as the device holds them. -/
abbrev aa : Mat 2048 1536 := m ((c : Thread nD τ).loc main_arg0)
@[inherit_doc aa] abbrev ab : Mat 2048 3072 := m ((c : Thread nD τ).loc main_arg1)

theorem tile_lt (t : Fin cfg0.N) : t.val < 3 := t.isLt

theorem index0 : ∀ t : Fin grid0.N, cc0_transform_0 (grid0.coords t) 0 = 0 ∧ cc0_transform_0 (grid0.coords t) 1 = t.val := by decide +kernel
theorem index1 : ∀ t : Fin grid0.N, cc0_transform_1 (grid0.coords t) 0 = 0 ∧ cc0_transform_1 (grid0.coords t) 1 = t.val := by decide +kernel
theorem index2 : ∀ t : Fin grid0.N, win0_2.index t 0 = 0 ∧ win0_2.index t 1 = t.val ∧ win0_2.index t 2 = 0 ∧ win0_2.index t 3 = 0 := by decide +kernel

/-- The blocks' entries. -/
theorem aa_at (t : Fin cfg0.N) (k : Fin 2048) (i : Fin 512) :
    (iblk m c 0 t : Mat 2048 512) (ix2 k i) = aa m c (ix2 k ⟨512 * t.val + i.val, by have := tile_lt t; omega⟩) := by
  refine congrArg (aa m c) (funext fun x => ?_)
  match x with
  | ⟨0, _⟩ => exact Fin.ext (by show cc0_transform_0 (grid0.coords t) 0 * 2048 + 1 * k.val = k.val; rw [(index0 t).1]; omega)
  | ⟨1, _⟩ => exact Fin.ext (by show cc0_transform_0 (grid0.coords t) 1 * 512 + 1 * i.val = 512 * t.val + i.val; rw [(index0 t).2]; omega)

theorem ab_at (t : Fin cfg0.N) (k : Fin 2048) (j : Fin 1024) :
    (iblk m c 1 t : Mat 2048 1024) (ix2 k j) = ab m c (ix2 k ⟨1024 * t.val + j.val, by have := tile_lt t; omega⟩) := by
  refine congrArg (ab m c) (funext fun x => ?_)
  match x with
  | ⟨0, _⟩ => exact Fin.ext (by show cc0_transform_1 (grid0.coords t) 0 * 2048 + 1 * k.val = k.val; rw [(index1 t).1]; omega)
  | ⟨1, _⟩ => exact Fin.ext (by show cc0_transform_1 (grid0.coords t) 1 * 1024 + 1 * j.val = 1024 * t.val + j.val; rw [(index1 t).2]; omega)

/-- What a tile leaves in a slab. -/
theorem tile_eq (t : Fin cfg0.N) (d : Fin 8) (i : Fin 512) (j : Fin 128) :
    out0_2 (F := Ideal) (iblk m c 0 t) (iblk m c 1 t) (ix4 d 0 i j)
      = ∑ k : Fin 2048, aa m c (ix2 k ⟨512 * t.val + i.val, by have := tile_lt t; omega⟩)
          * ab m c (ix2 k ⟨1024 * t.val + (128 * d.val + j.val), by have := tile_lt t; omega⟩) :=
  (slabs_at _ _ d i j).trans (Finset.sum_congr rfl fun k _ => congrArg₂ (fun p q : EReal => p * q) (aa_at m c t k i) (ab_at m c t k _))

/-- Branch `t` of slab `d` of the result is slab `d` of tile `t`. -/
theorem result_at (t : Fin cfg0.N) (d : Fin 8) (i : Fin 512) (j : Fin 128) :
    (dats m 0 c).arrAt 2 cfg0.N (ix4 d (⟨t.val, tile_lt t⟩ : Fin 3) i j) = out0_2 (F := Ideal) (iblk m c 0 t) (iblk m c 1 t) (ix4 d 0 i j) := by
  have h := congrFun ((blocks2 m c t (flush0_2 t)).trans (flushed2 m c t)) (ix4 d 0 i j)
  refine Eq.trans ?_ h
  refine congrArg ((dats m 0 c).arrAt 2 cfg0.N) (funext fun x => ?_)
  match x with
  | ⟨0, _⟩ => exact Fin.ext (by show d.val = win0_2.index t 0 * 8 + 1 * d.val; rw [(index2 t).1]; omega)
  | ⟨1, _⟩ => exact Fin.ext (by show t.val = win0_2.index t 1 * 1 + 1 * 0; rw [(index2 t).2.1]; omega)
  | ⟨2, _⟩ => exact Fin.ext (by show i.val = win0_2.index t 2 * 512 + 1 * i.val; rw [(index2 t).2.2.1]; omega)
  | ⟨3, _⟩ => exact Fin.ext (by show j.val = win0_2.index t 3 * 128 + 1 * j.val; rw [(index2 t).2.2.2]; omega)

open Cert.ReferenceDwBranchIdeal.Read

/-- The reference's product, cut into the devices' slabs. -/
theorem ref_at (a : Mat 2048 1536) (b : Mat 2048 3072) (d : Fin 8) (t : Fin 3) (i : Fin 512) (j : Fin 128) :
    val_main_v12 (F := Ideal) a b (ix4 d t i j)
      = ∑ k : Fin 2048, (a (ix2 k ⟨512 * t.val + i.val, by omega⟩) * b (ix2 k ⟨1024 * t.val + (128 * d.val + j.val), by omega⟩) : EReal) := by
  have hq : 128 * d.val + j.val < 1024 := by omega
  have e0 : idx_main_v10 (idx_main_v11 (ix4 d t i j)) = ix3 t i ⟨128 * d.val + j.val, hq⟩ := funext fun x => match x with
    | ⟨0, _⟩ => Fin.ext (by show (((t.val * 512 + i.val) * 8 + d.val) * 128 + j.val) / 524288 = t.val; omega)
    | ⟨1, _⟩ => Fin.ext (by show (((t.val * 512 + i.val) * 8 + d.val) * 128 + j.val) / 1024 % 512 = i.val; omega)
    | ⟨2, _⟩ => Fin.ext (by show (((t.val * 512 + i.val) * 8 + d.val) * 128 + j.val) % 1024 = 128 * d.val + j.val; omega)
  rw [val_main_v12_apply, val_main_v11_apply, val_main_v10_apply, e0, val_main_v9_apply]
  refine (val_main_v8_apply a b _).trans (Finset.sum_congr rfl fun k _ => ?_)
  rw [val_main_v7_apply, val_main_v6_apply, val_main_v1_apply]
  have e1 : idx_main_v6 (idx_main_v7 (lidx_main_v8 (idx_main_v9 (ix3 t i ⟨128 * d.val + j.val, hq⟩)) k)) = ix2 k ⟨1024 * t.val + (128 * d.val + j.val), by omega⟩ :=
    funext fun x => match x with
    | ⟨0, _⟩ => Fin.ext (by show ((k.val * 3 + t.val) * 1024 + (128 * d.val + j.val)) / 3072 = k.val; omega)
    | ⟨1, _⟩ => Fin.ext (by show ((k.val * 3 + t.val) * 1024 + (128 * d.val + j.val)) % 3072 = 1024 * t.val + (128 * d.val + j.val); omega)
  have e2 : idx_main_v1 (ridx_main_v8 (idx_main_v9 (ix3 t i ⟨128 * d.val + j.val, hq⟩)) k) = ix2 k ⟨512 * t.val + i.val, by omega⟩ :=
    funext fun x => match x with
    | ⟨0, _⟩ => Fin.ext (by show ((k.val * 3 + t.val) * 512 + i.val) / 1536 = k.val; omega)
    | ⟨1, _⟩ => Fin.ext (by show ((k.val * 3 + t.val) * 512 + i.val) % 1536 = 512 * t.val + i.val; omega)
  rw [e1, e2]
  exact mul_comm (b (ix2 k _)) (a (ix2 k _))

/-- The result is the reference's. -/
theorem result_eq : (dats m 0 c).arrAt 2 cfg0.N = val_main_v12 (F := Ideal) (aa m c) (ab m c) := by
  funext i
  obtain ⟨s, n, r, j, rfl⟩ : ∃ (s : Fin 8) (n : Fin 3) (r : Fin 512) (j : Fin 128), i = ix4 s n r j := ⟨i 0, i 1, i 2, i 3, eq_ix4 i⟩
  exact Eq.trans (α := EReal) (result_at m c ⟨n.val, n.isLt⟩ s r j)
    (Eq.trans (α := EReal) (tile_eq m c ⟨n.val, n.isLt⟩ s r j) (ref_at (aa m c) (ab m c) s n r j).symm)

end Cert.Proof.DwBranch

end
-- ==== Proof.Gate.lean ====
/- The gated merge of the forward pass: a tile of 512 rows holds the branches' products, their sum under the gates, and the
   input with the merge's product with the output weights added; so does the reference, row by row. -/
module

public import proofs.«01_k».proof.Proof.Gen.GateIdeal.Value
public import proofs.«01_k».proof.Proof.Gen.ReferenceGateIdeal.Read
public import proofs.«01_k».proof.Proof.Stores
public import proofs.«01_k».proof.Proof.RefMerge
public import Idealize.ShloMosaic.Lib.MatmulPlain

@[expose] public section

noncomputable section

namespace Cert.Proof.Gate

open Idealize.ShloMosaic Idealize.ShloMosaic.ValueIdx Idealize.ShloMosaic.TcCoe Cert.Proof.Stores
open Cert.Proof.Merge (Mat Stack wide half)

/-- Branch `b`'s product, -/
def branch {s : ℕ} (z : Mat s 1536) (w : Stack 3 512 1024) (r : Fin s) (b : Fin 3) (k : Fin 1024) : EReal :=
  ∑ q : Fin 512, z (ix2 r (half b q)) * w (ix3 b q k)

/-- its share of the merge, -/
def share {s : ℕ} (z : Mat s 1536) (w : Stack 3 512 1024) (g : Mat s 3072) (r : Fin s) (b : Fin 3) (k : Fin 1024) : EReal :=
  Ideal.logistic (g (ix2 r (wide b k))) * branch z w r b k

/-- the merge, -/
def merge {s : ℕ} (z : Mat s 1536) (w : Stack 3 512 1024) (g : Mat s 3072) (r : Fin s) (k : Fin 1024) : EReal :=
  share z w g r 0 k + share z w g r 1 k + share z w g r 2 k

/-- and the sum of the input with its product. -/
def out {s : ℕ} (z : Mat s 1536) (w : Stack 3 512 1024) (g : Mat s 3072) (x : Mat s 1024) (v : Mat 1024 1024) (r : Fin s) (k : Fin 1024) : EReal :=
  x (ix2 r k) + ∑ j : Fin 1024, merge z w g r j * v (ix2 j k)

namespace Tile

open Cert.GateIdeal Cert.GateIdeal.Gen

/-- A load of a block of a matrix, -/
theorem ld_at {n m k l o p : ℕ} {e : EltTy} (inb : ∀ a, (![o, p] : Fin 2 → ℕ) a + (![k, l] : Fin 2 → ℕ) a ≤ (⟨2, ![n, m]⟩ : Shape).size a)
    (X : (⟨2, ![n, m]⟩ : Shape).Idx → Elt Ideal e) (a' : Fin k) (b' : Fin l) (a : Fin n) (b : Fin m) (ha : a.val = o + a'.val) (hb : b.val = p + b'.val) :
    View.ld X (Rect.unit (s := ⟨2, ![n, m]⟩) ![o, p] ![k, l] inb) (ix2 a' b') = X (ix2 a b) := by
  refine congrArg X (funext fun x => ?_)
  match x with
  | ⟨0, _⟩ => exact Fin.ext (by show o + 1 * a'.val = a.val; omega)
  | ⟨1, _⟩ => exact Fin.ext (by show p + 1 * b'.val = b.val; omega)

/-- and one of a matrix of a stack. -/
theorem ld_slab {a n m o : ℕ} {e : EltTy} (inb : ∀ i, (![o, 0, 0] : Fin 3 → ℕ) i + (![1, n, m] : Fin 3 → ℕ) i ≤ (⟨3, ![a, n, m]⟩ : Shape).size i)
    (X : (⟨3, ![a, n, m]⟩ : Shape).Idx → Elt Ideal e) (b : Fin a) (hb : b.val = o) (l : Fin n) (k : Fin m) :
    View.ld X (Rect.unit (s := ⟨3, ![a, n, m]⟩) ![o, 0, 0] ![1, n, m] inb) (ix3 0 l k) = X (ix3 b l k) := by
  refine congrArg X (funext fun x => ?_)
  match x with
  | ⟨0, _⟩ => exact Fin.ext (by show o + 1 * 0 = b.val; omega)
  | ⟨1, _⟩ => exact Fin.ext (by show 0 + 1 * l.val = l.val; omega)
  | ⟨2, _⟩ => exact Fin.ext (by show 0 + 1 * k.val = k.val; omega)

theorem product_at (z : Vec Ideal S512x512 .bf16) (w : Vec Ideal S1x512x1024 .bf16) (r : Fin 512) (k : Fin 1024) :
    k0_pay3 (F := Ideal) z w (ix2 r k) = ∑ q : Fin 512, (z (ix2 r q) * w (ix3 0 q k) : EReal) := by
  refine (Ideal.matmul_plain_apply (φ₁ := .bf16) (φ₂ := .bf16) none z (shapeCast S512x1024 w shapeCasts_S1x512x1024_S512x1024) _ r k).trans ?_
  show Ideal.ofBits .f32 0x00000000#32 + _ = _
  rw [Ideal.ofBits_zero_f32, zero_add]
  refine Finset.sum_congr rfl fun q _ => ?_
  rw [shapeCast_apply w shapeCasts_S1x512x1024_S512x1024 (ix2 q k) (ix3 0 q k) (by
    rw [Shape.rowMajor_val_two, Shape.rowMajor_val_three]; show (0 * 512 + q.val) * 1024 + k.val = q.val * 1024 + k.val; omega)]

variable (z : Vec Ideal S512x1536 .bf16) (w : Vec Ideal S3x512x1024 .bf16) (g : Vec Ideal S512x3072 .bf16) (x : Vec Ideal S512x1024 .f32)
  (v : Vec Ideal S1024x1024 .bf16)

/-- A branch's product on the loaded blocks. -/
theorem loaded_at {o p : ℕ} (i1 : ∀ a, (![0, p] : Fin 2 → ℕ) a + (![512, 512] : Fin 2 → ℕ) a ≤ (⟨2, ![512, 1536]⟩ : Shape).size a)
    (i2 : ∀ i, (![o, 0, 0] : Fin 3 → ℕ) i + (![1, 512, 1024] : Fin 3 → ℕ) i ≤ (⟨3, ![3, 512, 1024]⟩ : Shape).size i)
    (b : Fin 3) (hb : b.val = o) (hp : 512 * b.val = p) (r : Fin 512) (k : Fin 1024) :
    k0_pay3 (F := Ideal) (View.ld z (Rect.unit (s := ⟨2, ![512, 1536]⟩) ![0, p] ![512, 512] i1))
      (View.ld w (Rect.unit (s := ⟨3, ![3, 512, 1024]⟩) ![o, 0, 0] ![1, 512, 1024] i2)) (ix2 r k) = branch z w r b k := by
  refine (product_at _ _ r k).trans (Finset.sum_congr rfl fun q _ => ?_)
  rw [ld_at i1 z r q r (half b q) (by omega) (by show 512 * b.val + q.val = p + q.val; omega), ld_slab i2 w b hb q k]

/-- The products stored. -/
theorem branch_at (r : Fin 512) (b : Fin 3) (k : Fin 1024) : out0_5 (F := Ideal) z w g x v (ix2 r (wide b k)) = branch z w r b k := by
  have hb : b = 0 ∨ b = 1 ∨ b = 2 := by omega
  unfold out0_5
  rcases hb with rfl | rfl | rfl
  · refine (canon_col _ _ _ _ _ (by left; show 1024 * 0 + k.val < 2048; omega)).trans ?_
    refine (canon_col _ _ _ _ _ (by left; show 1024 * 0 + k.val < 1024; omega)).trans ?_
    refine (canon_at _ _ _ _ _ r k (by omega) (by show 1024 * 0 + k.val = 0 + k.val; omega)).trans ?_
    exact loaded_at z w _ _ 0 rfl rfl r k
  · refine (canon_col _ _ _ _ _ (by left; show 1024 * 1 + k.val < 2048; omega)).trans ?_
    refine (canon_at _ _ _ _ _ r k (by omega) rfl).trans ?_
    exact loaded_at z w _ _ 1 rfl rfl r k
  · refine (canon_at _ _ _ _ _ r k (by omega) rfl).trans ?_
    exact loaded_at z w _ _ 2 rfl rfl r k

/-- The merge on the loaded blocks, -/
theorem merged_at (r : Fin 512) (k : Fin 1024) :
    k0_pay1 (F := Ideal) (k0_pay10 z w g x v) (k0_pay11 z w g x v) (View.ld g r0_8) (ix2 r k) = merge z w g r k := by
  show Ideal.logistic (View.ld g r0_2 (ix2 r k)) * k0_pay3 (F := Ideal) (View.ld z r0_0) (View.ld w r0_1) (ix2 r k)
      + Ideal.logistic (View.ld g r0_5 (ix2 r k)) * k0_pay3 (F := Ideal) (View.ld z r0_3) (View.ld w r0_4) (ix2 r k)
      + Ideal.logistic (View.ld g r0_8 (ix2 r k)) * k0_pay3 (F := Ideal) (View.ld z r0_6) (View.ld w r0_7) (ix2 r k) = _
  have p0 := loaded_at z w inb_S512x1536_S512x512_0_0 inb_S3x512x1024_S1x512x1024_0_0_0 0 rfl rfl r k
  have p1 := loaded_at z w inb_S512x1536_S512x512_0_512 inb_S3x512x1024_S1x512x1024_1_0_0 1 rfl rfl r k
  have p2 := loaded_at z w inb_S512x1536_S512x512_0_1024 inb_S3x512x1024_S1x512x1024_2_0_0 2 rfl rfl r k
  have g0 := ld_at inb_S512x3072_S512x1024_0_0 g r k r (wide 0 k) (by omega) (by show 1024 * 0 + k.val = 0 + k.val; omega)
  have g1 := ld_at inb_S512x3072_S512x1024_0_1024 g r k r (wide 1 k) (by omega) rfl
  have g2 := ld_at inb_S512x3072_S512x1024_0_2048 g r k r (wide 2 k) (by omega) rfl
  exact congrArg₂ (fun a b : EReal => a + b) (congrArg₂ (fun a b : EReal => a + b)
    (congrArg₂ (fun a b : EReal => Ideal.logistic a * b) g0 p0) (congrArg₂ (fun a b : EReal => Ideal.logistic a * b) g1 p1))
    (congrArg₂ (fun a b : EReal => Ideal.logistic a * b) g2 p2)

/-- stored, -/
theorem merge_at (r : Fin 512) (k : Fin 1024) : out0_6 (F := Ideal) z w g x v (ix2 r k) = merge z w g r k := by
  unfold out0_6
  refine (canon_at (o := 0) (p := 0) _ _ _ _ _ r k (by omega) (by omega)).trans ?_
  exact merged_at z w g x v r k

/-- and its product added to the input. -/
theorem out_at (r : Fin 512) (k : Fin 1024) : out0_7 (F := Ideal) z w g x v (ix2 r k) = out z w g x v r k := by
  unfold out0_7
  refine (canon_at (o := 0) (p := 0) _ _ _ _ _ r k (by omega) (by omega)).trans ?_
  have hx : View.ld x r0_9 = x := ld_whole _ x
  have hv : View.ld v r0_10 = v := ld_whole _ v
  rw [hx, hv]
  refine congrArg (fun q : EReal => x (ix2 r k) + q) ?_
  refine (Ideal.matmul_plain_apply (φ₁ := .bf16) (φ₂ := .bf16) none (k0_pay1 (F := Ideal) (k0_pay10 z w g x v) (k0_pay11 z w g x v) (View.ld g r0_8)) v _ r k).trans ?_
  show Ideal.ofBits .f32 0x00000000#32 + _ = _
  rw [Ideal.ofBits_zero_f32, zero_add]
  exact Finset.sum_congr rfl fun j _ => congrArg (fun q : EReal => q * v (ix2 j k)) (merged_at z w g x v r j)

end Tile

namespace Ref

open Cert.ReferenceGateIdeal Cert.ReferenceGateIdeal.Read

variable (z : Mat 2048 1536) (w : Stack 3 512 1024) (g : Mat 2048 3072) (x : Mat 2048 1024) (v : Mat 1024 1024)

theorem gate_at (i : S2048x3072.Idx) : val_main_v11 (F := Ideal) g i = Ideal.logistic (g i) := by
  show Ideal.div (Ideal.ofBits .f32 0x3F800000#32) (Ideal.ofBits .f32 0x3F800000#32 + Ideal.exp (-(g i))) = _
  rw [Ideal.ofBits_one_f32]
  rfl

theorem apart_at (r : Fin 2048) (b : Fin 3) (k : Fin 1024) : val_main_v4 (F := Ideal) z w (ix3 r b k) = branch z w r b k := by
  rw [val_main_v4_apply]
  refine (val_main_v3_apply z w _).trans (Finset.sum_congr rfl fun q _ => ?_)
  have e1 : lidx_main_v3 (idx_main_v4 (ix3 r b k)) q = ix3 b q k := funext fun a => match a with | ⟨0, _⟩ => rfl | ⟨1, _⟩ => rfl | ⟨2, _⟩ => rfl
  have e2 : idx_main_v1 (ridx_main_v3 (idx_main_v4 (ix3 r b k)) q) = ix2 r (half b q) := funext fun a => match a with
    | ⟨0, _⟩ => Fin.ext (by show ((r.val * 3 + b.val) * 512 + q.val) / 1536 = r.val; omega)
    | ⟨1, _⟩ => Fin.ext (by show ((r.val * 3 + b.val) * 512 + q.val) % 1536 = 512 * b.val + q.val; omega)
  rw [e1, val_main_v1_apply, e2]
  exact mul_comm (w (ix3 b q k)) (z (ix2 r (half b q)))

theorem branch_at (r : Fin 2048) (b : Fin 3) (k : Fin 1024) : val_main_v17 (F := Ideal) z w (ix2 r (wide b k)) = branch z w r b k := by
  have e : idx_main_v16 (ix2 r (wide b k)) = ix3 r b k := funext fun a => match a with
    | ⟨0, _⟩ => Fin.ext (by show (r.val * 3072 + (1024 * b.val + k.val)) / 3072 = r.val; omega)
    | ⟨1, _⟩ => Fin.ext (by show (r.val * 3072 + (1024 * b.val + k.val)) / 1024 % 3 = b.val; omega)
    | ⟨2, _⟩ => Fin.ext (by show (r.val * 3072 + (1024 * b.val + k.val)) % 1024 = k.val; omega)
  rw [val_main_v17_apply, val_main_v16_apply, e]
  exact apart_at z w r b k

theorem share_at (r : Fin 2048) (b : Fin 3) (k : Fin 1024) : val_main_v13 (F := Ideal) z w g (ix3 r b k) = share z w g r b k := by
  have e : idx_main_v12 (ix3 r b k) = ix2 r (wide b k) := funext fun a => match a with
    | ⟨0, _⟩ => Fin.ext (by show ((r.val * 3 + b.val) * 1024 + k.val) / 3072 = r.val; omega)
    | ⟨1, _⟩ => Fin.ext (by show ((r.val * 3 + b.val) * 1024 + k.val) % 3072 = 1024 * b.val + k.val; omega)
  rw [val_main_v13_apply, val_main_v12_apply, e, gate_at, apart_at]
  rfl

theorem merge_at (r : Fin 2048) (k : Fin 1024) : val_main_v15 (F := Ideal) z w g (ix2 r k) = merge z w g r k := by
  have e (b : Fin 3) : idx_main_v14 (ix2 r k) b = ix3 r b k := funext fun a => match a with | ⟨0, _⟩ => rfl | ⟨1, _⟩ => rfl | ⟨2, _⟩ => rfl
  rw [val_main_v15_apply]
  refine (val_main_v14_apply z w g (ix2 r k)).trans ?_
  show Ideal.ofBits .f32 0x00000000#32 + _ = _
  rw [Ideal.ofBits_zero_f32, zero_add, Fin.sum_univ_three, e, e, e, share_at, share_at, share_at]
  rfl

theorem out_at (r : Fin 2048) (k : Fin 1024) : val_main_v21 (F := Ideal) z w g x v (ix2 r k) = out z w g x v r k := by
  rw [val_main_v21_apply]
  refine congrArg (fun q : EReal => x (ix2 r k) + q) ?_
  refine (val_main_v20_apply z w g v (ix2 r k)).trans (Finset.sum_congr rfl fun j _ => ?_)
  have e1 : lidx_main_v20 (ix2 r k) j = ix2 r j := funext fun a => match a with | ⟨0, _⟩ => rfl | ⟨1, _⟩ => rfl
  have e2 : ridx_main_v20 (ix2 r k) j = ix2 j k := funext fun a => match a with | ⟨0, _⟩ => rfl | ⟨1, _⟩ => rfl
  rw [e1, e2]
  exact congrArg (fun q : EReal => q * v (ix2 j k)) (merge_at z w g r j)

end Ref

end Cert.Proof.Gate

end
-- ==== Proof.GateWhole.lean ====
/- The gated merge's three results, read at an entry: each is the tile's that holds the entry's row. -/
module

public import proofs.«01_k».proof.Proof.Gate

@[expose] public section

noncomputable section

namespace Cert.Proof.Gate

open Idealize.ShloMosaic Idealize.ShloMosaic.ValueIdx Idealize.ShloMosaic.TcCoe Cert.GateIdeal Cert.GateIdeal.Gen Cert.GateIdeal.Value
open Cert.Proof.Merge (Mat Stack wide half)

variable (m : (ℓ : Loc nD τ sig) → Buf (Elt Ideal) ℓ) (c : Dev nD)

/-- The branches, their weights, the gates, the input and the output weights, as the device holds them, -/
abbrev az : Mat 2048 1536 := m ((c : Thread nD τ).loc main_arg0)
@[inherit_doc az] abbrev aw : Stack 3 512 1024 := m ((c : Thread nD τ).loc main_arg1)
@[inherit_doc az] abbrev ag : Mat 2048 3072 := m ((c : Thread nD τ).loc main_arg2)
@[inherit_doc az] abbrev ax : Mat 2048 1024 := m ((c : Thread nD τ).loc main_arg3)
@[inherit_doc az] abbrev av : Mat 1024 1024 := m ((c : Thread nD τ).loc main_arg4)

/-- and the tile's blocks of them. -/
abbrev bz (t : Fin cfg0.N) : Mat 512 1536 := iblk m c 0 t
@[inherit_doc bz] abbrev bw (t : Fin cfg0.N) : Stack 3 512 1024 := iblk m c 1 t
@[inherit_doc bz] abbrev bg (t : Fin cfg0.N) : Mat 512 3072 := iblk m c 2 t
@[inherit_doc bz] abbrev bx (t : Fin cfg0.N) : Mat 512 1024 := iblk m c 3 t
@[inherit_doc bz] abbrev bv (t : Fin cfg0.N) : Mat 1024 1024 := iblk m c 4 t

theorem index0 : ∀ t : Fin grid0.N, cc0_transform_0 (grid0.coords t) 0 = t.val ∧ cc0_transform_0 (grid0.coords t) 1 = 0 := by decide +kernel
theorem index1 : ∀ t : Fin grid0.N, cc0_transform_1 (grid0.coords t) 0 = 0 ∧ cc0_transform_1 (grid0.coords t) 1 = 0 ∧ cc0_transform_1 (grid0.coords t) 2 = 0 := by decide +kernel
theorem index2 : ∀ t : Fin grid0.N, cc0_transform_2 (grid0.coords t) 0 = t.val ∧ cc0_transform_2 (grid0.coords t) 1 = 0 := by decide +kernel
theorem index3 : ∀ t : Fin grid0.N, cc0_transform_3 (grid0.coords t) 0 = t.val ∧ cc0_transform_3 (grid0.coords t) 1 = 0 := by decide +kernel
theorem index4 : ∀ t : Fin grid0.N, cc0_transform_4 (grid0.coords t) 0 = 0 ∧ cc0_transform_4 (grid0.coords t) 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- Row `r` of tile `t` among the rows. -/
def row (t : Fin cfg0.N) (r : Fin 512) : Fin 2048 := ⟨512 * t.val + r.val, by have : t.val < 4 := t.isLt; omega⟩

/-- The blocks are the arrays' rows of the tile, and the weights. -/
theorem bz_at (t : Fin cfg0.N) (r : Fin 512) (q : Fin 1536) : bz m c t (ix2 r q) = az m c (ix2 (row t r) q) := by
  refine congrArg (az m c) (funext fun x => ?_)
  match x with
  | ⟨0, _⟩ => exact Fin.ext (by show cc0_transform_0 (grid0.coords t) 0 * 512 + 1 * r.val = 512 * t.val + r.val; rw [(index0 t).1]; omega)
  | ⟨1, _⟩ => exact Fin.ext (by show cc0_transform_0 (grid0.coords t) 1 * 1536 + 1 * q.val = q.val; rw [(index0 t).2]; omega)

theorem bw_eq (t : Fin cfg0.N) : bw m c t = aw m c := by
  funext i
  refine congrArg (aw m c) (funext fun x => ?_)
  match x with
  | ⟨0, _⟩ => exact Fin.ext (by show cc0_transform_1 (grid0.coords t) 0 * 3 + 1 * (i 0).val = (i 0).val; rw [(index1 t).1]; omega)
  | ⟨1, _⟩ => exact Fin.ext (by show cc0_transform_1 (grid0.coords t) 1 * 512 + 1 * (i 1).val = (i 1).val; rw [(index1 t).2.1]; omega)
  | ⟨2, _⟩ => exact Fin.ext (by show cc0_transform_1 (grid0.coords t) 2 * 1024 + 1 * (i 2).val = (i 2).val; rw [(index1 t).2.2]; omega)

theorem bg_at (t : Fin cfg0.N) (r : Fin 512) (q : Fin 3072) : bg m c t (ix2 r q) = ag m c (ix2 (row t r) q) := by
  refine congrArg (ag m c) (funext fun x => ?_)
  match x with
  | ⟨0, _⟩ => exact Fin.ext (by show cc0_transform_2 (grid0.coords t) 0 * 512 + 1 * r.val = 512 * t.val + r.val; rw [(index2 t).1]; omega)
  | ⟨1, _⟩ => exact Fin.ext (by show cc0_transform_2 (grid0.coords t) 1 * 3072 + 1 * q.val = q.val; rw [(index2 t).2]; omega)

theorem bx_at (t : Fin cfg0.N) (r : Fin 512) (q : Fin 1024) : bx m c t (ix2 r q) = ax m c (ix2 (row t r) q) := by
  refine congrArg (ax m c) (funext fun x => ?_)
  match x with
  | ⟨0, _⟩ => exact Fin.ext (by show cc0_transform_3 (grid0.coords t) 0 * 512 + 1 * r.val = 512 * t.val + r.val; rw [(index3 t).1]; omega)
  | ⟨1, _⟩ => exact Fin.ext (by show cc0_transform_3 (grid0.coords t) 1 * 1024 + 1 * q.val = q.val; rw [(index3 t).2]; omega)

theorem bv_eq (t : Fin cfg0.N) : bv m c t = av m c := by
  funext i
  refine congrArg (av m c) (funext fun x => ?_)
  match x with
  | ⟨0, _⟩ => exact Fin.ext (by show cc0_transform_4 (grid0.coords t) 0 * 1024 + 1 * (i 0).val = (i 0).val; rw [(index4 t).1]; omega)
  | ⟨1, _⟩ => exact Fin.ext (by show cc0_transform_4 (grid0.coords t) 1 * 1024 + 1 * (i 1).val = (i 1).val; rw [(index4 t).2]; omega)

/-- So what a tile computes is what its rows' entries give. -/
theorem branch_tile (t : Fin cfg0.N) (r : Fin 512) (b : Fin 3) (k : Fin 1024) :
    branch (bz m c t) (bw m c t) r b k = branch (az m c) (aw m c) (row t r) b k :=
  Finset.sum_congr rfl fun q _ => by rw [bz_at, bw_eq]

theorem share_tile (t : Fin cfg0.N) (r : Fin 512) (b : Fin 3) (k : Fin 1024) :
    share (bz m c t) (bw m c t) (bg m c t) r b k = share (az m c) (aw m c) (ag m c) (row t r) b k := by
  unfold share
  rw [branch_tile, bg_at]

theorem merge_tile (t : Fin cfg0.N) (r : Fin 512) (k : Fin 1024) :
    merge (bz m c t) (bw m c t) (bg m c t) r k = merge (az m c) (aw m c) (ag m c) (row t r) k := by
  unfold merge
  rw [share_tile, share_tile, share_tile]

theorem out_tile (t : Fin cfg0.N) (r : Fin 512) (k : Fin 1024) :
    out (bz m c t) (bw m c t) (bg m c t) (bx m c t) (bv m c t) r k = out (az m c) (aw m c) (ag m c) (ax m c) (av m c) (row t r) k := by
  unfold out
  rw [bx_at, bv_eq]
  exact congrArg (fun q : EReal => ax m c (ix2 (row t r) k) + q) (Finset.sum_congr rfl fun j _ => by rw [merge_tile])

/-- Each result's entry is its tile's. -/
theorem branch_result (t : Fin cfg0.N) (r : Fin 512) (q : Fin 3072) :
    (dats m 0 c).arrAt 5 cfg0.N (ix2 (row t r) q) = out0_5 (F := Ideal) (bz m c t) (bw m c t) (bg m c t) (bx m c t) (bv m c t) (ix2 r q) := by
  refine Eq.trans ?_ (congrFun ((blocks5 m c t (flush0_5 t)).trans (flushed5 m c t)) (ix2 r q))
  refine congrArg ((dats m 0 c).arrAt 5 cfg0.N) (funext fun x => ?_)
  match x with
  | ⟨0, _⟩ => exact Fin.ext (by show 512 * t.val + r.val = win0_5.index t 0 * 512 + 1 * r.val; rw [(index5 t).1]; omega)
  | ⟨1, _⟩ => exact Fin.ext (by show q.val = win0_5.index t 1 * 3072 + 1 * q.val; rw [(index5 t).2]; omega)

theorem merge_result (t : Fin cfg0.N) (r : Fin 512) (q : Fin 1024) :
    (dats m 0 c).arrAt 6 cfg0.N (ix2 (row t r) q) = out0_6 (F := Ideal) (bz m c t) (bw m c t) (bg m c t) (bx m c t) (bv m c t) (ix2 r q) := by
  refine Eq.trans ?_ (congrFun ((blocks6 m c t (flush0_6 t)).trans (flushed6 m c t)) (ix2 r q))
  refine congrArg ((dats m 0 c).arrAt 6 cfg0.N) (funext fun x => ?_)
  match x with
  | ⟨0, _⟩ => exact Fin.ext (by show 512 * t.val + r.val = win0_6.index t 0 * 512 + 1 * r.val; rw [(index6 t).1]; omega)
  | ⟨1, _⟩ => exact Fin.ext (by show q.val = win0_6.index t 1 * 1024 + 1 * q.val; rw [(index6 t).2]; omega)

theorem out_result (t : Fin cfg0.N) (r : Fin 512) (q : Fin 1024) :
    (dats m 0 c).arrAt 7 cfg0.N (ix2 (row t r) q) = out0_7 (F := Ideal) (bz m c t) (bw m c t) (bg m c t) (bx m c t) (bv m c t) (ix2 r q) := by
  refine Eq.trans ?_ (congrFun ((blocks7 m c t (flush0_7 t)).trans (flushed7 m c t)) (ix2 r q))
  refine congrArg ((dats m 0 c).arrAt 7 cfg0.N) (funext fun x => ?_)
  match x with
  | ⟨0, _⟩ => exact Fin.ext (by show 512 * t.val + r.val = win0_7.index t 0 * 512 + 1 * r.val; rw [(index7 t).1]; omega)
  | ⟨1, _⟩ => exact Fin.ext (by show q.val = win0_7.index t 1 * 1024 + 1 * q.val; rw [(index7 t).2]; omega)

/-- A row is a row of a tile, and a column of the three branches' is a branch's. -/
theorem row_eq (n : Fin 2048) : ∃ (t : Fin cfg0.N) (r : Fin 512), n = row t r :=
  ⟨⟨n.val / 512, by show n.val / 512 < 4; omega⟩, ⟨n.val % 512, by omega⟩, Fin.ext (by show n.val = 512 * (n.val / 512) + n.val % 512; omega)⟩

theorem wide_eq (k : Fin 3072) : ∃ (b : Fin 3) (j : Fin 1024), k = wide b j :=
  ⟨⟨k.val / 1024, by omega⟩, ⟨k.val % 1024, by omega⟩, Fin.ext (by show k.val = 1024 * (k.val / 1024) + k.val % 1024; omega)⟩

open Cert.ReferenceGateIdeal.Read

/-- The three results are the reference's. -/
theorem branch_eq : (dats m 0 c).arrAt 5 cfg0.N = val_main_v17 (F := Ideal) (az m c) (aw m c) := by
  funext i
  obtain ⟨n, k, rfl⟩ : ∃ (n : Fin 2048) (k : Fin 3072), i = ix2 n k := ⟨i 0, i 1, eq_ix2 i⟩
  obtain ⟨t, r, rfl⟩ := row_eq n
  obtain ⟨b, j, rfl⟩ := wide_eq k
  exact Eq.trans (α := EReal) (branch_result m c t r _) (Eq.trans (α := EReal) (Tile.branch_at _ _ _ _ _ r b j)
    ((branch_tile m c t r b j).trans (Ref.branch_at (az m c) (aw m c) (row t r) b j).symm))

theorem merge_eq : (dats m 0 c).arrAt 6 cfg0.N = val_main_v15 (F := Ideal) (az m c) (aw m c) (ag m c) := by
  funext i
  obtain ⟨n, k, rfl⟩ : ∃ (n : Fin 2048) (k : Fin 1024), i = ix2 n k := ⟨i 0, i 1, eq_ix2 i⟩
  obtain ⟨t, r, rfl⟩ := row_eq n
  exact Eq.trans (α := EReal) (merge_result m c t r k) (Eq.trans (α := EReal) (Tile.merge_at _ _ _ _ _ r k)
    ((merge_tile m c t r k).trans (Ref.merge_at (az m c) (aw m c) (ag m c) (row t r) k).symm))

theorem out_eq : (dats m 0 c).arrAt 7 cfg0.N = val_main_v21 (F := Ideal) (az m c) (aw m c) (ag m c) (ax m c) (av m c) := by
  funext i
  obtain ⟨n, k, rfl⟩ : ∃ (n : Fin 2048) (k : Fin 1024), i = ix2 n k := ⟨i 0, i 1, eq_ix2 i⟩
  obtain ⟨t, r, rfl⟩ := row_eq n
  exact Eq.trans (α := EReal) (out_result m c t r k) (Eq.trans (α := EReal) (Tile.out_at _ _ _ _ _ r k)
    ((out_tile m c t r k).trans (Ref.out_at (az m c) (aw m c) (ag m c) (ax m c) (av m c) (row t r) k).symm))

end Cert.Proof.Gate

end
-- ==== Proof.StepClaims.lean ====
/- The claims about the merge, forward and backward, and about the gradients of the weights: the frames, and the equality with the
   references at the ideal instance. Each sets the generated runs side by side and cites what the tiles were proved to hold. -/
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.ReferenceMergeIdeal.Run
public import proofs.«01_k».proof.Proof.Gen.ReferenceMergeIdeal.Read
public import proofs.«01_k».proof.Proof.MergeWhole
public import proofs.«01_k».proof.Proof.Gen.DwIn.Frame
public import proofs.«01_k».proof.Proof.Gen.DwInIdeal.Frame
public import proofs.«01_k».proof.Proof.Gen.DwInIdeal.Value
public import proofs.«01_k».proof.Proof.Gen.ReferenceDwInIdeal.Run
public import proofs.«01_k».proof.Proof.Gen.ReferenceDwInIdeal.Read
public import proofs.«01_k».proof.Proof.DwIn
public import proofs.«01_k».proof.Proof.Gen.DwFf2.Frame
public import proofs.«01_k».proof.Proof.Gen.DwFf2Ideal.Frame
public import proofs.«01_k».proof.Proof.Gen.DwFf2Ideal.Value
public import proofs.«01_k».proof.Proof.Gen.ReferenceDwFf2Ideal.Run
public import proofs.«01_k».proof.Proof.Gen.ReferenceDwFf2Ideal.Read
public import proofs.«01_k».proof.Proof.DwFf2
public import proofs.«01_k».proof.Proof.Gen.DwO.Frame
public import proofs.«01_k».proof.Proof.Gen.DwOIdeal.Frame
public import proofs.«01_k».proof.Proof.Gen.DwOIdeal.Value
public import proofs.«01_k».proof.Proof.Gen.ReferenceDwOIdeal.Run
public import proofs.«01_k».proof.Proof.Gen.ReferenceDwOIdeal.Read
public import proofs.«01_k».proof.Proof.DwO
public import proofs.«01_k».proof.Proof.Gen.DwFf1.Frame
public import proofs.«01_k».proof.Proof.Gen.DwFf1Ideal.Frame
public import proofs.«01_k».proof.Proof.Gen.DwFf1Ideal.Value
public import proofs.«01_k».proof.Proof.Gen.ReferenceDwFf1Ideal.Run
public import proofs.«01_k».proof.Proof.Gen.ReferenceDwFf1Ideal.Read
public import proofs.«01_k».proof.Proof.DwFf1
public import proofs.«01_k».proof.Proof.Gen.DwBranch.Frame
public import proofs.«01_k».proof.Proof.Gen.DwBranchIdeal.Frame
public import proofs.«01_k».proof.Proof.Gen.DwBranchIdeal.Value
public import proofs.«01_k».proof.Proof.Gen.ReferenceDwBranchIdeal.Run
public import proofs.«01_k».proof.Proof.Gen.ReferenceDwBranchIdeal.Read
public import proofs.«01_k».proof.Proof.DwBranch
public import proofs.«01_k».proof.Proof.Gen.Gate.Frame
public import proofs.«01_k».proof.Proof.Gen.GateIdeal.Frame
public import proofs.«01_k».proof.Proof.Gen.GateIdeal.Value
public import proofs.«01_k».proof.Proof.Gen.ReferenceGateIdeal.Run
public import proofs.«01_k».proof.Proof.Gen.ReferenceGateIdeal.Read
public import proofs.«01_k».proof.Proof.GateWhole
public import Idealize.ShloMosaic.Lib.Quiescent

@[expose] public section

noncomputable section

open Idealize.ShloMosaic Idealize.SL.Sem

namespace Cert.Proof.Merge

theorem frame : Cert.quiescent_Merge := fun m ρ _ => Cert.Merge.Gen.frame m ρ

theorem frame_ideal : Cert.quiescent_MergeIdeal := fun m ρ _ => Cert.MergeIdeal.Gen.frame m ρ

theorem frame_reference : Cert.quiescent_ReferenceMergeIdeal := fun m ρ _ =>
  (θ_run Cert.ReferenceMergeIdeal.defs _ _).mono (fun r h => ⟨fun c => (h c).2.2.2, sem_eq_zero_of_no_sems (by decide) r.2⟩)
    (Cert.ReferenceMergeIdeal.Value.run (F := Ideal) m ρ)

/-- The call's three results are the reference's. -/
theorem value : Cert.algebraic_MergeIdeal_ReferenceMergeIdeal := fun m ρ m' ρ' _ hag =>
  ⟨fun c => (Cert.MergeIdeal.Gen.dats m 0 c).arrAt 5 Cert.MergeIdeal.cfg0.N, fun c => (Cert.MergeIdeal.Gen.dats m 0 c).arrAt 6 Cert.MergeIdeal.cfg0.N,
    fun c => (Cert.MergeIdeal.Gen.dats m 0 c).arrAt 7 Cert.MergeIdeal.cfg0.N, Cert.MergeIdeal.Value.run_blocks (F := Ideal) m ρ,
    (θ_run Cert.ReferenceMergeIdeal.defs _ _).mono (fun r h c => by
      obtain ⟨g0, g1, g2, gs⟩ := h c
      obtain ⟨e0, e1, e2, e3, e4, -⟩ := hag c
      refine ⟨?_, ?_, ?_, gs⟩
      · beta_reduce
        rw [dy_eq m c, g0, Cert.ReferenceMergeIdeal.Read.val_main_v38_eq, e0, e1, e3]
      · beta_reduce
        rw [dg_eq m c, g1, Cert.ReferenceMergeIdeal.Read.val_main_v39_eq, e0, e1, e2, e3]
      · beta_reduce
        rw [dz_eq m c, g2, Cert.ReferenceMergeIdeal.Read.val_main_v40_eq, e0, e1, e3, e4]) (Cert.ReferenceMergeIdeal.Value.run (F := Ideal) m' ρ')⟩

end Cert.Proof.Merge

namespace Cert.Proof.DwIn

theorem frame : Cert.quiescent_DwIn := fun m ρ _ => Cert.DwIn.Gen.frame m ρ

theorem frame_ideal : Cert.quiescent_DwInIdeal := fun m ρ _ => Cert.DwInIdeal.Gen.frame m ρ

theorem frame_reference : Cert.quiescent_ReferenceDwInIdeal := fun m ρ _ =>
  (θ_run Cert.ReferenceDwInIdeal.defs _ _).mono (fun r h => ⟨fun c => (h c).2, sem_eq_zero_of_no_sems (by decide) r.2⟩)
    (Cert.ReferenceDwInIdeal.Value.run (F := Ideal) m ρ)

/-- The call's result is the reference's. -/
theorem value : Cert.algebraic_DwInIdeal_ReferenceDwInIdeal := fun m ρ m' ρ' _ hag =>
  ⟨fun c => (Cert.DwInIdeal.Gen.dats m 0 c).arrAt 3 Cert.DwInIdeal.cfg0.N, Cert.DwInIdeal.Value.run_blocks (F := Ideal) m ρ,
    (θ_run Cert.ReferenceDwInIdeal.defs _ _).mono (fun r h c => by
      obtain ⟨g, gs⟩ := h c
      obtain ⟨e0, e1, e2⟩ := hag c
      refine ⟨?_, gs⟩
      beta_reduce
      rw [result_eq m c, g, Cert.ReferenceDwInIdeal.Read.val_main_v8_eq, e0, e1, e2]) (Cert.ReferenceDwInIdeal.Value.run (F := Ideal) m' ρ')⟩

end Cert.Proof.DwIn

namespace Cert.Proof.DwFf2

theorem frame : Cert.quiescent_DwFf2 := fun m ρ _ => Cert.DwFf2.Gen.frame m ρ

theorem frame_ideal : Cert.quiescent_DwFf2Ideal := fun m ρ _ => Cert.DwFf2Ideal.Gen.frame m ρ

theorem frame_reference : Cert.quiescent_ReferenceDwFf2Ideal := fun m ρ _ =>
  (θ_run Cert.ReferenceDwFf2Ideal.defs _ _).mono (fun r h => ⟨fun c => (h c).2, sem_eq_zero_of_no_sems (by decide) r.2⟩)
    (Cert.ReferenceDwFf2Ideal.Value.run (F := Ideal) m ρ)

/-- The call's result is the reference's. -/
theorem value : Cert.algebraic_DwFf2Ideal_ReferenceDwFf2Ideal := fun m ρ m' ρ' _ hag =>
  ⟨fun c => (Cert.DwFf2Ideal.Gen.dats m 0 c).arrAt 2 Cert.DwFf2Ideal.cfg0.N, Cert.DwFf2Ideal.Value.run_blocks (F := Ideal) m ρ,
    (θ_run Cert.ReferenceDwFf2Ideal.defs _ _).mono (fun r h c => by
      obtain ⟨g, gs⟩ := h c
      obtain ⟨e0, e1⟩ := hag c
      refine ⟨?_, gs⟩
      beta_reduce
      rw [result_eq m c, g, Cert.ReferenceDwFf2Ideal.Read.val_main_v8_eq, e0, e1]) (Cert.ReferenceDwFf2Ideal.Value.run (F := Ideal) m' ρ')⟩

end Cert.Proof.DwFf2

namespace Cert.Proof.DwO

theorem frame : Cert.quiescent_DwO := fun m ρ _ => Cert.DwO.Gen.frame m ρ

theorem frame_ideal : Cert.quiescent_DwOIdeal := fun m ρ _ => Cert.DwOIdeal.Gen.frame m ρ

theorem frame_reference : Cert.quiescent_ReferenceDwOIdeal := fun m ρ _ =>
  (θ_run Cert.ReferenceDwOIdeal.defs _ _).mono (fun r h => ⟨fun c => (h c).2, sem_eq_zero_of_no_sems (by decide) r.2⟩)
    (Cert.ReferenceDwOIdeal.Value.run (F := Ideal) m ρ)

/-- The call's result is the reference's. -/
theorem value : Cert.algebraic_DwOIdeal_ReferenceDwOIdeal := fun m ρ m' ρ' _ hag =>
  ⟨fun c => (Cert.DwOIdeal.Gen.dats m 0 c).arrAt 2 Cert.DwOIdeal.cfg0.N, Cert.DwOIdeal.Value.run_blocks (F := Ideal) m ρ,
    (θ_run Cert.ReferenceDwOIdeal.defs _ _).mono (fun r h c => by
      obtain ⟨g, gs⟩ := h c
      obtain ⟨e0, e1⟩ := hag c
      refine ⟨?_, gs⟩
      beta_reduce
      rw [result_eq m c, g, Cert.ReferenceDwOIdeal.Read.val_main_v7_eq, e0, e1]) (Cert.ReferenceDwOIdeal.Value.run (F := Ideal) m' ρ')⟩

end Cert.Proof.DwO

namespace Cert.Proof.DwFf1

theorem frame : Cert.quiescent_DwFf1 := fun m ρ _ => Cert.DwFf1.Gen.frame m ρ

theorem frame_ideal : Cert.quiescent_DwFf1Ideal := fun m ρ _ => Cert.DwFf1Ideal.Gen.frame m ρ

theorem frame_reference : Cert.quiescent_ReferenceDwFf1Ideal := fun m ρ _ =>
  (θ_run Cert.ReferenceDwFf1Ideal.defs _ _).mono (fun r h => ⟨fun c => (h c).2, sem_eq_zero_of_no_sems (by decide) r.2⟩)
    (Cert.ReferenceDwFf1Ideal.Value.run (F := Ideal) m ρ)

/-- The call's result is the reference's. -/
theorem value : Cert.algebraic_DwFf1Ideal_ReferenceDwFf1Ideal := fun m ρ m' ρ' _ hag =>
  ⟨fun c => (Cert.DwFf1Ideal.Gen.dats m 0 c).arrAt 2 Cert.DwFf1Ideal.cfg0.N, Cert.DwFf1Ideal.Value.run_blocks (F := Ideal) m ρ,
    (θ_run Cert.ReferenceDwFf1Ideal.defs _ _).mono (fun r h c => by
      obtain ⟨g, gs⟩ := h c
      obtain ⟨e0, e1⟩ := hag c
      refine ⟨?_, gs⟩
      beta_reduce
      rw [result_eq m c, g, Cert.ReferenceDwFf1Ideal.Read.val_main_v8_eq, e0, e1]) (Cert.ReferenceDwFf1Ideal.Value.run (F := Ideal) m' ρ')⟩

end Cert.Proof.DwFf1

namespace Cert.Proof.DwBranch

theorem frame : Cert.quiescent_DwBranch := fun m ρ _ => Cert.DwBranch.Gen.frame m ρ

theorem frame_ideal : Cert.quiescent_DwBranchIdeal := fun m ρ _ => Cert.DwBranchIdeal.Gen.frame m ρ

theorem frame_reference : Cert.quiescent_ReferenceDwBranchIdeal := fun m ρ _ =>
  (θ_run Cert.ReferenceDwBranchIdeal.defs _ _).mono (fun r h => ⟨fun c => (h c).2, sem_eq_zero_of_no_sems (by decide) r.2⟩)
    (Cert.ReferenceDwBranchIdeal.Value.run (F := Ideal) m ρ)

/-- The call's result is the reference's. -/
theorem value : Cert.algebraic_DwBranchIdeal_ReferenceDwBranchIdeal := fun m ρ m' ρ' _ hag =>
  ⟨fun c => (Cert.DwBranchIdeal.Gen.dats m 0 c).arrAt 2 Cert.DwBranchIdeal.cfg0.N, Cert.DwBranchIdeal.Value.run_blocks (F := Ideal) m ρ,
    (θ_run Cert.ReferenceDwBranchIdeal.defs _ _).mono (fun r h c => by
      obtain ⟨g, gs⟩ := h c
      obtain ⟨e0, e1⟩ := hag c
      refine ⟨?_, gs⟩
      beta_reduce
      rw [result_eq m c, g, Cert.ReferenceDwBranchIdeal.Read.val_main_v12_eq, e0, e1]) (Cert.ReferenceDwBranchIdeal.Value.run (F := Ideal) m' ρ')⟩

end Cert.Proof.DwBranch

namespace Cert.Proof.Gate

theorem frame : Cert.quiescent_Gate := fun m ρ _ => Cert.Gate.Gen.frame m ρ

theorem frame_ideal : Cert.quiescent_GateIdeal := fun m ρ _ => Cert.GateIdeal.Gen.frame m ρ

theorem frame_reference : Cert.quiescent_ReferenceGateIdeal := fun m ρ _ =>
  (θ_run Cert.ReferenceGateIdeal.defs _ _).mono (fun r h => ⟨fun c => (h c).2.2.2, sem_eq_zero_of_no_sems (by decide) r.2⟩)
    (Cert.ReferenceGateIdeal.Value.run (F := Ideal) m ρ)

/-- The call's three results are the reference's. -/
theorem value : Cert.algebraic_GateIdeal_ReferenceGateIdeal := fun m ρ m' ρ' _ hag =>
  ⟨fun c => (Cert.GateIdeal.Gen.dats m 0 c).arrAt 5 Cert.GateIdeal.cfg0.N, fun c => (Cert.GateIdeal.Gen.dats m 0 c).arrAt 6 Cert.GateIdeal.cfg0.N,
    fun c => (Cert.GateIdeal.Gen.dats m 0 c).arrAt 7 Cert.GateIdeal.cfg0.N, Cert.GateIdeal.Value.run_blocks (F := Ideal) m ρ,
    (θ_run Cert.ReferenceGateIdeal.defs _ _).mono (fun r h c => by
      obtain ⟨g0, g1, g2, gs⟩ := h c
      obtain ⟨e0, e1, e2, e3, e4⟩ := hag c
      refine ⟨?_, ?_, ?_, gs⟩
      · beta_reduce
        rw [branch_eq m c, g0, Cert.ReferenceGateIdeal.Read.val_main_v17_eq, e0, e1]
      · beta_reduce
        rw [merge_eq m c, g1, Cert.ReferenceGateIdeal.Read.val_main_v15_eq, e0, e1, e2]
      · beta_reduce
        rw [out_eq m c, g2, Cert.ReferenceGateIdeal.Read.val_main_v21_eq, e0, e1, e2, e3, e4]) (Cert.ReferenceGateIdeal.Value.run (F := Ideal) m' ρ')⟩

end Cert.Proof.Gate

end
-- ==== Proof.WholeStores.lean ====
/- Loads and stores of a whole buffer: a load finds the buffer's contents, a store leaves its value. -/
module

public import proofs.«01_k».proof.Proof.Stores
public import Idealize.ShloMosaic.Lib.Pipeline.FrameBody

@[expose] public section

noncomputable section

namespace Cert.Proof.WholeStores

open Idealize.ShloMosaic Idealize.ShloMosaic.ValueIdx Idealize.ShloMosaic.TcCoe

variable {sg : RefSig} {κ : Kind} {sp : Space} {n l : ℕ} {e : EltTy} {Val : EltTy → Type} [∀ e, Nonempty (Val e)]

/-- A load of a whole buffer finds its contents. -/
theorem load_whole {r : Memref sg κ sp ⟨2, ![n, l]⟩ e} (h : r.IsWhole) (X : (⟨2, ![n, l]⟩ : Shape).Idx → Val e)
    (inb : ∀ a, (![0, 0] : Fin 2 → ℕ) a + (![n, l] : Fin 2 → ℕ) a ≤ (⟨2, ![n, l]⟩ : Shape).size a) :
    View.readAt Val r.view (Rect.unit (s := ⟨2, ![n, l]⟩) ![0, 0] ![n, l] inb).toLoadRect (h.unread X) = X := by
  rw [View.readAt_eq_ld, h.read_unread]
  exact Stores.ld_whole inb X

/-- A store over a whole buffer leaves its value, whatever was stored before. -/
theorem store_over {r : Memref sg κ sp ⟨2, ![n, l]⟩ e} (f)
    (inb : ∀ a, (![0, 0] : Fin 2 → ℕ) a + (![n, l] : Fin 2 → ℕ) a ≤ (⟨2, ![n, l]⟩ : Shape).size a)
    (w : (⟨2, ![n, l]⟩ : Shape).Idx → Val e) (L) :
    View.read Val r.view (r.view.writes Val f (⟨Rect.unit (s := ⟨2, ![n, l]⟩) ![0, 0] ![n, l] inb, w⟩ :: L)) = w := by
  funext i
  exact View.read_writes_cons_unit_of_mem r.view f inb w L i i rfl fun x => by
    match x with
    | ⟨0, _⟩ => exact (Nat.zero_add _).symm
    | ⟨1, _⟩ => exact (Nat.zero_add _).symm

theorem store_whole {r : Memref sg κ sp ⟨2, ![n, l]⟩ e} (f)
    (inb : ∀ a, (![0, 0] : Fin 2 → ℕ) a + (![n, l] : Fin 2 → ℕ) a ≤ (⟨2, ![n, l]⟩ : Shape).size a)
    (w : (⟨2, ![n, l]⟩ : Shape).Idx → Val e) :
    View.read Val r.view (r.view.writes Val f [⟨Rect.unit (s := ⟨2, ![n, l]⟩) ![0, 0] ![n, l] inb, w⟩]) = w := store_over f inb w []

/-- A load of a whole buffer just stored over finds the value stored. -/
theorem cover_whole (v : View sg κ sp ⟨2, ![n, l]⟩ e)
    (inb : ∀ a, (![0, 0] : Fin 2 → ℕ) a + (![n, l] : Fin 2 → ℕ) a ≤ (⟨2, ![n, l]⟩ : Shape).size a)
    (w : (⟨2, ![n, l]⟩ : Shape).Idx → Val e) :
    v.readCov [⟨Rect.unit (s := ⟨2, ![n, l]⟩) ![0, 0] ![n, l] inb, w⟩] (Rect.unit (s := ⟨2, ![n, l]⟩) ![0, 0] ![n, l] inb).toLoadRect = w := by
  funext i
  obtain ⟨a, b, rfl⟩ : ∃ (a : Fin n) (b : Fin l), i = ix2 a b := ⟨i 0, i 1, eq_ix2 i⟩
  exact (Stores.cov_apply v _ inb a b a b (Nat.zero_add _).symm (Nat.zero_add _).symm).trans
    (Stores.canon_at inb w [] a b a b (Nat.zero_add _).symm (Nat.zero_add _).symm)

end Cert.Proof.WholeStores

end
-- ==== Proof.ProjectRun.lean ====
/- The input projection's call: one visit of its body in each of its three cases, and what the visits leave. -/
module

public import proofs.«01_k».proof.Proof.Gen.ProjectIdeal.Frame
public import proofs.«01_k».proof.Proof.Gen.ProjectIdeal.Skeleton
public import proofs.«01_k».proof.Proof.WholeStores
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

set_option maxRecDepth 16384

noncomputable section

namespace Cert.Proof.Project

open Idealize.ShloMosaic Idealize.ShloMosaic.ValueIdx Idealize.ShloMosaic.TcCoe Idealize.ShloMosaic.Tactic Cert.ProjectIdeal Cert.ProjectIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.WholeStores

variable {F : FTy → Type} [FloatOps F]

local notation "𝕄" => MT nD τ sig Unit (Elt F) ℕ (UR sig nD τ) ℕ

section Runs

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1536x1024 .bf16) (h4 : a4.IsWhole) (a5 : Memref sig .tc .vmem S1024x1536 .f32) (h5 : a5.IsWhole)
  (a6 : Memref sig .tc .vmem S1024x1536 .bf16) (h6 : a6.IsWhole) (a7 : Memref sig .tc .vmem S1024x1024 .bf16) (h7 : a7.IsWhole)
  (a8 : Memref sig .tc .vmem S1024x1024 .bf16) (h8 : a8.IsWhole)

set_option maxHeartbeats 4000000 in
/-- A first visit of a block of rows: the rows normed, into scratch and the third result, and the first product. -/
theorem runA (hc0 : k0_cond1 i = 1#1) (hc1 : k0_cond2 i = 1#1) (hc2 : ¬k0_cond3 i = 1#1)
    (x0 : Vec F S1024x1024 .f32) (x1 : Vec F S1x1024 .f32) (x2 : Vec F S1536x1024 .bf16) (E : Set ℕ) (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d) ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare (k0_pay3 (k0_pay2 x0 x1) x2) ∗ owns (c : Thread nD τ) a7 fullShare (k0_pay1 x0 x1) ∗ owns (c : Thread nD τ) a8 fullShare (k0_pay2 x0 x1)) -∗ K ⟨⟩))
      ⊢ wp frame (wpE (defs₀ (F := F)) Variants.none c none) E (cc0_rms_mm i a2 h2 a3 h3 a4 h4 a5 h5 a6 h6 a7 h7 a8 h8) K := by
  simp only [cc0_rms_mm_eq_skeleton]; unfold cc0_rms_mm_skel
  unfold owns
  iintro ⟨⟨%f0, %hf0, H0⟩, ⟨%f1, %hf1, H1⟩, ⟨%f2, %hf2, H2⟩, ⟨%d3, %f3, -, H3⟩, ⟨%d7, %f7, -, H7⟩, ⟨%d8, %f8, -, H8⟩, Hk⟩
  obtain rfl := h2.eq_unread hf0; obtain rfl := h3.eq_unread hf1; obtain rfl := h4.eq_unread hf2
  sl_exec (disch := first | sl_exact hc0 | sl_exact hc1 | sl_exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; swap; · iexact H3
    ipureintro
    refine (store_whole (r := a5) f3 _ _).trans ?_
    rw [load_whole]
    refine congrArg (fun h => k0_pay3 h x2) ((cover_whole a8.view _ _).trans ?_)
    rw [load_whole, load_whole]
  isplitl [H7]
  · iexists _; isplitr; swap; · iexact H7
    ipureintro
    rw [store_whole, load_whole, load_whole]
  iexists _; isplitr; swap; · iexact H8
  ipureintro
  refine (store_whole (r := a8) f8 _ _).trans ?_
  rw [load_whole, load_whole]

set_option maxHeartbeats 4000000 in
/-- A visit of the mixers' columns after the first: the product of the normed rows in scratch. -/
theorem runB (hc0 : ¬k0_cond1 i = 1#1) (hc1 : k0_cond2 i = 1#1) (hc2 : ¬k0_cond3 i = 1#1)
    (x2 : Vec F S1536x1024 .bf16) (h : Vec F S1024x1024 .bf16) (E : Set ℕ) (K : PUnit → sProp 𝕄) :
    iprop(owns (c : Thread nD τ) a4 fullShare x2 ∗ (∃ d, owns (c : Thread nD τ) a5 fullShare d) ∗ owns (c : Thread nD τ) a8 fullShare h
        ∗ (iprop(owns (c : Thread nD τ) a4 fullShare x2 ∗ owns (c : Thread nD τ) a5 fullShare (k0_pay3 h x2) ∗ owns (c : Thread nD τ) a8 fullShare h) -∗ K ⟨⟩))
      ⊢ wp frame (wpE (defs₀ (F := F)) Variants.none c none) E (cc0_rms_mm i a2 h2 a3 h3 a4 h4 a5 h5 a6 h6 a7 h7 a8 h8) K := by
  simp only [cc0_rms_mm_eq_skeleton]; unfold cc0_rms_mm_skel
  unfold owns
  iintro ⟨⟨%f2, %hf2, H2⟩, ⟨%d3, %f3, -, H3⟩, ⟨%f8, %hf8, H8⟩, Hk⟩
  obtain rfl := h4.eq_unread hf2; obtain rfl := h8.eq_unread hf8
  sl_exec (disch := first | sl_exact hc0 | sl_exact hc1 | sl_exact hc2)
  sl_step
  iapply Hk
  isplitl [H2]
  · iexists _; isplitr; · ipureintro; exact h4.read_unread _
    iexact H2
  isplitl [H3]
  · iexists _; isplitr; swap; · iexact H3
    ipureintro
    rw [store_whole, load_whole, load_whole]
  iexists _; isplitr; · ipureintro; exact h8.read_unread _
  iexact H8

set_option maxHeartbeats 4000000 in
/-- A visit of the gates' columns: the same product, stored in the storage type. -/
theorem runC (hc0 : ¬k0_cond1 i = 1#1) (hc1 : ¬k0_cond2 i = 1#1) (hc2 : k0_cond3 i = 1#1)
    (x2 : Vec F S1536x1024 .bf16) (h : Vec F S1024x1024 .bf16) (E : Set ℕ) (K : PUnit → sProp 𝕄) :
    iprop(owns (c : Thread nD τ) a4 fullShare x2 ∗ (∃ d, owns (c : Thread nD τ) a6 fullShare d) ∗ owns (c : Thread nD τ) a8 fullShare h
        ∗ (iprop(owns (c : Thread nD τ) a4 fullShare x2 ∗ owns (c : Thread nD τ) a6 fullShare (k0_pay4 h x2) ∗ owns (c : Thread nD τ) a8 fullShare h) -∗ K ⟨⟩))
      ⊢ wp frame (wpE (defs₀ (F := F)) Variants.none c none) E (cc0_rms_mm i a2 h2 a3 h3 a4 h4 a5 h5 a6 h6 a7 h7 a8 h8) K := by
  simp only [cc0_rms_mm_eq_skeleton]; unfold cc0_rms_mm_skel
  unfold owns
  iintro ⟨⟨%f2, %hf2, H2⟩, ⟨%d3, %f3, -, H3⟩, ⟨%f8, %hf8, H8⟩, Hk⟩
  obtain rfl := h4.eq_unread hf2; obtain rfl := h8.eq_unread hf8
  sl_exec (disch := first | sl_exact hc0 | sl_exact hc1 | sl_exact hc2)
  sl_step
  iapply Hk
  isplitl [H2]
  · iexists _; isplitr; · ipureintro; exact h4.read_unread _
    iexact H2
  isplitl [H3]
  · iexists _; isplitr; swap; · iexact H3
    ipureintro
    rw [store_whole, load_whole, load_whole]
  iexists _; isplitr; · ipureintro; exact h8.read_unread _
  iexact H8

end Runs

end Cert.Proof.Project

end
-- ==== Proof.ProjectVisits.lean ====
/- The input projection's call: its ten visits put together, and what the launch leaves in the three results. -/
module

public import proofs.«01_k».proof.Proof.ProjectRun

@[expose] public section

set_option maxRecDepth 16384

noncomputable section

namespace Cert.Proof.Project

open Idealize.ShloMosaic Idealize.ShloMosaic.ValueIdx Idealize.ShloMosaic.TcCoe Idealize.ShloMosaic.Tactic Cert.ProjectIdeal Cert.ProjectIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The visits: ten, five to a block of rows. -/

theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)
theorem mixers_iff : ∀ t : Fin cfg0.N, k0_cond2 (grid0.coords t) = 1#1 ↔ t.val % 5 ≤ 2 :=
  (by decide +kernel : ∀ t : Fin grid0.N, k0_cond2 (grid0.coords t) = 1#1 ↔ t.val % 5 ≤ 2)
theorem gates_iff : ∀ t : Fin cfg0.N, k0_cond3 (grid0.coords t) = 1#1 ↔ 3 ≤ t.val % 5 :=
  (by decide +kernel : ∀ t : Fin grid0.N, k0_cond3 (grid0.coords t) = 1#1 ↔ 3 ≤ t.val % 5)

theorem idle3 : ∀ t : Fin cfg0.N, cfg0.idle 3 (cfg0.grid.coords t) = decide (3 ≤ t.val % 5) :=
  (by decide +kernel : ∀ t : Fin grid0.N, cfg0.idle 3 (grid0.coords t) = decide (3 ≤ t.val % 5))
theorem idle4 : ∀ t : Fin cfg0.N, cfg0.idle 4 (cfg0.grid.coords t) = decide (t.val % 5 ≤ 2) :=
  (by decide +kernel : ∀ t : Fin grid0.N, cfg0.idle 4 (grid0.coords t) = decide (t.val % 5 ≤ 2))
theorem idle5 : ∀ t : Fin cfg0.N, cfg0.idle 5 (cfg0.grid.coords t) = decide (t.val % 5 ≠ 0) :=
  (by decide +kernel : ∀ t : Fin grid0.N, cfg0.idle 5 (grid0.coords t) = decide (t.val % 5 ≠ 0))

theorem flush3 : ∀ t : Fin cfg0.N, (cfg0.win 3).flush t = decide (t.val % 5 ≠ 2 ∧ t.val % 5 ≠ 3) :=
  (by decide +kernel : ∀ t : Fin grid0.N, (cfg0.win 3).flush t = decide (t.val % 5 ≠ 2 ∧ t.val % 5 ≠ 3))
theorem flush4 : ∀ t : Fin cfg0.N, (cfg0.win 4).flush t = decide (3 ≤ t.val % 5) :=
  (by decide +kernel : ∀ t : Fin grid0.N, (cfg0.win 4).flush t = decide (3 ≤ t.val % 5))
theorem flush5 : ∀ t : Fin cfg0.N, (cfg0.win 5).flush t = decide (t.val % 5 = 4) :=
  (by decide +kernel : ∀ t : Fin grid0.N, (cfg0.win 5).flush t = decide (t.val % 5 = 4))

theorem kept3 : ∀ t : Fin cfg0.N, 3 ≤ t.val % 5 → cfg0.fresh 3 t.val = false :=
  (by decide +kernel : ∀ t : Fin grid0.N, 3 ≤ t.val % 5 → cfg0.fresh 3 t.val = false)
theorem kept5 : ∀ t : Fin cfg0.N, t.val % 5 ≠ 0 → cfg0.fresh 5 t.val = false :=
  (by decide +kernel : ∀ t : Fin grid0.N, t.val % 5 ≠ 0 → cfg0.fresh 5 t.val = false)

/-- Each window's buffer at a visit. -/
abbrev ms0_0 (t : Fin cfg0.N) : Memref sig .tc .vmem S1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1536x1024 .bf16 := win0_2.stage (cfg0.slots t 2)
abbrev ms0_3 (t : Fin cfg0.N) : Memref sig .tc .vmem S1024x1536 .f32 := win0_3.stage (cfg0.slots t 3)
abbrev ms0_4 (t : Fin cfg0.N) : Memref sig .tc .vmem S1024x1536 .bf16 := win0_4.stage (cfg0.slots t 4)
abbrev ms0_5 (t : Fin cfg0.N) : Memref sig .tc .vmem S1024x1024 .bf16 := win0_5.stage (cfg0.slots t 5)
/-- The scratch buffer. -/
abbrev scM0_0 : Memref sig .tc .vmem S1024x1024 .bf16 := Memref.whole cc0_scratch0

/-- The class's invariant: the scratch buffer at anything, and the generator's register. -/
theorem any_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg) (c : Dev nD) (t : Fin cfg0.N)

theorem visit_lt : t.val < 10 := lt_of_lt_of_eq t.isLt N_0

/-- The first visit of the block of rows. -/
def first : Fin cfg0.N := ⟨t.val / 5 * 5, lt_of_le_of_lt (Nat.div_mul_le_self _ _) t.isLt⟩
/-- The last visit of the mixers' columns so far. -/
def last : Fin cfg0.N := ⟨t.val / 5 * 5 + min (t.val % 5) 2, by have := t.isLt; omega⟩

/-- The rows normed, as the scratch buffer holds them. -/
def rows : Vec F S1024x1024 .bf16 := k0_pay2 (iblk m c 0 (first t)) (iblk m c 1 (first t))
/-- The mixers' columns. -/
def pm : Vec F S1024x1536 .f32 := k0_pay3 (rows m c t) (iblk m c 2 (last t))
/-- The gates' columns. -/
def pg : Vec F S1024x1536 .bf16 := k0_pay4 (rows m c t) (iblk m c 2 t)
/-- The rows normed, as the third result holds them. -/
def normed : Vec F S1024x1024 .bf16 := k0_pay1 (iblk m c 0 (first t)) (iblk m c 1 (first t))

/-- The scratch buffer after visit `t`, and the generator's register. -/
def scratch : sProp 𝕄 := iprop(owns (c : Thread nD τ) scM0_0 fullShare (rows m c t) ∗ (∃ r, prngReg c r))

/-- The invariant before visit `n`: the scratch buffer at what the visit before left; at anything before the first. -/
def inv : (n : ℕ) → n ≤ cfg0.N → sProp 𝕄
  | 0, _ => Pipeline.ΦA spec0 c
  | n + 1, hn => scratch m c ⟨n, hn⟩

theorem inv_later (n : ℕ) (h : n ≤ cfg0.N) (hz : n ≠ 0) : inv m c n h = scratch m c ⟨n - 1, by omega⟩ := by
  cases n with
  | zero => exact absurd rfl hz
  | succ n => rfl

theorem inv_any (n : ℕ) (h : n ≤ cfg0.N) : inv m c n h ⊢ Pipeline.ΦA spec0 c := by
  cases n with
  | zero => exact .rfl
  | succ n =>
    rw [any_eq]
    show scratch m c _ ⊢ _
    unfold scratch
    iintro ⟨HS, Hg⟩
    isplitl [HS]
    · iexists _; iexact HS
    iexact Hg

/-- The proof data of the pipeline: the arrays as the launch hands them over; an argument's buffer at its block and a
    result's at what the visits so far have left there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pm m c t
    | ⟨4, _⟩ => pg m c t
    | ⟨5, _⟩ => normed m c t
    | ⟨_ + 6, h⟩ => absurd h (Nat.not_lt.2 (Nat.le_add_left _ _))
  Φ t := inv m c t.val (Nat.le_of_lt_succ t.isLt)
  q w := Pipeline.shareOf spec0 w
  owed _ := 0

theorem A_eq (w : Fin cfg0.W) : (dats m 0 c).A w = V m c (Pipeline.arrRef spec0 w) := by
  dsimp only [dats]

theorem leaves_live (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A result's buffer that a visit leaves alone is handed back: at what it held, and that is what is to be written back. -/
theorem leaves_idle (w : Fin cfg0.W) (hi : cfg0.idle w (cfg0.grid.coords t) = true)
    (h : (cfg0.win w).flush t = true → ∀ d, (dats m 0 c).before w t d = (dats m 0 c).after w t) :
    iprop(∃ d, owns (c : Thread nD τ) ((cfg0.win w).stage (cfg0.slots t w)) fullShare ((dats m 0 c).before w t d))
      ⊢ (dats m 0 c).leavesExact w t := by
  cases hf : (cfg0.win w).flush t with
  | false => rw [Dat.leavesExact_idle _ w t hi hf]
  | true =>
    have e : (dats m 0 c).leavesExact w t = owns (c : Thread nD τ) ((cfg0.win w).stage (cfg0.slots t w)) fullShare ((dats m 0 c).after w t) := by
      unfold Dat.leavesExact; rw [hi, hf]
    rw [e]
    iintro ⟨%d, H⟩
    rw [h hf d]
    iexact H

theorem first_prev (h : t.val % 5 ≠ 0) : first (⟨t.val - 1, by have := t.isLt; omega⟩ : Fin cfg0.N) = first t :=
  Fin.ext (by show (t.val - 1) / 5 * 5 = t.val / 5 * 5; omega)
theorem last_prev (h : 3 ≤ t.val % 5) : last (⟨t.val - 1, by have := t.isLt; omega⟩ : Fin cfg0.N) = last t :=
  Fin.ext (by show (t.val - 1) / 5 * 5 + min ((t.val - 1) % 5) 2 = t.val / 5 * 5 + min (t.val % 5) 2; omega)
theorem rows_prev (h : t.val % 5 ≠ 0) : rows m c (⟨t.val - 1, by have := t.isLt; omega⟩ : Fin cfg0.N) = rows m c t := by
  unfold rows; rw [first_prev t h]
theorem pm_prev (h : 3 ≤ t.val % 5) : pm m c (⟨t.val - 1, by have := t.isLt; omega⟩ : Fin cfg0.N) = pm m c t := by
  unfold pm; rw [rows_prev m c t (by omega), last_prev t h]
theorem normed_prev (h : t.val % 5 ≠ 0) : normed m c (⟨t.val - 1, by have := t.isLt; omega⟩ : Fin cfg0.N) = normed m c t := by
  unfold normed; rw [first_prev t h]

theorem before0 (d) : (dats m 0 c).before 0 t d = iblk m c 0 t := before0_0_of m (dats m 0 c) (A_eq m c 0) (fun _ => rfl) t d
theorem before1 (d) : (dats m 0 c).before 1 t d = iblk m c 1 t := before0_1_of m (dats m 0 c) (A_eq m c 1) (fun _ => rfl) t d
theorem before2 (d) : (dats m 0 c).before 2 t d = iblk m c 2 t := before0_2_of m (dats m 0 c) (A_eq m c 2) (fun _ => rfl) t d

/-- At the gates' columns the first result's buffer still holds the last of the mixers'. -/
theorem before3 (h : 3 ≤ t.val % 5) (d) : (dats m 0 c).before 3 t d = pm m c t := by
  rw [(dats m 0 c).before_out_traj 3 rfl (fun _ _ => rfl)
    (fun s _ hi _ => (pm_prev m c s (of_decide_eq_true ((idle3 s).symm.trans hi))).symm) t.val t rfl d, kept3 t h, if_neg Bool.false_ne_true]
  exact pm_prev m c t h
/-- After its first visit the block's normed rows stay in the third result's buffer. -/
theorem before5 (h : t.val % 5 ≠ 0) (d) : (dats m 0 c).before 5 t d = normed m c t := by
  rw [(dats m 0 c).before_out_traj 5 rfl (fun _ _ => rfl)
    (fun s _ hi _ => (normed_prev m c s (of_decide_eq_true ((idle5 s).symm.trans hi))).symm) t.val t rfl d, kept5 t h, if_neg Bool.false_ne_true]
  exact normed_prev m c t h

/-- What a visit is called with, window by window, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it hands back. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem inv_before : (dats m 0 c).Φ t.castSucc = inv m c t.val (Nat.le_of_lt t.isLt) := by
  dsimp only [dats]; exact Pipeline.Dat.Φ_castSucc (inv m c) t

theorem inv_after : (dats m 0 c).Φ t.succ = scratch m c t := rfl

theorem leaves0 : (dats m 0 c).leavesExact 0 t = owns (c : Thread nD τ) (ms0_0 t) fullShare (iblk m c 0 t) := leaves_live m c t 0 rfl
theorem leaves1 : (dats m 0 c).leavesExact 1 t = owns (c : Thread nD τ) (ms0_1 t) fullShare (iblk m c 1 t) := leaves_live m c t 1 rfl
theorem leaves2 : (dats m 0 c).leavesExact 2 t = owns (c : Thread nD τ) (ms0_2 t) fullShare (iblk m c 2 t) := leaves_live m c t 2 rfl
theorem leaves3 (h : t.val % 5 ≤ 2) : (dats m 0 c).leavesExact 3 t = owns (c : Thread nD τ) (ms0_3 t) fullShare (pm m c t) :=
  leaves_live m c t 3 ((idle3 t).trans (decide_eq_false (by omega)))
theorem leaves4 (h : 3 ≤ t.val % 5) : (dats m 0 c).leavesExact 4 t = owns (c : Thread nD τ) (ms0_4 t) fullShare (pg m c t) :=
  leaves_live m c t 4 ((idle4 t).trans (decide_eq_false (by omega)))
theorem leaves5 (h : t.val % 5 = 0) : (dats m 0 c).leavesExact 5 t = owns (c : Thread nD τ) (ms0_5 t) fullShare (normed m c t) :=
  leaves_live m c t 5 ((idle5 t).trans (decide_eq_false (by omega)))
theorem back3 (h : 3 ≤ t.val % 5) : iprop(∃ d, owns (c : Thread nD τ) (ms0_3 t) fullShare ((dats m 0 c).before 3 t d)) ⊢ (dats m 0 c).leavesExact 3 t :=
  leaves_idle m c t 3 ((idle3 t).trans (decide_eq_true h)) fun _ => before3 m c t h
theorem back4 (h : t.val % 5 ≤ 2) : iprop(∃ d, owns (c : Thread nD τ) (ms0_4 t) fullShare ((dats m 0 c).before 4 t d)) ⊢ (dats m 0 c).leavesExact 4 t :=
  leaves_idle m c t 4 ((idle4 t).trans (decide_eq_true h)) fun hf => absurd (of_decide_eq_true ((flush4 t).symm.trans hf)) (by omega)
theorem back5 (h : t.val % 5 ≠ 0) : iprop(∃ d, owns (c : Thread nD τ) (ms0_5 t) fullShare ((dats m 0 c).before 5 t d)) ⊢ (dats m 0 c).leavesExact 5 t :=
  leaves_idle m c t 5 ((idle5 t).trans (decide_eq_true h)) fun _ => before5 m c t h

/-- A block's first visit finds and leaves its own blocks. -/
theorem first_self (h : t.val % 5 = 0) : first t = t := Fin.ext (by show t.val / 5 * 5 = t.val; omega)
theorem last_self (h : t.val % 5 ≤ 2) : last t = t := Fin.ext (by show t.val / 5 * 5 + min (t.val % 5) 2 = t.val; omega)

set_option maxHeartbeats 4000000 in
/-- A block's first visit. -/
theorem bodyA (h0 : t.val % 5 = 0) :
    bodyPre m c t ⊢ wp frame (wpE (defs₀ (F := F)) Variants.none c none) Set.univ (bodyAt0 t) (fun _ => bodyPost m c t) := by
  unfold bodyPre bodyPost bodyAt0
  simp only [before0 m c t, before1 m c t, before2 m c t]
  rw [inv_after, show (dats m 0 c).owesAt () t.succ = (dats m 0 c).owesAt () t.castSucc from rfl,
    leaves0 m c t, leaves1 m c t, leaves2 m c t, leaves3 m c t (by omega), leaves5 m c t h0, inv_before]
  refine BIBase.Entails.trans (sep_mono_left (inv_any m c _ _)) ?_
  rw [any_eq]
  unfold scratch pm normed rows
  rw [first_self t h0, last_self t (by omega)]
  iintro ⟨⟨HS, Hg⟩, Ho, ⟨%d0, H0⟩, ⟨%d1, H1⟩, ⟨%d2, H2⟩, ⟨%d3, H3⟩, H4, ⟨%d5, H5⟩⟩
  iapply (runA c (grid0.coords t) _ _ _ _ _ _ _ _ _ _ _ _ _ _ ((first_iff t).mpr h0) ((mixers_iff t).mpr (by omega))
    (fun h => absurd ((gates_iff t).mp h) (by omega)) (iblk m c 0 t) (iblk m c 1 t) (iblk m c 2 t) Set.univ _)
  isplitl [H0]; · iexact H0
  isplitl [H1]; · iexact H1
  isplitl [H2]; · iexact H2
  isplitl [H3]; · iexists _; iexact H3
  isplitl [H5]; · iexists _; iexact H5
  isplitl [HS]; · iexact HS
  iintro ⟨H0, H1, H2, H3, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]
  · iapply (back4 m c t (by omega)); iexact H4
  iexact H5

set_option maxHeartbeats 4000000 in
/-- A later visit of the mixers' columns. -/
theorem bodyB (h0 : t.val % 5 ≠ 0) (h1 : t.val % 5 ≤ 2) :
    bodyPre m c t ⊢ wp frame (wpE (defs₀ (F := F)) Variants.none c none) Set.univ (bodyAt0 t) (fun _ => bodyPost m c t) := by
  unfold bodyPre bodyPost bodyAt0
  simp only [before0 m c t, before1 m c t, before2 m c t]
  rw [inv_after, show (dats m 0 c).owesAt () t.succ = (dats m 0 c).owesAt () t.castSucc from rfl,
    leaves0 m c t, leaves1 m c t, leaves2 m c t, leaves3 m c t h1, inv_before, inv_later m c _ _ (by omega)]
  unfold scratch pm
  rw [rows_prev m c t h0, last_self t h1]
  iintro ⟨⟨HS, Hg⟩, Ho, ⟨%d0, H0⟩, ⟨%d1, H1⟩, ⟨%d2, H2⟩, ⟨%d3, H3⟩, H4, H5⟩
  iapply (runB c (grid0.coords t) _ _ _ _ _ _ _ _ _ _ _ _ _ _ (fun h => h0 ((first_iff t).mp h)) ((mixers_iff t).mpr h1)
    (fun h => absurd ((gates_iff t).mp h) (by omega)) (iblk m c 2 t) (rows m c t) Set.univ _)
  isplitl [H2]; · iexact H2
  isplitl [H3]; · iexists _; iexact H3
  isplitl [HS]; · iexact HS
  iintro ⟨H2, H3, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]
  · iapply (back4 m c t h1); iexact H4
  iapply (back5 m c t h0); iexact H5

set_option maxHeartbeats 4000000 in
/-- A visit of the gates' columns. -/
theorem bodyC (h2 : 3 ≤ t.val % 5) :
    bodyPre m c t ⊢ wp frame (wpE (defs₀ (F := F)) Variants.none c none) Set.univ (bodyAt0 t) (fun _ => bodyPost m c t) := by
  unfold bodyPre bodyPost bodyAt0
  simp only [before0 m c t, before1 m c t, before2 m c t]
  rw [inv_after, show (dats m 0 c).owesAt () t.succ = (dats m 0 c).owesAt () t.castSucc from rfl,
    leaves0 m c t, leaves1 m c t, leaves2 m c t, leaves4 m c t h2, inv_before, inv_later m c _ _ (by omega)]
  unfold scratch pg
  rw [rows_prev m c t (by omega)]
  iintro ⟨⟨HS, Hg⟩, Ho, ⟨%d0, H0⟩, ⟨%d1, H1⟩, ⟨%d2, H2⟩, H3, ⟨%d4, H4⟩, H5⟩
  iapply (runC c (grid0.coords t) _ _ _ _ _ _ _ _ _ _ _ _ _ _ (fun h => absurd ((first_iff t).mp h) (by omega))
    (fun h => absurd ((mixers_iff t).mp h) (by omega)) ((gates_iff t).mpr h2) (iblk m c 2 t) (rows m c t) Set.univ _)
  isplitl [H2]; · iexact H2
  isplitl [H4]; · iexists _; iexact H4
  isplitl [HS]; · iexact HS
  iintro ⟨H2, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · iapply (back3 m c t h2); iexact H3
  isplitl [H4]; · iexact H4
  iapply (back5 m c t (by omega)); iexact H5

/-- Every visit. -/
theorem body :
    bodyPre m c t ⊢ wp frame (wpE (defs₀ (F := F)) Variants.none c none) Set.univ (bodyAt0 t) (fun _ => bodyPost m c t) := by
  by_cases h0 : t.val % 5 = 0
  · exact bodyA m c t h0
  · by_cases h1 : t.val % 5 ≤ 2
    · exact bodyB m c t h0 h1
    · exact bodyC m c t (by omega)

theorem body_row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, body_row]
  exact triple_restated (body m c t) rfl .rfl fun _ => .rfl

theorem inv_in : Pipeline.ΦA spec0 c ⊢ (dats m 0 c).Φ 0 := Idealize.SL.BI.Entails.refl _

/-- The invariant after the last visit gives the scratch buffer back, its contents forgotten. -/
theorem inv_out : (dats m 0 c).Φ (Fin.last cfg0.N) ⊢ Pipeline.ΦA spec0 c :=
  inv_any m c (Fin.last cfg0.N).val (Nat.le_of_lt_succ (Fin.last cfg0.N).isLt)

set_option backward.isDefEq.respectTransparency.types false in
/-- The launch: every array of the pipeline ends at what the visits write back, and every counter at zero. -/
theorem launched : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The arguments at the end of the run. -/
def Kept (r : PUnit × MemSt nD τ sig (Elt F)) : Prop := ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

/-- The run: the results at what the visits write back, the arguments as they were, every counter at zero. -/
theorem run_main : θ_run defs (onTc (τ := τ) (main (F := F))) (s₀ m ρ) fun r =>
    ((∀ w (c : Dev nD), r.2.mem ((c : Thread nD τ).loc (Pipeline.arrRef spec0 w)) = (dats m 0 c).arrAt w cfg0.N) ∧ Kept m r) ∧ r.2.sem = fun _ => 0 :=
  θ_run_and (θ_run_and ((θ_run defs _ _).mono (fun r h w c => (h.1 c).1 w) (launched m ρ))
    (frame_of m ρ (dats m) (A_eq m) ((θ_run defs _ _).mono (fun _ h => h.1) (launched m ρ))))
    ((θ_run defs _ _).mono (fun _ h => h.2) (launched m ρ))

end Cert.Proof.Project

end
-- ==== Proof.ProjectWhole.lean ====
/- The input projection: each row normed by the root of its mean square and scaled, and each tile of the projected columns the
   product of the normed rows with a block of the transposed weights; together they are the reference's three results. -/
module

public import proofs.«01_k».proof.Proof.ProjectVisits
public import proofs.«01_k».proof.Proof.Gen.ReferenceProjectIdeal.Read
public import Idealize.ShloMosaic.Lib.MatmulPlain
public import Idealize.ShloMosaic.Lib.Pipeline.Value

@[expose] public section

noncomputable section

namespace Cert.Proof.Project

open Idealize.ShloMosaic Idealize.ShloMosaic.ValueIdx Idealize.ShloMosaic.TcCoe Cert.ProjectIdeal Cert.ProjectIdeal.Gen

/-- A matrix. -/
abbrev Mat (a b : ℕ) := (⟨2, ![a, b]⟩ : Shape).Idx → EReal

/-- The factor that norms a row: one over the root of its mean square, the small constant added. -/
def factor (r : Fin 1024 → EReal) : EReal :=
  Ideal.rsqrt (Ideal.div (∑ k, r k * r k) (Scalar.ofBits (F := Ideal) .f32 0x44800000#32) + Scalar.ofBits (F := Ideal) .f32 0x358637BD#32)

/-- A normed entry. -/
theorem normed_at (x : Vec Ideal S1024x1024 .f32) (g : Vec Ideal S1x1024 .f32) (i j : Fin 1024) :
    k0_pay1 (F := Ideal) x g (ix2 i j) = (x (ix2 i j) * factor (fun k => x (ix2 i k)) * g (ix2 0 j) : EReal) := by
  unfold k0_pay1
  dsimp only
  show (x (ix2 i j) * broadcastTo S1024x1024 _ broadcasts_S1024x1_S1024x1024 (ix2 i j) * broadcastTo S1024x1024 g broadcasts_S1x1024_S1024x1024 (ix2 i j) : EReal) = _
  rw [broadcastTo_apply g broadcasts_S1x1024_S1024x1024 (ix2 i j) (ix2 0 j) (fun a => by match a with | ⟨0, _⟩ => rfl | ⟨1, _⟩ => rfl),
    broadcastTo_apply _ broadcasts_S1024x1_S1024x1024 (ix2 i j) (ix2 i 0) (fun a => by match a with | ⟨0, _⟩ => rfl | ⟨1, _⟩ => rfl)]
  refine congrArg (fun f : EReal => x (ix2 i j) * f * g (ix2 0 j)) ?_
  unfold factor
  refine congrArg (fun s : EReal => Ideal.rsqrt (Ideal.div s (Scalar.ofBits (F := Ideal) .f32 0x44800000#32) + Scalar.ofBits (F := Ideal) .f32 0x358637BD#32)) ?_
  rw [shapeCast_apply _ shapeCasts_S1024_S1024x1 (ix2 i 0) (ix1 i) (by simp [Shape.rowMajor_val_one, Shape.rowMajor_val_two])]
  refine (Ideal.multiReduction_add_single _ _ _ _ _ _).trans (Finset.sum_congr rfl fun k _ => ?_)
  refine congrArg (fun y : EReal => y * y) (congrArg x (funext fun a => ?_))
  match a with
  | ⟨0, _⟩ => rfl
  | ⟨1, _⟩ => rfl

/-- The scratch buffer holds the same. -/
theorem rows_eq (x : Vec Ideal S1024x1024 .f32) (g : Vec Ideal S1x1024 .f32) : k0_pay2 (F := Ideal) x g = k0_pay1 x g := by
  unfold k0_pay2
  exact shapeCast_self _ _

theorem product_at (h : Vec Ideal S1024x1024 .bf16) (w : Vec Ideal S1536x1024 .bf16) (i : Fin 1024) (j : Fin 1536) :
    k0_pay3 (F := Ideal) h w (ix2 i j) = ∑ k : Fin 1024, (h (ix2 i k) * w (ix2 j k) : EReal) :=
  (Ideal.matmul_transposedRhs_apply (φ₁ := .bf16) (φ₂ := .bf16) none h w _ i j).trans
    ((congrArg (fun z : EReal => z + _) Ideal.ofBits_zero_f32).trans (zero_add _))

theorem product_bf16_at (h : Vec Ideal S1024x1024 .bf16) (w : Vec Ideal S1536x1024 .bf16) (i : Fin 1024) (j : Fin 1536) :
    k0_pay4 (F := Ideal) h w (ix2 i j) = ∑ k : Fin 1024, (h (ix2 i k) * w (ix2 j k) : EReal) := product_at h w i j

variable (m : (ℓ : Loc nD τ sig) → Buf (Elt Ideal) ℓ) (c : Dev nD)

/-- The tokens, the norm's scale and the transposed weights, as the device holds them. -/
abbrev ax : Mat 2048 1024 := m ((c : Thread nD τ).loc main_arg0)
@[inherit_doc ax] abbrev ag : Mat 1 1024 := m ((c : Thread nD τ).loc main_arg1)
@[inherit_doc ax] abbrev aw : Mat 7680 1024 := m ((c : Thread nD τ).loc main_arg2)

theorem index0 : ∀ t : Fin grid0.N, cc0_transform_0 (grid0.coords t) 0 = t.val / 5 ∧ cc0_transform_0 (grid0.coords t) 1 = 0 := by decide +kernel
theorem index1 : ∀ t : Fin grid0.N, cc0_transform_1 (grid0.coords t) 0 = 0 ∧ cc0_transform_1 (grid0.coords t) 1 = 0 := by decide +kernel
theorem index2 : ∀ t : Fin grid0.N, cc0_transform_2 (grid0.coords t) 0 = t.val % 5 ∧ cc0_transform_2 (grid0.coords t) 1 = 0 := by decide +kernel
theorem index3 : ∀ t : Fin grid0.N, win0_3.index t 0 = t.val / 5 ∧ win0_3.index t 1 = min (t.val % 5) 2 := by decide +kernel
theorem index4 : ∀ t : Fin grid0.N, win0_4.index t 0 = t.val / 5 ∧ win0_4.index t 1 = t.val % 5 - 3 := by decide +kernel
theorem index5 : ∀ t : Fin grid0.N, win0_5.index t 0 = t.val / 5 ∧ win0_5.index t 1 = 0 := by decide +kernel

/-- The blocks' entries. -/
theorem ax_at (t : Fin cfg0.N) (i j : Fin 1024) :
    (iblk m c 0 t : Mat 1024 1024) (ix2 i j) = ax m c (ix2 ⟨1024 * (t.val / 5) + i.val, by have := visit_lt t; omega⟩ j) := by
  refine congrArg (ax m c) (funext fun x => ?_)
  match x with
  | ⟨0, _⟩ => exact Fin.ext (by show cc0_transform_0 (grid0.coords t) 0 * 1024 + 1 * i.val = 1024 * (t.val / 5) + i.val; rw [(index0 t).1]; omega)
  | ⟨1, _⟩ => exact Fin.ext (by show cc0_transform_0 (grid0.coords t) 1 * 1024 + 1 * j.val = j.val; rw [(index0 t).2]; omega)

theorem ag_at (t : Fin cfg0.N) (j : Fin 1024) : (iblk m c 1 t : Mat 1 1024) (ix2 0 j) = ag m c (ix2 0 j) := by
  refine congrArg (ag m c) (funext fun x => ?_)
  match x with
  | ⟨0, _⟩ => exact Fin.ext (by show cc0_transform_1 (grid0.coords t) 0 * 1 + 1 * 0 = 0; rw [(index1 t).1])
  | ⟨1, _⟩ => exact Fin.ext (by show cc0_transform_1 (grid0.coords t) 1 * 1024 + 1 * j.val = j.val; rw [(index1 t).2]; omega)

theorem aw_at (t : Fin cfg0.N) (l : Fin 1536) (k : Fin 1024) :
    (iblk m c 2 t : Mat 1536 1024) (ix2 l k) = aw m c (ix2 ⟨1536 * (t.val % 5) + l.val, by omega⟩ k) := by
  refine congrArg (aw m c) (funext fun x => ?_)
  match x with
  | ⟨0, _⟩ => exact Fin.ext (by show cc0_transform_2 (grid0.coords t) 0 * 1536 + 1 * l.val = 1536 * (t.val % 5) + l.val; rw [(index2 t).1]; omega)
  | ⟨1, _⟩ => exact Fin.ext (by show cc0_transform_2 (grid0.coords t) 1 * 1024 + 1 * k.val = k.val; rw [(index2 t).2]; omega)

/-- A normed entry of a whole array. -/
def norm (x : Mat 2048 1024) (g : Mat 1 1024) (n : Fin 2048) (j : Fin 1024) : EReal := x (ix2 n j) * factor (fun k => x (ix2 n k)) * g (ix2 0 j)

@[inherit_doc norm] abbrev unit (n : Fin 2048) (j : Fin 1024) : EReal := norm (ax m c) (ag m c) n j

/-- A projected entry. -/
def proj (n : Fin 2048) (l : Fin 7680) : EReal := ∑ k : Fin 1024, unit m c n k * aw m c (ix2 l k)

/-- What the visits leave. -/
theorem normed_entry (t : Fin cfg0.N) (i j : Fin 1024) :
    normed m c t (ix2 i j) = unit m c ⟨1024 * (t.val / 5) + i.val, by have := visit_lt t; omega⟩ j := by
  unfold normed
  refine (normed_at _ _ i j).trans ?_
  have e : ∀ k : Fin 1024, (iblk m c 0 (first t) : Mat 1024 1024) (ix2 i k)
      = ax m c (ix2 ⟨1024 * (t.val / 5) + i.val, by have := visit_lt t; omega⟩ k) := fun k => by
    rw [ax_at]
    congr 2
    exact Fin.ext (by show 1024 * (t.val / 5 * 5 / 5) + i.val = 1024 * (t.val / 5) + i.val; omega)
  unfold unit norm
  rw [ag_at m c (first t) j, e j, show (fun k => (iblk m c 0 (first t) : Mat 1024 1024) (ix2 i k)) = _ from funext e]

theorem rows_entry (t : Fin cfg0.N) (i j : Fin 1024) :
    rows m c t (ix2 i j) = unit m c ⟨1024 * (t.val / 5) + i.val, by have := visit_lt t; omega⟩ j :=
  (congrFun (rows_eq _ _) _).trans (normed_entry m c t i j)

theorem pm_entry (t : Fin cfg0.N) (i : Fin 1024) (l : Fin 1536) :
    pm m c t (ix2 i l) = proj m c ⟨1024 * (t.val / 5) + i.val, by have := visit_lt t; omega⟩ ⟨1536 * min (t.val % 5) 2 + l.val, by omega⟩ := by
  unfold pm
  refine (product_at _ _ i l).trans (Finset.sum_congr rfl fun k _ => ?_)
  refine congrArg₂ (fun a b : EReal => a * b) (rows_entry m c t i k) ((aw_at m c (last t) l k).trans ?_)
  congr 2
  exact Fin.ext (by show 1536 * ((t.val / 5 * 5 + min (t.val % 5) 2) % 5) + l.val = 1536 * min (t.val % 5) 2 + l.val; omega)

theorem pg_entry (t : Fin cfg0.N) (i : Fin 1024) (l : Fin 1536) :
    pg m c t (ix2 i l) = proj m c ⟨1024 * (t.val / 5) + i.val, by have := visit_lt t; omega⟩ ⟨1536 * (t.val % 5) + l.val, by omega⟩ := by
  unfold pg
  refine (product_bf16_at _ _ i l).trans (Finset.sum_congr rfl fun k _ => ?_)
  exact congrArg₂ (fun a b : EReal => a * b) (rows_entry m c t i k) (aw_at m c t l k)

/-! ### The arrays. -/

/-- No two of the visits that write a result back write the same block of it. -/
theorem apart3 (t t' : Fin cfg0.N) (hf : (cfg0.win 3).flush t = true) (hf' : (cfg0.win 3).flush t' = true) (hne : t ≠ t') :
    Disjoint ((cfg0.win 3).blk t).view.set ((cfg0.win 3).blk t').view.set := by
  refine (cfg0.win 3).disjoint_blk fun h => hne (Fin.ext ?_)
  have e0 : t.val / 5 = t'.val / 5 := ((index3 t).1.symm.trans (congrFun h 0)).trans (index3 t').1
  have e1 : min (t.val % 5) 2 = min (t'.val % 5) 2 := ((index3 t).2.symm.trans (congrFun h 1)).trans (index3 t').2
  have := of_decide_eq_true ((flush3 t).symm.trans hf)
  have := of_decide_eq_true ((flush3 t').symm.trans hf')
  omega
theorem apart4 (t t' : Fin cfg0.N) (hf : (cfg0.win 4).flush t = true) (hf' : (cfg0.win 4).flush t' = true) (hne : t ≠ t') :
    Disjoint ((cfg0.win 4).blk t).view.set ((cfg0.win 4).blk t').view.set := by
  refine (cfg0.win 4).disjoint_blk fun h => hne (Fin.ext ?_)
  have e0 : t.val / 5 = t'.val / 5 := ((index4 t).1.symm.trans (congrFun h 0)).trans (index4 t').1
  have e1 : t.val % 5 - 3 = t'.val % 5 - 3 := ((index4 t).2.symm.trans (congrFun h 1)).trans (index4 t').2
  have := of_decide_eq_true ((flush4 t).symm.trans hf)
  have := of_decide_eq_true ((flush4 t').symm.trans hf')
  omega
theorem apart5 (t t' : Fin cfg0.N) (hf : (cfg0.win 5).flush t = true) (hf' : (cfg0.win 5).flush t' = true) (hne : t ≠ t') :
    Disjoint ((cfg0.win 5).blk t).view.set ((cfg0.win 5).blk t').view.set := by
  refine (cfg0.win 5).disjoint_blk fun h => hne (Fin.ext ?_)
  have e0 : t.val / 5 = t'.val / 5 := ((index5 t).1.symm.trans (congrFun h 0)).trans (index5 t').1
  have := of_decide_eq_true ((flush5 t).symm.trans hf)
  have := of_decide_eq_true ((flush5 t').symm.trans hf')
  omega

theorem visits_eq : cfg0.N = 10 := N_0

theorem mixers_result (n : Fin 2048) (l : Fin 4608) : (dats m 0 c).arrAt 3 cfg0.N (ix2 n l) = proj m c n ⟨l.val, by omega⟩ := by
  obtain ⟨t, ht, hf⟩ : ∃ t : Fin cfg0.N, (t.val / 5 = n.val / 1024 ∧ min (t.val % 5) 2 = l.val / 1536) ∧ (t.val % 5 ≠ 2 ∧ t.val % 5 ≠ 3) := by
    by_cases h : l.val / 1536 < 2
    · exact ⟨⟨5 * (n.val / 1024) + l.val / 1536, by rw [visits_eq]; omega⟩, by dsimp only; omega, by dsimp only; omega⟩
    · exact ⟨⟨5 * (n.val / 1024) + 4, by rw [visits_eq]; omega⟩, by dsimp only; omega, by dsimp only; omega⟩
  have h := congrFun ((dats m 0 c).read_blk_arrAt_eq_flushed 3 (apart3) cfg0.N t t.isLt ((flush3 t).trans (decide_eq_true hf)))
    (ix2 (⟨n.val % 1024, by omega⟩ : Fin 1024) (⟨l.val % 1536, by omega⟩ : Fin 1536))
  refine Eq.trans ?_ (h.trans ((pm_entry m c t _ _).trans ?_))
  · refine congrArg ((dats m 0 c).arrAt 3 cfg0.N) (funext fun x => ?_)
    match x with
    | ⟨0, _⟩ => exact Fin.ext (by show n.val = win0_3.index t 0 * 1024 + 1 * (n.val % 1024); rw [(index3 t).1]; omega)
    | ⟨1, _⟩ => exact Fin.ext (by show l.val = win0_3.index t 1 * 1536 + 1 * (l.val % 1536); rw [(index3 t).2]; omega)
  · exact congrArg₂ (proj m c) (Fin.ext (by show 1024 * (t.val / 5) + n.val % 1024 = n.val; omega))
      (Fin.ext (by show 1536 * min (t.val % 5) 2 + l.val % 1536 = l.val; omega))

theorem gates_result (n : Fin 2048) (l : Fin 3072) : (dats m 0 c).arrAt 4 cfg0.N (ix2 n l) = proj m c n ⟨4608 + l.val, by omega⟩ := by
  obtain ⟨t, ht, hf⟩ : ∃ t : Fin cfg0.N, (t.val / 5 = n.val / 1024 ∧ t.val % 5 = 3 + l.val / 1536) ∧ 3 ≤ t.val % 5 :=
    ⟨⟨5 * (n.val / 1024) + (3 + l.val / 1536), by rw [visits_eq]; omega⟩, by dsimp only; omega, by dsimp only; omega⟩
  have h := congrFun ((dats m 0 c).read_blk_arrAt_eq_flushed 4 (apart4) cfg0.N t t.isLt ((flush4 t).trans (decide_eq_true hf)))
    (ix2 (⟨n.val % 1024, by omega⟩ : Fin 1024) (⟨l.val % 1536, by omega⟩ : Fin 1536))
  refine Eq.trans ?_ (h.trans ((pg_entry m c t _ _).trans ?_))
  · refine congrArg ((dats m 0 c).arrAt 4 cfg0.N) (funext fun x => ?_)
    match x with
    | ⟨0, _⟩ => exact Fin.ext (by show n.val = win0_4.index t 0 * 1024 + 1 * (n.val % 1024); rw [(index4 t).1]; omega)
    | ⟨1, _⟩ => exact Fin.ext (by show l.val = win0_4.index t 1 * 1536 + 1 * (l.val % 1536); rw [(index4 t).2]; omega)
  · exact congrArg₂ (proj m c) (Fin.ext (by show 1024 * (t.val / 5) + n.val % 1024 = n.val; omega))
      (Fin.ext (by show 1536 * (t.val % 5) + l.val % 1536 = 4608 + l.val; omega))

theorem normed_result (n : Fin 2048) (j : Fin 1024) : (dats m 0 c).arrAt 5 cfg0.N (ix2 n j) = unit m c n j := by
  obtain ⟨t, ht, hf⟩ : ∃ t : Fin cfg0.N, t.val / 5 = n.val / 1024 ∧ t.val % 5 = 4 :=
    ⟨⟨5 * (n.val / 1024) + 4, by rw [visits_eq]; omega⟩, by dsimp only; omega, by dsimp only; omega⟩
  have h := congrFun ((dats m 0 c).read_blk_arrAt_eq_flushed 5 (apart5) cfg0.N t t.isLt ((flush5 t).trans (decide_eq_true hf)))
    (ix2 (⟨n.val % 1024, by omega⟩ : Fin 1024) j)
  refine Eq.trans ?_ (h.trans ((normed_entry m c t _ _).trans ?_))
  · refine congrArg ((dats m 0 c).arrAt 5 cfg0.N) (funext fun x => ?_)
    match x with
    | ⟨0, _⟩ => exact Fin.ext (by show n.val = win0_5.index t 0 * 1024 + 1 * (n.val % 1024); rw [(index5 t).1]; omega)
    | ⟨1, _⟩ => exact Fin.ext (by show j.val = win0_5.index t 1 * 1024 + 1 * j.val; rw [(index5 t).2]; omega)
  · exact congrArg (fun n => unit m c n j) (Fin.ext (by show 1024 * (t.val / 5) + n.val % 1024 = n.val; omega))

/-! ### The reference's. -/

open Cert.ReferenceProjectIdeal.Read

theorem ref_norm (x : Mat 2048 1024) (g : Mat 1 1024) (n : Fin 2048) (j : Fin 1024) : val_main_v12 (F := Ideal) x g (ix2 n j) = norm x g n j := by
  show (x (ix2 n j) * val_main_v8 (F := Ideal) x (ix2 n j) * val_main_v10 (F := Ideal) g (ix2 n j) : EReal) = _
  unfold norm
  have eg : val_main_v10 (F := Ideal) g (ix2 n j) = g (ix2 0 j) := by
    rw [val_main_v10_apply]
    exact congrArg g (funext fun a => by match a with | ⟨0, _⟩ => rfl | ⟨1, _⟩ => rfl)
  have ef : val_main_v8 (F := Ideal) x (ix2 n j) = factor (fun k => x (ix2 n k)) := by
    rw [val_main_v8_apply, val_main_v7_apply, val_main_v6_apply, val_main_v4_apply, val_main_v2_apply, val_main_v1_apply]
    unfold factor
    refine congrArg (fun s : EReal => Ideal.rsqrt (Ideal.div s (Scalar.ofBits (F := Ideal) .f32 0x44800000#32) + Scalar.ofBits (F := Ideal) .f32 0x358637BD#32)) ?_
    refine (congrArg (fun z : EReal => z + _) Ideal.ofBits_zero_f32).trans ((zero_add _).trans (Finset.sum_congr rfl fun k _ => ?_))
    exact congrArg (fun y : EReal => y * y) (congrArg x (funext fun a => by match a with | ⟨0, _⟩ => rfl | ⟨1, _⟩ => rfl))
  exact congrArg₂ (fun f g : EReal => x (ix2 n j) * f * g) ef eg

theorem ref_normed (n : Fin 2048) (j : Fin 1024) : val_main_v12 (F := Ideal) (ax m c) (ag m c) (ix2 n j) = unit m c n j := ref_norm _ _ n j

theorem ref_product (n : Fin 2048) (l : Fin 7680) : val_main_v16 (F := Ideal) (ax m c) (ag m c) (aw m c) (ix2 n l) = proj m c n l := by
  refine (val_main_v16_apply _ _ _ _).trans (Finset.sum_congr rfl fun k _ => ?_)
  refine congrArg₂ (fun a b : EReal => a * b) ?_ ?_
  · refine Eq.trans ?_ (ref_normed m c n k)
    exact congrArg (val_main_v12 (F := Ideal) (ax m c) (ag m c)) (funext fun x => by match x with | ⟨0, _⟩ => rfl | ⟨1, _⟩ => rfl)
  · rw [val_main_v15_apply]
    exact congrArg (aw m c) (funext fun x => by match x with | ⟨0, _⟩ => rfl | ⟨1, _⟩ => rfl)

/-- The three results are the reference's. -/
theorem mixers_eq : (dats m 0 c).arrAt 3 cfg0.N = val_main_v17 (F := Ideal) (ax m c) (ag m c) (aw m c) := by
  funext i
  obtain ⟨n, l, rfl⟩ : ∃ (n : Fin 2048) (l : Fin 4608), i = ix2 n l := ⟨i 0, i 1, eq_ix2 i⟩
  refine (mixers_result m c n l).trans (Eq.trans (ref_product m c n _).symm ?_)
  rw [val_main_v17_apply]
  exact congrArg (val_main_v16 (F := Ideal) (ax m c) (ag m c) (aw m c)) (funext fun x => by match x with | ⟨0, _⟩ => rfl | ⟨1, _⟩ => rfl)

theorem gates_eq : (dats m 0 c).arrAt 4 cfg0.N = val_main_v19 (F := Ideal) (ax m c) (ag m c) (aw m c) := by
  funext i
  obtain ⟨n, l, rfl⟩ : ∃ (n : Fin 2048) (l : Fin 3072), i = ix2 n l := ⟨i 0, i 1, eq_ix2 i⟩
  refine (gates_result m c n l).trans (Eq.trans (ref_product m c n _).symm ?_)
  refine Eq.trans ?_ (val_main_v18_apply (F := Ideal) (ax m c) (ag m c) (aw m c) (ix2 n l)).symm
  exact congrArg (val_main_v16 (F := Ideal) (ax m c) (ag m c) (aw m c)) (funext fun x => by
    match x with
    | ⟨0, _⟩ => exact Fin.ext (by simp [idx_main_v18])
    | ⟨1, _⟩ => exact Fin.ext (by simp [idx_main_v18]))

theorem normed_eq : (dats m 0 c).arrAt 5 cfg0.N = val_main_v12 (F := Ideal) (ax m c) (ag m c) := by
  funext i
  obtain ⟨n, j, rfl⟩ : ∃ (n : Fin 2048) (j : Fin 1024), i = ix2 n j := ⟨i 0, i 1, eq_ix2 i⟩
  exact (normed_result m c n j).trans (ref_normed m c n j).symm

end Cert.Proof.Project

end
-- ==== Proof.ProjectClaims.lean ====
/- The claims about the input projection: the frames, and the equality with the reference at the ideal instance. -/
module

public import proofs.«01_k».proof.Defs
public import proofs.«01_k».proof.Proof.Gen.Project
public import proofs.«01_k».proof.Proof.Gen.ReferenceProjectIdeal.Run
public import proofs.«01_k».proof.Proof.ProjectWhole

@[expose] public section

set_option maxRecDepth 16384

noncomputable section

namespace Cert.Proof.Project

open Idealize.ShloMosaic Idealize.ShloMosaic.TcCoe Idealize.SL.Sem

/-! ### The kernel and its ideal reading are one text, over any floats. -/

section SameText

variable {F : FTy → Type} [FloatOps F]

set_option maxHeartbeats 0 in
theorem same_body : @Cert.Project.cc0_rms_mm F _ _ = @Cert.ProjectIdeal.cc0_rms_mm F _ _ := rfl

set_option maxHeartbeats 0 in
theorem same_bodies : Cert.Project.defs₀ (F := F) = Cert.ProjectIdeal.defs₀ (F := F) := by
  unfold Cert.Project.defs₀ Cert.ProjectIdeal.defs₀
  rw [same_body]
  refine congrArg Defs.onTc (funext fun b => funext fun a => ?_)
  match b, a with
  | ⟨0, _⟩, (t, s) => exact rfl

set_option maxHeartbeats 0 in
theorem same_table : Cert.Project.defs (F := F) = Cert.ProjectIdeal.defs (F := F) := by
  unfold Cert.Project.defs Cert.ProjectIdeal.defs
  rw [same_bodies]
  rfl

theorem same_program : Cert.Project.main (F := F) = Cert.ProjectIdeal.main (F := F) := rfl

/-- The frame, over any floats: the one run serves both. -/
theorem frame_any (m : (ℓ : Loc Cert.ProjectIdeal.nD Cert.ProjectIdeal.τ Cert.ProjectIdeal.sig) → Buf (Elt F) ℓ) (ρ : Dev Cert.ProjectIdeal.nD → PrngReg) :
    θ_run (Cert.ProjectIdeal.defs (F := F)) (onTc (τ := Cert.ProjectIdeal.τ) (Cert.ProjectIdeal.main (F := F))) ⟨m, fun _ => 0, ρ⟩
      fun r => Kept m r ∧ r.2.sem = fun _ => 0 :=
  (θ_run Cert.ProjectIdeal.defs _ _).mono (fun _ h => ⟨h.1.2, h.2⟩) (run_main m ρ)

end SameText

set_option maxHeartbeats 0 in
theorem frame : Cert.quiescent_Project := fun m ρ _ => by
  have h1 := same_table (F := Bits)
  have h2 := same_program (F := Bits)
  refine Eq.mpr (congrArg₂ (fun d p => θ_run d (onTc (τ := Cert.Project.τ) p) _ _) h1 h2) ?_
  exact frame_any (F := Bits) m ρ

theorem frame_ideal : Cert.quiescent_ProjectIdeal := fun m ρ _ => frame_any (F := Ideal) m ρ

theorem frame_reference : Cert.quiescent_ReferenceProjectIdeal := fun m ρ _ =>
  (θ_run Cert.ReferenceProjectIdeal.defs _ _).mono (fun r h => ⟨fun c => (h c).2.2.2, sem_eq_zero_of_no_sems (by decide) r.2⟩)
    (Cert.ReferenceProjectIdeal.Value.run (F := Ideal) m ρ)

/-- The call's three results are the reference's. -/
theorem value : Cert.algebraic_ProjectIdeal_ReferenceProjectIdeal := fun m ρ m' ρ' _ hag =>
  ⟨fun c => (dats m 0 c).arrAt 3 Cert.ProjectIdeal.cfg0.N, fun c => (dats m 0 c).arrAt 4 Cert.ProjectIdeal.cfg0.N,
    fun c => (dats m 0 c).arrAt 5 Cert.ProjectIdeal.cfg0.N,
    (θ_run Cert.ProjectIdeal.defs _ _).mono (fun _ h c => ⟨h.1.1 3 c, h.1.1 4 c, h.1.1 5 c, h.1.2 c⟩) (run_main (F := Ideal) m ρ),
    (θ_run Cert.ReferenceProjectIdeal.defs _ _).mono (fun r h c => by
      obtain ⟨g0, g1, g2, gs⟩ := h c
      obtain ⟨e0, e1, e2⟩ := hag c
      refine ⟨?_, ?_, ?_, gs⟩
      · beta_reduce
        rw [mixers_eq m c, g0, Cert.ReferenceProjectIdeal.Read.val_main_v17_eq, e0, e1, e2]
      · beta_reduce
        rw [gates_eq m c, g1, Cert.ReferenceProjectIdeal.Read.val_main_v19_eq, e0, e1, e2]
      · beta_reduce
        rw [normed_eq m c, g2, Cert.ReferenceProjectIdeal.Read.val_main_v12_eq, e0, e1]) (Cert.ReferenceProjectIdeal.Value.run (F := Ideal) m' ρ')⟩

end Cert.Proof.Project

end
-- ==== Proof.FfnRun.lean ====
/- The feed-forward layer's call: one visit of its body in each of its three cases, and what the visit leaves. -/
module

public import proofs.«01_k».proof.Proof.Gen.FfnIdeal.Frame
public import proofs.«01_k».proof.Proof.Gen.FfnIdeal.Skeleton
public import proofs.«01_k».proof.Proof.WholeStores
public import Idealize.ShloMosaic.Lib.Pipeline.FrameBody
public import Idealize.ShloMosaic.Lib.Pipeline.TableIdle
public import Idealize.ShloMosaic.Lib.Tactic
public import Idealize.ShloMosaic.Lib.WordCmp
public import Idealize.ShloMosaic.Lib.Claim

@[expose] public section

set_option maxRecDepth 16384

noncomputable section

namespace Cert.Proof.Ffn

open Idealize.ShloMosaic Idealize.ShloMosaic.ValueIdx Idealize.ShloMosaic.TcCoe Idealize.ShloMosaic.Tactic Cert.FfnIdeal Cert.FfnIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.WholeStores

variable {F : FTy → Type} [FloatOps F]

local notation "𝕄" => MT nD τ sig Unit (Elt F) ℕ (UR sig nD τ) ℕ

section Runs

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (a7 : Memref sig .tc .vmem S1024x1024 .bf16) (h7 : a7.IsWhole)
  (a8 : Memref sig .tc .vmem S1024x1024 .bf16) (h8 : a8.IsWhole) (a9 : Memref sig .tc .vmem S1024x1024 .bf16) (h9 : a9.IsWhole)
  (a10 : Memref sig .tc .vmem S1024x1024 .f32) (h10 : a10.IsWhole)

set_option maxHeartbeats 4000000 in
/-- A first visit of a block of rows: the rows normed, into scratch and the second result, and the first share of the products. -/
theorem runA (hc0 : k0_cond1 i = 1#1) (hc1 : ¬k0_cond2 i = 1#1)
    (x0 : Vec F S1024x1024 .f32) (x1 : Vec F S1x1024 .f32) (x2 : Vec F S1024x1024 .bf16) (x3 : Vec F S1024x1024 .bf16) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a7 fullShare (k0_pay1 x0 x1) ∗ owns (c : Thread nD τ) a8 fullShare (k0_pay5 (k0_pay2 x0 x1) x2) ∗ owns (c : Thread nD τ) a9 fullShare (k0_pay2 x0 x1) ∗ owns (c : Thread nD τ) a10 fullShare (k0_pay6 (k0_pay2 x0 x1) x2 k0_pay3 x3)) -∗ K ⟨⟩))
      ⊢ wp frame (wpE (defs₀ (F := F)) Variants.none c none) E (cc0_ffn i a2 h2 a3 h3 a4 h4 a5 h5 a6 h6 a7 h7 a8 h8 a9 h9 a10 h10) K := by
  simp only [cc0_ffn_eq_skeleton]; unfold cc0_ffn_skel
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, Hk⟩
  obtain rfl := h2.eq_unread hf2; obtain rfl := h3.eq_unread hf3; obtain rfl := h4.eq_unread hf4; obtain rfl := h5.eq_unread hf5
  sl_exec (disch := first | sl_exact hc0 | sl_exact hc1)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H7]
  · iexists _; isplitr; swap; · iexact H7
    ipureintro
    refine (store_whole (r := a7) f7 _ _).trans ?_
    rw [load_whole, load_whole]
  isplitl [H8]
  · iexists _; isplitr; swap; · iexact H8
    ipureintro
    refine (store_whole (r := a8) f8 _ _).trans ?_
    rw [load_whole]
    refine congrArg (fun h => k0_pay5 h x2) ((cover_whole a9.view _ _).trans ?_)
    rw [load_whole, load_whole]
  isplitl [H9]
  · iexists _; isplitr; swap; · iexact H9
    ipureintro
    refine (store_whole (r := a9) f9 _ _).trans ?_
    rw [load_whole, load_whole]
  iexists _; isplitr; swap; · iexact H10
  ipureintro
  refine (store_over (r := a10) f10 _ _ _).trans ?_
  rw [load_whole h4, load_whole h5]
  refine congrArg₂ (fun h s => k0_pay6 h x2 s x3) ((cover_whole a9.view _ _).trans ?_) (cover_whole a10.view _ _)
  rw [load_whole, load_whole]

set_option maxHeartbeats 4000000 in
/-- A visit between: its share of the products. -/
theorem runB (hc0 : ¬k0_cond1 i = 1#1) (hc1 : ¬k0_cond2 i = 1#1)
    (x2 : Vec F S1024x1024 .bf16) (x3 : Vec F S1024x1024 .bf16) (h : Vec F S1024x1024 .bf16) (s : Vec F S1024x1024 .f32) (E : Set ℕ) (K : PUnit → sProp 𝕄) :
    iprop(owns (c : Thread nD τ) a4 fullShare x2 ∗ owns (c : Thread nD τ) a5 fullShare x3 ∗ owns (c : Thread nD τ) a9 fullShare h ∗ owns (c : Thread nD τ) a10 fullShare s ∗ (∃ d, owns (c : Thread nD τ) a8 fullShare d)
        ∗ (iprop(owns (c : Thread nD τ) a4 fullShare x2 ∗ owns (c : Thread nD τ) a5 fullShare x3 ∗ owns (c : Thread nD τ) a9 fullShare h ∗ owns (c : Thread nD τ) a10 fullShare (k0_pay6 h x2 s x3) ∗ owns (c : Thread nD τ) a8 fullShare (k0_pay5 h x2)) -∗ K ⟨⟩))
      ⊢ wp frame (wpE (defs₀ (F := F)) Variants.none c none) E (cc0_ffn i a2 h2 a3 h3 a4 h4 a5 h5 a6 h6 a7 h7 a8 h8 a9 h9 a10 h10) K := by
  simp only [cc0_ffn_eq_skeleton]; unfold cc0_ffn_skel
  unfold owns
  iintro ⟨⟨%f4, %hf4, H4⟩, ⟨%f5, %hf5, H5⟩, ⟨%f9, %hf9, H9⟩, ⟨%f10, %hf10, H10⟩, ⟨%d8, %f8, -, H8⟩, Hk⟩
  obtain rfl := h4.eq_unread hf4; obtain rfl := h5.eq_unread hf5; obtain rfl := h9.eq_unread hf9; obtain rfl := h10.eq_unread hf10
  sl_exec (disch := first | sl_exact hc0 | sl_exact hc1)
  sl_step
  iapply Hk
  isplitl [H4]
  · iexists _; isplitr; · ipureintro; exact h4.read_unread _
    iexact H4
  isplitl [H5]
  · iexists _; isplitr; · ipureintro; exact h5.read_unread _
    iexact H5
  isplitl [H9]
  · iexists _; isplitr; · ipureintro; exact h9.read_unread _
    iexact H9
  isplitl [H10]
  · iexists _; isplitr; swap; · iexact H10
    ipureintro
    refine (store_whole (r := a10) _ _ _).trans ?_
    rw [load_whole, load_whole, load_whole, load_whole]
  iexists _; isplitr; swap; · iexact H8
  ipureintro
  refine (store_whole (r := a8) f8 _ _).trans ?_
  rw [load_whole, load_whole]

set_option maxHeartbeats 4000000 in
/-- A last visit: its share, and the sum added to the input. -/
theorem runC (hc0 : ¬k0_cond1 i = 1#1) (hc1 : k0_cond2 i = 1#1)
    (x0 : Vec F S1024x1024 .f32) (x2 : Vec F S1024x1024 .bf16) (x3 : Vec F S1024x1024 .bf16) (h : Vec F S1024x1024 .bf16) (s : Vec F S1024x1024 .f32) (E : Set ℕ) (K : PUnit → sProp 𝕄) :
    iprop(owns (c : Thread nD τ) a2 fullShare x0 ∗ owns (c : Thread nD τ) a4 fullShare x2 ∗ owns (c : Thread nD τ) a5 fullShare x3 ∗ owns (c : Thread nD τ) a9 fullShare h ∗ owns (c : Thread nD τ) a10 fullShare s ∗ (∃ d, owns (c : Thread nD τ) a6 fullShare d) ∗ (∃ d, owns (c : Thread nD τ) a8 fullShare d)
        ∗ (iprop(owns (c : Thread nD τ) a2 fullShare x0 ∗ owns (c : Thread nD τ) a4 fullShare x2 ∗ owns (c : Thread nD τ) a5 fullShare x3 ∗ owns (c : Thread nD τ) a9 fullShare h ∗ owns (c : Thread nD τ) a10 fullShare (k0_pay6 h x2 s x3) ∗ owns (c : Thread nD τ) a6 fullShare (k0_pay7 x0 (k0_pay6 h x2 s x3)) ∗ owns (c : Thread nD τ) a8 fullShare (k0_pay5 h x2)) -∗ K ⟨⟩))
      ⊢ wp frame (wpE (defs₀ (F := F)) Variants.none c none) E (cc0_ffn i a2 h2 a3 h3 a4 h4 a5 h5 a6 h6 a7 h7 a8 h8 a9 h9 a10 h10) K := by
  simp only [cc0_ffn_eq_skeleton]; unfold cc0_ffn_skel
  unfold owns
  iintro ⟨⟨%f2, %hf2, H2⟩, ⟨%f4, %hf4, H4⟩, ⟨%f5, %hf5, H5⟩, ⟨%f9, %hf9, H9⟩, ⟨%f10, %hf10, H10⟩, ⟨%d6, %f6, -, H6⟩, ⟨%d8, %f8, -, H8⟩, Hk⟩
  obtain rfl := h2.eq_unread hf2; obtain rfl := h4.eq_unread hf4; obtain rfl := h5.eq_unread hf5; obtain rfl := h9.eq_unread hf9; obtain rfl := h10.eq_unread hf10
  sl_exec (disch := first | sl_exact hc0 | sl_exact hc1)
  sl_step
  iapply Hk
  isplitl [H2]
  · iexists _; isplitr; · ipureintro; exact h2.read_unread _
    iexact H2
  isplitl [H4]
  · iexists _; isplitr; · ipureintro; exact h4.read_unread _
    iexact H4
  isplitl [H5]
  · iexists _; isplitr; · ipureintro; exact h5.read_unread _
    iexact H5
  isplitl [H9]
  · iexists _; isplitr; · ipureintro; exact h9.read_unread _
    iexact H9
  isplitl [H10]
  · iexists _; isplitr; swap; · iexact H10
    ipureintro
    refine (store_whole (r := a10) _ _ _).trans ?_
    rw [load_whole, load_whole, load_whole, load_whole]
  isplitl [H6]
  · iexists _; isplitr; swap; · iexact H6
    ipureintro
    refine (store_whole (r := a6) f6 _ _).trans ?_
    rw [load_whole]
    refine congrArg (k0_pay7 x0) ((cover_whole a10.view _ _).trans ?_)
    rw [load_whole, load_whole, load_whole, load_whole]
  iexists _; isplitr; swap; · iexact H8
  ipureintro
  refine (store_whole (r := a8) f8 _ _).trans ?_
  rw [load_whole, load_whole]

end Runs

end Cert.Proof.Ffn

end
-- ==== Proof.FfnVisits.lean ====
/- The feed-forward layer's call: its eight visits put together, and what the launch leaves in the three results. -/
module

public import proofs.«01_k».proof.Proof.FfnRun

@[expose] public section

set_option maxRecDepth 16384

noncomputable section

namespace Cert.Proof.Ffn

open Idealize.ShloMosaic Idealize.ShloMosaic.ValueIdx Idealize.ShloMosaic.TcCoe Idealize.ShloMosaic.Tactic Cert.FfnIdeal Cert.FfnIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The visits: eight, four to a block of rows. -/

theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem last_iff : ∀ t : Fin cfg0.N, k0_cond2 (grid0.coords t) = 1#1 ↔ t.val % 4 = 3 :=
  (by decide +kernel : ∀ t : Fin grid0.N, k0_cond2 (grid0.coords t) = 1#1 ↔ t.val % 4 = 3)

theorem idle4 : ∀ t : Fin cfg0.N, cfg0.idle 4 (cfg0.grid.coords t) = decide (t.val % 4 ≠ 3) :=
  (by decide +kernel : ∀ t : Fin grid0.N, cfg0.idle 4 (grid0.coords t) = decide (t.val % 4 ≠ 3))
theorem idle5 : ∀ t : Fin cfg0.N, cfg0.idle 5 (cfg0.grid.coords t) = decide (t.val % 4 ≠ 0) :=
  (by decide +kernel : ∀ t : Fin grid0.N, cfg0.idle 5 (grid0.coords t) = decide (t.val % 4 ≠ 0))

theorem flush4 : ∀ t : Fin cfg0.N, (cfg0.win 4).flush t = decide (t.val % 4 = 3) :=
  (by decide +kernel : ∀ t : Fin grid0.N, (cfg0.win 4).flush t = decide (t.val % 4 = 3))
theorem flush5 : ∀ t : Fin cfg0.N, (cfg0.win 5).flush t = decide (t.val % 4 = 3) :=
  (by decide +kernel : ∀ t : Fin grid0.N, (cfg0.win 5).flush t = decide (t.val % 4 = 3))
theorem flush6 : ∀ t : Fin cfg0.N, (cfg0.win 6).flush t = true :=
  (by decide +kernel : ∀ t : Fin grid0.N, (cfg0.win 6).flush t = true)

theorem kept5 : ∀ t : Fin cfg0.N, t.val % 4 ≠ 0 → cfg0.fresh 5 t.val = false :=
  (by decide +kernel : ∀ t : Fin grid0.N, t.val % 4 ≠ 0 → cfg0.fresh 5 t.val = false)

/-- Each window's buffer at a visit. -/
abbrev ms0_0 (t : Fin cfg0.N) : Memref sig .tc .vmem S1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1024x1024 .bf16 := win0_3.stage (cfg0.slots t 3)
abbrev ms0_4 (t : Fin cfg0.N) : Memref sig .tc .vmem S1024x1024 .f32 := win0_4.stage (cfg0.slots t 4)
abbrev ms0_5 (t : Fin cfg0.N) : Memref sig .tc .vmem S1024x1024 .bf16 := win0_5.stage (cfg0.slots t 5)
abbrev ms0_6 (t : Fin cfg0.N) : Memref sig .tc .vmem S1024x1024 .bf16 := win0_6.stage (cfg0.slots t 6)
/-- The scratch buffers: the normed rows, and the running sum. -/
abbrev scM0_0 : Memref sig .tc .vmem S1024x1024 .bf16 := Memref.whole cc0_scratch0
@[inherit_doc scM0_0] abbrev scM0_1 : Memref sig .tc .vmem S1024x1024 .f32 := Memref.whole cc0_scratch1

/-- The class's invariant: the scratch buffers at anything, and the generator's register. -/
theorem any_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg) (c : Dev nD) (t : Fin cfg0.N)

theorem visit_lt : t.val < 8 := lt_of_lt_of_eq t.isLt N_0

/-- The first visit of the block of rows. -/
def first : Fin cfg0.N := ⟨t.val / 4 * 4, lt_of_le_of_lt (Nat.div_mul_le_self _ _) t.isLt⟩

/-- The rows normed, as the scratch buffer holds them. -/
def rows : Vec F S1024x1024 .bf16 := k0_pay2 (iblk m c 0 (first t)) (iblk m c 1 (first t))
/-- The rows normed, as the second result holds them. -/
def normed : Vec F S1024x1024 .bf16 := k0_pay1 (iblk m c 0 (first t)) (iblk m c 1 (first t))
/-- The activation's root. -/
def root : Vec F S1024x1024 .bf16 := k0_pay5 (rows m c t) (iblk m c 2 t)
/-- The running sum of the products' shares, with the visit's added. -/
def add (s : Vec F S1024x1024 .f32) : Vec F S1024x1024 .f32 := k0_pay6 (rows m c t) (iblk m c 2 t) s (iblk m c 3 t)
/-- The running sum after visit `n`. -/
def upto : (n : ℕ) → n < cfg0.N → Vec F S1024x1024 .f32
  | 0, hn => add m c ⟨0, hn⟩ k0_pay3
  | n + 1, hn => add m c ⟨n + 1, hn⟩ (if (n + 1) % 4 = 0 then k0_pay3 else upto n (Nat.lt_of_succ_lt hn))
@[inherit_doc upto] def total : Vec F S1024x1024 .f32 := upto m c t.val t.isLt
/-- The layer's output, at a last visit. -/
def out : Vec F S1024x1024 .f32 := k0_pay7 (iblk m c 0 t) (total m c t)

theorem total_first (h : t.val % 4 = 0) : total m c t = add m c t k0_pay3 := by
  obtain ⟨n, hn⟩ := t
  cases n with
  | zero => rfl
  | succ n => exact congrArg (add m c ⟨n + 1, hn⟩) (if_pos h)
theorem total_later (h : t.val % 4 ≠ 0) : total m c t = add m c t (total m c (⟨t.val - 1, by have := t.isLt; omega⟩ : Fin cfg0.N)) := by
  obtain ⟨n, hn⟩ := t
  cases n with
  | zero => exact absurd rfl h
  | succ n => exact congrArg (add m c ⟨n + 1, hn⟩) (if_neg h)

/-- The scratch buffers after visit `t`, and the generator's register. -/
def scratch : sProp 𝕄 :=
  iprop(iprop(owns (c : Thread nD τ) scM0_0 fullShare (rows m c t) ∗ owns (c : Thread nD τ) scM0_1 fullShare (total m c t)) ∗ (∃ r, prngReg c r))

/-- The invariant before visit `n`: the scratch buffers at what the visit before left; at anything before the first. -/
def inv : (n : ℕ) → n ≤ cfg0.N → sProp 𝕄
  | 0, _ => Pipeline.ΦA spec0 c
  | n + 1, hn => scratch m c ⟨n, hn⟩

theorem inv_later (n : ℕ) (h : n ≤ cfg0.N) (hz : n ≠ 0) : inv m c n h = scratch m c ⟨n - 1, by omega⟩ := by
  cases n with
  | zero => exact absurd rfl hz
  | succ n => rfl

theorem inv_any (n : ℕ) (h : n ≤ cfg0.N) : inv m c n h ⊢ Pipeline.ΦA spec0 c := by
  cases n with
  | zero => exact .rfl
  | succ n =>
    rw [any_eq]
    show scratch m c _ ⊢ _
    unfold scratch
    iintro ⟨⟨HS, HT⟩, Hg⟩
    isplitl [HS HT]
    · isplitl [HS]
      · iexists _; iexact HS
      iexists _; iexact HT
    iexact Hg

/-- The proof data of the pipeline: the arrays as the launch hands them over; an argument's buffer at its block and a
    result's at what the visits so far have left there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c t
    | ⟨5, _⟩ => normed m c t
    | ⟨6, _⟩ => root m c t
    | ⟨_ + 7, h⟩ => absurd h (Nat.not_lt.2 (Nat.le_add_left _ _))
  Φ t := inv m c t.val (Nat.le_of_lt_succ t.isLt)
  q w := Pipeline.shareOf spec0 w
  owed _ := 0

theorem A_eq (w : Fin cfg0.W) : (dats m 0 c).A w = V m c (Pipeline.arrRef spec0 w) := by
  dsimp only [dats]

theorem leaves_live (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A result's buffer that a visit leaves alone is handed back: at what it held, and that is what is to be written back. -/
theorem leaves_idle (w : Fin cfg0.W) (hi : cfg0.idle w (cfg0.grid.coords t) = true)
    (h : (cfg0.win w).flush t = true → ∀ d, (dats m 0 c).before w t d = (dats m 0 c).after w t) :
    iprop(∃ d, owns (c : Thread nD τ) ((cfg0.win w).stage (cfg0.slots t w)) fullShare ((dats m 0 c).before w t d))
      ⊢ (dats m 0 c).leavesExact w t := by
  cases hf : (cfg0.win w).flush t with
  | false => rw [Dat.leavesExact_idle _ w t hi hf]
  | true =>
    have e : (dats m 0 c).leavesExact w t = owns (c : Thread nD τ) ((cfg0.win w).stage (cfg0.slots t w)) fullShare ((dats m 0 c).after w t) := by
      unfold Dat.leavesExact; rw [hi, hf]
    rw [e]
    iintro ⟨%d, H⟩
    rw [h hf d]
    iexact H

theorem first_prev (h : t.val % 4 ≠ 0) : first (⟨t.val - 1, by have := t.isLt; omega⟩ : Fin cfg0.N) = first t :=
  Fin.ext (by show (t.val - 1) / 4 * 4 = t.val / 4 * 4; omega)
theorem rows_prev (h : t.val % 4 ≠ 0) : rows m c (⟨t.val - 1, by have := t.isLt; omega⟩ : Fin cfg0.N) = rows m c t := by
  unfold rows; rw [first_prev t h]
theorem normed_prev (h : t.val % 4 ≠ 0) : normed m c (⟨t.val - 1, by have := t.isLt; omega⟩ : Fin cfg0.N) = normed m c t := by
  unfold normed; rw [first_prev t h]

theorem before0 (d) : (dats m 0 c).before 0 t d = iblk m c 0 t := before0_0_of m (dats m 0 c) (A_eq m c 0) (fun _ => rfl) t d
theorem before1 (d) : (dats m 0 c).before 1 t d = iblk m c 1 t := before0_1_of m (dats m 0 c) (A_eq m c 1) (fun _ => rfl) t d
theorem before2 (d) : (dats m 0 c).before 2 t d = iblk m c 2 t := before0_2_of m (dats m 0 c) (A_eq m c 2) (fun _ => rfl) t d

theorem before3 (d) : (dats m 0 c).before 3 t d = iblk m c 3 t := before0_3_of m (dats m 0 c) (A_eq m c 3) (fun _ => rfl) t d

/-- After its first visit the block's normed rows stay in the second result's buffer. -/
theorem before5 (h : t.val % 4 ≠ 0) (d) : (dats m 0 c).before 5 t d = normed m c t := by
  rw [(dats m 0 c).before_out_traj 5 rfl (fun _ _ => rfl)
    (fun s _ hi _ => (normed_prev m c s (of_decide_eq_true ((idle5 s).symm.trans hi))).symm) t.val t rfl d, kept5 t h, if_neg Bool.false_ne_true]
  exact normed_prev m c t h

/-- What a visit is called with, window by window, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it hands back. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem inv_before : (dats m 0 c).Φ t.castSucc = inv m c t.val (Nat.le_of_lt t.isLt) := by
  dsimp only [dats]; exact Pipeline.Dat.Φ_castSucc (inv m c) t

theorem inv_after : (dats m 0 c).Φ t.succ = scratch m c t := rfl

theorem leaves0 : (dats m 0 c).leavesExact 0 t = owns (c : Thread nD τ) (ms0_0 t) fullShare (iblk m c 0 t) := leaves_live m c t 0 rfl
theorem leaves1 : (dats m 0 c).leavesExact 1 t = owns (c : Thread nD τ) (ms0_1 t) fullShare (iblk m c 1 t) := leaves_live m c t 1 rfl
theorem leaves2 : (dats m 0 c).leavesExact 2 t = owns (c : Thread nD τ) (ms0_2 t) fullShare (iblk m c 2 t) := leaves_live m c t 2 rfl
theorem leaves3 : (dats m 0 c).leavesExact 3 t = owns (c : Thread nD τ) (ms0_3 t) fullShare (iblk m c 3 t) := leaves_live m c t 3 rfl
theorem leaves4 (h : t.val % 4 = 3) : (dats m 0 c).leavesExact 4 t = owns (c : Thread nD τ) (ms0_4 t) fullShare (out m c t) :=
  leaves_live m c t 4 ((idle4 t).trans (decide_eq_false (by omega)))
theorem leaves5 (h : t.val % 4 = 0) : (dats m 0 c).leavesExact 5 t = owns (c : Thread nD τ) (ms0_5 t) fullShare (normed m c t) :=
  leaves_live m c t 5 ((idle5 t).trans (decide_eq_false (by omega)))
theorem leaves6 : (dats m 0 c).leavesExact 6 t = owns (c : Thread nD τ) (ms0_6 t) fullShare (root m c t) := leaves_live m c t 6 rfl
theorem back4 (h : t.val % 4 ≠ 3) : iprop(∃ d, owns (c : Thread nD τ) (ms0_4 t) fullShare ((dats m 0 c).before 4 t d)) ⊢ (dats m 0 c).leavesExact 4 t :=
  leaves_idle m c t 4 ((idle4 t).trans (decide_eq_true h)) fun hf => absurd (of_decide_eq_true ((flush4 t).symm.trans hf)) h
theorem back5 (h : t.val % 4 ≠ 0) : iprop(∃ d, owns (c : Thread nD τ) (ms0_5 t) fullShare ((dats m 0 c).before 5 t d)) ⊢ (dats m 0 c).leavesExact 5 t :=
  leaves_idle m c t 5 ((idle5 t).trans (decide_eq_true h)) fun _ => before5 m c t h

/-- A block's first visit finds and leaves its own blocks. -/
theorem first_self (h : t.val % 4 = 0) : first t = t := Fin.ext (by show t.val / 4 * 4 = t.val; omega)

set_option maxHeartbeats 4000000 in
/-- A block's first visit. -/
theorem bodyA (h0 : t.val % 4 = 0) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t]
  rw [inv_after, show (dats m 0 c).owesAt () t.succ = (dats m 0 c).owesAt () t.castSucc from rfl,
    leaves0 m c t, leaves1 m c t, leaves2 m c t, leaves3 m c t, leaves5 m c t h0, leaves6 m c t, inv_before]
  refine BIBase.Entails.trans (sep_mono_left (inv_any m c _ _)) ?_
  rw [any_eq]
  unfold scratch
  rw [total_first m c t h0]
  unfold add normed root rows
  rw [first_self t h0]
  iintro ⟨⟨⟨HS, HT⟩, Hg⟩, Ho, ⟨%d0, H0⟩, ⟨%d1, H1⟩, ⟨%d2, H2⟩, ⟨%d3, H3⟩, H4, ⟨%d5, H5⟩, ⟨%d6, H6⟩⟩
  iapply (runA c (grid0.coords t) _ _ _ _ _ _ _ _ _ _ _ _ _ _ _ _ _ _ ((first_iff t).mpr h0)
    (fun h => absurd ((last_iff t).mp h) (by omega)) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H5]; · iexists _; iexact H5
  isplitl [H6]; · iexists _; iexact H6
  isplitl [HS]; · iexact HS
  isplitl [HT]; · iexact HT
  iintro ⟨H0, H1, H2, H3, H5, H6, HS, HT⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]
  · iapply (back4 m c t (by omega)); iexact H4
  isplitl [H5]; · iexact H5
  iexact H6

set_option maxHeartbeats 4000000 in
/-- A visit between. -/
theorem bodyB (h0 : t.val % 4 ≠ 0) (h1 : t.val % 4 ≠ 3) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t]
  rw [inv_after, show (dats m 0 c).owesAt () t.succ = (dats m 0 c).owesAt () t.castSucc from rfl,
    leaves0 m c t, leaves1 m c t, leaves2 m c t, leaves3 m c t, leaves6 m c t, inv_before, inv_later m c _ _ (by omega)]
  unfold scratch
  rw [rows_prev m c t h0, total_later m c t h0]
  unfold add root
  iintro ⟨⟨⟨HS, HT⟩, Hg⟩, Ho, ⟨%d0, H0⟩, ⟨%d1, H1⟩, ⟨%d2, H2⟩, ⟨%d3, H3⟩, H4, H5, ⟨%d6, H6⟩⟩
  iapply (runB c (grid0.coords t) _ _ _ _ _ _ _ _ _ _ _ _ _ _ _ _ _ _ (fun h => h0 ((first_iff t).mp h)) (fun h => h1 ((last_iff t).mp h))
    (iblk m c 2 t) (iblk m c 3 t) (rows m c t) (total m c (⟨t.val - 1, by have := t.isLt; omega⟩ : Fin cfg0.N)) Set.univ _)
  isplitl [H2]; · iexact H2
  isplitl [H3]; · iexact H3
  isplitl [HS]; · iexact HS
  isplitl [HT]; · iexact HT
  isplitl [H6]; · iexists _; iexact H6
  iintro ⟨H2, H3, HS, HT, H6⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]
  · iapply (back4 m c t h1); iexact H4
  isplitl [H5]
  · iapply (back5 m c t h0); iexact H5
  iexact H6

set_option maxHeartbeats 4000000 in
/-- A block's last visit. -/
theorem bodyC (h1 : t.val % 4 = 3) :
    bodyPre m c t ⊢ wp frame (wpE (defs₀ (F := F)) Variants.none c none) Set.univ (bodyAt0 t) (fun _ => bodyPost m c t) := by
  have h0 : t.val % 4 ≠ 0 := by omega
  unfold bodyPre bodyPost bodyAt0
  simp only [before0 m c t, before1 m c t, before2 m c t, before3 m c t]
  rw [inv_after, show (dats m 0 c).owesAt () t.succ = (dats m 0 c).owesAt () t.castSucc from rfl,
    leaves0 m c t, leaves1 m c t, leaves2 m c t, leaves3 m c t, leaves4 m c t h1, leaves6 m c t, inv_before, inv_later m c _ _ (by omega)]
  unfold out scratch
  rw [rows_prev m c t h0, total_later m c t h0]
  unfold add root
  iintro ⟨⟨⟨HS, HT⟩, Hg⟩, Ho, ⟨%d0, H0⟩, ⟨%d1, H1⟩, ⟨%d2, H2⟩, ⟨%d3, H3⟩, ⟨%d4, H4⟩, H5, ⟨%d6, H6⟩⟩
  iapply (runC c (grid0.coords t) _ _ _ _ _ _ _ _ _ _ _ _ _ _ _ _ _ _ (fun h => h0 ((first_iff t).mp h)) ((last_iff t).mpr h1)
    (iblk m c 0 t) (iblk m c 2 t) (iblk m c 3 t) (rows m c t) (total m c (⟨t.val - 1, by have := t.isLt; omega⟩ : Fin cfg0.N)) Set.univ _)
  isplitl [H0]; · iexact H0
  isplitl [H2]; · iexact H2
  isplitl [H3]; · iexact H3
  isplitl [HS]; · iexact HS
  isplitl [HT]; · iexact HT
  isplitl [H4]; · iexists _; iexact H4
  isplitl [H6]; · iexists _; iexact H6
  iintro ⟨H0, H2, H3, HS, HT, H4, H6⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (back5 m c t h0); iexact H5
  iexact H6

/-- Every visit. -/
theorem body :
    bodyPre m c t ⊢ wp frame (wpE (defs₀ (F := F)) Variants.none c none) Set.univ (bodyAt0 t) (fun _ => bodyPost m c t) := by
  by_cases h0 : t.val % 4 = 0
  · exact bodyA m c t h0
  · by_cases h1 : t.val % 4 = 3
    · exact bodyC m c t h1
    · exact bodyB m c t h0 h1

theorem body_row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, body_row]
  exact triple_restated (body m c t) rfl .rfl fun _ => .rfl

theorem inv_in : Pipeline.ΦA spec0 c ⊢ (dats m 0 c).Φ 0 := Idealize.SL.BI.Entails.refl _

/-- The invariant after the last visit gives the scratch buffers back, its contents forgotten. -/
theorem inv_out : (dats m 0 c).Φ (Fin.last cfg0.N) ⊢ Pipeline.ΦA spec0 c :=
  inv_any m c (Fin.last cfg0.N).val (Nat.le_of_lt_succ (Fin.last cfg0.N).isLt)

set_option backward.isDefEq.respectTransparency.types false in
/-- The launch: every array of the pipeline ends at what the visits write back, and every counter at zero. -/
theorem launched : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The arguments at the end of the run. -/
def Kept (r : PUnit × MemSt nD τ sig (Elt F)) : Prop := ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- The run: the results at what the visits write back, the arguments as they were, every counter at zero. -/
theorem run_main : θ_run defs (onTc (τ := τ) (main (F := F))) (s₀ m ρ) fun r =>
    ((∀ w (c : Dev nD), r.2.mem ((c : Thread nD τ).loc (Pipeline.arrRef spec0 w)) = (dats m 0 c).arrAt w cfg0.N) ∧ Kept m r) ∧ r.2.sem = fun _ => 0 :=
  θ_run_and (θ_run_and ((θ_run defs _ _).mono (fun r h w c => (h.1 c).1 w) (launched m ρ))
    (frame_of m ρ (dats m) (A_eq m) ((θ_run defs _ _).mono (fun _ h => h.1) (launched m ρ))))
    ((θ_run defs _ _).mono (fun _ h => h.2) (launched m ρ))

end Cert.Proof.Ffn

end
-- ==== Proof.FfnWhole.lean ====
/- The feed-forward layer: the rows normed, the root of the activation a product cut off at zero, and the output the input plus the
   product of the squared roots with the second weight, summed over four blocks of columns; the reference's three results. -/
module

public import proofs.«01_k».proof.Proof.FfnVisits
public import proofs.«01_k».proof.Proof.ProjectWhole
public import proofs.«01_k».proof.Proof.Gen.ReferenceFfnIdeal.Read
public import Idealize.ShloMosaic.Lib.MatmulPlain
public import Idealize.ShloMosaic.Lib.Pipeline.Value

@[expose] public section

noncomputable section

namespace Cert.Proof.Ffn

open Idealize.ShloMosaic Idealize.ShloMosaic.ValueIdx Idealize.ShloMosaic.TcCoe Cert.FfnIdeal Cert.FfnIdeal.Gen
open Cert.Proof.Project (Mat factor norm)

/-- A normed entry. -/
theorem normed_at (x : Vec Ideal S1024x1024 .f32) (g : Vec Ideal S1x1024 .f32) (i j : Fin 1024) :
    k0_pay1 (F := Ideal) x g (ix2 i j) = (x (ix2 i j) * factor (fun k => x (ix2 i k)) * g (ix2 0 j) : EReal) := Project.normed_at x g i j

theorem rows_eq (x : Vec Ideal S1024x1024 .f32) (g : Vec Ideal S1x1024 .f32) : k0_pay2 (F := Ideal) x g = k0_pay1 x g := by
  unfold k0_pay2
  exact shapeCast_self _ _

/-- The greater of a number and zero. -/
def cut (y : EReal) : EReal := FloatOps.maximumf (F := Ideal) (φ := .f32) y (Scalar.ofBits (F := Ideal) .f32 0x00000000#32)

theorem root_at (h w : Vec Ideal S1024x1024 .bf16) (i j : Fin 1024) :
    k0_pay4 (F := Ideal) h w (ix2 i j) = cut (∑ k : Fin 1024, (h (ix2 i k) * w (ix2 k j) : EReal)) := by
  unfold k0_pay4 cut
  refine congrArg (fun y : EReal => FloatOps.maximumf (F := Ideal) (φ := .f32) y (Scalar.ofBits (F := Ideal) .f32 0x00000000#32)) ?_
  exact (Ideal.matmul_plain_apply (φ₁ := .bf16) (φ₂ := .bf16) none h w _ i j).trans
    ((congrArg (fun z : EReal => z + _) Ideal.ofBits_zero_f32).trans (zero_add _))

theorem sum_at (h w : Vec Ideal S1024x1024 .bf16) (s : Vec Ideal S1024x1024 .f32) (v : Vec Ideal S1024x1024 .bf16) (i j : Fin 1024) :
    k0_pay6 (F := Ideal) h w s v (ix2 i j)
      = (s (ix2 i j) + ∑ l : Fin 1024, (k0_pay4 (F := Ideal) h w (ix2 i l) * k0_pay4 (F := Ideal) h w (ix2 i l)) * v (ix2 l j) : EReal) := by
  unfold k0_pay6
  rw [shapeCast_self]
  refine congrArg (fun y : EReal => s (ix2 i j) + y) ?_
  exact (Ideal.matmul_plain_apply (φ₁ := .bf16) (φ₂ := .bf16) none (truncf .bf16 (mulf (k0_pay4 (F := Ideal) h w) (k0_pay4 (F := Ideal) h w)) bitsLt_bf16_f32) v _ i j).trans
    ((congrArg (fun z : EReal => z + _) Ideal.ofBits_zero_f32).trans (zero_add _))

theorem start_at (i j : Fin 1024) : k0_pay3 (F := Ideal) (ix2 i j) = (0 : EReal) := by
  unfold k0_pay3
  rw [shapeCast_self]
  exact Ideal.ofBits_zero_f32

variable (m : (ℓ : Loc nD τ sig) → Buf (Elt Ideal) ℓ) (c : Dev nD)

/-- The tokens, the norm's scale and the two weights, as the device holds them. -/
abbrev ax : Mat 2048 1024 := m ((c : Thread nD τ).loc main_arg0)
@[inherit_doc ax] abbrev ag : Mat 1 1024 := m ((c : Thread nD τ).loc main_arg1)
@[inherit_doc ax] abbrev aw : Mat 1024 4096 := m ((c : Thread nD τ).loc main_arg2)
@[inherit_doc ax] abbrev av : Mat 4096 1024 := m ((c : Thread nD τ).loc main_arg3)

theorem index0 : ∀ t : Fin grid0.N, cc0_transform_0 (grid0.coords t) 0 = t.val / 4 ∧ cc0_transform_0 (grid0.coords t) 1 = 0 := by decide +kernel
theorem index1 : ∀ t : Fin grid0.N, cc0_transform_1 (grid0.coords t) 0 = 0 ∧ cc0_transform_1 (grid0.coords t) 1 = 0 := by decide +kernel
theorem index2 : ∀ t : Fin grid0.N, cc0_transform_2 (grid0.coords t) 0 = 0 ∧ cc0_transform_2 (grid0.coords t) 1 = t.val % 4 := by decide +kernel
theorem index3 : ∀ t : Fin grid0.N, cc0_transform_3 (grid0.coords t) 0 = t.val % 4 ∧ cc0_transform_3 (grid0.coords t) 1 = 0 := by decide +kernel
theorem index4 : ∀ t : Fin grid0.N, win0_4.index t 0 = t.val / 4 ∧ win0_4.index t 1 = 0 := by decide +kernel
theorem index5 : ∀ t : Fin grid0.N, win0_5.index t 0 = t.val / 4 ∧ win0_5.index t 1 = 0 := by decide +kernel
theorem index6 : ∀ t : Fin grid0.N, win0_6.index t 0 = t.val / 4 ∧ win0_6.index t 1 = t.val % 4 := by decide +kernel

/-- The blocks' entries. -/
theorem ax_at (t : Fin cfg0.N) (i j : Fin 1024) :
    (iblk m c 0 t : Mat 1024 1024) (ix2 i j) = ax m c (ix2 ⟨1024 * (t.val / 4) + i.val, by have := visit_lt t; omega⟩ j) := by
  refine congrArg (ax m c) (funext fun x => ?_)
  match x with
  | ⟨0, _⟩ => exact Fin.ext (by show cc0_transform_0 (grid0.coords t) 0 * 1024 + 1 * i.val = 1024 * (t.val / 4) + i.val; rw [(index0 t).1]; omega)
  | ⟨1, _⟩ => exact Fin.ext (by show cc0_transform_0 (grid0.coords t) 1 * 1024 + 1 * j.val = j.val; rw [(index0 t).2]; omega)

theorem ag_at (t : Fin cfg0.N) (j : Fin 1024) : (iblk m c 1 t : Mat 1 1024) (ix2 0 j) = ag m c (ix2 0 j) := by
  refine congrArg (ag m c) (funext fun x => ?_)
  match x with
  | ⟨0, _⟩ => exact Fin.ext (by show cc0_transform_1 (grid0.coords t) 0 * 1 + 1 * 0 = 0; rw [(index1 t).1])
  | ⟨1, _⟩ => exact Fin.ext (by show cc0_transform_1 (grid0.coords t) 1 * 1024 + 1 * j.val = j.val; rw [(index1 t).2]; omega)

theorem aw_at (t : Fin cfg0.N) (k l : Fin 1024) :
    (iblk m c 2 t : Mat 1024 1024) (ix2 k l) = aw m c (ix2 k ⟨1024 * (t.val % 4) + l.val, by omega⟩) := by
  refine congrArg (aw m c) (funext fun x => ?_)
  match x with
  | ⟨0, _⟩ => exact Fin.ext (by show cc0_transform_2 (grid0.coords t) 0 * 1024 + 1 * k.val = k.val; rw [(index2 t).1]; omega)
  | ⟨1, _⟩ => exact Fin.ext (by show cc0_transform_2 (grid0.coords t) 1 * 1024 + 1 * l.val = 1024 * (t.val % 4) + l.val; rw [(index2 t).2]; omega)

theorem av_at (t : Fin cfg0.N) (l j : Fin 1024) :
    (iblk m c 3 t : Mat 1024 1024) (ix2 l j) = av m c (ix2 ⟨1024 * (t.val % 4) + l.val, by omega⟩ j) := by
  refine congrArg (av m c) (funext fun x => ?_)
  match x with
  | ⟨0, _⟩ => exact Fin.ext (by show cc0_transform_3 (grid0.coords t) 0 * 1024 + 1 * l.val = 1024 * (t.val % 4) + l.val; rw [(index3 t).1]; omega)
  | ⟨1, _⟩ => exact Fin.ext (by show cc0_transform_3 (grid0.coords t) 1 * 1024 + 1 * j.val = j.val; rw [(index3 t).2]; omega)

/-- A normed entry of the whole array, a root of an activation, and what it contributes to an entry of the output. -/
abbrev unit (n : Fin 2048) (j : Fin 1024) : EReal := norm (ax m c) (ag m c) n j
@[inherit_doc unit] def act (n : Fin 2048) (k : Fin 4096) : EReal := cut (∑ q : Fin 1024, unit m c n q * aw m c (ix2 q k))
@[inherit_doc unit] def part (n : Fin 2048) (j : Fin 1024) (k : Fin 4096) : EReal := act m c n k * act m c n k * av m c (ix2 k j)

/-- A row of the visit's block, and a column. -/
abbrev row (t : Fin cfg0.N) (i : Fin 1024) : Fin 2048 := ⟨1024 * (t.val / 4) + i.val, by have := visit_lt t; omega⟩
@[inherit_doc row] abbrev col (t : Fin cfg0.N) (l : Fin 1024) : Fin 4096 := ⟨1024 * (t.val % 4) + l.val, by omega⟩

/-- What the visits leave. -/
theorem normed_entry (t : Fin cfg0.N) (i j : Fin 1024) : normed m c t (ix2 i j) = unit m c (row t i) j := by
  unfold normed
  refine (normed_at _ _ i j).trans ?_
  have e : ∀ k : Fin 1024, (iblk m c 0 (first t) : Mat 1024 1024) (ix2 i k) = ax m c (ix2 (row t i) k) := fun k => by
    rw [ax_at]
    congr 2
    exact Fin.ext (by show 1024 * (t.val / 4 * 4 / 4) + i.val = 1024 * (t.val / 4) + i.val; omega)
  unfold unit Project.norm
  rw [ag_at m c (first t) j, e j, show (fun k => (iblk m c 0 (first t) : Mat 1024 1024) (ix2 i k)) = _ from funext e]

theorem rows_entry (t : Fin cfg0.N) (i j : Fin 1024) : rows m c t (ix2 i j) = unit m c (row t i) j :=
  (congrFun (rows_eq _ _) _).trans (normed_entry m c t i j)

theorem act_entry (t : Fin cfg0.N) (i l : Fin 1024) : k0_pay4 (rows m c t) (iblk m c 2 t) (ix2 i l) = act m c (row t i) (col t l) :=
  (root_at _ _ i l).trans (congrArg cut (Finset.sum_congr rfl fun k _ =>
    congrArg₂ (fun a b : EReal => a * b) (rows_entry m c t i k) (aw_at m c t k l)))

theorem root_entry (t : Fin cfg0.N) (i l : Fin 1024) : root m c t (ix2 i l) = act m c (row t i) (col t l) := act_entry m c t i l

theorem add_entry (t : Fin cfg0.N) (s : Vec Ideal S1024x1024 .f32) (i j : Fin 1024) :
    add m c t s (ix2 i j) = (s (ix2 i j) + ∑ l : Fin 1024, part m c (row t i) j (col t l) : EReal) := by
  unfold add
  refine (sum_at _ _ s _ i j).trans (congrArg (fun y : EReal => s (ix2 i j) + y) (Finset.sum_congr rfl fun l _ => ?_))
  exact congrArg₂ (fun a b : EReal => a * a * b) (act_entry m c t i l) (av_at m c t l j)

/-- A sum over four blocks of columns. -/
theorem sum_quarters (g : Fin 4096 → EReal) :
    ∑ k, g k = ∑ f : Fin 4, ∑ l : Fin 1024, g ⟨1024 * f.val + l.val, by omega⟩ := by
  rw [← Equiv.sum_comp (finProdFinEquiv (m := 4) (n := 1024)) g, Fintype.sum_prod_type]
  refine Finset.sum_congr rfl fun f _ => Finset.sum_congr rfl fun l _ => congrArg g (Fin.ext ?_)
  show l.val + 1024 * f.val = 1024 * f.val + l.val
  omega

/-- The running sum at a block's last visit. -/
theorem total_entry (t : Fin cfg0.N) (h : t.val % 4 = 3) (i j : Fin 1024) :
    total m c t (ix2 i j) = ∑ k : Fin 4096, part m c (row t i) j k := by
  have hb := visit_lt t
  have e : ∀ (s : Fin cfg0.N) (f : Fin 4), s.val = t.val / 4 * 4 + f.val →
      (∑ l : Fin 1024, part m c (row s i) j (col s l) : EReal) = ∑ l : Fin 1024, part m c (row t i) j ⟨1024 * f.val + l.val, by omega⟩ := fun s f hs =>
    Finset.sum_congr rfl fun l _ => congrArg₂ (fun n k => part m c n j k)
      (Fin.ext (by show 1024 * (s.val / 4) + i.val = 1024 * (t.val / 4) + i.val; omega))
      (Fin.ext (by show 1024 * (s.val % 4) + l.val = 1024 * f.val + l.val; omega))
  rw [total_later m c t (by omega), add_entry, total_later m c _ (by dsimp only; omega), add_entry, total_later m c _ (by dsimp only; omega), add_entry,
    total_first m c _ (by dsimp only; omega), add_entry, start_at, zero_add, sum_quarters, Fin.sum_univ_four,
    e _ 0 (by dsimp only; simp; omega), e _ 1 (by dsimp only; simp; omega), e _ 2 (by dsimp only; simp; omega), e t 3 (by simp; omega)]

theorem out_entry (t : Fin cfg0.N) (h : t.val % 4 = 3) (i j : Fin 1024) :
    out m c t (ix2 i j) = (ax m c (ix2 (row t i) j) + ∑ k : Fin 4096, part m c (row t i) j k : EReal) :=
  congrArg₂ (fun a b : EReal => a + b) (ax_at m c t i j) (total_entry m c t h i j)

/-! ### The arrays. -/

/-- No two of the visits that write a result back write the same block of it. -/
theorem apart4 (t t' : Fin cfg0.N) (hf : (cfg0.win 4).flush t = true) (hf' : (cfg0.win 4).flush t' = true) (hne : t ≠ t') :
    Disjoint ((cfg0.win 4).blk t).view.set ((cfg0.win 4).blk t').view.set := by
  refine (cfg0.win 4).disjoint_blk fun h => hne (Fin.ext ?_)
  have e0 : t.val / 4 = t'.val / 4 := ((index4 t).1.symm.trans (congrFun h 0)).trans (index4 t').1
  have := of_decide_eq_true ((flush4 t).symm.trans hf)
  have := of_decide_eq_true ((flush4 t').symm.trans hf')
  omega
theorem apart5 (t t' : Fin cfg0.N) (hf : (cfg0.win 5).flush t = true) (hf' : (cfg0.win 5).flush t' = true) (hne : t ≠ t') :
    Disjoint ((cfg0.win 5).blk t).view.set ((cfg0.win 5).blk t').view.set := by
  refine (cfg0.win 5).disjoint_blk fun h => hne (Fin.ext ?_)
  have e0 : t.val / 4 = t'.val / 4 := ((index5 t).1.symm.trans (congrFun h 0)).trans (index5 t').1
  have := of_decide_eq_true ((flush5 t).symm.trans hf)
  have := of_decide_eq_true ((flush5 t').symm.trans hf')
  omega
theorem apart6 (t t' : Fin cfg0.N) (_ : (cfg0.win 6).flush t = true) (_ : (cfg0.win 6).flush t' = true) (hne : t ≠ t') :
    Disjoint ((cfg0.win 6).blk t).view.set ((cfg0.win 6).blk t').view.set := by
  refine (cfg0.win 6).disjoint_blk fun h => hne (Fin.ext ?_)
  have e0 : t.val / 4 = t'.val / 4 := ((index6 t).1.symm.trans (congrFun h 0)).trans (index6 t').1
  have e1 : t.val % 4 = t'.val % 4 := ((index6 t).2.symm.trans (congrFun h 1)).trans (index6 t').2
  omega

theorem visits_eq : cfg0.N = 8 := N_0

theorem out_result (n : Fin 2048) (j : Fin 1024) :
    (dats m 0 c).arrAt 4 cfg0.N (ix2 n j) = (ax m c (ix2 n j) + ∑ k : Fin 4096, part m c n j k : EReal) := by
  obtain ⟨t, ht, hf⟩ : ∃ t : Fin cfg0.N, t.val / 4 = n.val / 1024 ∧ t.val % 4 = 3 :=
    ⟨⟨4 * (n.val / 1024) + 3, by rw [visits_eq]; omega⟩, by dsimp only; omega, by dsimp only; omega⟩
  have h := congrFun ((dats m 0 c).read_blk_arrAt_eq_flushed 4 (apart4) cfg0.N t t.isLt ((flush4 t).trans (decide_eq_true hf)))
    (ix2 (⟨n.val % 1024, by omega⟩ : Fin 1024) j)
  refine Eq.trans ?_ (h.trans ((out_entry m c t hf _ _).trans ?_))
  · refine congrArg ((dats m 0 c).arrAt 4 cfg0.N) (funext fun x => ?_)
    match x with
    | ⟨0, _⟩ => exact Fin.ext (by show n.val = win0_4.index t 0 * 1024 + 1 * (n.val % 1024); rw [(index4 t).1]; omega)
    | ⟨1, _⟩ => exact Fin.ext (by show j.val = win0_4.index t 1 * 1024 + 1 * j.val; rw [(index4 t).2]; omega)
  · exact congrArg (fun n => (ax m c (ix2 n j) + ∑ k : Fin 4096, part m c n j k : EReal)) (Fin.ext (by show 1024 * (t.val / 4) + n.val % 1024 = n.val; omega))

theorem normed_result (n : Fin 2048) (j : Fin 1024) : (dats m 0 c).arrAt 5 cfg0.N (ix2 n j) = unit m c n j := by
  obtain ⟨t, ht, hf⟩ : ∃ t : Fin cfg0.N, t.val / 4 = n.val / 1024 ∧ t.val % 4 = 3 :=
    ⟨⟨4 * (n.val / 1024) + 3, by rw [visits_eq]; omega⟩, by dsimp only; omega, by dsimp only; omega⟩
  have h := congrFun ((dats m 0 c).read_blk_arrAt_eq_flushed 5 (apart5) cfg0.N t t.isLt ((flush5 t).trans (decide_eq_true hf)))
    (ix2 (⟨n.val % 1024, by omega⟩ : Fin 1024) j)
  refine Eq.trans ?_ (h.trans ((normed_entry m c t _ _).trans ?_))
  · refine congrArg ((dats m 0 c).arrAt 5 cfg0.N) (funext fun x => ?_)
    match x with
    | ⟨0, _⟩ => exact Fin.ext (by show n.val = win0_5.index t 0 * 1024 + 1 * (n.val % 1024); rw [(index5 t).1]; omega)
    | ⟨1, _⟩ => exact Fin.ext (by show j.val = win0_5.index t 1 * 1024 + 1 * j.val; rw [(index5 t).2]; omega)
  · exact congrArg (fun n => unit m c n j) (Fin.ext (by show 1024 * (t.val / 4) + n.val % 1024 = n.val; omega))

theorem root_result (n : Fin 2048) (k : Fin 4096) : (dats m 0 c).arrAt 6 cfg0.N (ix2 n k) = act m c n k := by
  obtain ⟨t, ht, hf⟩ : ∃ t : Fin cfg0.N, t.val / 4 = n.val / 1024 ∧ t.val % 4 = k.val / 1024 :=
    ⟨⟨4 * (n.val / 1024) + k.val / 1024, by rw [visits_eq]; omega⟩, by dsimp only; omega, by dsimp only; omega⟩
  have h := congrFun ((dats m 0 c).read_blk_arrAt_eq_flushed 6 (apart6) cfg0.N t t.isLt (flush6 t))
    (ix2 (⟨n.val % 1024, by omega⟩ : Fin 1024) (⟨k.val % 1024, by omega⟩ : Fin 1024))
  refine Eq.trans ?_ (h.trans ((root_entry m c t _ _).trans ?_))
  · refine congrArg ((dats m 0 c).arrAt 6 cfg0.N) (funext fun x => ?_)
    match x with
    | ⟨0, _⟩ => exact Fin.ext (by show n.val = win0_6.index t 0 * 1024 + 1 * (n.val % 1024); rw [(index6 t).1]; omega)
    | ⟨1, _⟩ => exact Fin.ext (by show k.val = win0_6.index t 1 * 1024 + 1 * (k.val % 1024); rw [(index6 t).2]; omega)
  · exact congrArg₂ (act m c) (Fin.ext (by show 1024 * (t.val / 4) + n.val % 1024 = n.val; omega))
      (Fin.ext (by show 1024 * (t.val % 4) + k.val % 1024 = k.val; omega))

/-! ### The reference's. -/

open Cert.ReferenceFfnIdeal.Read

theorem ref_normed (n : Fin 2048) (j : Fin 1024) : val_main_v12 (F := Ideal) (ax m c) (ag m c) (ix2 n j) = unit m c n j :=
  Project.ref_norm (ax m c) (ag m c) n j

theorem ref_act (n : Fin 2048) (k : Fin 4096) : val_main_v17 (F := Ideal) (ax m c) (ag m c) (aw m c) (ix2 n k) = act m c n k := by
  rw [val_main_v17_apply, val_main_v16_apply]
  refine congrArg cut ((val_main_v15_apply _ _ _ _).trans (Finset.sum_congr rfl fun q _ => ?_))
  refine congrArg₂ (fun a b : EReal => a * b) ?_ ?_
  · refine Eq.trans ?_ (ref_normed m c n q)
    exact congrArg (val_main_v12 (F := Ideal) (ax m c) (ag m c)) (funext fun x => by match x with | ⟨0, _⟩ => rfl | ⟨1, _⟩ => rfl)
  · exact congrArg (aw m c) (funext fun x => by match x with | ⟨0, _⟩ => rfl | ⟨1, _⟩ => rfl)

theorem ref_out (n : Fin 2048) (j : Fin 1024) :
    val_main_v21 (F := Ideal) (ax m c) (ag m c) (aw m c) (av m c) (ix2 n j) = (ax m c (ix2 n j) + ∑ k : Fin 4096, part m c n j k : EReal) := by
  rw [val_main_v21_apply]
  refine congrArg (fun y : EReal => ax m c (ix2 n j) + y) ((val_main_v20_apply _ _ _ _ _).trans (Finset.sum_congr rfl fun k _ => ?_))
  refine congrArg₂ (fun a b : EReal => a * a * b) ?_ ?_
  · refine Eq.trans ?_ (ref_act m c n k)
    exact congrArg (val_main_v17 (F := Ideal) (ax m c) (ag m c) (aw m c)) (funext fun x => by match x with | ⟨0, _⟩ => rfl | ⟨1, _⟩ => rfl)
  · exact congrArg (av m c) (funext fun x => by match x with | ⟨0, _⟩ => rfl | ⟨1, _⟩ => rfl)

/-- The three results are the reference's. -/
theorem out_eq : (dats m 0 c).arrAt 4 cfg0.N = val_main_v21 (F := Ideal) (ax m c) (ag m c) (aw m c) (av m c) := by
  funext i
  obtain ⟨n, j, rfl⟩ : ∃ (n : Fin 2048) (j : Fin 1024), i = ix2 n j := ⟨i 0, i 1, eq_ix2 i⟩
  exact (out_result m c n j).trans (ref_out m c n j).symm

theorem normed_eq : (dats m 0 c).arrAt 5 cfg0.N = val_main_v12 (F := Ideal) (ax m c) (ag m c) := by
  funext i
  obtain ⟨n, j, rfl⟩ : ∃ (n : Fin 2048) (j : Fin 1024), i = ix2 n j := ⟨i 0, i 1, eq_ix2 i⟩
  exact (normed_result m c n j).trans (ref_normed m c n j).symm

theorem root_eq : (dats m 0 c).arrAt 6 cfg0.N = val_main_v22 (F := Ideal) (ax m c) (ag m c) (aw m c) := by
  funext i
  obtain ⟨n, k, rfl⟩ : ∃ (n : Fin 2048) (k : Fin 4096), i = ix2 n k := ⟨i 0, i 1, eq_ix2 i⟩
  exact (root_result m c n k).trans (ref_act m c n k).symm

end Cert.Proof.Ffn

end
-- ==== Proof.FfnClaims.lean ====
/- The claims about the feed-forward layer: the frames, and the equality with the reference at the ideal instance. -/
module

public import proofs.«01_k».proof.Defs
public import proofs.«01_k».proof.Proof.Gen.Ffn
public import proofs.«01_k».proof.Proof.Gen.ReferenceFfnIdeal.Run
public import proofs.«01_k».proof.Proof.FfnWhole

@[expose] public section

set_option maxRecDepth 16384

noncomputable section

namespace Cert.Proof.Ffn

open Idealize.ShloMosaic Idealize.ShloMosaic.TcCoe Idealize.SL.Sem

/-! ### The kernel and its ideal reading are one text, over any floats. -/

section SameText

variable {F : FTy → Type} [FloatOps F]

set_option maxHeartbeats 0 in
theorem same_body : @Cert.Ffn.cc0_ffn F _ _ = @Cert.FfnIdeal.cc0_ffn F _ _ := rfl

set_option maxHeartbeats 0 in
theorem same_bodies : Cert.Ffn.defs₀ (F := F) = Cert.FfnIdeal.defs₀ (F := F) := by
  unfold Cert.Ffn.defs₀ Cert.FfnIdeal.defs₀
  rw [same_body]
  refine congrArg Defs.onTc (funext fun b => funext fun a => ?_)
  match b, a with
  | ⟨0, _⟩, (t, s) => exact rfl

set_option maxHeartbeats 0 in
theorem same_table : Cert.Ffn.defs (F := F) = Cert.FfnIdeal.defs (F := F) := by
  unfold Cert.Ffn.defs Cert.FfnIdeal.defs
  rw [same_bodies]
  rfl

theorem same_program : Cert.Ffn.main (F := F) = Cert.FfnIdeal.main (F := F) := rfl

/-- The frame, over any floats: the one run serves both. -/
theorem frame_any (m : (ℓ : Loc Cert.FfnIdeal.nD Cert.FfnIdeal.τ Cert.FfnIdeal.sig) → Buf (Elt F) ℓ) (ρ : Dev Cert.FfnIdeal.nD → PrngReg) :
    θ_run (Cert.FfnIdeal.defs (F := F)) (onTc (τ := Cert.FfnIdeal.τ) (Cert.FfnIdeal.main (F := F))) ⟨m, fun _ => 0, ρ⟩
      fun r => Kept m r ∧ r.2.sem = fun _ => 0 :=
  (θ_run Cert.FfnIdeal.defs _ _).mono (fun _ h => ⟨h.1.2, h.2⟩) (run_main m ρ)

end SameText

set_option maxHeartbeats 0 in
theorem frame : Cert.quiescent_Ffn := fun m ρ _ => by
  have h1 := same_table (F := Bits)
  have h2 := same_program (F := Bits)
  refine Eq.mpr (congrArg₂ (fun d p => θ_run d (onTc (τ := Cert.Ffn.τ) p) _ _) h1 h2) ?_
  exact frame_any (F := Bits) m ρ

theorem frame_ideal : Cert.quiescent_FfnIdeal := fun m ρ _ => frame_any (F := Ideal) m ρ

theorem frame_reference : Cert.quiescent_ReferenceFfnIdeal := fun m ρ _ =>
  (θ_run Cert.ReferenceFfnIdeal.defs _ _).mono (fun r h => ⟨fun c => (h c).2.2.2, sem_eq_zero_of_no_sems (by decide) r.2⟩)
    (Cert.ReferenceFfnIdeal.Value.run (F := Ideal) m ρ)

/-- The call's three results are the reference's. -/
theorem value : Cert.algebraic_FfnIdeal_ReferenceFfnIdeal := fun m ρ m' ρ' _ hag =>
  ⟨fun c => (dats m 0 c).arrAt 4 Cert.FfnIdeal.cfg0.N, fun c => (dats m 0 c).arrAt 5 Cert.FfnIdeal.cfg0.N,
    fun c => (dats m 0 c).arrAt 6 Cert.FfnIdeal.cfg0.N,
    (θ_run Cert.FfnIdeal.defs _ _).mono (fun _ h c => ⟨h.1.1 4 c, h.1.1 5 c, h.1.1 6 c, h.1.2 c⟩) (run_main (F := Ideal) m ρ),
    (θ_run Cert.ReferenceFfnIdeal.defs _ _).mono (fun r h c => by
      obtain ⟨g0, g1, g2, gs⟩ := h c
      obtain ⟨e0, e1, e2, e3⟩ := hag c
      refine ⟨?_, ?_, ?_, gs⟩
      · beta_reduce
        rw [out_eq m c, g0, Cert.ReferenceFfnIdeal.Read.val_main_v21_eq, e0, e1, e2, e3]
      · beta_reduce
        rw [normed_eq m c, g1, Cert.ReferenceFfnIdeal.Read.val_main_v12_eq, e0, e1]
      · beta_reduce
        rw [root_eq m c, g2, Cert.ReferenceFfnIdeal.Read.val_main_v22_eq, e0, e1, e2]) (Cert.ReferenceFfnIdeal.Value.run (F := Ideal) m' ρ')⟩

end Cert.Proof.Ffn

end
-- ==== Proof.FfnBwdVisits.lean ====
/- What the visits of the feed-forward layer's backward leave: the activation's gradient, the input's gradient summed over the two
   blocks of columns, and, after a row tile's second block, the norm's gradient and its scale's. -/
module

public import proofs.«01_k».proof.Proof.Gen.FfnBwdIdeal.Frame
public import proofs.«01_k».proof.Proof.WholeStores

@[expose] public section

noncomputable section

namespace Cert.Proof.FfnBwd

open Idealize.ShloMosaic Idealize.ShloMosaic.ValueIdx Idealize.ShloMosaic.TcCoe Cert.FfnBwdIdeal Cert.FfnBwdIdeal.Gen
open Cert.Proof.WholeStores

/-- What a store over the whole leaves, whatever was stored before. -/
theorem canon_whole {n l : ℕ} {e : EltTy} (inb : ∀ a, (![0, 0] : Fin 2 → ℕ) a + (![n, l] : Fin 2 → ℕ) a ≤ (⟨2, ![n, l]⟩ : Shape).size a)
    (w : (⟨2, ![n, l]⟩ : Shape).Idx → Elt Ideal e) (L) :
    View.canon (Val := Elt Ideal) (⟨Rect.unit (s := ⟨2, ![n, l]⟩) ![0, 0] ![n, l] inb, w⟩ :: L) = w := by
  funext i
  obtain ⟨a, b, rfl⟩ : ∃ (a : Fin n) (b : Fin l), i = ix2 a b := ⟨i 0, i 1, eq_ix2 i⟩
  exact Stores.canon_at inb w L a b a b (Nat.zero_add _).symm (Nat.zero_add _).symm

/-- A load of a whole buffer stored over finds the last value stored. -/
theorem cover_over {sg : RefSig} {κ : Kind} {sp : Space} {n l : ℕ} {e : EltTy} (v : View sg κ sp ⟨2, ![n, l]⟩ e)
    (inb : ∀ a, (![0, 0] : Fin 2 → ℕ) a + (![n, l] : Fin 2 → ℕ) a ≤ (⟨2, ![n, l]⟩ : Shape).size a)
    (w : (⟨2, ![n, l]⟩ : Shape).Idx → Elt Ideal e) (L) :
    v.readCov (Val := Elt Ideal) (⟨Rect.unit (s := ⟨2, ![n, l]⟩) ![0, 0] ![n, l] inb, w⟩ :: L) (Rect.unit (s := ⟨2, ![n, l]⟩) ![0, 0] ![n, l] inb).toLoadRect = w := by
  funext i
  obtain ⟨a, b, rfl⟩ : ∃ (a : Fin n) (b : Fin l), i = ix2 a b := ⟨i 0, i 1, eq_ix2 i⟩
  exact (Stores.cov_apply v _ inb a b a b (Nat.zero_add _).symm (Nat.zero_add _).symm).trans
    (Stores.canon_at inb w L a b a b (Nat.zero_add _).symm (Nat.zero_add _).symm)

/-- A load of the whole of the running sum's buffer finds its contents. -/
theorem load_sum (h : scM0_0.IsWhole) (X : Vec Ideal S512x1024 .f32)
    (inb : ∀ a, (![0, 0] : Fin 2 → ℕ) a + (![512, 1024] : Fin 2 → ℕ) a ≤ (⟨2, ![512, 1024]⟩ : Shape).size a) :
    View.readAt (Elt Ideal) (View.whole cc0_scratch0) (Rect.unit (s := ⟨2, ![512, 1024]⟩) ![0, 0] ![512, 1024] inb).toLoadRect (h.unread X) = X :=
  load_whole h X inb

variable (m : (ℓ : Loc nD τ sig) → Buf (Elt Ideal) ℓ) (c : Dev nD) (t : Fin cfg0.N)

/-- The buffers after the visit before. -/
abbrev prev := outsAt0 m c (t.val - 1) (Nat.lt_of_le_of_lt (Nat.sub_le _ _) t.isLt)

theorem da_A (h : t.val % 2 = 0) : (outsAt0 m c t.val t.isLt).1
    = k0_pay2 (F := Ideal) (iblk m c 1 t) (iblk m c 6 t) (iblk m c 4 t) := by
  rw [outsAt0_A m c t h (by omega)]
  dsimp only
  unfold out0_A_7
  rw [View.read_writes_junk_eq_canon]
  unfold kernelRun0_A
  dsimp only
  rw [canon_whole]
  simp only [load_whole, load_sum, cover_over]

theorem sum_A (h : t.val % 2 = 0) : (outsAt0 m c t.val t.isLt).2.2.2.2
    = k0_pay3 (F := Ideal) (iblk m c 1 t) (iblk m c 6 t) (iblk m c 4 t) (k0_pay1 (F := Ideal)) (iblk m c 5 t) := by
  rw [outsAt0_A m c t h (by omega)]
  dsimp only
  unfold sout0_A_0
  rw [View.read_writes_junk_eq_canon]
  unfold kernelRun0_A
  dsimp only
  rw [canon_whole]
  unfold kernelRun0_A.sl.v13 kernelRun0_A.sl.HS0_1
  simp only [load_whole, load_sum, cover_over]

theorem da_B (h : t.val % 2 = 1) (h2 : t.val < 2) : (outsAt0 m c t.val t.isLt).1
    = k0_pay2 (F := Ideal) (iblk m c 1 t) (iblk m c 6 t) (iblk m c 4 t) := by
  rw [outsAt0_B m c t (by omega) h h2 (by omega)]
  dsimp only
  unfold out0_B_7
  rw [View.read_writes_junk_eq_canon]
  unfold kernelRun0_B
  dsimp only
  rw [canon_whole]
  simp only [load_whole, load_sum, cover_over]

theorem sum_B (h : t.val % 2 = 1) (h2 : t.val < 2) : (outsAt0 m c t.val t.isLt).2.2.2.2
    = k0_pay3 (F := Ideal) (iblk m c 1 t) (iblk m c 6 t) (iblk m c 4 t) (prev m c t).2.2.2.2 (iblk m c 5 t) := by
  rw [outsAt0_B m c t (by omega) h h2 (by omega)]
  dsimp only
  unfold sout0_B_0
  rw [View.read_writes_junk_eq_canon]
  unfold kernelRun0_B
  dsimp only
  unfold kernelRun0_B.sl.HS0_1
  rw [canon_whole]
  simp only [load_whole, load_sum, cover_over]

theorem da_C (h : t.val % 2 = 1) (h2 : 2 ≤ t.val) : (outsAt0 m c t.val t.isLt).1
    = k0_pay2 (F := Ideal) (iblk m c 1 t) (iblk m c 6 t) (iblk m c 4 t) := by
  rw [outsAt0_C m c t (by omega) h (by omega) h2]
  dsimp only
  unfold out0_C_7
  rw [View.read_writes_junk_eq_canon]
  unfold kernelRun0_C
  dsimp only
  rw [canon_whole]
  simp only [load_whole, load_sum, cover_over]

theorem sum_C (h : t.val % 2 = 1) (h2 : 2 ≤ t.val) : (outsAt0 m c t.val t.isLt).2.2.2.2
    = k0_pay3 (F := Ideal) (iblk m c 1 t) (iblk m c 6 t) (iblk m c 4 t) (prev m c t).2.2.2.2 (iblk m c 5 t) := by
  rw [outsAt0_C m c t (by omega) h (by omega) h2]
  dsimp only
  unfold sout0_C_0
  rw [View.read_writes_junk_eq_canon]
  unfold kernelRun0_C
  dsimp only
  unfold kernelRun0_C.sl.HS0_1
  rw [canon_whole]
  simp only [load_whole, load_sum, cover_over]

theorem dx_B (h : t.val % 2 = 1) (h2 : t.val < 2) : (outsAt0 m c t.val t.isLt).2.1
    = k0_pay8 (F := Ideal) (iblk m c 2 t) (k0_pay3 (F := Ideal) (iblk m c 1 t) (iblk m c 6 t) (iblk m c 4 t) (prev m c t).2.2.2.2 (iblk m c 5 t)) (iblk m c 3 t) (iblk m c 0 t) := by
  rw [outsAt0_B m c t (by omega) h h2 (by omega)]
  dsimp only
  unfold out0_B_8
  rw [View.read_writes_junk_eq_canon]
  unfold kernelRun0_B
  dsimp only
  rw [canon_whole]
  unfold kernelRun0_B.sl.v34 kernelRun0_B.sl.HS0_1
  simp only [load_whole, load_sum, cover_over]

theorem dxb_B (h : t.val % 2 = 1) (h2 : t.val < 2) : (outsAt0 m c t.val t.isLt).2.2.1
    = k0_pay9 (F := Ideal) (iblk m c 2 t) (k0_pay3 (F := Ideal) (iblk m c 1 t) (iblk m c 6 t) (iblk m c 4 t) (prev m c t).2.2.2.2 (iblk m c 5 t)) (iblk m c 3 t) (iblk m c 0 t) := by
  rw [outsAt0_B m c t (by omega) h h2 (by omega)]
  dsimp only
  unfold out0_B_9
  rw [View.read_writes_junk_eq_canon]
  unfold kernelRun0_B
  dsimp only
  rw [canon_whole]
  unfold kernelRun0_B.sl.v34 kernelRun0_B.sl.HS0_1
  simp only [load_whole, load_sum, cover_over]

theorem dg_B (h : t.val % 2 = 1) (h2 : t.val < 2) : (outsAt0 m c t.val t.isLt).2.2.2.1
    = k0_pay7 (F := Ideal) (iblk m c 2 t) (k0_pay3 (F := Ideal) (iblk m c 1 t) (iblk m c 6 t) (iblk m c 4 t) (prev m c t).2.2.2.2 (iblk m c 5 t)) := by
  rw [outsAt0_B m c t (by omega) h h2 (by omega)]
  dsimp only
  unfold out0_B_10
  rw [View.read_writes_junk_eq_canon]
  unfold kernelRun0_B
  dsimp only
  rw [canon_whole]
  unfold kernelRun0_B.sl.v34 kernelRun0_B.sl.HS0_1
  simp only [load_whole, load_sum, cover_over]

theorem dx_C (h : t.val % 2 = 1) (h2 : 2 ≤ t.val) : (outsAt0 m c t.val t.isLt).2.1
    = k0_pay8 (F := Ideal) (iblk m c 2 t) (k0_pay3 (F := Ideal) (iblk m c 1 t) (iblk m c 6 t) (iblk m c 4 t) (prev m c t).2.2.2.2 (iblk m c 5 t)) (iblk m c 3 t) (iblk m c 0 t) := by
  rw [outsAt0_C m c t (by omega) h (by omega) h2]
  dsimp only
  unfold out0_C_8
  rw [View.read_writes_junk_eq_canon]
  unfold kernelRun0_C
  dsimp only
  rw [canon_whole]
  unfold kernelRun0_C.sl.v34 kernelRun0_C.sl.HS0_1
  simp only [load_whole, load_sum, cover_over]

theorem dxb_C (h : t.val % 2 = 1) (h2 : 2 ≤ t.val) : (outsAt0 m c t.val t.isLt).2.2.1
    = k0_pay9 (F := Ideal) (iblk m c 2 t) (k0_pay3 (F := Ideal) (iblk m c 1 t) (iblk m c 6 t) (iblk m c 4 t) (prev m c t).2.2.2.2 (iblk m c 5 t)) (iblk m c 3 t) (iblk m c 0 t) := by
  rw [outsAt0_C m c t (by omega) h (by omega) h2]
  dsimp only
  unfold out0_C_9
  rw [View.read_writes_junk_eq_canon]
  unfold kernelRun0_C
  dsimp only
  rw [canon_whole]
  unfold kernelRun0_C.sl.v34 kernelRun0_C.sl.HS0_1
  simp only [load_whole, load_sum, cover_over]

theorem dg_C (h : t.val % 2 = 1) (h2 : 2 ≤ t.val) : (outsAt0 m c t.val t.isLt).2.2.2.1
    = k0_pay4 (F := Ideal) (k0_pay7 (F := Ideal) (iblk m c 2 t) (k0_pay3 (F := Ideal) (iblk m c 1 t) (iblk m c 6 t) (iblk m c 4 t) (prev m c t).2.2.2.2 (iblk m c 5 t))) (prev m c t).2.2.2.1 := by
  rw [outsAt0_C m c t (by omega) h (by omega) h2]
  dsimp only
  unfold out0_C_10
  rw [View.read_writes_junk_eq_canon]
  unfold kernelRun0_C
  dsimp only
  rw [canon_whole]
  unfold kernelRun0_C.sl.r kernelRun0_C.sl.v34 kernelRun0_C.sl.HS0_1
  simp only [load_whole, load_sum, cover_over]

/-- A tile's first visit leaves the scale's gradient as it was. -/
theorem dg_A (h : t.val % 2 = 0) : (outsAt0 m c t.val t.isLt).2.2.2.1 = (prev m c t).2.2.2.1 := by
  rw [outsAt0_A m c t h (by omega)]
  dsimp only
  unfold out0_A_10
  rfl

/-- At every visit, and at every second one. -/
theorem da_visit : (outsAt0 m c t.val t.isLt).1 = k0_pay2 (F := Ideal) (iblk m c 1 t) (iblk m c 6 t) (iblk m c 4 t) := by
  by_cases h : t.val % 2 = 0
  · exact da_A m c t h
  · by_cases h2 : t.val < 2
    · exact da_B m c t (by omega) h2
    · exact da_C m c t (by omega) (by omega)

theorem sum_visit (h : t.val % 2 = 1) : (outsAt0 m c t.val t.isLt).2.2.2.2
    = k0_pay3 (F := Ideal) (iblk m c 1 t) (iblk m c 6 t) (iblk m c 4 t) (prev m c t).2.2.2.2 (iblk m c 5 t) := by
  by_cases h2 : t.val < 2
  · exact sum_B m c t h h2
  · exact sum_C m c t h (by omega)

theorem dx_visit (h : t.val % 2 = 1) : (outsAt0 m c t.val t.isLt).2.1
    = k0_pay8 (F := Ideal) (iblk m c 2 t) (outsAt0 m c t.val t.isLt).2.2.2.2 (iblk m c 3 t) (iblk m c 0 t) := by
  rw [sum_visit m c t h]
  by_cases h2 : t.val < 2
  · exact dx_B m c t h h2
  · exact dx_C m c t h (by omega)

theorem dxb_visit (h : t.val % 2 = 1) : (outsAt0 m c t.val t.isLt).2.2.1
    = k0_pay9 (F := Ideal) (iblk m c 2 t) (outsAt0 m c t.val t.isLt).2.2.2.2 (iblk m c 3 t) (iblk m c 0 t) := by
  rw [sum_visit m c t h]
  by_cases h2 : t.val < 2
  · exact dxb_B m c t h h2
  · exact dxb_C m c t h (by omega)

theorem dg_first (h : t.val % 2 = 1) (h2 : t.val < 2) : (outsAt0 m c t.val t.isLt).2.2.2.1
    = k0_pay7 (F := Ideal) (iblk m c 2 t) (outsAt0 m c t.val t.isLt).2.2.2.2 := by
  rw [sum_visit m c t h]
  exact dg_B m c t h h2

theorem dg_later (h : t.val % 2 = 1) (h2 : 2 ≤ t.val) : (outsAt0 m c t.val t.isLt).2.2.2.1
    = k0_pay4 (F := Ideal) (k0_pay7 (F := Ideal) (iblk m c 2 t) (outsAt0 m c t.val t.isLt).2.2.2.2) (prev m c t).2.2.2.1 := by
  rw [sum_visit m c t h]
  exact dg_C m c t h h2

theorem visit_lt : t.val < 8 := lt_of_lt_of_eq t.isLt N_0

/-- Which visits write a result back. -/
theorem flush7 : ∀ t : Fin cfg0.N, (cfg0.win 7).flush t = true :=
  (by decide +kernel : ∀ t : Fin grid0.N, (cfg0.win 7).flush t = true)
theorem flush8 : ∀ t : Fin cfg0.N, (cfg0.win 8).flush t = decide (t.val % 2 = 1) :=
  (by decide +kernel : ∀ t : Fin grid0.N, (cfg0.win 8).flush t = decide (t.val % 2 = 1))
theorem flush9 : ∀ t : Fin cfg0.N, (cfg0.win 9).flush t = decide (t.val % 2 = 1) :=
  (by decide +kernel : ∀ t : Fin grid0.N, (cfg0.win 9).flush t = decide (t.val % 2 = 1))
theorem flush10 : ∀ t : Fin cfg0.N, (cfg0.win 10).flush t = decide (t.val = 7) :=
  (by decide +kernel : ∀ t : Fin grid0.N, (cfg0.win 10).flush t = decide (t.val = 7))

end Cert.Proof.FfnBwd

end
-- ==== Proof.NormGrad.lean ====
/- The gradient of a row's norm, over the extended reals: the difference from the mean, times the row's factor, is the sum of what
   the product and the factor's own derivative give. The factor is a nonnegative real, so no argument need be finite. -/
module

public import proofs.«01_k».proof.Proof.ProjectWhole

@[expose] public section

noncomputable section

namespace Cert.Proof.NormGrad

open Idealize.ShloMosaic
open Cert.Proof.Project (factor)

/-- The row's length, the small constant, the half and the two, as their words denote them. -/
abbrev len : EReal := Scalar.ofBits (F := Ideal) .f32 0x44800000#32
@[inherit_doc len] abbrev tiny : EReal := Scalar.ofBits (F := Ideal) .f32 0x358637BD#32
@[inherit_doc len] abbrev half : EReal := Scalar.ofBits (F := Ideal) .f32 0xBF000000#32

theorem len_eq : len = ((1024 : ℝ) : EReal) := by
  show Ideal.ofBits .f32 0x44800000#32 = _
  simp [Ideal.ofBits, Ideal.ieee, -EReal.coe_mul]; norm_num

theorem half_eq : half = ((-(1 / 2) : ℝ) : EReal) := by
  show Ideal.ofBits .f32 0xBF000000#32 = _
  simp [Ideal.ofBits, Ideal.ieee, -EReal.coe_mul]; norm_num

theorem tiny_pos : (0 : EReal) < tiny := by
  show 0 < Ideal.ofBits .f32 0x358637BD#32
  simp [Ideal.ofBits, Ideal.ieee, -EReal.coe_mul]

/-- A nonnegative real comes out of a sum. -/
theorem sum_mul {n : ℕ} (f : Fin n → EReal) {ρ : ℝ} (h : 0 ≤ ρ) : (∑ k, f k * (ρ : EReal)) = (∑ k, f k) * (ρ : EReal) := by
  induction n with
  | zero => simp
  | succ n ih =>
    rw [Fin.sum_univ_succ, Fin.sum_univ_succ, ih,
      EReal.right_distrib_of_nonneg_of_ne_top (EReal.coe_nonneg.2 h) (EReal.coe_ne_top ρ)]

/-- A quotient by the row's length is a product with a real. -/
theorem div_len (a : EReal) : Ideal.div a len = a * ((1024⁻¹ : ℝ) : EReal) := by
  rw [len_eq, Ideal.div, if_neg (by exact_mod_cast (by norm_num : (1024 : ℝ) ≠ 0)), EReal.coe_inv]

/-- A positive number's factor is a nonnegative real, and the factor over the number is its cube. -/
theorem rsqrt_real {m : EReal} (h : 0 < m) :
    ∃ ρ : ℝ, 0 ≤ ρ ∧ Ideal.rsqrt m = (ρ : EReal) ∧ Ideal.div (Ideal.rsqrt m) m = ((ρ * ρ * ρ : ℝ) : EReal) := by
  induction m with
  | bot => exact absurd h (by simp)
  | top => exact ⟨0, le_refl _, Ideal.rsqrt_top, by rw [Ideal.rsqrt_top]; simp [Ideal.div]⟩
  | coe y =>
    have hy : 0 < y := by exact_mod_cast h
    have e : Ideal.rsqrt (y : EReal) = (((√y)⁻¹ : ℝ) : EReal) := by
      rw [Ideal.rsqrt_coe, if_neg hy.le.not_gt, if_neg hy.ne']
    refine ⟨(√y)⁻¹, inv_nonneg.2 (Real.sqrt_nonneg y), e, ?_⟩
    rw [e, Ideal.div, if_neg (by exact_mod_cast hy.ne'), ← EReal.coe_inv, ← EReal.coe_mul]
    congr 1
    rw [mul_assoc, ← mul_inv (√y) (√y), Real.mul_self_sqrt hy.le]

/-- Twice the product with a half. -/
theorem twice (z : EReal) {q : ℝ} (h : 0 ≤ q) : z * ((q / 2 : ℝ) : EReal) + z * ((q / 2 : ℝ) : EReal) = z * (q : EReal) := by
  have p : (0 : EReal) ≤ ((q / 2 : ℝ) : EReal) := EReal.coe_nonneg.2 (by positivity)
  rw [← EReal.left_distrib_of_nonneg p p, ← EReal.coe_add, add_halves]

/-- The gradient at an entry, of the input `x`, the scaled cotangent `d`, the row's sum `S` of their products. -/
theorem grad_at {m : EReal} (h : 0 < m) (x d : EReal) (S : EReal) :
    Ideal.rsqrt m * (d - (x * Ideal.rsqrt m) * Ideal.div (S * Ideal.rsqrt m) len)
      = d * Ideal.rsqrt m + x * Ideal.div (S * (half * Ideal.div (Ideal.rsqrt m) m)) len
        + Ideal.div (S * (half * Ideal.div (Ideal.rsqrt m) m)) len * x := by
  obtain ⟨ρ, h0, e, e3⟩ := rsqrt_real h
  rw [e3, e, div_len, div_len, half_eq, sub_eq_add_neg,
    EReal.left_distrib_of_nonneg_of_ne_top (EReal.coe_nonneg.2 h0) (EReal.coe_ne_top ρ), mul_comm (ρ : EReal) d, add_assoc]
  congr 1
  have l : (ρ : EReal) * -(x * (ρ : EReal) * (S * (ρ : EReal) * ((1024⁻¹ : ℝ) : EReal)))
      = -(x * S) * ((ρ * ρ * ρ * 1024⁻¹ : ℝ) : EReal) := by
    rw [mul_neg, neg_mul]
    congr 1
    simp only [EReal.coe_mul]
    ac_rfl
  have r : x * (S * (((-(1 / 2) : ℝ) : EReal) * ((ρ * ρ * ρ : ℝ) : EReal)) * ((1024⁻¹ : ℝ) : EReal))
      = -(x * S) * ((ρ * ρ * ρ * 1024⁻¹ / 2 : ℝ) : EReal) := by
    have c : ((-(1 / 2) : ℝ) : EReal) * ((ρ * ρ * ρ : ℝ) : EReal) * ((1024⁻¹ : ℝ) : EReal)
        = -((ρ * ρ * ρ * 1024⁻¹ / 2 : ℝ) : EReal) := by
      rw [← EReal.coe_mul, ← EReal.coe_mul, ← EReal.coe_neg]
      congr 1
      ring
    rw [mul_assoc S, c, ← mul_assoc, mul_neg, neg_mul]
  rw [l, mul_comm (_ * _) x, r, twice _ (by positivity)]

/-- A row's mean square and the small constant are positive. -/
theorem mean_pos {n : ℕ} (v : Fin n → EReal) : 0 < Ideal.div (∑ k, v k * v k) len + tiny := by
  have s : 0 ≤ ∑ k, v k * v k := Finset.sum_nonneg fun k _ => by
    rcases le_total 0 (v k) with p | p
    · exact mul_nonneg p p
    · rw [← neg_neg (v k * v k), ← mul_neg, ← neg_mul]
      exact mul_nonneg (EReal.neg_nonneg.2 p) (EReal.neg_nonneg.2 p)
  rw [div_len]
  exact lt_of_lt_of_le tiny_pos (le_add_of_nonneg_left (mul_nonneg s (EReal.coe_nonneg.2 (by norm_num))))

end Cert.Proof.NormGrad

end
-- ==== Proof.FfnBwdWhole.lean ====
/- The feed-forward layer's backward: the activation's gradient, the input's gradient from its two blocks of columns, through the
   norm, added to the incoming one, and the norm's scale's gradient summed over four tiles of rows; the reference's four results. -/
module

public import proofs.«01_k».proof.Proof.FfnBwdVisits
public import proofs.«01_k».proof.Proof.NormGrad
public import proofs.«01_k».proof.Proof.Gen.ReferenceFfnBwdIdeal.Read
public import Idealize.ShloMosaic.Lib.MatmulPlain
public import Idealize.ShloMosaic.Lib.Pipeline.Value

@[expose] public section

noncomputable section

namespace Cert.Proof.FfnBwd

open Idealize.ShloMosaic Idealize.ShloMosaic.ValueIdx Idealize.ShloMosaic.TcCoe Cert.FfnBwdIdeal Cert.FfnBwdIdeal.Gen
open Cert.Proof.Project (Mat factor)
open Cert.Proof.NormGrad (len)

/-- Two, as its word denotes it. -/
abbrev two : EReal := Scalar.ofBits (F := Ideal) .f32 0x40000000#32

/-! ### What the stores hold, at an entry. -/

theorem da_at (d : Vec Ideal S512x1024 .bf16) (w : Vec Ideal S2048x1024 .bf16) (r : Vec Ideal S512x2048 .bf16) (i : Fin 512) (l : Fin 2048) :
    k0_pay2 (F := Ideal) d w r (ix2 i l) = ((∑ q : Fin 1024, d (ix2 i q) * w (ix2 l q)) * (two * r (ix2 i l)) : EReal) := by
  refine congrArg (fun y : EReal => y * (two * r (ix2 i l))) ?_
  exact (Ideal.matmul_transposedRhs_apply (φ₁ := .bf16) (φ₂ := .bf16) none d w _ i l).trans
    ((congrArg (fun z : EReal => z + _) Ideal.ofBits_zero_f32).trans (zero_add _))

theorem start_at (i : Fin 512) (j : Fin 1024) : k0_pay1 (F := Ideal) (ix2 i j) = (0 : EReal) := by
  unfold k0_pay1
  rw [shapeCast_self]
  exact Ideal.ofBits_zero_f32

theorem sum_at (d : Vec Ideal S512x1024 .bf16) (w : Vec Ideal S2048x1024 .bf16) (r : Vec Ideal S512x2048 .bf16) (s : Vec Ideal S512x1024 .f32)
    (v : Vec Ideal S1024x2048 .bf16) (i : Fin 512) (j : Fin 1024) :
    k0_pay3 (F := Ideal) d w r s v (ix2 i j) = (s (ix2 i j) + ∑ l : Fin 2048, k0_pay2 (F := Ideal) d w r (ix2 i l) * v (ix2 j l) : EReal) := by
  unfold k0_pay3
  rw [shapeCast_self]
  refine congrArg (fun y : EReal => s (ix2 i j) + y) ?_
  exact (Ideal.matmul_transposedRhs_apply (φ₁ := .bf16) (φ₂ := .bf16) none (k0_pay2 (F := Ideal) d w r) v _ i j).trans
    ((congrArg (fun z : EReal => z + _) Ideal.ofBits_zero_f32).trans (zero_add _))

theorem factor_at (x : Vec Ideal S512x1024 .f32) (i : Fin 512) : k0_pay5 (F := Ideal) x (ix2 i 0) = factor (fun k => x (ix2 i k)) := by
  unfold k0_pay5 factor
  refine congrArg (fun s : EReal => Ideal.rsqrt (Ideal.div s (Scalar.ofBits (F := Ideal) .f32 0x44800000#32) + Scalar.ofBits (F := Ideal) .f32 0x358637BD#32)) ?_
  dsimp only
  rw [shapeCast_apply _ shapeCasts_S512_S512x1 (ix2 i 0) (ix1 i) (by simp [Shape.rowMajor_val_one, Shape.rowMajor_val_two])]
  refine (Ideal.multiReduction_add_single _ _ _ _ _ _).trans (Finset.sum_congr rfl fun k _ => ?_)
  refine congrArg (fun y : EReal => y * y) (congrArg x (funext fun a => ?_))
  match a with
  | ⟨0, _⟩ => rfl
  | ⟨1, _⟩ => rfl

theorem factors_at (x : Vec Ideal S512x1024 .f32) (i : Fin 512) (j : Fin 1024) :
    broadcastTo S512x1024 (k0_pay5 (F := Ideal) x) broadcasts_S512x1_S512x1024 (ix2 i j) = factor (fun k => x (ix2 i k)) := by
  rw [broadcastTo_apply _ broadcasts_S512x1_S512x1024 (ix2 i j) (ix2 i 0) (fun a => by match a with | ⟨0, _⟩ => rfl | ⟨1, _⟩ => rfl)]
  exact factor_at x i

theorem unit_at (x : Vec Ideal S512x1024 .f32) (i : Fin 512) (j : Fin 1024) :
    k0_pay6 (F := Ideal) x (ix2 i j) = (x (ix2 i j) * factor (fun k => x (ix2 i k)) : EReal) :=
  congrArg (fun f : EReal => x (ix2 i j) * f) (factors_at x i j)

theorem scale_at (x s : Vec Ideal S512x1024 .f32) (j : Fin 1024) :
    k0_pay7 (F := Ideal) x s (ix2 0 j) = ∑ i : Fin 512, (s (ix2 i j) * (x (ix2 i j) * factor (fun k => x (ix2 i k))) : EReal) := by
  unfold k0_pay7
  dsimp only
  rw [shapeCast_apply _ shapeCasts_S1024_S1x1024 (ix2 0 j) (ix1 j) (by simp [Shape.rowMajor_val_one, Shape.rowMajor_val_two])]
  refine (Ideal.multiReduction_add_single _ _ _ _ _ _).trans (Finset.sum_congr rfl fun i _ => ?_)
  refine Eq.trans ?_ (congrArg (fun y : EReal => s (ix2 i j) * y) (unit_at x i j))
  refine congrArg (fun y => (mulf s (k0_pay6 (F := Ideal) x) : Vec Ideal S512x1024 .f32) y) (funext fun a => ?_)
  match a with
  | ⟨0, _⟩ => rfl
  | ⟨1, _⟩ => rfl

theorem scale_later_at (d s : Vec Ideal S1x1024 .f32) (j : Fin 1024) : k0_pay4 (F := Ideal) d s (ix2 0 j) = (s (ix2 0 j) + d (ix2 0 j) : EReal) := by
  unfold k0_pay4
  rw [shapeCast_self]
  rfl

theorem grad_at (x s : Vec Ideal S512x1024 .f32) (g : Vec Ideal S1x1024 .f32) (d : Vec Ideal S512x1024 .f32) (i : Fin 512) (j : Fin 1024) :
    k0_pay8 (F := Ideal) x s g d (ix2 i j)
      = (factor (fun k => x (ix2 i k)) * (s (ix2 i j) * g (ix2 0 j) - x (ix2 i j) * factor (fun k => x (ix2 i k))
          * Ideal.div (∑ k : Fin 1024, s (ix2 i k) * g (ix2 0 k) * (x (ix2 i k) * factor (fun k => x (ix2 i k)))) len) + d (ix2 i j) : EReal) := by
  have eg : ∀ k : Fin 1024, broadcastTo S512x1024 g broadcasts_S1x1024_S512x1024 (ix2 i k) = g (ix2 0 k) := fun k =>
    broadcastTo_apply g broadcasts_S1x1024_S512x1024 (ix2 i k) (ix2 0 k) (fun a => by match a with | ⟨0, _⟩ => rfl | ⟨1, _⟩ => rfl)
  have h : k0_pay8 (F := Ideal) x s g d (ix2 i j) = (broadcastTo S512x1024 (k0_pay5 (F := Ideal) x) broadcasts_S512x1_S512x1024 (ix2 i j)
      * (s (ix2 i j) * broadcastTo S512x1024 g broadcasts_S1x1024_S512x1024 (ix2 i j) - k0_pay6 (F := Ideal) x (ix2 i j)
        * broadcastTo S512x1024 (divf (shapeCast S512x1 (multiReduction .add [1] S512 (mulf (mulf s (broadcastTo S512x1024 g broadcasts_S1x1024_S512x1024)) (k0_pay6 (F := Ideal) x))
            0x00000000#32 reduces_S512x1024_S512 (.inl rfl) rfl) shapeCasts_S512_S512x1) (broadcast S512x1 (Scalar.ofBits (F := Ideal) .f32 0x44800000#32)))
            broadcasts_S512x1_S512x1024 (ix2 i j)) + d (ix2 i j) : EReal) := rfl
  rw [h, factors_at, unit_at, eg,
    broadcastTo_apply _ broadcasts_S512x1_S512x1024 (ix2 i j) (ix2 i 0) (fun a => by match a with | ⟨0, _⟩ => rfl | ⟨1, _⟩ => rfl)]
  refine congrArg (fun z : EReal => factor (fun k => x (ix2 i k)) * (s (ix2 i j) * g (ix2 0 j) - x (ix2 i j) * factor (fun k => x (ix2 i k)) * z) + d (ix2 i j)) ?_
  refine congrArg (fun z : EReal => Ideal.div z len) ?_
  rw [shapeCast_apply _ shapeCasts_S512_S512x1 (ix2 i 0) (ix1 i) (by simp [Shape.rowMajor_val_one, Shape.rowMajor_val_two])]
  refine (Ideal.multiReduction_add_single _ _ _ _ _ _).trans (Finset.sum_congr rfl fun k _ => ?_)
  refine Eq.trans (congrArg (fun y => (mulf (mulf s (broadcastTo S512x1024 g broadcasts_S1x1024_S512x1024)) (k0_pay6 (F := Ideal) x) : Vec Ideal S512x1024 .f32) y)
    (funext fun a => ?_ : _ = ix2 i k)) (congrArg₂ (fun a b : EReal => s (ix2 i k) * a * b) (eg k) (unit_at x i k))
  match a with
  | ⟨0, _⟩ => rfl
  | ⟨1, _⟩ => rfl

/-! ### The arrays' blocks. -/

variable (m : (ℓ : Loc nD τ sig) → Buf (Elt Ideal) ℓ) (c : Dev nD)

/-- The incoming gradient and its cast, the layer's input, the norm's scale, the saved root and the two weights, as the device holds
    them. -/
abbrev ad : Mat 2048 1024 := m ((c : Thread nD τ).loc main_arg0)
@[inherit_doc ad] abbrev ab : Mat 2048 1024 := m ((c : Thread nD τ).loc main_arg1)
@[inherit_doc ad] abbrev ax : Mat 2048 1024 := m ((c : Thread nD τ).loc main_arg2)
@[inherit_doc ad] abbrev ag : Mat 1 1024 := m ((c : Thread nD τ).loc main_arg3)
@[inherit_doc ad] abbrev ar : Mat 2048 4096 := m ((c : Thread nD τ).loc main_arg4)
@[inherit_doc ad] abbrev aw : Mat 1024 4096 := m ((c : Thread nD τ).loc main_arg5)
@[inherit_doc ad] abbrev av : Mat 4096 1024 := m ((c : Thread nD τ).loc main_arg6)

theorem index0 : ∀ t : Fin grid0.N, cc0_transform_0 (grid0.coords t) 0 = t.val / 2 ∧ cc0_transform_0 (grid0.coords t) 1 = 0 := by decide +kernel
theorem index1 : ∀ t : Fin grid0.N, cc0_transform_1 (grid0.coords t) 0 = t.val / 2 ∧ cc0_transform_1 (grid0.coords t) 1 = 0 := by decide +kernel
theorem index2 : ∀ t : Fin grid0.N, cc0_transform_2 (grid0.coords t) 0 = t.val / 2 ∧ cc0_transform_2 (grid0.coords t) 1 = 0 := by decide +kernel
theorem index3 : ∀ t : Fin grid0.N, cc0_transform_3 (grid0.coords t) 0 = 0 ∧ cc0_transform_3 (grid0.coords t) 1 = 0 := by decide +kernel
theorem index4 : ∀ t : Fin grid0.N, cc0_transform_4 (grid0.coords t) 0 = t.val / 2 ∧ cc0_transform_4 (grid0.coords t) 1 = t.val % 2 := by decide +kernel
theorem index5 : ∀ t : Fin grid0.N, cc0_transform_5 (grid0.coords t) 0 = 0 ∧ cc0_transform_5 (grid0.coords t) 1 = t.val % 2 := by decide +kernel
theorem index6 : ∀ t : Fin grid0.N, cc0_transform_6 (grid0.coords t) 0 = t.val % 2 ∧ cc0_transform_6 (grid0.coords t) 1 = 0 := by decide +kernel
theorem index7 : ∀ t : Fin grid0.N, win0_7.index t 0 = t.val / 2 ∧ win0_7.index t 1 = t.val % 2 := by decide +kernel
theorem index8 : ∀ t : Fin grid0.N, win0_8.index t 0 = t.val / 2 ∧ win0_8.index t 1 = 0 := by decide +kernel
theorem index9 : ∀ t : Fin grid0.N, win0_9.index t 0 = t.val / 2 ∧ win0_9.index t 1 = 0 := by decide +kernel
theorem index10 : ∀ t : Fin grid0.N, win0_10.index t 0 = 0 ∧ win0_10.index t 1 = 0 := by decide +kernel

/-- A row of the visit's tile, and a column of its block. -/
abbrev row (t : Fin cfg0.N) (i : Fin 512) : Fin 2048 := ⟨512 * (t.val / 2) + i.val, by have := visit_lt t; omega⟩
@[inherit_doc row] abbrev col (t : Fin cfg0.N) (l : Fin 2048) : Fin 4096 := ⟨2048 * (t.val % 2) + l.val, by omega⟩

/-- The blocks' entries. -/
theorem ad_at (t : Fin cfg0.N) (i : Fin 512) (j : Fin 1024) : (iblk m c 0 t : Mat 512 1024) (ix2 i j) = ad m c (ix2 (row t i) j) := by
  refine congrArg (ad m c) (funext fun x => ?_)
  match x with
  | ⟨0, _⟩ => exact Fin.ext (by show cc0_transform_0 (grid0.coords t) 0 * 512 + 1 * i.val = 512 * (t.val / 2) + i.val; rw [(index0 t).1]; omega)
  | ⟨1, _⟩ => exact Fin.ext (by show cc0_transform_0 (grid0.coords t) 1 * 1024 + 1 * j.val = j.val; rw [(index0 t).2]; omega)

theorem ab_at (t : Fin cfg0.N) (i : Fin 512) (j : Fin 1024) : (iblk m c 1 t : Mat 512 1024) (ix2 i j) = ab m c (ix2 (row t i) j) := by
  refine congrArg (ab m c) (funext fun x => ?_)
  match x with
  | ⟨0, _⟩ => exact Fin.ext (by show cc0_transform_1 (grid0.coords t) 0 * 512 + 1 * i.val = 512 * (t.val / 2) + i.val; rw [(index1 t).1]; omega)
  | ⟨1, _⟩ => exact Fin.ext (by show cc0_transform_1 (grid0.coords t) 1 * 1024 + 1 * j.val = j.val; rw [(index1 t).2]; omega)

theorem ax_at (t : Fin cfg0.N) (i : Fin 512) (j : Fin 1024) : (iblk m c 2 t : Mat 512 1024) (ix2 i j) = ax m c (ix2 (row t i) j) := by
  refine congrArg (ax m c) (funext fun x => ?_)
  match x with
  | ⟨0, _⟩ => exact Fin.ext (by show cc0_transform_2 (grid0.coords t) 0 * 512 + 1 * i.val = 512 * (t.val / 2) + i.val; rw [(index2 t).1]; omega)
  | ⟨1, _⟩ => exact Fin.ext (by show cc0_transform_2 (grid0.coords t) 1 * 1024 + 1 * j.val = j.val; rw [(index2 t).2]; omega)

theorem ag_at (t : Fin cfg0.N) (j : Fin 1024) : (iblk m c 3 t : Mat 1 1024) (ix2 0 j) = ag m c (ix2 0 j) := by
  refine congrArg (ag m c) (funext fun x => ?_)
  match x with
  | ⟨0, _⟩ => exact Fin.ext (by show cc0_transform_3 (grid0.coords t) 0 * 1 + 1 * 0 = 0; rw [(index3 t).1])
  | ⟨1, _⟩ => exact Fin.ext (by show cc0_transform_3 (grid0.coords t) 1 * 1024 + 1 * j.val = j.val; rw [(index3 t).2]; omega)

theorem ar_at (t : Fin cfg0.N) (i : Fin 512) (j : Fin 2048) : (iblk m c 4 t : Mat 512 2048) (ix2 i j) = ar m c (ix2 (row t i) (col t j)) := by
  refine congrArg (ar m c) (funext fun x => ?_)
  match x with
  | ⟨0, _⟩ => exact Fin.ext (by show cc0_transform_4 (grid0.coords t) 0 * 512 + 1 * i.val = 512 * (t.val / 2) + i.val; rw [(index4 t).1]; omega)
  | ⟨1, _⟩ => exact Fin.ext (by show cc0_transform_4 (grid0.coords t) 1 * 2048 + 1 * j.val = 2048 * (t.val % 2) + j.val; rw [(index4 t).2]; omega)

theorem aw_at (t : Fin cfg0.N) (i : Fin 1024) (j : Fin 2048) : (iblk m c 5 t : Mat 1024 2048) (ix2 i j) = aw m c (ix2 i (col t j)) := by
  refine congrArg (aw m c) (funext fun x => ?_)
  match x with
  | ⟨0, _⟩ => exact Fin.ext (by show cc0_transform_5 (grid0.coords t) 0 * 1024 + 1 * i.val = i.val; rw [(index5 t).1]; omega)
  | ⟨1, _⟩ => exact Fin.ext (by show cc0_transform_5 (grid0.coords t) 1 * 2048 + 1 * j.val = 2048 * (t.val % 2) + j.val; rw [(index5 t).2]; omega)

theorem av_at (t : Fin cfg0.N) (i : Fin 2048) (j : Fin 1024) : (iblk m c 6 t : Mat 2048 1024) (ix2 i j) = av m c (ix2 (col t i) j) := by
  refine congrArg (av m c) (funext fun x => ?_)
  match x with
  | ⟨0, _⟩ => exact Fin.ext (by show cc0_transform_6 (grid0.coords t) 0 * 2048 + 1 * i.val = 2048 * (t.val % 2) + i.val; rw [(index6 t).1]; omega)
  | ⟨1, _⟩ => exact Fin.ext (by show cc0_transform_6 (grid0.coords t) 1 * 1024 + 1 * j.val = j.val; rw [(index6 t).2]; omega)

/-! ### What the visits leave, over the whole arrays. -/

/-- The activation's gradient, the normed input's, -/
def da (n : Fin 2048) (k : Fin 4096) : EReal := (∑ q : Fin 1024, ab m c (ix2 n q) * av m c (ix2 k q)) * (two * ar m c (ix2 n k))
@[inherit_doc da] def dh (n : Fin 2048) (j : Fin 1024) : EReal := ∑ k : Fin 4096, da m c n k * aw m c (ix2 j k)

/-- a row's factor, a row's share of the scale's gradient, and the input's gradient. -/
def fac (n : Fin 2048) : EReal := factor (fun k => ax m c (ix2 n k))
@[inherit_doc fac] def share (j : Fin 1024) (n : Fin 2048) : EReal := dh m c n j * (ax m c (ix2 n j) * fac m c n)
@[inherit_doc fac] def dx (n : Fin 2048) (j : Fin 1024) : EReal :=
  fac m c n * (dh m c n j * ag m c (ix2 0 j) - ax m c (ix2 n j) * fac m c n
    * Ideal.div (∑ k : Fin 1024, dh m c n k * ag m c (ix2 0 k) * (ax m c (ix2 n k) * fac m c n)) len) + ad m c (ix2 n j)

/-- A sum over two blocks of columns, and over four tiles of rows. -/
theorem sum_halves (g : Fin 4096 → EReal) : ∑ k, g k = ∑ f : Fin 2, ∑ l : Fin 2048, g ⟨2048 * f.val + l.val, by omega⟩ := by
  rw [← Equiv.sum_comp (finProdFinEquiv (m := 2) (n := 2048)) g, Fintype.sum_prod_type]
  refine Finset.sum_congr rfl fun f _ => Finset.sum_congr rfl fun l _ => congrArg g (Fin.ext ?_)
  show l.val + 2048 * f.val = 2048 * f.val + l.val
  omega
theorem sum_tiles (g : Fin 2048 → EReal) : ∑ n, g n = ∑ f : Fin 4, ∑ i : Fin 512, g ⟨512 * f.val + i.val, by omega⟩ := by
  rw [← Equiv.sum_comp (finProdFinEquiv (m := 4) (n := 512)) g, Fintype.sum_prod_type]
  refine Finset.sum_congr rfl fun f _ => Finset.sum_congr rfl fun l _ => congrArg g (Fin.ext ?_)
  show l.val + 512 * f.val = 512 * f.val + l.val
  omega

theorem da_block (t : Fin cfg0.N) (i : Fin 512) (l : Fin 2048) :
    k0_pay2 (F := Ideal) (iblk m c 1 t) (iblk m c 6 t) (iblk m c 4 t) (ix2 i l) = da m c (row t i) (col t l) := by
  refine (da_at _ _ _ i l).trans ?_
  unfold da
  exact congrArg₂ (fun a b : EReal => a * (two * b)) (Finset.sum_congr rfl fun q _ =>
    congrArg₂ (fun a b : EReal => a * b) (ab_at m c t i q) (av_at m c t l q)) (ar_at m c t i l)

theorem da_entry (t : Fin cfg0.N) (i : Fin 512) (l : Fin 2048) : (outsAt0 m c t.val t.isLt).1 (ix2 i l) = da m c (row t i) (col t l) := by
  rw [da_visit]
  exact da_block m c t i l

theorem add_entry (t : Fin cfg0.N) (s : Vec Ideal S512x1024 .f32) (i : Fin 512) (j : Fin 1024) :
    k0_pay3 (F := Ideal) (iblk m c 1 t) (iblk m c 6 t) (iblk m c 4 t) s (iblk m c 5 t) (ix2 i j)
      = (s (ix2 i j) + ∑ l : Fin 2048, da m c (row t i) (col t l) * aw m c (ix2 j (col t l)) : EReal) :=
  (sum_at _ _ _ s _ i j).trans (congrArg (fun y : EReal => s (ix2 i j) + y) (Finset.sum_congr rfl fun l _ =>
    congrArg₂ (fun a b : EReal => a * b) (da_block m c t i l) (aw_at m c t j l)))

/-- The visit before. -/
abbrev before (t : Fin cfg0.N) : Fin cfg0.N := ⟨t.val - 1, Nat.lt_of_le_of_lt (Nat.sub_le _ _) t.isLt⟩

theorem sum_entry (t : Fin cfg0.N) (h : t.val % 2 = 1) (i : Fin 512) (j : Fin 1024) :
    (outsAt0 m c t.val t.isLt).2.2.2.2 (ix2 i j) = dh m c (row t i) j := by
  have hb := visit_lt t
  have e : ∀ (s : Fin cfg0.N) (f : Fin 2), s.val = t.val / 2 * 2 + f.val →
      (∑ l : Fin 2048, da m c (row s i) (col s l) * aw m c (ix2 j (col s l)) : EReal)
        = ∑ l : Fin 2048, da m c (row t i) ⟨2048 * f.val + l.val, by omega⟩ * aw m c (ix2 j ⟨2048 * f.val + l.val, by omega⟩) := fun s f hs =>
    Finset.sum_congr rfl fun l _ => congrArg₂ (fun n k => (da m c n k * aw m c (ix2 j k) : EReal))
      (Fin.ext (by show 512 * (s.val / 2) + i.val = 512 * (t.val / 2) + i.val; omega))
      (Fin.ext (by show 2048 * (s.val % 2) + l.val = 2048 * f.val + l.val; omega))
  have e0 := (congrFun (sum_A m c (before t) (by show (t.val - 1) % 2 = 0; omega)) (ix2 i j)).trans (add_entry m c (before t) _ i j)
  rw [sum_visit m c t h, add_entry]
  refine (congrArg (fun y : EReal => y + _) e0).trans ?_
  unfold dh
  rw [start_at, zero_add, sum_halves, Fin.sum_univ_two, e (before t) 0 (by show t.val - 1 = t.val / 2 * 2 + 0; omega), e t 1 (by show t.val = t.val / 2 * 2 + 1; omega)]

theorem ax_row (t : Fin cfg0.N) (i : Fin 512) : (fun k => (iblk m c 2 t : Mat 512 1024) (ix2 i k)) = fun k => ax m c (ix2 (row t i) k) :=
  funext fun k => ax_at m c t i k

theorem dx_entry (t : Fin cfg0.N) (h : t.val % 2 = 1) (i : Fin 512) (j : Fin 1024) :
    (outsAt0 m c t.val t.isLt).2.1 (ix2 i j) = dx m c (row t i) j := by
  rw [dx_visit m c t h]
  refine (grad_at (iblk m c 2 t) _ (iblk m c 3 t) (iblk m c 0 t) i j).trans ?_
  unfold dx fac
  rw [ax_row, sum_entry m c t h, ax_at, ag_at, ad_at]
  refine congrArg (fun y : EReal => factor (fun k => ax m c (ix2 (row t i) k)) * (dh m c (row t i) j * ag m c (ix2 0 j) - ax m c (ix2 (row t i) j)
    * factor (fun k => ax m c (ix2 (row t i) k)) * Ideal.div y len) + ad m c (ix2 (row t i) j)) (Finset.sum_congr rfl fun k _ => ?_)
  rw [sum_entry m c t h, ax_at, ag_at]

theorem dxb_entry (t : Fin cfg0.N) (h : t.val % 2 = 1) (i : Fin 512) (j : Fin 1024) :
    (outsAt0 m c t.val t.isLt).2.2.1 (ix2 i j) = dx m c (row t i) j := by
  rw [dxb_visit m c t h]
  refine Eq.trans ?_ (dx_entry m c t h i j)
  rw [dx_visit m c t h]
  rfl

theorem share_entry (t : Fin cfg0.N) (h : t.val % 2 = 1) (j : Fin 1024) :
    k0_pay7 (F := Ideal) (iblk m c 2 t) (outsAt0 m c t.val t.isLt).2.2.2.2 (ix2 0 j) = ∑ i : Fin 512, share m c j (row t i) := by
  refine (scale_at _ _ j).trans (Finset.sum_congr rfl fun i _ => ?_)
  unfold share fac
  rw [ax_row, sum_entry m c t h, ax_at]

theorem dg_zero (t : Fin cfg0.N) (h : t.val = 1) (j : Fin 1024) :
    (outsAt0 m c t.val t.isLt).2.2.2.1 (ix2 0 j) = ∑ i : Fin 512, share m c j (row t i) := by
  rw [dg_first m c t (by omega) (by omega)]
  exact share_entry m c t (by omega) j

theorem dg_succ (t : Fin cfg0.N) (h : t.val % 2 = 1) (h2 : 2 ≤ t.val) (j : Fin 1024) :
    (outsAt0 m c t.val t.isLt).2.2.2.1 (ix2 0 j)
      = ((outsAt0 m c (before (before t)).val (before (before t)).isLt).2.2.2.1 (ix2 0 j) + ∑ i : Fin 512, share m c j (row t i) : EReal) := by
  rw [dg_later m c t h h2]
  refine (scale_later_at _ _ j).trans (congrArg₂ (fun a b : EReal => a + b) ?_ (share_entry m c t h j))
  exact congrFun (dg_A m c (before t) (by show (t.val - 1) % 2 = 0; omega)) (ix2 0 j)

theorem dg_entry (t : Fin cfg0.N) (h : t.val = 7) (j : Fin 1024) :
    (outsAt0 m c t.val t.isLt).2.2.2.1 (ix2 0 j) = ∑ n : Fin 2048, share m c j n := by
  have e : ∀ (s : Fin cfg0.N) (f : Fin 4), s.val = 2 * f.val + 1 →
      (∑ i : Fin 512, share m c j (row s i) : EReal) = ∑ i : Fin 512, share m c j ⟨512 * f.val + i.val, by omega⟩ := fun s f hs =>
    Finset.sum_congr rfl fun i _ => congrArg (share m c j) (Fin.ext (by show 512 * (s.val / 2) + i.val = 512 * f.val + i.val; omega))
  rw [dg_succ m c t (by omega) (by omega), dg_succ m c _ (by dsimp only; omega) (by dsimp only; omega),
    dg_succ m c _ (by dsimp only; omega) (by dsimp only; omega), dg_zero m c _ (by dsimp only; omega), sum_tiles, Fin.sum_univ_four,
    e _ 0 (by dsimp only; simp; omega), e _ 1 (by dsimp only; simp; omega), e _ 2 (by dsimp only; simp; omega), e t 3 (by simp; omega)]

/-! ### The arrays. -/

/-- No two of the visits that write a result back write the same block of it. -/
theorem apart7 (t t' : Fin cfg0.N) (_ : (cfg0.win 7).flush t = true) (_ : (cfg0.win 7).flush t' = true) (hne : t ≠ t') :
    Disjoint ((cfg0.win 7).blk t).view.set ((cfg0.win 7).blk t').view.set := by
  refine (cfg0.win 7).disjoint_blk fun h => hne (Fin.ext ?_)
  have e0 : t.val / 2 = t'.val / 2 := ((index7 t).1.symm.trans (congrFun h 0)).trans (index7 t').1
  have e1 : t.val % 2 = t'.val % 2 := ((index7 t).2.symm.trans (congrFun h 1)).trans (index7 t').2
  omega
theorem apart8 (t t' : Fin cfg0.N) (hf : (cfg0.win 8).flush t = true) (hf' : (cfg0.win 8).flush t' = true) (hne : t ≠ t') :
    Disjoint ((cfg0.win 8).blk t).view.set ((cfg0.win 8).blk t').view.set := by
  refine (cfg0.win 8).disjoint_blk fun h => hne (Fin.ext ?_)
  have e0 : t.val / 2 = t'.val / 2 := ((index8 t).1.symm.trans (congrFun h 0)).trans (index8 t').1
  have := of_decide_eq_true ((flush8 t).symm.trans hf)
  have := of_decide_eq_true ((flush8 t').symm.trans hf')
  omega
theorem apart9 (t t' : Fin cfg0.N) (hf : (cfg0.win 9).flush t = true) (hf' : (cfg0.win 9).flush t' = true) (hne : t ≠ t') :
    Disjoint ((cfg0.win 9).blk t).view.set ((cfg0.win 9).blk t').view.set := by
  refine (cfg0.win 9).disjoint_blk fun h => hne (Fin.ext ?_)
  have e0 : t.val / 2 = t'.val / 2 := ((index9 t).1.symm.trans (congrFun h 0)).trans (index9 t').1
  have := of_decide_eq_true ((flush9 t).symm.trans hf)
  have := of_decide_eq_true ((flush9 t').symm.trans hf')
  omega
theorem apart10 (t t' : Fin cfg0.N) (hf : (cfg0.win 10).flush t = true) (hf' : (cfg0.win 10).flush t' = true) (hne : t ≠ t') :
    Disjoint ((cfg0.win 10).blk t).view.set ((cfg0.win 10).blk t').view.set :=
  absurd (Fin.ext ((of_decide_eq_true ((flush10 t).symm.trans hf)).trans (of_decide_eq_true ((flush10 t').symm.trans hf')).symm)) hne

theorem visits_eq : cfg0.N = 8 := N_0

theorem da_result (n : Fin 2048) (k : Fin 4096) : (dats m 0 c).arrAt 7 cfg0.N (ix2 n k) = da m c n k := by
  obtain ⟨t, ht, hf⟩ : ∃ t : Fin cfg0.N, t.val / 2 = n.val / 512 ∧ t.val % 2 = k.val / 2048 :=
    ⟨⟨2 * (n.val / 512) + k.val / 2048, by rw [visits_eq]; omega⟩, by dsimp only; omega, by dsimp only; omega⟩
  have h := congrFun ((dats m 0 c).read_blk_arrAt_eq_flushed 7 (apart7) cfg0.N t t.isLt (flush7 t))
    (ix2 (⟨n.val % 512, by omega⟩ : Fin 512) (⟨k.val % 2048, by omega⟩ : Fin 2048))
  refine Eq.trans ?_ (h.trans ((da_entry m c t _ _).trans ?_))
  · refine congrArg ((dats m 0 c).arrAt 7 cfg0.N) (funext fun x => ?_)
    match x with
    | ⟨0, _⟩ => exact Fin.ext (by show n.val = win0_7.index t 0 * 512 + 1 * (n.val % 512); rw [(index7 t).1]; omega)
    | ⟨1, _⟩ => exact Fin.ext (by show k.val = win0_7.index t 1 * 2048 + 1 * (k.val % 2048); rw [(index7 t).2]; omega)
  · exact congrArg₂ (da m c) (Fin.ext (by show 512 * (t.val / 2) + n.val % 512 = n.val; omega))
      (Fin.ext (by show 2048 * (t.val % 2) + k.val % 2048 = k.val; omega))

theorem dx_result (n : Fin 2048) (j : Fin 1024) : (dats m 0 c).arrAt 8 cfg0.N (ix2 n j) = dx m c n j := by
  obtain ⟨t, ht, hf⟩ : ∃ t : Fin cfg0.N, t.val / 2 = n.val / 512 ∧ t.val % 2 = 1 :=
    ⟨⟨2 * (n.val / 512) + 1, by rw [visits_eq]; omega⟩, by dsimp only; omega, by dsimp only; omega⟩
  have h := congrFun ((dats m 0 c).read_blk_arrAt_eq_flushed 8 (apart8) cfg0.N t t.isLt ((flush8 t).trans (decide_eq_true hf)))
    (ix2 (⟨n.val % 512, by omega⟩ : Fin 512) j)
  refine Eq.trans ?_ (h.trans ((dx_entry m c t hf _ _).trans ?_))
  · refine congrArg ((dats m 0 c).arrAt 8 cfg0.N) (funext fun x => ?_)
    match x with
    | ⟨0, _⟩ => exact Fin.ext (by show n.val = win0_8.index t 0 * 512 + 1 * (n.val % 512); rw [(index8 t).1]; omega)
    | ⟨1, _⟩ => exact Fin.ext (by show j.val = win0_8.index t 1 * 1024 + 1 * j.val; rw [(index8 t).2]; omega)
  · exact congrArg (fun n => dx m c n j) (Fin.ext (by show 512 * (t.val / 2) + n.val % 512 = n.val; omega))

theorem dxb_result (n : Fin 2048) (j : Fin 1024) : (dats m 0 c).arrAt 9 cfg0.N (ix2 n j) = dx m c n j := by
  obtain ⟨t, ht, hf⟩ : ∃ t : Fin cfg0.N, t.val / 2 = n.val / 512 ∧ t.val % 2 = 1 :=
    ⟨⟨2 * (n.val / 512) + 1, by rw [visits_eq]; omega⟩, by dsimp only; omega, by dsimp only; omega⟩
  have h := congrFun ((dats m 0 c).read_blk_arrAt_eq_flushed 9 (apart9) cfg0.N t t.isLt ((flush9 t).trans (decide_eq_true hf)))
    (ix2 (⟨n.val % 512, by omega⟩ : Fin 512) j)
  refine Eq.trans ?_ (h.trans ((dxb_entry m c t hf _ _).trans ?_))
  · refine congrArg ((dats m 0 c).arrAt 9 cfg0.N) (funext fun x => ?_)
    match x with
    | ⟨0, _⟩ => exact Fin.ext (by show n.val = win0_9.index t 0 * 512 + 1 * (n.val % 512); rw [(index9 t).1]; omega)
    | ⟨1, _⟩ => exact Fin.ext (by show j.val = win0_9.index t 1 * 1024 + 1 * j.val; rw [(index9 t).2]; omega)
  · exact congrArg (fun n => dx m c n j) (Fin.ext (by show 512 * (t.val / 2) + n.val % 512 = n.val; omega))

theorem dg_result (j : Fin 1024) : (dats m 0 c).arrAt 10 cfg0.N (ix2 0 j) = ∑ n : Fin 2048, share m c j n := by
  obtain ⟨t, ht⟩ : ∃ t : Fin cfg0.N, t.val = 7 := ⟨⟨7, by rw [visits_eq]; omega⟩, rfl⟩
  have h := congrFun ((dats m 0 c).read_blk_arrAt_eq_flushed 10 (apart10) cfg0.N t t.isLt ((flush10 t).trans (decide_eq_true ht))) (ix2 (0 : Fin 1) j)
  refine Eq.trans ?_ (h.trans (dg_entry m c t ht j))
  refine congrArg ((dats m 0 c).arrAt 10 cfg0.N) (funext fun x => ?_)
  match x with
  | ⟨0, _⟩ => exact Fin.ext (by show 0 = win0_10.index t 0 * 1 + 1 * 0; rw [(index10 t).1])
  | ⟨1, _⟩ => exact Fin.ext (by show j.val = win0_10.index t 1 * 1024 + 1 * j.val; rw [(index10 t).2]; omega)

end Cert.Proof.FfnBwd

end
-- ==== Proof.FfnBwdRef.lean ====
/- The feed-forward layer's backward in the reference: the same four results, the norm's gradient taken apart into the product's and
   the factor's own. -/
module

public import proofs.«01_k».proof.Proof.FfnBwdWhole

@[expose] public section

noncomputable section

namespace Cert.Proof.FfnBwd

open Idealize.ShloMosaic Idealize.ShloMosaic.ValueIdx Idealize.ShloMosaic.TcCoe Cert.FfnBwdIdeal Cert.FfnBwdIdeal.Gen
open Cert.ReferenceFfnBwdIdeal.Read
open Cert.Proof.Project (Mat factor)
open Cert.Proof.NormGrad (len half tiny)

variable (m : (ℓ : Loc nD τ sig) → Buf (Elt Ideal) ℓ) (c : Dev nD)

theorem ref_da (n : Fin 2048) (k : Fin 4096) : val_main_v9 (F := Ideal) (ab m c) (ar m c) (av m c) (ix2 n k) = da m c n k := by
  unfold da
  refine congrArg (fun y : EReal => y * (two * ar m c (ix2 n k))) ((val_main_v7_apply _ _ _).trans (Finset.sum_congr rfl fun q _ => ?_))
  refine congrArg₂ (fun a b : EReal => a * b) ?_ ?_
  · exact congrArg (ab m c) (funext fun x => by match x with | ⟨0, _⟩ => rfl | ⟨1, _⟩ => rfl)
  · exact congrArg (av m c) (funext fun x => by match x with | ⟨0, _⟩ => rfl | ⟨1, _⟩ => rfl)

theorem ref_dh (n : Fin 2048) (j : Fin 1024) : val_main_v13 (F := Ideal) (ab m c) (ar m c) (aw m c) (av m c) (ix2 n j) = dh m c n j := by
  refine (val_main_v13_apply _ _ _ _ _).trans (Finset.sum_congr rfl fun k _ => ?_)
  refine congrArg₂ (fun a b : EReal => a * b) ?_ ?_
  · refine Eq.trans ?_ (ref_da m c n k)
    exact congrArg (val_main_v9 (F := Ideal) (ab m c) (ar m c) (av m c)) (funext fun x => by match x with | ⟨0, _⟩ => rfl | ⟨1, _⟩ => rfl)
  · exact congrArg (aw m c) (funext fun x => by match x with | ⟨0, _⟩ => rfl | ⟨1, _⟩ => rfl)

/-- A row's mean square, the small constant added. -/
def mean (n : Fin 2048) : EReal := Ideal.div (∑ k : Fin 1024, ax m c (ix2 n k) * ax m c (ix2 n k)) len + tiny

theorem ref_mean (n : Fin 2048) : val_main_v20 (F := Ideal) (ax m c) (ix2 n 0) = mean m c n := by
  rw [val_main_v20_apply, val_main_v19_apply, val_main_v18_apply, val_main_v17_apply, val_main_v16_apply, val_main_v15_apply]
  unfold mean
  refine congrArg (fun s : EReal => Ideal.div s len + tiny) ?_
  refine (congrArg (fun z : EReal => z + _) Ideal.ofBits_zero_f32).trans ((zero_add _).trans (Finset.sum_congr rfl fun k _ => ?_))
  exact congrArg (fun y : EReal => y * y) (congrArg (ax m c) (funext fun a => by match a with | ⟨0, _⟩ => rfl | ⟨1, _⟩ => rfl))

theorem fac_eq (n : Fin 2048) : fac m c n = Ideal.rsqrt (mean m c n) := rfl

theorem ref_fac (n : Fin 2048) : val_main_v21 (F := Ideal) (ax m c) (ix2 n 0) = fac m c n := by
  rw [fac_eq, ← ref_mean]
  rfl

theorem ref_slope (n : Fin 2048) : val_main_v24 (F := Ideal) (ax m c) (ix2 n 0) = (half * Ideal.div (fac m c n) (mean m c n) : EReal) := by
  rw [val_main_v24_apply, val_main_v23_apply, val_main_v22_apply, ref_fac, ref_mean]
  rfl

theorem ref_spread (n : Fin 2048) (j : Fin 1024) : val_main_v25 (F := Ideal) (ax m c) (ix2 n j) = fac m c n := by
  rw [val_main_v25_apply]
  refine Eq.trans ?_ (ref_fac m c n)
  exact congrArg (val_main_v21 (F := Ideal) (ax m c)) (funext fun a => by match a with | ⟨0, _⟩ => rfl | ⟨1, _⟩ => rfl)

/-- A row's sum of the input's products with the scaled gradient. -/
def dot (n : Fin 2048) : EReal := ∑ k : Fin 1024, ax m c (ix2 n k) * (dh m c n k * ag m c (ix2 0 k))

theorem ref_scaled (n : Fin 2048) (j : Fin 1024) :
    val_main_v33 (F := Ideal) (ab m c) (ag m c) (ar m c) (aw m c) (av m c) (ix2 n j) = (dh m c n j * ag m c (ix2 0 j) : EReal) := by
  rw [val_main_v33_apply, ref_dh, val_main_v32_apply]
  refine congrArg (fun y : EReal => dh m c n j * y) ?_
  exact congrArg (ag m c) (funext fun a => by match a with | ⟨0, _⟩ => rfl | ⟨1, _⟩ => rfl)

theorem ref_dot (n : Fin 2048) : val_main_v36 (F := Ideal) (ab m c) (ax m c) (ag m c) (ar m c) (aw m c) (av m c) (ix2 n 0) = dot m c n := by
  rw [val_main_v36_apply, val_main_v35_apply]
  refine (congrArg (fun z : EReal => z + _) Ideal.ofBits_zero_f32).trans ((zero_add _).trans (Finset.sum_congr rfl fun k _ => ?_))
  refine Eq.trans ?_ (congrArg (fun y : EReal => ax m c (ix2 n k) * y) (ref_scaled m c n k))
  exact congrArg (val_main_v34 (F := Ideal) (ab m c) (ax m c) (ag m c) (ar m c) (aw m c) (av m c)) (funext fun a => by
    match a with
    | ⟨0, _⟩ => exact Fin.ext (by simp [idx_main_v35, idx_main_v36])
    | ⟨1, _⟩ => rfl)

theorem ref_weight (n : Fin 2048) (j : Fin 1024) : val_main_v43 (F := Ideal) (ab m c) (ax m c) (ag m c) (ar m c) (aw m c) (av m c) (ix2 n j)
    = Ideal.div (dot m c n * (half * Ideal.div (fac m c n) (mean m c n))) len := by
  rw [val_main_v43_apply, val_main_v42_apply]
  refine (congrArg (fun z : EReal => z + _) Ideal.ofBits_zero_f32).trans ((zero_add _).trans ?_)
  rw [Fin.sum_univ_one]
  rw [← ref_dot, ← ref_slope]
  refine Eq.trans (congrArg (val_main_v41 (F := Ideal) (ab m c) (ax m c) (ag m c) (ar m c) (aw m c) (av m c)) (funext fun a => ?_ : _ = ix2 n 0)) ?_
  · match a with
    | ⟨0, _⟩ => rfl
    | ⟨1, _⟩ => rfl
  · rw [val_main_v41_apply, val_main_v40_apply, val_main_v39_apply]
    rfl

/-- The kernel's gradient is the reference's. -/
theorem dx_eq_sum (n : Fin 2048) (j : Fin 1024) :
    dx m c n j = (ad m c (ix2 n j) + (dh m c n j * ag m c (ix2 0 j) * fac m c n
      + ax m c (ix2 n j) * Ideal.div (dot m c n * (half * Ideal.div (fac m c n) (mean m c n))) len
      + Ideal.div (dot m c n * (half * Ideal.div (fac m c n) (mean m c n))) len * ax m c (ix2 n j)) : EReal) := by
  have hm : 0 < mean m c n := NormGrad.mean_pos _
  obtain ⟨ρ, h0, e, -⟩ := NormGrad.rsqrt_real hm
  have s : (∑ k : Fin 1024, dh m c n k * ag m c (ix2 0 k) * (ax m c (ix2 n k) * fac m c n) : EReal) = dot m c n * fac m c n := by
    rw [fac_eq, e]
    unfold dot
    rw [← NormGrad.sum_mul _ h0]
    exact Finset.sum_congr rfl fun k _ => by rw [← mul_assoc, mul_comm (dh m c n k * ag m c (ix2 0 k))]
  unfold dx
  rw [s, fac_eq, NormGrad.grad_at hm, add_comm]

theorem ref_dx (n : Fin 2048) (j : Fin 1024) :
    val_main_v48 (F := Ideal) (ad m c) (ab m c) (ax m c) (ag m c) (ar m c) (aw m c) (av m c) (ix2 n j) = dx m c n j := by
  rw [dx_eq_sum, val_main_v48_apply, val_main_v47_apply, val_main_v46_apply, val_main_v45_apply, val_main_v44_apply, val_main_v38_apply, ref_weight, ref_scaled,
    show val_main_v37 (F := Ideal) (ax m c) (ix2 n j) = fac m c n from ref_spread m c n j]
  rfl

theorem ref_dg (j : Fin 1024) : val_main_v31 (F := Ideal) (ab m c) (ax m c) (ar m c) (aw m c) (av m c) (ix2 0 j) = ∑ n : Fin 2048, share m c j n := by
  rw [val_main_v31_apply, val_main_v30_apply]
  refine (congrArg (fun z : EReal => z + _) Ideal.ofBits_zero_f32).trans ((zero_add _).trans (Finset.sum_congr rfl fun n _ => ?_))
  refine Eq.trans (congrArg (val_main_v29 (F := Ideal) (ab m c) (ax m c) (ar m c) (aw m c) (av m c)) (funext fun a => ?_ : _ = ix2 n j)) ?_
  · match a with
    | ⟨0, _⟩ => rfl
    | ⟨1, _⟩ => exact Fin.ext (by simp [idx_main_v30, idx_main_v31])
  · rw [val_main_v29_apply, val_main_v26_apply, ref_dh, ref_spread]
    unfold share
    exact mul_comm _ _

/-- The four results are the reference's. -/
theorem da_eq : (dats m 0 c).arrAt 7 cfg0.N = val_main_v9 (F := Ideal) (ab m c) (ar m c) (av m c) := by
  funext i
  obtain ⟨n, k, rfl⟩ : ∃ (n : Fin 2048) (k : Fin 4096), i = ix2 n k := ⟨i 0, i 1, eq_ix2 i⟩
  exact (da_result m c n k).trans (ref_da m c n k).symm

theorem dx_eq : (dats m 0 c).arrAt 8 cfg0.N = val_main_v48 (F := Ideal) (ad m c) (ab m c) (ax m c) (ag m c) (ar m c) (aw m c) (av m c) := by
  funext i
  obtain ⟨n, j, rfl⟩ : ∃ (n : Fin 2048) (j : Fin 1024), i = ix2 n j := ⟨i 0, i 1, eq_ix2 i⟩
  exact (dx_result m c n j).trans (ref_dx m c n j).symm

theorem dxb_eq : (dats m 0 c).arrAt 9 cfg0.N = val_main_v49 (F := Ideal) (ad m c) (ab m c) (ax m c) (ag m c) (ar m c) (aw m c) (av m c) := by
  funext i
  obtain ⟨n, j, rfl⟩ : ∃ (n : Fin 2048) (j : Fin 1024), i = ix2 n j := ⟨i 0, i 1, eq_ix2 i⟩
  exact (dxb_result m c n j).trans (ref_dx m c n j).symm

theorem dg_eq : (dats m 0 c).arrAt 10 cfg0.N = val_main_v31 (F := Ideal) (ab m c) (ax m c) (ar m c) (aw m c) (av m c) := by
  funext i
  obtain ⟨z, j, rfl⟩ : ∃ (z : Fin 1) (j : Fin 1024), i = ix2 z j := ⟨i 0, i 1, eq_ix2 i⟩
  obtain rfl : z = 0 := Subsingleton.elim _ _
  exact (dg_result m c j).trans (ref_dg m c j).symm

end Cert.Proof.FfnBwd

end
-- ==== Proof.FfnBwdClaims.lean ====
/- The claims about the feed-forward layer's backward: the frames, and the equality with the reference at the ideal instance. -/
module

public import proofs.«01_k».proof.Defs
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.ReferenceFfnBwdIdeal.Run
public import proofs.«01_k».proof.Proof.FfnBwdRef

@[expose] public section

noncomputable section

namespace Cert.Proof.FfnBwd

open Idealize.ShloMosaic Idealize.ShloMosaic.TcCoe Idealize.SL.Sem

theorem frame : Cert.quiescent_FfnBwd := fun m ρ _ => Cert.FfnBwd.Gen.frame m ρ

theorem frame_ideal : Cert.quiescent_FfnBwdIdeal := fun m ρ _ => Cert.FfnBwdIdeal.Gen.frame m ρ

theorem frame_reference : Cert.quiescent_ReferenceFfnBwdIdeal := fun m ρ _ =>
  (θ_run Cert.ReferenceFfnBwdIdeal.defs _ _).mono (fun r h => ⟨fun c => (h c).2.2.2.2, sem_eq_zero_of_no_sems (by decide) r.2⟩)
    (Cert.ReferenceFfnBwdIdeal.Value.run (F := Ideal) m ρ)

/-- The call's four results are the reference's. -/
theorem value : Cert.algebraic_FfnBwdIdeal_ReferenceFfnBwdIdeal := fun m ρ m' ρ' _ hag =>
  ⟨fun c => (Cert.FfnBwdIdeal.Gen.dats m 0 c).arrAt 7 Cert.FfnBwdIdeal.cfg0.N, fun c => (Cert.FfnBwdIdeal.Gen.dats m 0 c).arrAt 8 Cert.FfnBwdIdeal.cfg0.N,
    fun c => (Cert.FfnBwdIdeal.Gen.dats m 0 c).arrAt 9 Cert.FfnBwdIdeal.cfg0.N, fun c => (Cert.FfnBwdIdeal.Gen.dats m 0 c).arrAt 10 Cert.FfnBwdIdeal.cfg0.N,
    Cert.FfnBwdIdeal.Value.run_blocks (F := Ideal) m ρ,
    (θ_run Cert.ReferenceFfnBwdIdeal.defs _ _).mono (fun r h c => by
      obtain ⟨g0, g1, g2, g3, gs⟩ := h c
      obtain ⟨e0, e1, e2, e3, e4, e5, e6⟩ := hag c
      refine ⟨?_, ?_, ?_, ?_, gs⟩
      · beta_reduce
        rw [da_eq m c, g0, Cert.ReferenceFfnBwdIdeal.Read.val_main_v9_eq, e1, e4, e6]
      · beta_reduce
        rw [dx_eq m c, g1, Cert.ReferenceFfnBwdIdeal.Read.val_main_v48_eq, e0, e1, e2, e3, e4, e5, e6]
      · beta_reduce
        rw [dxb_eq m c, g2, Cert.ReferenceFfnBwdIdeal.Read.val_main_v49_eq, e0, e1, e2, e3, e4, e5, e6]
      · beta_reduce
        rw [dg_eq m c, g3, Cert.ReferenceFfnBwdIdeal.Read.val_main_v31_eq, e1, e2, e4, e5, e6]) (Cert.ReferenceFfnBwdIdeal.Value.run (F := Ideal) m' ρ')⟩

end Cert.Proof.FfnBwd

end
-- ==== Proof.lean ====
/- The certificate's proof: the frames of the kernel and of its ideal reading, which are one program over two kinds of floats
   and have one run (VisitsRun.lean); the reference's frame; and the short convolution's gradient, where the mask is set
   (ConvWhole.lean). The claims about the merge and the weights' gradients are StepClaims.lean's. -/
module

public import proofs.«01_k».proof.Defs
public import proofs.«01_k».proof.Proof.Gen.Kernel
public import proofs.«01_k».proof.Proof.Gen.KernelIdeal
public import proofs.«01_k».proof.Proof.Gen.ReferenceConvIdeal
public import proofs.«01_k».proof.Proof.Gen.ReferenceConvIdeal.Run
public import proofs.«01_k».proof.Proof.Gen.Merge
public import proofs.«01_k».proof.Proof.Gen.MergeIdeal
public import proofs.«01_k».proof.Proof.Gen.ReferenceMergeIdeal
public import proofs.«01_k».proof.Proof.Gen.DwIn
public import proofs.«01_k».proof.Proof.Gen.DwInIdeal
public import proofs.«01_k».proof.Proof.Gen.ReferenceDwInIdeal
public import proofs.«01_k».proof.Proof.Gen.DwFf2
public import proofs.«01_k».proof.Proof.Gen.DwFf2Ideal
public import proofs.«01_k».proof.Proof.Gen.ReferenceDwFf2Ideal
public import proofs.«01_k».proof.Proof.Gen.DwO
public import proofs.«01_k».proof.Proof.Gen.DwOIdeal
public import proofs.«01_k».proof.Proof.Gen.ReferenceDwOIdeal
public import proofs.«01_k».proof.Proof.Gen.DwFf1
public import proofs.«01_k».proof.Proof.Gen.DwFf1Ideal
public import proofs.«01_k».proof.Proof.Gen.ReferenceDwFf1Ideal
public import proofs.«01_k».proof.Proof.Gen.DwBranch
public import proofs.«01_k».proof.Proof.Gen.DwBranchIdeal
public import proofs.«01_k».proof.Proof.Gen.ReferenceDwBranchIdeal
public import proofs.«01_k».proof.Proof.Gen.Gate
public import proofs.«01_k».proof.Proof.Gen.GateIdeal
public import proofs.«01_k».proof.Proof.Gen.ReferenceGateIdeal
public import proofs.«01_k».proof.Proof.Gen.Project
public import proofs.«01_k».proof.Proof.Gen.ProjectIdeal
public import proofs.«01_k».proof.Proof.Gen.ReferenceProjectIdeal
public import proofs.«01_k».proof.Proof.Gen.Ffn
public import proofs.«01_k».proof.Proof.Gen.FfnIdeal
public import proofs.«01_k».proof.Proof.Gen.ReferenceFfnIdeal
public import proofs.«01_k».proof.Proof.Gen.FfnBwd
public import proofs.«01_k».proof.Proof.Gen.FfnBwdIdeal
public import proofs.«01_k».proof.Proof.Gen.ReferenceFfnBwdIdeal
public import proofs.«01_k».proof.Proof.VisitsRun
public import proofs.«01_k».proof.Proof.SameText
public import proofs.«01_k».proof.Proof.ConvMask
public import proofs.«01_k».proof.Proof.ConvWhole
public import proofs.«01_k».proof.Proof.StepClaims
public import proofs.«01_k».proof.Proof.ProjectClaims
public import proofs.«01_k».proof.Proof.FfnClaims
public import proofs.«01_k».proof.Proof.FfnBwdClaims
public import Idealize.ShloMosaic.Lib.Quiescent

@[expose] public section

noncomputable section

namespace Cert.Proof

open Idealize.ShloMosaic Idealize.SL.Sem

/-- The mixer's run leaves its arguments and its counters, over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      fun r => Visits.Kept m r ∧ r.2.sem = fun _ => 0 :=
  (θ_run Cert.KernelIdeal.defs _ _).mono (fun _ h => ⟨h.1.2, h.2⟩) (Visits.run_main m ρ)

theorem frame_ideal : Cert.quiescent_KernelIdeal := fun m ρ _ => frame_any (F := Ideal) m ρ

set_option maxHeartbeats 0 in
/-- The kernel's text is its ideal reading's, so its frame is the same run at the machine's floats. -/
theorem frame_kernel : Cert.quiescent_Kernel := fun m ρ _ => by
  have h1 := SameText.table (F := Bits)
  have h2 := SameText.program (F := Bits)
  refine Eq.mpr (congrArg₂ (fun d p => θ_run d (onTc (τ := Cert.Kernel.τ) p) _ _) h1 h2) ?_
  exact frame_any (F := Bits) m ρ

theorem frame_reference : Cert.quiescent_ReferenceConvIdeal := fun m ρ _ =>
  (θ_run Cert.ReferenceConvIdeal.defs _ _).mono (fun r h => ⟨fun c => (h c).2.2.2.2, sem_eq_zero_of_no_sems (by decide) r.2⟩)
    (Cert.ReferenceConvIdeal.Value.run (F := Ideal) m ρ)

/-- The mask's bit is not set in the third and fourth results. -/
theorem not_set : ¬(0#1 = 1#1) := by decide

theorem conv_part (hOn : Cert.On_conv_part.Facts) :
    Cert.algebraic_KernelIdeal_ReferenceConvIdeal_on_conv_part (hOn_conv_part := hOn) := fun m ρ m' ρ' _ hag =>
  ⟨fun c => (Visits.dats m 0 c).arrAt 21 Cert.KernelIdeal.cfg0.N, fun c => (Visits.dats m 0 c).arrAt 22 Cert.KernelIdeal.cfg0.N,
    fun _ _ => (0 : EReal), fun _ _ => (0 : EReal),
    (θ_run Cert.KernelIdeal.defs _ _).mono (fun _ h c =>
      ⟨fun i _ => congrFun (h.1.1 21 c) i, fun i _ => congrFun (h.1.1 22 c) i,
        fun _ hb => absurd hb not_set, fun _ hb => absurd hb not_set, h.1.2 c⟩) (Visits.run_main (F := Ideal) m ρ),
    (θ_run Cert.ReferenceConvIdeal.defs _ _).mono (fun r h c => by
      obtain ⟨g0, g1, -, -, g4⟩ := h c
      obtain ⟨e0, e1, -, -, -, -, e6, -⟩ := hag c
      refine ⟨fun i hb => ?_, fun i hb => ?_, fun _ hb => absurd hb not_set, fun _ hb => absurd hb not_set, g4⟩
      · have hc := ConvMask.column_of_bit (i 1).val (i 1).isLt hb
        beta_reduce
        rw [ConvPoint.first_eq m c i hc.1 hc.2, g0, Cert.ReferenceConvIdeal.Read.val_main_v53_eq, e0, e1, e6]
      · have hc := ConvMask.row_of_bit (i 0) hb
        beta_reduce
        rw [ConvPoint.second_eq m c i hc, g1, Cert.ReferenceConvIdeal.Read.val_main_v56_eq, e0, e1]) (Cert.ReferenceConvIdeal.Value.run (F := Ideal) m' ρ')⟩

theorem claim : Cert.Claim :=
  ⟨Cert.Kernel.Gen.facts, Cert.KernelIdeal.Gen.facts, Cert.ReferenceConvIdeal.Gen.facts,
    Cert.Merge.Gen.facts, Cert.MergeIdeal.Gen.facts, Cert.ReferenceMergeIdeal.Gen.facts,
    Cert.DwIn.Gen.facts, Cert.DwInIdeal.Gen.facts, Cert.ReferenceDwInIdeal.Gen.facts,
    Cert.DwFf2.Gen.facts, Cert.DwFf2Ideal.Gen.facts, Cert.ReferenceDwFf2Ideal.Gen.facts,
    Cert.DwO.Gen.facts, Cert.DwOIdeal.Gen.facts, Cert.ReferenceDwOIdeal.Gen.facts,
    Cert.DwFf1.Gen.facts, Cert.DwFf1Ideal.Gen.facts, Cert.ReferenceDwFf1Ideal.Gen.facts,
    Cert.DwBranch.Gen.facts, Cert.DwBranchIdeal.Gen.facts, Cert.ReferenceDwBranchIdeal.Gen.facts,
    Cert.Gate.Gen.facts, Cert.GateIdeal.Gen.facts, Cert.ReferenceGateIdeal.Gen.facts,
    Cert.Project.Gen.facts, Cert.ProjectIdeal.Gen.facts, Cert.ReferenceProjectIdeal.Gen.facts,
    Cert.Ffn.Gen.facts, Cert.FfnIdeal.Gen.facts, Cert.ReferenceFfnIdeal.Gen.facts,
    Cert.FfnBwd.Gen.facts, Cert.FfnBwdIdeal.Gen.facts, Cert.ReferenceFfnBwdIdeal.Gen.facts,
    ConvMask.facts, frame_kernel, frame_ideal, frame_reference,
    Merge.frame, Merge.frame_ideal, Merge.frame_reference,
    DwIn.frame, DwIn.frame_ideal, DwIn.frame_reference,
    DwFf2.frame, DwFf2.frame_ideal, DwFf2.frame_reference,
    DwO.frame, DwO.frame_ideal, DwO.frame_reference,
    DwFf1.frame, DwFf1.frame_ideal, DwFf1.frame_reference,
    DwBranch.frame, DwBranch.frame_ideal, DwBranch.frame_reference,
    Gate.frame, Gate.frame_ideal, Gate.frame_reference,
    Project.frame, Project.frame_ideal, Project.frame_reference,
    Ffn.frame, Ffn.frame_ideal, Ffn.frame_reference,
    FfnBwd.frame, FfnBwd.frame_ideal, FfnBwd.frame_reference,
    trivial, conv_part ConvMask.facts, trivial, Merge.value, trivial, DwIn.value, trivial, DwFf2.value, trivial, DwO.value, trivial, DwFf1.value, trivial, DwBranch.value, trivial, Gate.value, trivial, Project.value,
    trivial, Ffn.value, trivial, FfnBwd.value⟩

end Cert.Proof

end
